-- ==== Defs.lean ====
def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14)
      ∧ r.2.mem ((c.tc : Thread Cert.Kernel4.nD Cert.Kernel4.τ).loc Cert.Kernel4.main_arg15) = m ((c.tc : Thread Cert.Kernel4.nD Cert.Kernel4.τ).loc Cert.Kernel4.main_arg15)
      ∧ r.2.mem ((c.tc : Thread Cert.Kernel4.nD Cert.Kernel4.τ).loc Cert.Kernel4.main_arg16) = m ((c.tc : Thread Cert.Kernel4.nD Cert.Kernel4.τ).loc Cert.Kernel4.main_arg16)
      ∧ r.2.mem ((c.tc : Thread Cert.Kernel4.nD Cert.Kernel4.τ).loc Cert.Kernel4.main_arg17) = m ((c.tc : Thread Cert.Kernel4.nD Cert.Kernel4.τ).loc Cert.Kernel4.main_arg17)
      ∧ r.2.mem ((c.tc : Thread Cert.Kernel4.nD Cert.Kernel4.τ).loc Cert.Kernel4.main_arg18) = m ((c.tc : Thread Cert.Kernel4.nD Cert.Kernel4.τ).loc Cert.Kernel4.main_arg18))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
      ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
      ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17)
      ∧ r.2.mem ((c.tc : Thread Cert.Kernel4Ideal.nD Cert.Kernel4Ideal.τ).loc Cert.Kernel4Ideal.main_arg18) = m ((c.tc : Thread Cert.Kernel4Ideal.nD Cert.Kernel4Ideal.τ).loc Cert.Kernel4Ideal.main_arg18))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15)
      ∧ r.2.mem ((c.tc : Thread Cert.Reference4Ideal.nD Cert.Reference4Ideal.τ).loc Cert.Reference4Ideal.main_arg16) = m ((c.tc : Thread Cert.Reference4Ideal.nD Cert.Reference4Ideal.τ).loc Cert.Reference4Ideal.main_arg16)
      ∧ r.2.mem ((c.tc : Thread Cert.Reference4Ideal.nD Cert.Reference4Ideal.τ).loc Cert.Reference4Ideal.main_arg17) = m ((c.tc : Thread Cert.Reference4Ideal.nD Cert.Reference4Ideal.τ).loc Cert.Reference4Ideal.main_arg17)
      ∧ r.2.mem ((c.tc : Thread Cert.Reference4Ideal.nD Cert.Reference4Ideal.τ).loc Cert.Reference4Ideal.main_arg18) = m ((c.tc : Thread Cert.Reference4Ideal.nD Cert.Reference4Ideal.τ).loc Cert.Reference4Ideal.main_arg18))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def preserves_Kernel4_Kernel4Ideal : Prop :=
  IdealRules.bf16_pair.Statement Cert.Kernel4Ideal.S4x8192 Cert.Kernel4Ideal.S2x8192
  ∧ IdealRules.bf16_pair.SelectZeroStatement Cert.Kernel4Ideal.S2x8192
  ∧ IdealRules.bf16_pair.Statement Cert.Kernel4Ideal.S320x8192 Cert.Kernel4Ideal.S160x8192
  ∧ IdealRules.bf16_pair.SelectZeroStatement Cert.Kernel4Ideal.S160x8192

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)
      ∧ m' ((c.tc : Thread Cert.Reference4Ideal.nD Cert.Reference4Ideal.τ).loc Cert.Reference4Ideal.main_arg15) = m ((c.tc : Thread Cert.Kernel4Ideal.nD Cert.Kernel4Ideal.τ).loc Cert.Kernel4Ideal.main_arg15)
      ∧ m' ((c.tc : Thread Cert.Reference4Ideal.nD Cert.Reference4Ideal.τ).loc Cert.Reference4Ideal.main_arg16) = m ((c.tc : Thread Cert.Kernel4Ideal.nD Cert.Kernel4Ideal.τ).loc Cert.Kernel4Ideal.main_arg16)
      ∧ m' ((c.tc : Thread Cert.Reference4Ideal.nD Cert.Reference4Ideal.τ).loc Cert.Reference4Ideal.main_arg17) = m ((c.tc : Thread Cert.Kernel4Ideal.nD Cert.Kernel4Ideal.τ).loc Cert.Kernel4Ideal.main_arg17)
      ∧ m' ((c.tc : Thread Cert.Reference4Ideal.nD Cert.Reference4Ideal.τ).loc Cert.Reference4Ideal.main_arg18) = m ((c.tc : Thread Cert.Kernel4Ideal.nD Cert.Kernel4Ideal.τ).loc Cert.Kernel4Ideal.main_arg18)) →
    ∃ (v0 : (c : Dev Cert.Kernel4Ideal.nD) → Buf (Elt Ideal) ((c.tc : Thread Cert.Kernel4Ideal.nD Cert.Kernel4Ideal.τ).loc Cert.Kernel4Ideal.main_v53)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v53) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
          ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
          ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
          ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17)
          ∧ r.2.mem ((c.tc : Thread Cert.Kernel4Ideal.nD Cert.Kernel4Ideal.τ).loc Cert.Kernel4Ideal.main_arg18) = m ((c.tc : Thread Cert.Kernel4Ideal.nD Cert.Kernel4Ideal.τ).loc Cert.Kernel4Ideal.main_arg18))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v89_16) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14)
          ∧ r.2.mem ((c.tc : Thread Cert.Reference4Ideal.nD Cert.Reference4Ideal.τ).loc Cert.Reference4Ideal.main_arg15) = m' ((c.tc : Thread Cert.Reference4Ideal.nD Cert.Reference4Ideal.τ).loc Cert.Reference4Ideal.main_arg15)
          ∧ r.2.mem ((c.tc : Thread Cert.Reference4Ideal.nD Cert.Reference4Ideal.τ).loc Cert.Reference4Ideal.main_arg16) = m' ((c.tc : Thread Cert.Reference4Ideal.nD Cert.Reference4Ideal.τ).loc Cert.Reference4Ideal.main_arg16)
          ∧ r.2.mem ((c.tc : Thread Cert.Reference4Ideal.nD Cert.Reference4Ideal.τ).loc Cert.Reference4Ideal.main_arg17) = m' ((c.tc : Thread Cert.Reference4Ideal.nD Cert.Reference4Ideal.τ).loc Cert.Reference4Ideal.main_arg17)
          ∧ r.2.mem ((c.tc : Thread Cert.Reference4Ideal.nD Cert.Reference4Ideal.τ).loc Cert.Reference4Ideal.main_arg18) = m' ((c.tc : Thread Cert.Reference4Ideal.nD Cert.Reference4Ideal.τ).loc Cert.Reference4Ideal.main_arg18))

def preserves_Kernel_KernelIdeal : Prop :=
  IdealRules.bf16_pair.Statement Cert.KernelIdeal.S320x8192 Cert.KernelIdeal.S160x8192
  ∧ IdealRules.bf16_pair.SelectZeroStatement Cert.KernelIdeal.S160x8192

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  IdealRules.bf16_pair.Statement Cert.Kernel2Ideal.S4x8192 Cert.Kernel2Ideal.S2x8192
  ∧ IdealRules.bf16_pair.SelectZeroStatement Cert.Kernel2Ideal.S2x8192

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v22_0)) (v1 : (c : Dev Cert.Kernel2Ideal.nD) → Buf (Elt Ideal) ((c.tc : Thread Cert.Kernel2Ideal.nD Cert.Kernel2Ideal.τ).loc Cert.Kernel2Ideal.main_v22_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v22_0) = v0 c
          ∧ r.2.mem ((c.tc : Thread Cert.Kernel2Ideal.nD Cert.Kernel2Ideal.τ).loc Cert.Kernel2Ideal.main_v22_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v92) = v0 c
          ∧ r.2.mem ((c.tc : Thread Cert.Reference2Ideal.nD Cert.Reference2Ideal.τ).loc Cert.Reference2Ideal.main_v96) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v12)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v140) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def Claim : Prop :=
  ∃ (hKernel4 : Cert.Kernel4.Facts) (hKernel4Ideal : Cert.Kernel4Ideal.Facts) (hReference4Ideal : Cert.Reference4Ideal.Facts) (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel4 (hKernel4 := hKernel4)
    ∧ quiescent_Kernel4Ideal (hKernel4Ideal := hKernel4Ideal)
    ∧ quiescent_Reference4Ideal (hReference4Ideal := hReference4Ideal)
    ∧ quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel4.lean ====
abbrev S32x3x32x32 : Shape := ⟨4, ![32, 3, 32, 32]⟩
abbrev S160x4x2x3 : Shape := ⟨4, ![160, 4, 2, 3]⟩
abbrev S160 : Shape := ⟨1, ![160]⟩
abbrev S160x4x1x3 : Shape := ⟨4, ![160, 4, 1, 3]⟩
abbrev S160x4x2x1 : Shape := ⟨4, ![160, 4, 2, 1]⟩
abbrev S5x160x320x2x3 : Shape := ⟨5, ![5, 160, 320, 2, 3]⟩
abbrev S5x160 : Shape := ⟨2, ![5, 160]⟩
abbrev S5x320x320x2x3 : Shape := ⟨5, ![5, 320, 320, 2, 3]⟩
abbrev S5x320 : Shape := ⟨2, ![5, 320]⟩
abbrev S5x160x320x2x2 : Shape := ⟨5, ![5, 160, 320, 2, 2]⟩
abbrev S5x160x320 : Shape := ⟨3, ![5, 160, 320]⟩
abbrev S5x320x320x2x2 : Shape := ⟨5, ![5, 320, 320, 2, 2]⟩
abbrev S100x160 : Shape := ⟨2, ![100, 160]⟩
abbrev S100 : Shape := ⟨1, ![100]⟩
abbrev S_ : Shape := ⟨0, ![]⟩
abbrev S32x1x32x32 : Shape := ⟨4, ![32, 1, 32, 32]⟩
abbrev S32x4x32x32 : Shape := ⟨4, ![32, 4, 32, 32]⟩
abbrev S4x8x4x32x32 : Shape := ⟨5, ![4, 8, 4, 32, 32]⟩
abbrev S4x4x32x8x32 : Shape := ⟨5, ![4, 4, 32, 8, 32]⟩
abbrev S4x32768 : Shape := ⟨2, ![4, 32768]⟩
abbrev S4x8x3x32x32 : Shape := ⟨5, ![4, 8, 3, 32, 32]⟩
abbrev S3x4x32x8x32 : Shape := ⟨5, ![3, 4, 32, 8, 32]⟩
abbrev S3x32768 : Shape := ⟨2, ![3, 32768]⟩
abbrev S160x3x2x4 : Shape := ⟨4, ![160, 3, 2, 4]⟩
abbrev S160x24 : Shape := ⟨2, ![160, 24]⟩
abbrev S160x3x1x4 : Shape := ⟨4, ![160, 3, 1, 4]⟩
abbrev S160x12 : Shape := ⟨2, ![160, 12]⟩
abbrev S160x1x2x4 : Shape := ⟨4, ![160, 1, 2, 4]⟩
abbrev S160x8 : Shape := ⟨2, ![160, 8]⟩
abbrev S160x1 : Shape := ⟨2, ![160, 1]⟩
abbrev S5x160x3x2x320 : Shape := ⟨5, ![5, 160, 3, 2, 320]⟩
abbrev S5x160x1920 : Shape := ⟨3, ![5, 160, 1920]⟩
abbrev S5x320x3x2x320 : Shape := ⟨5, ![5, 320, 3, 2, 320]⟩
abbrev S5x320x1920 : Shape := ⟨3, ![5, 320, 1920]⟩
abbrev S5x160x2x2x320 : Shape := ⟨5, ![5, 160, 2, 2, 320]⟩
abbrev S5x160x1280 : Shape := ⟨3, ![5, 160, 1280]⟩
abbrev S5x160x1600 : Shape := ⟨3, ![5, 160, 1600]⟩
abbrev S5x320x2x2x320 : Shape := ⟨5, ![5, 320, 2, 2, 320]⟩
abbrev S5x320x1280 : Shape := ⟨3, ![5, 320, 1280]⟩
abbrev S5x160x1 : Shape := ⟨3, ![5, 160, 1]⟩
abbrev S5x320x1 : Shape := ⟨3, ![5, 320, 1]⟩
abbrev S100x1 : Shape := ⟨2, ![100, 1]⟩
abbrev S160x32768 : Shape := ⟨2, ![160, 32768]⟩
abbrev S4x8192 : Shape := ⟨2, ![4, 8192]⟩
abbrev S160x8192 : Shape := ⟨2, ![160, 8192]⟩
abbrev S1x8192 : Shape := ⟨2, ![1, 8192]⟩
abbrev S2x8192 : Shape := ⟨2, ![2, 8192]⟩
abbrev S4x256 : Shape := ⟨2, ![4, 256]⟩
abbrev S4x7936 : Shape := ⟨2, ![4, 7936]⟩
abbrev S24x8192 : Shape := ⟨2, ![24, 8192]⟩
abbrev S12x8192 : Shape := ⟨2, ![12, 8192]⟩
abbrev S8x8192 : Shape := ⟨2, ![8, 8192]⟩
abbrev S160x256 : Shape := ⟨2, ![160, 256]⟩
abbrev S160x7936 : Shape := ⟨2, ![160, 7936]⟩
abbrev S1x160x1920 : Shape := ⟨3, ![1, 160, 1920]⟩
abbrev S1x160x1 : Shape := ⟨3, ![1, 160, 1]⟩
abbrev S1x320x1920 : Shape := ⟨3, ![1, 320, 1920]⟩
abbrev S1x320x1 : Shape := ⟨3, ![1, 320, 1]⟩
abbrev S1x160x1600 : Shape := ⟨3, ![1, 160, 1600]⟩
abbrev S1x320x1280 : Shape := ⟨3, ![1, 320, 1280]⟩
abbrev S320x8192 : Shape := ⟨2, ![320, 8192]⟩
abbrev S160x1920 : Shape := ⟨2, ![160, 1920]⟩
abbrev S320x256 : Shape := ⟨2, ![320, 256]⟩
abbrev S320x7936 : Shape := ⟨2, ![320, 7936]⟩
abbrev S1920x8192 : Shape := ⟨2, ![1920, 8192]⟩
abbrev S320x1920 : Shape := ⟨2, ![320, 1920]⟩
abbrev S320x1 : Shape := ⟨2, ![320, 1]⟩
abbrev S160x1600 : Shape := ⟨2, ![160, 1600]⟩
abbrev S1600x8192 : Shape := ⟨2, ![1600, 8192]⟩
abbrev S320x1280 : Shape := ⟨2, ![320, 1280]⟩
abbrev S1280x8192 : Shape := ⟨2, ![1280, 8192]⟩
abbrev S4x1x128 : Shape := ⟨3, ![4, 1, 128]⟩
abbrev S3x8192 : Shape := ⟨2, ![3, 8192]⟩
abbrev S1x1x128 : Shape := ⟨3, ![1, 1, 128]⟩
abbrev S100x8192 : Shape := ⟨2, ![100, 8192]⟩
abbrev S10x8192 : Shape := ⟨2, ![10, 8192]⟩
abbrev S8192 : Shape := ⟨1, ![8192]⟩
abbrev S1 : Shape := ⟨1, ![1]⟩
abbrev S1x1 : Shape := ⟨2, ![1, 1]⟩
abbrev S1x1x1 : Shape := ⟨3, ![1, 1, 1]⟩
abbrev S4x1x1 : Shape := ⟨3, ![4, 1, 1]⟩
abbrev S4 : Shape := ⟨1, ![4]⟩

abbrev nBuf : Space → Nat
  | .hbm => 79
  | .vmem => 44
  | .smem => 0
  | _ => 0

abbrev bufTy : (tb : Table) → Fin (tcTables nBuf tb) → BufTy
  | .hbm, ⟨0, _⟩ => ⟨S32x3x32x32, .f32⟩
  | .hbm, ⟨1, _⟩ => ⟨S160x4x2x3, .f32⟩
  | .hbm, ⟨2, _⟩ => ⟨S160, .f32⟩
  | .hbm, ⟨3, _⟩ => ⟨S160x4x1x3, .f32⟩
  | .hbm, ⟨4, _⟩ => ⟨S160, .f32⟩
  | .hbm, ⟨5, _⟩ => ⟨S160x4x2x1, .f32⟩
  | .hbm, ⟨6, _⟩ => ⟨S160, .f32⟩
  | .hbm, ⟨7, _⟩ => ⟨S5x160x320x2x3, .f32⟩
  | .hbm, ⟨8, _⟩ => ⟨S5x160, .f32⟩
  | .hbm, ⟨9, _⟩ => ⟨S5x320x320x2x3, .f32⟩
  | .hbm, ⟨10, _⟩ => ⟨S5x320, .f32⟩
  | .hbm, ⟨11, _⟩ => ⟨S5x160x320x2x2, .f32⟩
  | .hbm, ⟨12, _⟩ => ⟨S5x160, .f32⟩
  | .hbm, ⟨13, _⟩ => ⟨S5x160x320, .f32⟩
  | .hbm, ⟨14, _⟩ => ⟨S5x160, .f32⟩
  | .hbm, ⟨15, _⟩ => ⟨S5x320x320x2x2, .f32⟩
  | .hbm, ⟨16, _⟩ => ⟨S5x320, .f32⟩
  | .hbm, ⟨17, _⟩ => ⟨S100x160, .f32⟩
  | .hbm, ⟨18, _⟩ => ⟨S100, .f32⟩
  | .hbm, ⟨19, _⟩ => ⟨S_, .f32⟩
  | .hbm, ⟨20, _⟩ => ⟨S32x3x32x32, .f32⟩
  | .hbm, ⟨21, _⟩ => ⟨S32x3x32x32, .f32⟩
  | .hbm, ⟨22, _⟩ => ⟨S_, .f32⟩
  | .hbm, ⟨23, _⟩ => ⟨S32x3x32x32, .f32⟩
  | .hbm, ⟨24, _⟩ => ⟨S32x3x32x32, .f32⟩
  | .hbm, ⟨25, _⟩ => ⟨S32x1x32x32, .f32⟩
  | .hbm, ⟨26, _⟩ => ⟨S_, .f32⟩
  | .hbm, ⟨27, _⟩ => ⟨S32x1x32x32, .f32⟩
  | .hbm, ⟨28, _⟩ => ⟨S32x4x32x32, .f32⟩
  | .hbm, ⟨29, _⟩ => ⟨S4x8x4x32x32, .f32⟩
  | .hbm, ⟨30, _⟩ => ⟨S4x4x32x8x32, .f32⟩
  | .hbm, ⟨31, _⟩ => ⟨S4x32768, .f32⟩
  | .hbm, ⟨32, _⟩ => ⟨S4x8x3x32x32, .f32⟩
  | .hbm, ⟨33, _⟩ => ⟨S3x4x32x8x32, .f32⟩
  | .hbm, ⟨34, _⟩ => ⟨S3x32768, .f32⟩
  | .hbm, ⟨35, _⟩ => ⟨S160x3x2x4, .f32⟩
  | .hbm, ⟨36, _⟩ => ⟨S160x24, .f32⟩
  | .hbm, ⟨37, _⟩ => ⟨S160x24, .bf16⟩
  | .hbm, ⟨38, _⟩ => ⟨S160x3x1x4, .f32⟩
  | .hbm, ⟨39, _⟩ => ⟨S160x12, .f32⟩
  | .hbm, ⟨40, _⟩ => ⟨S160x12, .bf16⟩
  | .hbm, ⟨41, _⟩ => ⟨S160x1x2x4, .f32⟩
  | .hbm, ⟨42, _⟩ => ⟨S160x8, .f32⟩
  | .hbm, ⟨43, _⟩ => ⟨S160x8, .bf16⟩
  | .hbm, ⟨44, _⟩ => ⟨S160x1, .f32⟩
  | .hbm, ⟨45, _⟩ => ⟨S160x1, .f32⟩
  | .hbm, ⟨46, _⟩ => ⟨S160x1, .f32⟩
  | .hbm, ⟨47, _⟩ => ⟨S5x160x3x2x320, .f32⟩
  | .hbm, ⟨48, _⟩ => ⟨S5x160x1920, .f32⟩
  | .hbm, ⟨49, _⟩ => ⟨S_, .f32⟩
  | .hbm, ⟨50, _⟩ => ⟨S5x160x1920, .f32⟩
  | .hbm, ⟨51, _⟩ => ⟨S5x160x1920, .f32⟩
  | .hbm, ⟨52, _⟩ => ⟨S5x160x1920, .fp8e4m3⟩
  | .hbm, ⟨53, _⟩ => ⟨S5x320x3x2x320, .f32⟩
  | .hbm, ⟨54, _⟩ => ⟨S5x320x1920, .f32⟩
  | .hbm, ⟨55, _⟩ => ⟨S5x320x1920, .bf16⟩
  | .hbm, ⟨56, _⟩ => ⟨S5x160x2x2x320, .f32⟩
  | .hbm, ⟨57, _⟩ => ⟨S5x160x1280, .f32⟩
  | .hbm, ⟨58, _⟩ => ⟨S5x160x1280, .bf16⟩
  | .hbm, ⟨59, _⟩ => ⟨S5x160x320, .bf16⟩
  | .hbm, ⟨60, _⟩ => ⟨S5x160x1600, .bf16⟩
  | .hbm, ⟨61, _⟩ => ⟨S5x320x2x2x320, .f32⟩
  | .hbm, ⟨62, _⟩ => ⟨S5x320x1280, .f32⟩
  | .hbm, ⟨63, _⟩ => ⟨S5x320x1280, .bf16⟩
  | .hbm, ⟨64, _⟩ => ⟨S5x160x1, .f32⟩
  | .hbm, ⟨65, _⟩ => ⟨S5x320x1, .f32⟩
  | .hbm, ⟨66, _⟩ => ⟨S5x160, .f32⟩
  | .hbm, ⟨67, _⟩ => ⟨S5x160x1, .f32⟩
  | .hbm, ⟨68, _⟩ => ⟨S5x320x1, .f32⟩
  | .hbm, ⟨69, _⟩ => ⟨S100x160, .bf16⟩
  | .hbm, ⟨70, _⟩ => ⟨S100x1, .f32⟩
  | .hbm, ⟨71, _⟩ => ⟨S160x32768, .bf16⟩
  | .hbm, ⟨72, _⟩ => ⟨S160x32768, .bf16⟩
  | .hbm, ⟨73, _⟩ => ⟨S160x32768, .bf16⟩
  | .hbm, ⟨74, _⟩ => ⟨S4x1x128, .f32⟩
  | .hbm, ⟨75, _⟩ => ⟨S4x1x1, .f32⟩
  | .hbm, ⟨76, _⟩ => ⟨S4, .f32⟩
  | .hbm, ⟨77, _⟩ => ⟨S_, .f32⟩
  | .hbm, ⟨78, _⟩ => ⟨S_, .f32⟩
  | .local _ .vmem, ⟨0, _⟩ => ⟨S4x8192, .f32⟩
  | .local _ .vmem, ⟨1, _⟩ => ⟨S4x8192, .f32⟩
  | .local _ .vmem, ⟨2, _⟩ => ⟨S160x24, .bf16⟩
  | .local _ .vmem, ⟨3, _⟩ => ⟨S160x12, .bf16⟩
  | .local _ .vmem, ⟨4, _⟩ => ⟨S160x8, .bf16⟩
  | .local _ .vmem, ⟨5, _⟩ => ⟨S160x1, .f32⟩
  | .local _ .vmem, ⟨6, _⟩ => ⟨S160x1, .f32⟩
  | .local _ .vmem, ⟨7, _⟩ => ⟨S160x1, .f32⟩
  | .local _ .vmem, ⟨8, _⟩ => ⟨S160x8192, .bf16⟩
  | .local _ .vmem, ⟨9, _⟩ => ⟨S160x8192, .bf16⟩
  | .local _ .vmem, ⟨10, _⟩ => ⟨S160x8192, .bf16⟩
  | .local _ .vmem, ⟨11, _⟩ => ⟨S160x8192, .bf16⟩
  | .local _ .vmem, ⟨12, _⟩ => ⟨S160x8192, .bf16⟩
  | .local _ .vmem, ⟨13, _⟩ => ⟨S160x8192, .bf16⟩
  | .local _ .vmem, ⟨14, _⟩ => ⟨S160x8192, .bf16⟩
  | .local _ .vmem, ⟨15, _⟩ => ⟨S160x8192, .bf16⟩
  | .local _ .vmem, ⟨16, _⟩ => ⟨S1x160x1920, .fp8e4m3⟩
  | .local _ .vmem, ⟨17, _⟩ => ⟨S1x160x1920, .fp8e4m3⟩
  | .local _ .vmem, ⟨18, _⟩ => ⟨S1x160x1, .f32⟩
  | .local _ .vmem, ⟨19, _⟩ => ⟨S1x160x1, .f32⟩
  | .local _ .vmem, ⟨20, _⟩ => ⟨S1x320x1920, .bf16⟩
  | .local _ .vmem, ⟨21, _⟩ => ⟨S1x320x1920, .bf16⟩
  | .local _ .vmem, ⟨22, _⟩ => ⟨S1x320x1, .f32⟩
  | .local _ .vmem, ⟨23, _⟩ => ⟨S1x320x1, .f32⟩
  | .local _ .vmem, ⟨24, _⟩ => ⟨S1x160x1600, .bf16⟩
  | .local _ .vmem, ⟨25, _⟩ => ⟨S1x160x1600, .bf16⟩
  | .local _ .vmem, ⟨26, _⟩ => ⟨S1x160x1, .f32⟩
  | .local _ .vmem, ⟨27, _⟩ => ⟨S1x160x1, .f32⟩
  | .local _ .vmem, ⟨28, _⟩ => ⟨S1x320x1280, .bf16⟩
  | .local _ .vmem, ⟨29, _⟩ => ⟨S1x320x1280, .bf16⟩
  | .local _ .vmem, ⟨30, _⟩ => ⟨S1x320x1, .f32⟩
  | .local _ .vmem, ⟨31, _⟩ => ⟨S1x320x1, .f32⟩
  | .local _ .vmem, ⟨32, _⟩ => ⟨S160x8192, .bf16⟩
  | .local _ .vmem, ⟨33, _⟩ => ⟨S160x8192, .bf16⟩
  | .local _ .vmem, ⟨34, _⟩ => ⟨S160x8192, .f32⟩
  | .local _ .vmem, ⟨35, _⟩ => ⟨S160x8192, .f32⟩
  | .local _ .vmem, ⟨36, _⟩ => ⟨S160x8192, .bf16⟩
  | .local _ .vmem, ⟨37, _⟩ => ⟨S160x8192, .bf16⟩
  | .local _ .vmem, ⟨38, _⟩ => ⟨S3x8192, .f32⟩
  | .local _ .vmem, ⟨39, _⟩ => ⟨S3x8192, .f32⟩
  | .local _ .vmem, ⟨40, _⟩ => ⟨S100x160, .bf16⟩
  | .local _ .vmem, ⟨41, _⟩ => ⟨S100x1, .f32⟩
  | .local _ .vmem, ⟨42, _⟩ => ⟨S1x1x128, .f32⟩
  | .local _ .vmem, ⟨43, _⟩ => ⟨S1x1x128, .f32⟩
  | _, _ => ⟨S32x3x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_v1 : Ref sig .tc := ⟨.hbm, 21, rfl⟩
abbrev main_cst_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_cst_1 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_2 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48_0 : Ref sig .tc := ⟨.hbm, 71, rfl⟩
abbrev main_v48_1 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_3 : Ref sig .tc := ⟨.hbm, 77, rfl⟩
abbrev main_v53 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc1_stg9_0 : Ref sig .tc := ⟨.vmem, 30, rfl⟩
abbrev cc1_stg9_1 : Ref sig .tc := ⟨.vmem, 31, rfl⟩
abbrev cc1_stg10_0 : Ref sig .tc := ⟨.vmem, 32, rfl⟩
abbrev cc1_stg10_1 : Ref sig .tc := ⟨.vmem, 33, rfl⟩
abbrev cc1_scratch0 : Ref sig .tc := ⟨.vmem, 34, rfl⟩
abbrev cc1_scratch1 : Ref sig .tc := ⟨.vmem, 35, rfl⟩
abbrev cc2_stg0_0 : Ref sig .tc := ⟨.vmem, 36, rfl⟩
abbrev cc2_stg0_1 : Ref sig .tc := ⟨.vmem, 37, rfl⟩
abbrev cc2_stg1_0 : Ref sig .tc := ⟨.vmem, 38, rfl⟩
abbrev cc2_stg1_1 : Ref sig .tc := ⟨.vmem, 39, rfl⟩
abbrev cc2_stg2_0 : Ref sig .tc := ⟨.vmem, 40, rfl⟩
abbrev cc2_stg3_0 : Ref sig .tc := ⟨.vmem, 41, rfl⟩
abbrev cc2_stg4_0 : Ref sig .tc := ⟨.vmem, 42, rfl⟩
abbrev cc2_stg4_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29
abbrev cc1_sem9_0 : DmaSem sig := 30
abbrev cc1_sem9_1 : DmaSem sig := 31
abbrev cc1_sem10_0 : DmaSem sig := 32
abbrev cc1_sem10_1 : DmaSem sig := 33
abbrev cc2_sem0_0 : DmaSem sig := 34
abbrev cc2_sem0_1 : DmaSem sig := 35
abbrev cc2_sem1_0 : DmaSem sig := 36
abbrev cc2_sem1_1 : DmaSem sig := 37
abbrev cc2_sem2_0 : DmaSem sig := 38
abbrev cc2_sem3_0 : DmaSem sig := 39
abbrev cc2_sem4_0 : DmaSem sig := 40
abbrev cc2_sem4_1 : DmaSem sig := 41

abbrev nD : Nat := 1
abbrev τ : Topo := Topo.v7x

variable {F : FTy → Type} [BitOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S160x24 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S160x12 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S160x8 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S160x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S160x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S160x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S160x8192 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S160x8192 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨2, ![4, 5], ![false, false]⟩

def k1_cond2 (i : grid1.Coords) : BitVec 1 :=
  let arg1 : BitVec 32 := BitVec.ofNat 32 (i 1).val
  let c4_i32 : BitVec 32 := 4#32
  let v195 : BitVec 1 := Scalar.cmpi .eq arg1 c4_i32
  let v196 : BitVec 32 := Scalar.extui v195
  let c0_i32_77 : BitVec 32 := 0#32
  let v197 : BitVec 1 := Scalar.cmpi .ne v196 c0_i32_77
  v197

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S160x8192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S160x8192 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x160x1920 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x160x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x320x1920 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1x320x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1x160x1600 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S1x160x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![false, true]

abbrev stage1_8 : Fin 2 → Memref sig .tc .vmem S1x320x1280 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![false, true]

abbrev stage1_9 : Fin 2 → Memref sig .tc .vmem S1x320x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![false, true]

abbrev stage1_10 : Fin 2 → Memref sig .tc .vmem S160x8192 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S160x8192 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S3x8192 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S100x160 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S100x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1x1x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]
-- ==== Kernel4Ideal.lean ====
variable {F : FTy → Type} [FloatOps F]
-- ==== Reference4Ideal.lean ====
abbrev S32x3x32x32 : Shape := ⟨4, ![32, 3, 32, 32]⟩
abbrev S160x4x2x3 : Shape := ⟨4, ![160, 4, 2, 3]⟩
abbrev S160 : Shape := ⟨1, ![160]⟩
abbrev S160x4x1x3 : Shape := ⟨4, ![160, 4, 1, 3]⟩
abbrev S160x4x2x1 : Shape := ⟨4, ![160, 4, 2, 1]⟩
abbrev S5x160x320x2x3 : Shape := ⟨5, ![5, 160, 320, 2, 3]⟩
abbrev S5x160 : Shape := ⟨2, ![5, 160]⟩
abbrev S5x320x320x2x3 : Shape := ⟨5, ![5, 320, 320, 2, 3]⟩
abbrev S5x320 : Shape := ⟨2, ![5, 320]⟩
abbrev S5x160x320x2x2 : Shape := ⟨5, ![5, 160, 320, 2, 2]⟩
abbrev S5x160x320 : Shape := ⟨3, ![5, 160, 320]⟩
abbrev S5x320x320x2x2 : Shape := ⟨5, ![5, 320, 320, 2, 2]⟩
abbrev S100x160 : Shape := ⟨2, ![100, 160]⟩
abbrev S100 : Shape := ⟨1, ![100]⟩
abbrev S_ : Shape := ⟨0, ![]⟩
abbrev S32x1x32x32 : Shape := ⟨4, ![32, 1, 32, 32]⟩
abbrev S32x4x32x32 : Shape := ⟨4, ![32, 4, 32, 32]⟩
abbrev S32x4x33x34 : Shape := ⟨4, ![32, 4, 33, 34]⟩
abbrev S160x4x1x1 : Shape := ⟨4, ![160, 4, 1, 1]⟩
abbrev S160x4 : Shape := ⟨2, ![160, 4]⟩
abbrev S160x32x32x32 : Shape := ⟨4, ![160, 32, 32, 32]⟩
abbrev S32x160x32x32 : Shape := ⟨4, ![32, 160, 32, 32]⟩
abbrev S1x160x1x1 : Shape := ⟨4, ![1, 160, 1, 1]⟩
abbrev S32x160x33x32 : Shape := ⟨4, ![32, 160, 33, 32]⟩
abbrev S32x4x32x34 : Shape := ⟨4, ![32, 4, 32, 34]⟩
abbrev S32x4x33x32 : Shape := ⟨4, ![32, 4, 33, 32]⟩
abbrev S32x160x32x33 : Shape := ⟨4, ![32, 160, 32, 33]⟩
abbrev S1x160x320x2x3 : Shape := ⟨5, ![1, 160, 320, 2, 3]⟩
abbrev S160x320x2x3 : Shape := ⟨4, ![160, 320, 2, 3]⟩
abbrev S1x160 : Shape := ⟨2, ![1, 160]⟩
abbrev S1x320x320x2x3 : Shape := ⟨5, ![1, 320, 320, 2, 3]⟩
abbrev S320x320x2x3 : Shape := ⟨4, ![320, 320, 2, 3]⟩
abbrev S1x320 : Shape := ⟨2, ![1, 320]⟩
abbrev S320 : Shape := ⟨1, ![320]⟩
abbrev S1x160x320x2x2 : Shape := ⟨5, ![1, 160, 320, 2, 2]⟩
abbrev S160x320x2x2 : Shape := ⟨4, ![160, 320, 2, 2]⟩
abbrev S1x160x320 : Shape := ⟨3, ![1, 160, 320]⟩
abbrev S160x320 : Shape := ⟨2, ![160, 320]⟩
abbrev S1x320x320x2x2 : Shape := ⟨5, ![1, 320, 320, 2, 2]⟩
abbrev S320x320x2x2 : Shape := ⟨4, ![320, 320, 2, 2]⟩
abbrev S32x320x32x32 : Shape := ⟨4, ![32, 320, 32, 32]⟩
abbrev S32x320x33x34 : Shape := ⟨4, ![32, 320, 33, 34]⟩
abbrev S160x320x1x1 : Shape := ⟨4, ![160, 320, 1, 1]⟩
abbrev S320x320x1x1 : Shape := ⟨4, ![320, 320, 1, 1]⟩
abbrev S320x320 : Shape := ⟨2, ![320, 320]⟩
abbrev S320x32x32x32 : Shape := ⟨4, ![320, 32, 32, 32]⟩
abbrev S1x320x1x1 : Shape := ⟨4, ![1, 320, 1, 1]⟩
abbrev S32x320x33x33 : Shape := ⟨4, ![32, 320, 33, 33]⟩
abbrev S100x32x32x32 : Shape := ⟨4, ![100, 32, 32, 32]⟩
abbrev S32x100x32x32 : Shape := ⟨4, ![32, 100, 32, 32]⟩
abbrev S1x100x1x1 : Shape := ⟨4, ![1, 100, 1, 1]⟩
abbrev S32x32x32x3 : Shape := ⟨4, ![32, 32, 32, 3]⟩
abbrev S32x32x32x100 : Shape := ⟨4, ![32, 32, 32, 100]⟩
abbrev S32x32x32x10 : Shape := ⟨4, ![32, 32, 32, 10]⟩
abbrev S32x32x32x90 : Shape := ⟨4, ![32, 32, 32, 90]⟩
abbrev S32x32x32x3x30 : Shape := ⟨5, ![32, 32, 32, 3, 30]⟩
abbrev S32x32x32x3x10 : Shape := ⟨5, ![32, 32, 32, 3, 10]⟩
abbrev S32x32x32x3x1 : Shape := ⟨5, ![32, 32, 32, 3, 1]⟩
abbrev S32x32x32x1x10 : Shape := ⟨5, ![32, 32, 32, 1, 10]⟩
abbrev S32x32x32x1x1 : Shape := ⟨5, ![32, 32, 32, 1, 1]⟩
abbrev S32x32x32x1 : Shape := ⟨4, ![32, 32, 32, 1]⟩
abbrev S32x32x32 : Shape := ⟨3, ![32, 32, 32]⟩

abbrev nBuf : Space → Nat
  | .hbm => 554
  | .vmem => 0
  | .smem => 0
  | _ => 0

abbrev hbmTy0_0 (i : Nat) : BufTy := match i % 128 with
  | 0 => ⟨S32x3x32x32, .f32⟩
  | 1 => ⟨S160x4x2x3, .f32⟩
  | 2 => ⟨S160, .f32⟩
  | 3 => ⟨S160x4x1x3, .f32⟩
  | 4 => ⟨S160, .f32⟩
  | 5 => ⟨S160x4x2x1, .f32⟩
  | 6 => ⟨S160, .f32⟩
  | 7 => ⟨S5x160x320x2x3, .f32⟩
  | 8 => ⟨S5x160, .f32⟩
  | 9 => ⟨S5x320x320x2x3, .f32⟩
  | 10 => ⟨S5x320, .f32⟩
  | 11 => ⟨S5x160x320x2x2, .f32⟩
  | 12 => ⟨S5x160, .f32⟩
  | 13 => ⟨S5x160x320, .f32⟩
  | 14 => ⟨S5x160, .f32⟩
  | 15 => ⟨S5x320x320x2x2, .f32⟩
  | 16 => ⟨S5x320, .f32⟩
  | 17 => ⟨S100x160, .f32⟩
  | 18 => ⟨S100, .f32⟩
  | 19 => ⟨S_, .f32⟩
  | 20 => ⟨S32x3x32x32, .f32⟩
  | 21 => ⟨S32x3x32x32, .f32⟩
  | 22 => ⟨S_, .f32⟩
  | 23 => ⟨S32x3x32x32, .f32⟩
  | 24 => ⟨S32x3x32x32, .f32⟩
  | 25 => ⟨S32x1x32x32, .f32⟩
  | 26 => ⟨S_, .f32⟩
  | 27 => ⟨S32x1x32x32, .f32⟩
  | 28 => ⟨S32x4x32x32, .f32⟩
  | 29 => ⟨S_, .f32⟩
  | 30 => ⟨S32x4x33x34, .f32⟩
  | 31 => ⟨S32x4x32x32, .f32⟩
  | 32 => ⟨S160x4x1x1, .f32⟩
  | 33 => ⟨S160x4, .f32⟩
  | 34 => ⟨S160x32x32x32, .f32⟩
  | 35 => ⟨S32x160x32x32, .f32⟩
  | 36 => ⟨S32x4x32x32, .f32⟩
  | 37 => ⟨S160x4x1x1, .f32⟩
  | 38 => ⟨S160x4, .f32⟩
  | 39 => ⟨S160x32x32x32, .f32⟩
  | 40 => ⟨S32x160x32x32, .f32⟩
  | 41 => ⟨S32x160x32x32, .f32⟩
  | 42 => ⟨S32x4x32x32, .f32⟩
  | 43 => ⟨S160x4x1x1, .f32⟩
  | 44 => ⟨S160x4, .f32⟩
  | 45 => ⟨S160x32x32x32, .f32⟩
  | 46 => ⟨S32x160x32x32, .f32⟩
  | 47 => ⟨S32x160x32x32, .f32⟩
  | 48 => ⟨S32x4x32x32, .f32⟩
  | 49 => ⟨S160x4x1x1, .f32⟩
  | 50 => ⟨S160x4, .f32⟩
  | 51 => ⟨S160x32x32x32, .f32⟩
  | 52 => ⟨S32x160x32x32, .f32⟩
  | 53 => ⟨S32x160x32x32, .f32⟩
  | 54 => ⟨S32x4x32x32, .f32⟩
  | 55 => ⟨S160x4x1x1, .f32⟩
  | 56 => ⟨S160x4, .f32⟩
  | 57 => ⟨S160x32x32x32, .f32⟩
  | 58 => ⟨S32x160x32x32, .f32⟩
  | 59 => ⟨S32x160x32x32, .f32⟩
  | 60 => ⟨S32x4x32x32, .f32⟩
  | 61 => ⟨S160x4x1x1, .f32⟩
  | 62 => ⟨S160x4, .f32⟩
  | 63 => ⟨S160x32x32x32, .f32⟩
  | 64 => ⟨S32x160x32x32, .f32⟩
  | 65 => ⟨S32x160x32x32, .f32⟩
  | 66 => ⟨S1x160x1x1, .f32⟩
  | 67 => ⟨S32x160x32x32, .f32⟩
  | 68 => ⟨S32x160x32x32, .f32⟩
  | 69 => ⟨S_, .f32⟩
  | 70 => ⟨S32x160x33x32, .f32⟩
  | 71 => ⟨S32x160x32x32, .f32⟩
  | 72 => ⟨S_, .f32⟩
  | 73 => ⟨S32x4x32x34, .f32⟩
  | 74 => ⟨S32x4x32x32, .f32⟩
  | 75 => ⟨S160x4x1x1, .f32⟩
  | 76 => ⟨S160x4, .f32⟩
  | 77 => ⟨S160x32x32x32, .f32⟩
  | 78 => ⟨S32x160x32x32, .f32⟩
  | 79 => ⟨S32x4x32x32, .f32⟩
  | 80 => ⟨S160x4x1x1, .f32⟩
  | 81 => ⟨S160x4, .f32⟩
  | 82 => ⟨S160x32x32x32, .f32⟩
  | 83 => ⟨S32x160x32x32, .f32⟩
  | 84 => ⟨S32x160x32x32, .f32⟩
  | 85 => ⟨S32x4x32x32, .f32⟩
  | 86 => ⟨S160x4x1x1, .f32⟩
  | 87 => ⟨S160x4, .f32⟩
  | 88 => ⟨S160x32x32x32, .f32⟩
  | 89 => ⟨S32x160x32x32, .f32⟩
  | 90 => ⟨S32x160x32x32, .f32⟩
  | 91 => ⟨S1x160x1x1, .f32⟩
  | 92 => ⟨S32x160x32x32, .f32⟩
  | 93 => ⟨S32x160x32x32, .f32⟩
  | 94 => ⟨S_, .f32⟩
  | 95 => ⟨S32x160x33x32, .f32⟩
  | 96 => ⟨S32x160x32x32, .f32⟩
  | 97 => ⟨S_, .f32⟩
  | 98 => ⟨S32x4x33x32, .f32⟩
  | 99 => ⟨S32x4x32x32, .f32⟩
  | 100 => ⟨S160x4x1x1, .f32⟩
  | 101 => ⟨S160x4, .f32⟩
  | 102 => ⟨S160x32x32x32, .f32⟩
  | 103 => ⟨S32x160x32x32, .f32⟩
  | 104 => ⟨S32x4x32x32, .f32⟩
  | 105 => ⟨S160x4x1x1, .f32⟩
  | 106 => ⟨S160x4, .f32⟩
  | 107 => ⟨S160x32x32x32, .f32⟩
  | 108 => ⟨S32x160x32x32, .f32⟩
  | 109 => ⟨S32x160x32x32, .f32⟩
  | 110 => ⟨S1x160x1x1, .f32⟩
  | 111 => ⟨S32x160x32x32, .f32⟩
  | 112 => ⟨S32x160x32x32, .f32⟩
  | 113 => ⟨S_, .f32⟩
  | 114 => ⟨S32x160x32x33, .f32⟩
  | 115 => ⟨S32x160x32x32, .f32⟩
  | 116 => ⟨S32x160x32x32, .f32⟩
  | 117 => ⟨S_, .f32⟩
  | 118 => ⟨S_, .i32⟩
  | 119 => ⟨S5x160x320x2x3, .f32⟩
  | 120 => ⟨S5x160, .f32⟩
  | 121 => ⟨S5x320x320x2x3, .f32⟩
  | 122 => ⟨S5x320, .f32⟩
  | 123 => ⟨S5x160x320x2x2, .f32⟩
  | 124 => ⟨S5x160, .f32⟩
  | 125 => ⟨S5x160x320, .f32⟩
  | 126 => ⟨S5x160, .f32⟩
  | 127 => ⟨S5x320x320x2x2, .f32⟩
  | _ => ⟨S32x3x32x32, .f32⟩

abbrev hbmTy0_1 (i : Nat) : BufTy := match i % 128 with
  | 0 => ⟨S5x320, .f32⟩
  | 1 => ⟨S100x160, .f32⟩
  | 2 => ⟨S100, .f32⟩
  | 3 => ⟨S32x3x32x32, .f32⟩
  | 4 => ⟨S_, .i32⟩
  | 5 => ⟨S32x160x32x32, .f32⟩
  | 6 => ⟨S32x160x32x32, .f32⟩
  | 7 => ⟨S_, .f32⟩
  | 8 => ⟨S_, .i32⟩
  | 9 => ⟨S_, .i1⟩
  | 10 => ⟨S_, .i32⟩
  | 11 => ⟨S_, .i32⟩
  | 12 => ⟨S_, .i32⟩
  | 13 => ⟨S_, .i32⟩
  | 14 => ⟨S1x160x320x2x3, .f32⟩
  | 15 => ⟨S160x320x2x3, .f32⟩
  | 16 => ⟨S_, .i32⟩
  | 17 => ⟨S1x160, .f32⟩
  | 18 => ⟨S160, .f32⟩
  | 19 => ⟨S_, .i32⟩
  | 20 => ⟨S_, .i32⟩
  | 21 => ⟨S_, .i32⟩
  | 22 => ⟨S_, .i32⟩
  | 23 => ⟨S1x320x320x2x3, .f32⟩
  | 24 => ⟨S320x320x2x3, .f32⟩
  | 25 => ⟨S_, .i32⟩
  | 26 => ⟨S1x320, .f32⟩
  | 27 => ⟨S320, .f32⟩
  | 28 => ⟨S_, .i32⟩
  | 29 => ⟨S_, .i32⟩
  | 30 => ⟨S_, .i32⟩
  | 31 => ⟨S_, .i32⟩
  | 32 => ⟨S1x160x320x2x2, .f32⟩
  | 33 => ⟨S160x320x2x2, .f32⟩
  | 34 => ⟨S_, .i32⟩
  | 35 => ⟨S1x160, .f32⟩
  | 36 => ⟨S160, .f32⟩
  | 37 => ⟨S_, .i32⟩
  | 38 => ⟨S_, .i32⟩
  | 39 => ⟨S1x160x320, .f32⟩
  | 40 => ⟨S160x320, .f32⟩
  | 41 => ⟨S_, .i32⟩
  | 42 => ⟨S1x160, .f32⟩
  | 43 => ⟨S160, .f32⟩
  | 44 => ⟨S_, .i32⟩
  | 45 => ⟨S_, .i32⟩
  | 46 => ⟨S_, .i32⟩
  | 47 => ⟨S_, .i32⟩
  | 48 => ⟨S1x320x320x2x2, .f32⟩
  | 49 => ⟨S320x320x2x2, .f32⟩
  | 50 => ⟨S_, .i32⟩
  | 51 => ⟨S1x320, .f32⟩
  | 52 => ⟨S320, .f32⟩
  | 53 => ⟨S32x160x32x32, .f32⟩
  | 54 => ⟨S32x320x32x32, .f32⟩
  | 55 => ⟨S_, .f32⟩
  | 56 => ⟨S32x320x32x32, .f32⟩
  | 57 => ⟨S32x320x32x32, .i1⟩
  | 58 => ⟨S32x320x32x32, .f32⟩
  | 59 => ⟨S32x320x32x32, .f32⟩
  | 60 => ⟨S_, .f32⟩
  | 61 => ⟨S32x320x33x34, .f32⟩
  | 62 => ⟨S32x320x32x32, .f32⟩
  | 63 => ⟨S160x320x1x1, .f32⟩
  | 64 => ⟨S160x320, .f32⟩
  | 65 => ⟨S160x32x32x32, .f32⟩
  | 66 => ⟨S32x160x32x32, .f32⟩
  | 67 => ⟨S32x320x32x32, .f32⟩
  | 68 => ⟨S160x320x1x1, .f32⟩
  | 69 => ⟨S160x320, .f32⟩
  | 70 => ⟨S160x32x32x32, .f32⟩
  | 71 => ⟨S32x160x32x32, .f32⟩
  | 72 => ⟨S32x160x32x32, .f32⟩
  | 73 => ⟨S32x320x32x32, .f32⟩
  | 74 => ⟨S160x320x1x1, .f32⟩
  | 75 => ⟨S160x320, .f32⟩
  | 76 => ⟨S160x32x32x32, .f32⟩
  | 77 => ⟨S32x160x32x32, .f32⟩
  | 78 => ⟨S32x160x32x32, .f32⟩
  | 79 => ⟨S32x320x32x32, .f32⟩
  | 80 => ⟨S160x320x1x1, .f32⟩
  | 81 => ⟨S160x320, .f32⟩
  | 82 => ⟨S160x32x32x32, .f32⟩
  | 83 => ⟨S32x160x32x32, .f32⟩
  | 84 => ⟨S32x160x32x32, .f32⟩
  | 85 => ⟨S32x320x32x32, .f32⟩
  | 86 => ⟨S160x320x1x1, .f32⟩
  | 87 => ⟨S160x320, .f32⟩
  | 88 => ⟨S160x32x32x32, .f32⟩
  | 89 => ⟨S32x160x32x32, .f32⟩
  | 90 => ⟨S32x160x32x32, .f32⟩
  | 91 => ⟨S32x320x32x32, .f32⟩
  | 92 => ⟨S160x320x1x1, .f32⟩
  | 93 => ⟨S160x320, .f32⟩
  | 94 => ⟨S160x32x32x32, .f32⟩
  | 95 => ⟨S32x160x32x32, .f32⟩
  | 96 => ⟨S32x160x32x32, .f32⟩
  | 97 => ⟨S1x160x1x1, .f32⟩
  | 98 => ⟨S32x160x32x32, .f32⟩
  | 99 => ⟨S32x160x32x32, .f32⟩
  | 100 => ⟨S32x160x32x32, .f32⟩
  | 101 => ⟨S32x320x32x32, .f32⟩
  | 102 => ⟨S_, .f32⟩
  | 103 => ⟨S32x320x32x32, .f32⟩
  | 104 => ⟨S32x320x32x32, .i1⟩
  | 105 => ⟨S32x320x32x32, .f32⟩
  | 106 => ⟨S32x320x32x32, .f32⟩
  | 107 => ⟨S_, .f32⟩
  | 108 => ⟨S32x320x33x34, .f32⟩
  | 109 => ⟨S32x320x32x32, .f32⟩
  | 110 => ⟨S320x320x1x1, .f32⟩
  | 111 => ⟨S320x320, .f32⟩
  | 112 => ⟨S320x32x32x32, .f32⟩
  | 113 => ⟨S32x320x32x32, .f32⟩
  | 114 => ⟨S32x320x32x32, .f32⟩
  | 115 => ⟨S320x320x1x1, .f32⟩
  | 116 => ⟨S320x320, .f32⟩
  | 117 => ⟨S320x32x32x32, .f32⟩
  | 118 => ⟨S32x320x32x32, .f32⟩
  | 119 => ⟨S32x320x32x32, .f32⟩
  | 120 => ⟨S32x320x32x32, .f32⟩
  | 121 => ⟨S320x320x1x1, .f32⟩
  | 122 => ⟨S320x320, .f32⟩
  | 123 => ⟨S320x32x32x32, .f32⟩
  | 124 => ⟨S32x320x32x32, .f32⟩
  | 125 => ⟨S32x320x32x32, .f32⟩
  | 126 => ⟨S32x320x32x32, .f32⟩
  | 127 => ⟨S320x320x1x1, .f32⟩
  | _ => ⟨S32x3x32x32, .f32⟩

abbrev hbmTy0_2 (i : Nat) : BufTy := match i % 128 with
  | 0 => ⟨S320x320, .f32⟩
  | 1 => ⟨S320x32x32x32, .f32⟩
  | 2 => ⟨S32x320x32x32, .f32⟩
  | 3 => ⟨S32x320x32x32, .f32⟩
  | 4 => ⟨S32x320x32x32, .f32⟩
  | 5 => ⟨S320x320x1x1, .f32⟩
  | 6 => ⟨S320x320, .f32⟩
  | 7 => ⟨S320x32x32x32, .f32⟩
  | 8 => ⟨S32x320x32x32, .f32⟩
  | 9 => ⟨S32x320x32x32, .f32⟩
  | 10 => ⟨S32x320x32x32, .f32⟩
  | 11 => ⟨S320x320x1x1, .f32⟩
  | 12 => ⟨S320x320, .f32⟩
  | 13 => ⟨S320x32x32x32, .f32⟩
  | 14 => ⟨S32x320x32x32, .f32⟩
  | 15 => ⟨S32x320x32x32, .f32⟩
  | 16 => ⟨S1x320x1x1, .f32⟩
  | 17 => ⟨S32x320x32x32, .f32⟩
  | 18 => ⟨S32x320x32x32, .f32⟩
  | 19 => ⟨S32x160x32x32, .f32⟩
  | 20 => ⟨S32x160x32x32, .f32⟩
  | 21 => ⟨S32x160x32x32, .f32⟩
  | 22 => ⟨S32x160x32x32, .f32⟩
  | 23 => ⟨S_, .f32⟩
  | 24 => ⟨S32x160x32x32, .f32⟩
  | 25 => ⟨S32x160x32x32, .f32⟩
  | 26 => ⟨S_, .f32⟩
  | 27 => ⟨S32x160x32x32, .f32⟩
  | 28 => ⟨S32x160x32x32, .f32⟩
  | 29 => ⟨S32x160x32x32, .f32⟩
  | 30 => ⟨S32x160x32x32, .f32⟩
  | 31 => ⟨S32x160x32x32, .f32⟩
  | 32 => ⟨S32x320x32x32, .f32⟩
  | 33 => ⟨S_, .f32⟩
  | 34 => ⟨S32x320x32x32, .f32⟩
  | 35 => ⟨S32x320x32x32, .i1⟩
  | 36 => ⟨S32x320x32x32, .f32⟩
  | 37 => ⟨S32x320x32x32, .f32⟩
  | 38 => ⟨S_, .f32⟩
  | 39 => ⟨S32x320x33x33, .f32⟩
  | 40 => ⟨S32x320x32x32, .f32⟩
  | 41 => ⟨S160x320x1x1, .f32⟩
  | 42 => ⟨S160x320, .f32⟩
  | 43 => ⟨S160x32x32x32, .f32⟩
  | 44 => ⟨S32x160x32x32, .f32⟩
  | 45 => ⟨S32x320x32x32, .f32⟩
  | 46 => ⟨S160x320x1x1, .f32⟩
  | 47 => ⟨S160x320, .f32⟩
  | 48 => ⟨S160x32x32x32, .f32⟩
  | 49 => ⟨S32x160x32x32, .f32⟩
  | 50 => ⟨S32x160x32x32, .f32⟩
  | 51 => ⟨S32x320x32x32, .f32⟩
  | 52 => ⟨S160x320x1x1, .f32⟩
  | 53 => ⟨S160x320, .f32⟩
  | 54 => ⟨S160x32x32x32, .f32⟩
  | 55 => ⟨S32x160x32x32, .f32⟩
  | 56 => ⟨S32x160x32x32, .f32⟩
  | 57 => ⟨S32x320x32x32, .f32⟩
  | 58 => ⟨S160x320x1x1, .f32⟩
  | 59 => ⟨S160x320, .f32⟩
  | 60 => ⟨S160x32x32x32, .f32⟩
  | 61 => ⟨S32x160x32x32, .f32⟩
  | 62 => ⟨S32x160x32x32, .f32⟩
  | 63 => ⟨S1x160x1x1, .f32⟩
  | 64 => ⟨S32x160x32x32, .f32⟩
  | 65 => ⟨S32x160x32x32, .f32⟩
  | 66 => ⟨S32x160x32x32, .f32⟩
  | 67 => ⟨S32x320x32x32, .f32⟩
  | 68 => ⟨S_, .f32⟩
  | 69 => ⟨S32x320x32x32, .f32⟩
  | 70 => ⟨S32x320x32x32, .i1⟩
  | 71 => ⟨S32x320x32x32, .f32⟩
  | 72 => ⟨S32x320x32x32, .f32⟩
  | 73 => ⟨S160x32x32x32, .f32⟩
  | 74 => ⟨S32x160x32x32, .f32⟩
  | 75 => ⟨S1x160x1x1, .f32⟩
  | 76 => ⟨S32x160x32x32, .f32⟩
  | 77 => ⟨S32x160x32x32, .f32⟩
  | 78 => ⟨S32x160x32x32, .f32⟩
  | 79 => ⟨S32x160x32x32, .f32⟩
  | 80 => ⟨S32x320x32x32, .f32⟩
  | 81 => ⟨S_, .f32⟩
  | 82 => ⟨S32x320x32x32, .f32⟩
  | 83 => ⟨S32x320x32x32, .i1⟩
  | 84 => ⟨S32x320x32x32, .f32⟩
  | 85 => ⟨S32x320x32x32, .f32⟩
  | 86 => ⟨S_, .f32⟩
  | 87 => ⟨S32x320x33x33, .f32⟩
  | 88 => ⟨S32x320x32x32, .f32⟩
  | 89 => ⟨S320x320x1x1, .f32⟩
  | 90 => ⟨S320x320, .f32⟩
  | 91 => ⟨S320x32x32x32, .f32⟩
  | 92 => ⟨S32x320x32x32, .f32⟩
  | 93 => ⟨S32x320x32x32, .f32⟩
  | 94 => ⟨S320x320x1x1, .f32⟩
  | 95 => ⟨S320x320, .f32⟩
  | 96 => ⟨S320x32x32x32, .f32⟩
  | 97 => ⟨S32x320x32x32, .f32⟩
  | 98 => ⟨S32x320x32x32, .f32⟩
  | 99 => ⟨S32x320x32x32, .f32⟩
  | 100 => ⟨S320x320x1x1, .f32⟩
  | 101 => ⟨S320x320, .f32⟩
  | 102 => ⟨S320x32x32x32, .f32⟩
  | 103 => ⟨S32x320x32x32, .f32⟩
  | 104 => ⟨S32x320x32x32, .f32⟩
  | 105 => ⟨S32x320x32x32, .f32⟩
  | 106 => ⟨S320x320x1x1, .f32⟩
  | 107 => ⟨S320x320, .f32⟩
  | 108 => ⟨S320x32x32x32, .f32⟩
  | 109 => ⟨S32x320x32x32, .f32⟩
  | 110 => ⟨S32x320x32x32, .f32⟩
  | 111 => ⟨S1x320x1x1, .f32⟩
  | 112 => ⟨S32x320x32x32, .f32⟩
  | 113 => ⟨S32x320x32x32, .f32⟩
  | 114 => ⟨S32x160x32x32, .f32⟩
  | 115 => ⟨S32x160x32x32, .f32⟩
  | 116 => ⟨S32x160x32x32, .f32⟩
  | 117 => ⟨S32x160x32x32, .f32⟩
  | 118 => ⟨S_, .f32⟩
  | 119 => ⟨S32x160x32x32, .f32⟩
  | 120 => ⟨S32x160x32x32, .f32⟩
  | 121 => ⟨S_, .f32⟩
  | 122 => ⟨S32x160x32x32, .f32⟩
  | 123 => ⟨S32x160x32x32, .f32⟩
  | 124 => ⟨S32x160x32x32, .f32⟩
  | 125 => ⟨S32x160x32x32, .f32⟩
  | 126 => ⟨S_, .f32⟩
  | 127 => ⟨S32x160x32x32, .f32⟩
  | _ => ⟨S32x3x32x32, .f32⟩

abbrev hbmTy0_3 (i : Nat) : BufTy := match i % 128 with
  | 0 => ⟨S32x160x32x32, .i1⟩
  | 1 => ⟨S32x160x32x32, .f32⟩
  | 2 => ⟨S32x160x32x32, .f32⟩
  | 3 => ⟨S100x32x32x32, .f32⟩
  | 4 => ⟨S32x100x32x32, .f32⟩
  | 5 => ⟨S1x100x1x1, .f32⟩
  | 6 => ⟨S32x100x32x32, .f32⟩
  | 7 => ⟨S32x100x32x32, .f32⟩
  | 8 => ⟨S32x32x32x3, .f32⟩
  | 9 => ⟨S32x32x32x100, .f32⟩
  | 10 => ⟨S32x32x32x10, .f32⟩
  | 11 => ⟨S32x32x32x90, .f32⟩
  | 12 => ⟨S32x32x32x3x30, .f32⟩
  | 13 => ⟨S32x32x32x3x10, .f32⟩
  | 14 => ⟨S32x32x32x3x10, .f32⟩
  | 15 => ⟨S_, .f32⟩
  | 16 => ⟨S32x32x32x3x10, .f32⟩
  | 17 => ⟨S32x32x32x3x10, .f32⟩
  | 18 => ⟨S32x32x32x3x10, .f32⟩
  | 19 => ⟨S32x32x32x3x10, .f32⟩
  | 20 => ⟨S32x32x32x3x1, .f32⟩
  | 21 => ⟨S32x32x32x1x10, .f32⟩
  | 22 => ⟨S32x32x32x10, .f32⟩
  | 23 => ⟨S32x32x32x1x10, .f32⟩
  | 24 => ⟨S32x32x32x10, .f32⟩
  | 25 => ⟨S32x32x32x1x10, .f32⟩
  | 26 => ⟨S32x32x32x10, .f32⟩
  | 27 => ⟨S32x32x32x1x1, .f32⟩
  | 28 => ⟨S32x32x32x1, .f32⟩
  | 29 => ⟨S32x32x32x10, .f32⟩
  | 30 => ⟨S32x32x32x10, .f32⟩
  | 31 => ⟨S32x32x32x10, .f32⟩
  | 32 => ⟨S32x32x32x1x10, .f32⟩
  | 33 => ⟨S32x32x32x10, .f32⟩
  | 34 => ⟨S32x32x32x1x10, .f32⟩
  | 35 => ⟨S32x32x32x10, .f32⟩
  | 36 => ⟨S32x32x32x1x1, .f32⟩
  | 37 => ⟨S32x32x32x1, .f32⟩
  | 38 => ⟨S32x32x32x10, .f32⟩
  | 39 => ⟨S32x32x32x10, .f32⟩
  | 40 => ⟨S32x32x32x10, .f32⟩
  | 41 => ⟨S32x32x32x1x10, .f32⟩
  | 42 => ⟨S32x32x32x10, .f32⟩
  | 43 => ⟨S32x32x32x1x1, .f32⟩
  | 44 => ⟨S32x32x32x1, .f32⟩
  | 45 => ⟨S32x32x32x10, .f32⟩
  | 46 => ⟨S32x32x32x10, .f32⟩
  | 47 => ⟨S32x32x32x10, .f32⟩
  | 48 => ⟨S32x32x32x1x10, .f32⟩
  | 49 => ⟨S32x32x32x1x10, .f32⟩
  | 50 => ⟨S32x32x32x1x10, .f32⟩
  | 51 => ⟨S32x32x32x3x10, .f32⟩
  | 52 => ⟨S32x32x32x3x10, .f32⟩
  | 53 => ⟨S32x32x32x3x10, .f32⟩
  | 54 => ⟨S32x32x32x3x10, .f32⟩
  | 55 => ⟨S32x32x32x3x10, .f32⟩
  | 56 => ⟨S_, .f32⟩
  | 57 => ⟨S32x32x32x3x10, .f32⟩
  | 58 => ⟨S32x32x32x3x10, .f32⟩
  | 59 => ⟨S32x32x32x3x10, .f32⟩
  | 60 => ⟨S_, .f32⟩
  | 61 => ⟨S32x32x32x3x10, .f32⟩
  | 62 => ⟨S32x32x32x3x10, .f32⟩
  | 63 => ⟨S32x32x32x3x10, .f32⟩
  | 64 => ⟨S32x32x32x3x10, .f32⟩
  | 65 => ⟨S32x32x32x3x10, .f32⟩
  | 66 => ⟨S_, .f32⟩
  | 67 => ⟨S32x32x32x3x10, .f32⟩
  | 68 => ⟨S32x32x32x3x10, .f32⟩
  | 69 => ⟨S_, .f32⟩
  | 70 => ⟨S32x32x32x3x10, .f32⟩
  | 71 => ⟨S32x32x32x3x10, .f32⟩
  | 72 => ⟨S32x32x32x3x10, .f32⟩
  | 73 => ⟨S32x32x32x3x10, .f32⟩
  | 74 => ⟨S_, .f32⟩
  | 75 => ⟨S32x32x32x3x10, .f32⟩
  | 76 => ⟨S32x32x32x3x10, .f32⟩
  | 77 => ⟨S_, .f32⟩
  | 78 => ⟨S32x32x32x3x10, .f32⟩
  | 79 => ⟨S32x32x32x3x10, .f32⟩
  | 80 => ⟨S32x32x32x3x10, .f32⟩
  | 81 => ⟨S_, .f32⟩
  | 82 => ⟨S32x32x32x3x10, .f32⟩
  | 83 => ⟨S32x32x32x3x10, .f32⟩
  | 84 => ⟨S32x32x32x3x10, .f32⟩
  | 85 => ⟨S32x32x32x3x10, .f32⟩
  | 86 => ⟨S32x32x32x3x10, .f32⟩
  | 87 => ⟨S32x32x32x3x10, .f32⟩
  | 88 => ⟨S32x32x32x3x10, .f32⟩
  | 89 => ⟨S32x32x32x3x10, .f32⟩
  | 90 => ⟨S_, .f32⟩
  | 91 => ⟨S32x32x32x3x10, .f32⟩
  | 92 => ⟨S32x32x32x3x10, .f32⟩
  | 93 => ⟨S32x32x32x3x10, .f32⟩
  | 94 => ⟨S32x32x32x3x10, .f32⟩
  | 95 => ⟨S32x32x32x3x10, .f32⟩
  | 96 => ⟨S32x32x32x3x10, .f32⟩
  | 97 => ⟨S32x32x32x3x10, .f32⟩
  | 98 => ⟨S32x32x32x3x10, .f32⟩
  | 99 => ⟨S32x32x32x3x10, .f32⟩
  | 100 => ⟨S32x32x32x3x10, .f32⟩
  | 101 => ⟨S_, .f32⟩
  | 102 => ⟨S32x32x32x3x10, .f32⟩
  | 103 => ⟨S32x32x32x3x10, .f32⟩
  | 104 => ⟨S32x32x32x3x10, .f32⟩
  | 105 => ⟨S32x32x32x3x10, .f32⟩
  | 106 => ⟨S32x32x32x3x10, .f32⟩
  | 107 => ⟨S32x32x32x3x10, .f32⟩
  | 108 => ⟨S32x32x32x3x10, .f32⟩
  | 109 => ⟨S_, .f32⟩
  | 110 => ⟨S32x32x32x3x10, .f32⟩
  | 111 => ⟨S32x32x32x3x10, .f32⟩
  | 112 => ⟨S32x32x32x3x10, .f32⟩
  | 113 => ⟨S_, .f32⟩
  | 114 => ⟨S32x32x32x3x1, .f32⟩
  | 115 => ⟨S32x32x32x3x1, .i1⟩
  | 116 => ⟨S_, .f32⟩
  | 117 => ⟨S32x32x32x3x1, .f32⟩
  | 118 => ⟨S32x32x32x3x1, .i1⟩
  | 119 => ⟨S_, .f32⟩
  | 120 => ⟨S32x32x32x3x10, .f32⟩
  | 121 => ⟨S32x32x32x3x10, .i1⟩
  | 122 => ⟨S_, .f32⟩
  | 123 => ⟨S32x32x32x3x10, .f32⟩
  | 124 => ⟨S32x32x32x3x10, .f32⟩
  | 125 => ⟨S32x32x32x3x10, .f32⟩
  | 126 => ⟨S_, .f32⟩
  | 127 => ⟨S32x32x32x3x10, .f32⟩
  | _ => ⟨S32x3x32x32, .f32⟩

abbrev hbmTy0_4 (i : Nat) : BufTy := match i % 128 with
  | 0 => ⟨S32x32x32x3x10, .f32⟩
  | 1 => ⟨S32x32x32x3x10, .f32⟩
  | 2 => ⟨S32x32x32x3x10, .i1⟩
  | 3 => ⟨S32x32x32x3x10, .f32⟩
  | 4 => ⟨S32x32x32x3x10, .i1⟩
  | 5 => ⟨S32x32x32x3x10, .f32⟩
  | 6 => ⟨S_, .f32⟩
  | 7 => ⟨S32x32x32x10, .f32⟩
  | 8 => ⟨S_, .f32⟩
  | 9 => ⟨S32x32x32, .f32⟩
  | 10 => ⟨S_, .f32⟩
  | 11 => ⟨S32x32x32, .f32⟩
  | 12 => ⟨S32x32x32, .f32⟩
  | 13 => ⟨S32x32x32x1, .f32⟩
  | 14 => ⟨S32x32x32x10, .f32⟩
  | 15 => ⟨S32x32x32x10, .f32⟩
  | 16 => ⟨S32x32x32x10, .f32⟩
  | 17 => ⟨S_, .f32⟩
  | 18 => ⟨S32x32x32, .f32⟩
  | 19 => ⟨S32x32x32x1, .f32⟩
  | 20 => ⟨S32x32x32x1, .f32⟩
  | 21 => ⟨S32x32x32x10, .f32⟩
  | 22 => ⟨S32x32x32x10, .f32⟩
  | 23 => ⟨S32x32x32x10, .f32⟩
  | 24 => ⟨S_, .f32⟩
  | 25 => ⟨S32x32x32, .f32⟩
  | 26 => ⟨S32x32x32x1, .f32⟩
  | 27 => ⟨S32x32x32x10, .f32⟩
  | 28 => ⟨S32x32x32x10, .f32⟩
  | 29 => ⟨S32x32x32x10, .f32⟩
  | 30 => ⟨S_, .f32⟩
  | 31 => ⟨S32x32x32, .f32⟩
  | 32 => ⟨S32x32x32x1, .f32⟩
  | 33 => ⟨S32x32x32x1, .f32⟩
  | 34 => ⟨S32x32x32x1, .f32⟩
  | 35 => ⟨S32x32x32, .f32⟩
  | 36 => ⟨S_, .f32⟩
  | 37 => ⟨S_, .f32⟩
  | 38 => ⟨S_, .f32⟩
  | 39 => ⟨S_, .f32⟩
  | 40 => ⟨S_, .i32⟩
  | 41 => ⟨S_, .i32⟩
  | _ => ⟨S32x3x32x32, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S32x3x32x32, .f32⟩

abbrev bufTy : (tb : Table) → Fin (tcTables nBuf tb) → BufTy
  | .hbm, ⟨i, _⟩ => hbmTy i
  | _, _ => ⟨S32x3x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_v1 : Ref sig .tc := ⟨.hbm, 21, rfl⟩
abbrev main_cst_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_cst_1 : Ref sig .tc := ⟨.hbm, 26, rfl⟩
abbrev main_v5 : Ref sig .tc := ⟨.hbm, 27, rfl⟩
abbrev main_v6 : Ref sig .tc := ⟨.hbm, 28, rfl⟩
abbrev main_cst_2 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_3 : Ref sig .tc := ⟨.hbm, 69, rfl⟩
abbrev main_v46 : Ref sig .tc := ⟨.hbm, 70, rfl⟩
abbrev main_v47 : Ref sig .tc := ⟨.hbm, 71, rfl⟩
abbrev main_cst_4 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_5 : Ref sig .tc := ⟨.hbm, 94, rfl⟩
abbrev main_v69 : Ref sig .tc := ⟨.hbm, 95, rfl⟩
abbrev main_v70 : Ref sig .tc := ⟨.hbm, 96, rfl⟩
abbrev main_cst_6 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_7 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_8 : Ref sig .tc := ⟨.hbm, 117, rfl⟩
abbrev main_c : Ref sig .tc := ⟨.hbm, 118, rfl⟩
abbrev main_v89_0 : Ref sig .tc := ⟨.hbm, 119, rfl⟩
abbrev main_v89_1 : Ref sig .tc := ⟨.hbm, 120, rfl⟩
abbrev main_v89_2 : Ref sig .tc := ⟨.hbm, 121, rfl⟩
abbrev main_v89_3 : Ref sig .tc := ⟨.hbm, 122, rfl⟩
abbrev main_v89_4 : Ref sig .tc := ⟨.hbm, 123, rfl⟩
abbrev main_v89_5 : Ref sig .tc := ⟨.hbm, 124, rfl⟩
abbrev main_v89_6 : Ref sig .tc := ⟨.hbm, 125, rfl⟩
abbrev main_v89_7 : Ref sig .tc := ⟨.hbm, 126, rfl⟩
abbrev main_v89_8 : Ref sig .tc := ⟨.hbm, 127, rfl⟩
abbrev main_v89_9 : Ref sig .tc := ⟨.hbm, 128, rfl⟩
abbrev main_v89_10 : Ref sig .tc := ⟨.hbm, 129, rfl⟩
abbrev main_v89_11 : Ref sig .tc := ⟨.hbm, 130, rfl⟩
abbrev main_v89_12 : Ref sig .tc := ⟨.hbm, 131, rfl⟩
abbrev main_v89_13 : Ref sig .tc := ⟨.hbm, 132, rfl⟩
abbrev main_v89_14 : Ref sig .tc := ⟨.hbm, 133, rfl⟩
abbrev main_v89_15 : Ref sig .tc := ⟨.hbm, 134, rfl⟩
abbrev main_v89_16 : Ref sig .tc := ⟨.hbm, 135, rfl⟩
abbrev main_while0c_c_25 : Ref sig .tc := ⟨.hbm, 136, rfl⟩
abbrev main_while0c_v90 : Ref sig .tc := ⟨.hbm, 137, rfl⟩
abbrev main_while0b_call0_c : Ref sig .tc := ⟨.hbm, 138, rfl⟩
abbrev main_while0b_call0_c_0 : Ref sig .tc := ⟨.hbm, 139, rfl⟩
abbrev main_while0b_call0_c_1 : Ref sig .tc := ⟨.hbm, 140, rfl⟩
abbrev main_while0b_call0_c_2 : Ref sig .tc := ⟨.hbm, 141, rfl⟩
abbrev main_while0b_call0_v0 : Ref sig .tc := ⟨.hbm, 142, rfl⟩
abbrev main_while0b_v90 : Ref sig .tc := ⟨.hbm, 143, rfl⟩
abbrev main_while0b_call1_c : Ref sig .tc := ⟨.hbm, 144, rfl⟩
abbrev main_while0b_call1_v0 : Ref sig .tc := ⟨.hbm, 145, rfl⟩
abbrev main_while0b_v91 : Ref sig .tc := ⟨.hbm, 146, rfl⟩
abbrev main_while0b_call2_c : Ref sig .tc := ⟨.hbm, 147, rfl⟩
abbrev main_while0b_call2_c_0 : Ref sig .tc := ⟨.hbm, 148, rfl⟩
abbrev main_while0b_call2_c_1 : Ref sig .tc := ⟨.hbm, 149, rfl⟩
abbrev main_while0b_call2_c_2 : Ref sig .tc := ⟨.hbm, 150, rfl⟩
abbrev main_while0b_call2_v0 : Ref sig .tc := ⟨.hbm, 151, rfl⟩
abbrev main_while0b_v92 : Ref sig .tc := ⟨.hbm, 152, rfl⟩
abbrev main_while0b_call3_c : Ref sig .tc := ⟨.hbm, 153, rfl⟩
abbrev main_while0b_call3_v0 : Ref sig .tc := ⟨.hbm, 154, rfl⟩
abbrev main_while0b_v93 : Ref sig .tc := ⟨.hbm, 155, rfl⟩
abbrev main_while0b_call4_c : Ref sig .tc := ⟨.hbm, 156, rfl⟩
abbrev main_while0b_call4_c_0 : Ref sig .tc := ⟨.hbm, 157, rfl⟩
abbrev main_while0b_call4_c_1 : Ref sig .tc := ⟨.hbm, 158, rfl⟩
abbrev main_while0b_call4_c_2 : Ref sig .tc := ⟨.hbm, 159, rfl⟩
abbrev main_while0b_call4_v0 : Ref sig .tc := ⟨.hbm, 160, rfl⟩
abbrev main_while0b_v94 : Ref sig .tc := ⟨.hbm, 161, rfl⟩
abbrev main_while0b_call5_c : Ref sig .tc := ⟨.hbm, 162, rfl⟩
abbrev main_while0b_call5_v0 : Ref sig .tc := ⟨.hbm, 163, rfl⟩
abbrev main_while0b_v95 : Ref sig .tc := ⟨.hbm, 164, rfl⟩
abbrev main_while0b_call6_c : Ref sig .tc := ⟨.hbm, 165, rfl⟩
abbrev main_while0b_call6_c_0 : Ref sig .tc := ⟨.hbm, 166, rfl⟩
abbrev main_while0b_call6_v0 : Ref sig .tc := ⟨.hbm, 167, rfl⟩
abbrev main_while0b_v96 : Ref sig .tc := ⟨.hbm, 168, rfl⟩
abbrev main_while0b_call7_c : Ref sig .tc := ⟨.hbm, 169, rfl⟩
abbrev main_while0b_call7_v0 : Ref sig .tc := ⟨.hbm, 170, rfl⟩
abbrev main_while0b_v97 : Ref sig .tc := ⟨.hbm, 171, rfl⟩
abbrev main_while0b_call8_c : Ref sig .tc := ⟨.hbm, 172, rfl⟩
abbrev main_while0b_call8_c_0 : Ref sig .tc := ⟨.hbm, 173, rfl⟩
abbrev main_while0b_call8_c_1 : Ref sig .tc := ⟨.hbm, 174, rfl⟩
abbrev main_while0b_call8_c_2 : Ref sig .tc := ⟨.hbm, 175, rfl⟩
abbrev main_while0b_call8_v0 : Ref sig .tc := ⟨.hbm, 176, rfl⟩
abbrev main_while0b_v98 : Ref sig .tc := ⟨.hbm, 177, rfl⟩
abbrev main_while0b_call9_c : Ref sig .tc := ⟨.hbm, 178, rfl⟩
abbrev main_while0b_call9_v0 : Ref sig .tc := ⟨.hbm, 179, rfl⟩
abbrev main_while0b_v99 : Ref sig .tc := ⟨.hbm, 180, rfl⟩
abbrev main_while0b_v100 : Ref sig .tc := ⟨.hbm, 181, rfl⟩
abbrev main_while0b_v101 : Ref sig .tc := ⟨.hbm, 182, rfl⟩
abbrev main_while0b_cst_25 : Ref sig .tc := ⟨.hbm, 183, rfl⟩
abbrev main_while0b_v102 : Ref sig .tc := ⟨.hbm, 184, rfl⟩
abbrev main_while0b_v103 : Ref sig .tc := ⟨.hbm, 185, rfl⟩
abbrev main_while0b_v104 : Ref sig .tc := ⟨.hbm, 186, rfl⟩
abbrev main_while0b_v105 : Ref sig .tc := ⟨.hbm, 187, rfl⟩
abbrev main_while0b_cst_26 : Ref sig .tc := ⟨.hbm, 188, rfl⟩
abbrev main_while0b_v106 : Ref sig .tc := ⟨.hbm, 189, rfl⟩
abbrev main_while0b_v107 : Ref sig .tc := ⟨.hbm, 190, rfl⟩
abbrev main_while0b_v108 : Ref sig .tc := ⟨.hbm, 191, rfl⟩
abbrev main_while0b_v109 : Ref sig .tc := ⟨.hbm, 192, rfl⟩
abbrev main_while0b_v110 : Ref sig .tc := ⟨.hbm, 193, rfl⟩
abbrev main_while0b_v111 : Ref sig .tc := ⟨.hbm, 194, rfl⟩
abbrev main_while0b_v112 : Ref sig .tc := ⟨.hbm, 195, rfl⟩
abbrev main_while0b_v113 : Ref sig .tc := ⟨.hbm, 196, rfl⟩
abbrev main_while0b_v114 : Ref sig .tc := ⟨.hbm, 197, rfl⟩
abbrev main_while0b_v115 : Ref sig .tc := ⟨.hbm, 198, rfl⟩
abbrev main_while0b_v116 : Ref sig .tc := ⟨.hbm, 199, rfl⟩
abbrev main_while0b_v117 : Ref sig .tc := ⟨.hbm, 200, rfl⟩
abbrev main_while0b_v118 : Ref sig .tc := ⟨.hbm, 201, rfl⟩
abbrev main_while0b_v119 : Ref sig .tc := ⟨.hbm, 202, rfl⟩
abbrev main_while0b_v120 : Ref sig .tc := ⟨.hbm, 203, rfl⟩
abbrev main_while0b_v121 : Ref sig .tc := ⟨.hbm, 204, rfl⟩
abbrev main_while0b_v122 : Ref sig .tc := ⟨.hbm, 205, rfl⟩
abbrev main_while0b_v123 : Ref sig .tc := ⟨.hbm, 206, rfl⟩
abbrev main_while0b_v124 : Ref sig .tc := ⟨.hbm, 207, rfl⟩
abbrev main_while0b_v125 : Ref sig .tc := ⟨.hbm, 208, rfl⟩
abbrev main_while0b_v126 : Ref sig .tc := ⟨.hbm, 209, rfl⟩
abbrev main_while0b_v127 : Ref sig .tc := ⟨.hbm, 210, rfl⟩
abbrev main_while0b_v128 : Ref sig .tc := ⟨.hbm, 211, rfl⟩
abbrev main_while0b_v129 : Ref sig .tc := ⟨.hbm, 212, rfl⟩
abbrev main_while0b_v130 : Ref sig .tc := ⟨.hbm, 213, rfl⟩
abbrev main_while0b_v131 : Ref sig .tc := ⟨.hbm, 214, rfl⟩
abbrev main_while0b_v132 : Ref sig .tc := ⟨.hbm, 215, rfl⟩
abbrev main_while0b_v133 : Ref sig .tc := ⟨.hbm, 216, rfl⟩
abbrev main_while0b_v134 : Ref sig .tc := ⟨.hbm, 217, rfl⟩
abbrev main_while0b_v135 : Ref sig .tc := ⟨.hbm, 218, rfl⟩
abbrev main_while0b_v136 : Ref sig .tc := ⟨.hbm, 219, rfl⟩
abbrev main_while0b_v137 : Ref sig .tc := ⟨.hbm, 220, rfl⟩
abbrev main_while0b_v138 : Ref sig .tc := ⟨.hbm, 221, rfl⟩
abbrev main_while0b_v139 : Ref sig .tc := ⟨.hbm, 222, rfl⟩
abbrev main_while0b_v140 : Ref sig .tc := ⟨.hbm, 223, rfl⟩
abbrev main_while0b_v141 : Ref sig .tc := ⟨.hbm, 224, rfl⟩
abbrev main_while0b_v142 : Ref sig .tc := ⟨.hbm, 225, rfl⟩
abbrev main_while0b_v143 : Ref sig .tc := ⟨.hbm, 226, rfl⟩
abbrev main_while0b_v144 : Ref sig .tc := ⟨.hbm, 227, rfl⟩
abbrev main_while0b_v145 : Ref sig .tc := ⟨.hbm, 228, rfl⟩
abbrev main_while0b_v146 : Ref sig .tc := ⟨.hbm, 229, rfl⟩
abbrev main_while0b_cst_27 : Ref sig .tc := ⟨.hbm, 230, rfl⟩
abbrev main_while0b_v147 : Ref sig .tc := ⟨.hbm, 231, rfl⟩
abbrev main_while0b_v148 : Ref sig .tc := ⟨.hbm, 232, rfl⟩
abbrev main_while0b_v149 : Ref sig .tc := ⟨.hbm, 233, rfl⟩
abbrev main_while0b_v150 : Ref sig .tc := ⟨.hbm, 234, rfl⟩
abbrev main_while0b_cst_28 : Ref sig .tc := ⟨.hbm, 235, rfl⟩
abbrev main_while0b_v151 : Ref sig .tc := ⟨.hbm, 236, rfl⟩
abbrev main_while0b_v152 : Ref sig .tc := ⟨.hbm, 237, rfl⟩
abbrev main_while0b_v153 : Ref sig .tc := ⟨.hbm, 238, rfl⟩
abbrev main_while0b_v154 : Ref sig .tc := ⟨.hbm, 239, rfl⟩
abbrev main_while0b_v155 : Ref sig .tc := ⟨.hbm, 240, rfl⟩
abbrev main_while0b_v156 : Ref sig .tc := ⟨.hbm, 241, rfl⟩
abbrev main_while0b_v157 : Ref sig .tc := ⟨.hbm, 242, rfl⟩
abbrev main_while0b_v158 : Ref sig .tc := ⟨.hbm, 243, rfl⟩
abbrev main_while0b_v159 : Ref sig .tc := ⟨.hbm, 244, rfl⟩
abbrev main_while0b_v160 : Ref sig .tc := ⟨.hbm, 245, rfl⟩
abbrev main_while0b_v161 : Ref sig .tc := ⟨.hbm, 246, rfl⟩
abbrev main_while0b_v162 : Ref sig .tc := ⟨.hbm, 247, rfl⟩
abbrev main_while0b_v163 : Ref sig .tc := ⟨.hbm, 248, rfl⟩
abbrev main_while0b_v164 : Ref sig .tc := ⟨.hbm, 249, rfl⟩
abbrev main_while0b_v165 : Ref sig .tc := ⟨.hbm, 250, rfl⟩
abbrev main_while0b_v166 : Ref sig .tc := ⟨.hbm, 251, rfl⟩
abbrev main_while0b_v167 : Ref sig .tc := ⟨.hbm, 252, rfl⟩
abbrev main_while0b_v168 : Ref sig .tc := ⟨.hbm, 253, rfl⟩
abbrev main_while0b_v169 : Ref sig .tc := ⟨.hbm, 254, rfl⟩
abbrev main_while0b_v170 : Ref sig .tc := ⟨.hbm, 255, rfl⟩
abbrev main_while0b_v171 : Ref sig .tc := ⟨.hbm, 256, rfl⟩
abbrev main_while0b_v172 : Ref sig .tc := ⟨.hbm, 257, rfl⟩
abbrev main_while0b_v173 : Ref sig .tc := ⟨.hbm, 258, rfl⟩
abbrev main_while0b_v174 : Ref sig .tc := ⟨.hbm, 259, rfl⟩
abbrev main_while0b_v175 : Ref sig .tc := ⟨.hbm, 260, rfl⟩
abbrev main_while0b_v176 : Ref sig .tc := ⟨.hbm, 261, rfl⟩
abbrev main_while0b_v177 : Ref sig .tc := ⟨.hbm, 262, rfl⟩
abbrev main_while0b_v178 : Ref sig .tc := ⟨.hbm, 263, rfl⟩
abbrev main_while0b_v179 : Ref sig .tc := ⟨.hbm, 264, rfl⟩
abbrev main_while0b_v180 : Ref sig .tc := ⟨.hbm, 265, rfl⟩
abbrev main_while0b_v181 : Ref sig .tc := ⟨.hbm, 266, rfl⟩
abbrev main_while0b_v182 : Ref sig .tc := ⟨.hbm, 267, rfl⟩
abbrev main_while0b_v183 : Ref sig .tc := ⟨.hbm, 268, rfl⟩
abbrev main_while0b_v184 : Ref sig .tc := ⟨.hbm, 269, rfl⟩
abbrev main_while0b_v185 : Ref sig .tc := ⟨.hbm, 270, rfl⟩
abbrev main_while0b_v186 : Ref sig .tc := ⟨.hbm, 271, rfl⟩
abbrev main_while0b_v187 : Ref sig .tc := ⟨.hbm, 272, rfl⟩
abbrev main_while0b_v188 : Ref sig .tc := ⟨.hbm, 273, rfl⟩
abbrev main_while0b_v189 : Ref sig .tc := ⟨.hbm, 274, rfl⟩
abbrev main_while0b_v190 : Ref sig .tc := ⟨.hbm, 275, rfl⟩
abbrev main_while0b_v191 : Ref sig .tc := ⟨.hbm, 276, rfl⟩
abbrev main_while0b_v192 : Ref sig .tc := ⟨.hbm, 277, rfl⟩
abbrev main_while0b_v193 : Ref sig .tc := ⟨.hbm, 278, rfl⟩
abbrev main_while0b_cst_29 : Ref sig .tc := ⟨.hbm, 279, rfl⟩
abbrev main_while0b_v194 : Ref sig .tc := ⟨.hbm, 280, rfl⟩
abbrev main_while0b_v195 : Ref sig .tc := ⟨.hbm, 281, rfl⟩
abbrev main_while0b_cst_30 : Ref sig .tc := ⟨.hbm, 282, rfl⟩
abbrev main_while0b_v196 : Ref sig .tc := ⟨.hbm, 283, rfl⟩
abbrev main_while0b_v197 : Ref sig .tc := ⟨.hbm, 284, rfl⟩
abbrev main_while0b_v198 : Ref sig .tc := ⟨.hbm, 285, rfl⟩
abbrev main_while0b_v199 : Ref sig .tc := ⟨.hbm, 286, rfl⟩
abbrev main_while0b_v200 : Ref sig .tc := ⟨.hbm, 287, rfl⟩
abbrev main_while0b_v201 : Ref sig .tc := ⟨.hbm, 288, rfl⟩
abbrev main_while0b_cst_31 : Ref sig .tc := ⟨.hbm, 289, rfl⟩
abbrev main_while0b_v202 : Ref sig .tc := ⟨.hbm, 290, rfl⟩
abbrev main_while0b_v203 : Ref sig .tc := ⟨.hbm, 291, rfl⟩
abbrev main_while0b_v204 : Ref sig .tc := ⟨.hbm, 292, rfl⟩
abbrev main_while0b_v205 : Ref sig .tc := ⟨.hbm, 293, rfl⟩
abbrev main_while0b_cst_32 : Ref sig .tc := ⟨.hbm, 294, rfl⟩
abbrev main_while0b_v206 : Ref sig .tc := ⟨.hbm, 295, rfl⟩
abbrev main_while0b_v207 : Ref sig .tc := ⟨.hbm, 296, rfl⟩
abbrev main_while0b_v208 : Ref sig .tc := ⟨.hbm, 297, rfl⟩
abbrev main_while0b_v209 : Ref sig .tc := ⟨.hbm, 298, rfl⟩
abbrev main_while0b_v210 : Ref sig .tc := ⟨.hbm, 299, rfl⟩
abbrev main_while0b_v211 : Ref sig .tc := ⟨.hbm, 300, rfl⟩
abbrev main_while0b_v212 : Ref sig .tc := ⟨.hbm, 301, rfl⟩
abbrev main_while0b_v213 : Ref sig .tc := ⟨.hbm, 302, rfl⟩
abbrev main_while0b_v214 : Ref sig .tc := ⟨.hbm, 303, rfl⟩
abbrev main_while0b_v215 : Ref sig .tc := ⟨.hbm, 304, rfl⟩
abbrev main_while0b_v216 : Ref sig .tc := ⟨.hbm, 305, rfl⟩
abbrev main_while0b_v217 : Ref sig .tc := ⟨.hbm, 306, rfl⟩
abbrev main_while0b_v218 : Ref sig .tc := ⟨.hbm, 307, rfl⟩
abbrev main_while0b_v219 : Ref sig .tc := ⟨.hbm, 308, rfl⟩
abbrev main_while0b_v220 : Ref sig .tc := ⟨.hbm, 309, rfl⟩
abbrev main_while0b_v221 : Ref sig .tc := ⟨.hbm, 310, rfl⟩
abbrev main_while0b_v222 : Ref sig .tc := ⟨.hbm, 311, rfl⟩
abbrev main_while0b_v223 : Ref sig .tc := ⟨.hbm, 312, rfl⟩
abbrev main_while0b_v224 : Ref sig .tc := ⟨.hbm, 313, rfl⟩
abbrev main_while0b_v225 : Ref sig .tc := ⟨.hbm, 314, rfl⟩
abbrev main_while0b_v226 : Ref sig .tc := ⟨.hbm, 315, rfl⟩
abbrev main_while0b_v227 : Ref sig .tc := ⟨.hbm, 316, rfl⟩
abbrev main_while0b_v228 : Ref sig .tc := ⟨.hbm, 317, rfl⟩
abbrev main_while0b_v229 : Ref sig .tc := ⟨.hbm, 318, rfl⟩
abbrev main_while0b_v230 : Ref sig .tc := ⟨.hbm, 319, rfl⟩
abbrev main_while0b_v231 : Ref sig .tc := ⟨.hbm, 320, rfl⟩
abbrev main_while0b_v232 : Ref sig .tc := ⟨.hbm, 321, rfl⟩
abbrev main_while0b_v233 : Ref sig .tc := ⟨.hbm, 322, rfl⟩
abbrev main_while0b_v234 : Ref sig .tc := ⟨.hbm, 323, rfl⟩
abbrev main_while0b_cst_33 : Ref sig .tc := ⟨.hbm, 324, rfl⟩
abbrev main_while0b_v235 : Ref sig .tc := ⟨.hbm, 325, rfl⟩
abbrev main_while0b_v236 : Ref sig .tc := ⟨.hbm, 326, rfl⟩
abbrev main_while0b_v237 : Ref sig .tc := ⟨.hbm, 327, rfl⟩
abbrev main_while0b_v238 : Ref sig .tc := ⟨.hbm, 328, rfl⟩
abbrev main_while0b_v239 : Ref sig .tc := ⟨.hbm, 329, rfl⟩
abbrev main_while0b_v240 : Ref sig .tc := ⟨.hbm, 330, rfl⟩
abbrev main_while0b_v241 : Ref sig .tc := ⟨.hbm, 331, rfl⟩
abbrev main_while0b_v242 : Ref sig .tc := ⟨.hbm, 332, rfl⟩
abbrev main_while0b_v243 : Ref sig .tc := ⟨.hbm, 333, rfl⟩
abbrev main_while0b_v244 : Ref sig .tc := ⟨.hbm, 334, rfl⟩
abbrev main_while0b_v245 : Ref sig .tc := ⟨.hbm, 335, rfl⟩
abbrev main_while0b_v246 : Ref sig .tc := ⟨.hbm, 336, rfl⟩
abbrev main_while0b_cst_34 : Ref sig .tc := ⟨.hbm, 337, rfl⟩
abbrev main_while0b_v247 : Ref sig .tc := ⟨.hbm, 338, rfl⟩
abbrev main_while0b_v248 : Ref sig .tc := ⟨.hbm, 339, rfl⟩
abbrev main_while0b_v249 : Ref sig .tc := ⟨.hbm, 340, rfl⟩
abbrev main_while0b_v250 : Ref sig .tc := ⟨.hbm, 341, rfl⟩
abbrev main_while0b_cst_35 : Ref sig .tc := ⟨.hbm, 342, rfl⟩
abbrev main_while0b_v251 : Ref sig .tc := ⟨.hbm, 343, rfl⟩
abbrev main_while0b_v252 : Ref sig .tc := ⟨.hbm, 344, rfl⟩
abbrev main_while0b_v253 : Ref sig .tc := ⟨.hbm, 345, rfl⟩
abbrev main_while0b_v254 : Ref sig .tc := ⟨.hbm, 346, rfl⟩
abbrev main_while0b_v255 : Ref sig .tc := ⟨.hbm, 347, rfl⟩
abbrev main_while0b_v256 : Ref sig .tc := ⟨.hbm, 348, rfl⟩
abbrev main_while0b_v257 : Ref sig .tc := ⟨.hbm, 349, rfl⟩
abbrev main_while0b_v258 : Ref sig .tc := ⟨.hbm, 350, rfl⟩
abbrev main_while0b_v259 : Ref sig .tc := ⟨.hbm, 351, rfl⟩
abbrev main_while0b_v260 : Ref sig .tc := ⟨.hbm, 352, rfl⟩
abbrev main_while0b_v261 : Ref sig .tc := ⟨.hbm, 353, rfl⟩
abbrev main_while0b_v262 : Ref sig .tc := ⟨.hbm, 354, rfl⟩
abbrev main_while0b_v263 : Ref sig .tc := ⟨.hbm, 355, rfl⟩
abbrev main_while0b_v264 : Ref sig .tc := ⟨.hbm, 356, rfl⟩
abbrev main_while0b_v265 : Ref sig .tc := ⟨.hbm, 357, rfl⟩
abbrev main_while0b_v266 : Ref sig .tc := ⟨.hbm, 358, rfl⟩
abbrev main_while0b_v267 : Ref sig .tc := ⟨.hbm, 359, rfl⟩
abbrev main_while0b_v268 : Ref sig .tc := ⟨.hbm, 360, rfl⟩
abbrev main_while0b_v269 : Ref sig .tc := ⟨.hbm, 361, rfl⟩
abbrev main_while0b_v270 : Ref sig .tc := ⟨.hbm, 362, rfl⟩
abbrev main_while0b_v271 : Ref sig .tc := ⟨.hbm, 363, rfl⟩
abbrev main_while0b_v272 : Ref sig .tc := ⟨.hbm, 364, rfl⟩
abbrev main_while0b_v273 : Ref sig .tc := ⟨.hbm, 365, rfl⟩
abbrev main_while0b_v274 : Ref sig .tc := ⟨.hbm, 366, rfl⟩
abbrev main_while0b_v275 : Ref sig .tc := ⟨.hbm, 367, rfl⟩
abbrev main_while0b_v276 : Ref sig .tc := ⟨.hbm, 368, rfl⟩
abbrev main_while0b_v277 : Ref sig .tc := ⟨.hbm, 369, rfl⟩
abbrev main_while0b_v278 : Ref sig .tc := ⟨.hbm, 370, rfl⟩
abbrev main_while0b_v279 : Ref sig .tc := ⟨.hbm, 371, rfl⟩
abbrev main_while0b_v280 : Ref sig .tc := ⟨.hbm, 372, rfl⟩
abbrev main_while0b_v281 : Ref sig .tc := ⟨.hbm, 373, rfl⟩
abbrev main_while0b_cst_36 : Ref sig .tc := ⟨.hbm, 374, rfl⟩
abbrev main_while0b_v282 : Ref sig .tc := ⟨.hbm, 375, rfl⟩
abbrev main_while0b_v283 : Ref sig .tc := ⟨.hbm, 376, rfl⟩
abbrev main_while0b_cst_37 : Ref sig .tc := ⟨.hbm, 377, rfl⟩
abbrev main_while0b_v284 : Ref sig .tc := ⟨.hbm, 378, rfl⟩
abbrev main_while0b_v285 : Ref sig .tc := ⟨.hbm, 379, rfl⟩
abbrev main_while0b_v286 : Ref sig .tc := ⟨.hbm, 380, rfl⟩
abbrev main_while0b_v287 : Ref sig .tc := ⟨.hbm, 381, rfl⟩
abbrev main_while0b_cst_38 : Ref sig .tc := ⟨.hbm, 382, rfl⟩
abbrev main_while0b_v288 : Ref sig .tc := ⟨.hbm, 383, rfl⟩
abbrev main_while0b_v289 : Ref sig .tc := ⟨.hbm, 384, rfl⟩
abbrev main_while0b_v290 : Ref sig .tc := ⟨.hbm, 385, rfl⟩
abbrev main_while0b_v291 : Ref sig .tc := ⟨.hbm, 386, rfl⟩
abbrev main_while0b_v292 : Ref sig .tc := ⟨.hbm, 387, rfl⟩
abbrev main_while0b_v293 : Ref sig .tc := ⟨.hbm, 388, rfl⟩
abbrev main_while0b_v294 : Ref sig .tc := ⟨.hbm, 389, rfl⟩
abbrev main_while0b_v295 : Ref sig .tc := ⟨.hbm, 390, rfl⟩
abbrev main_while0b_v296 : Ref sig .tc := ⟨.hbm, 391, rfl⟩
abbrev main_while0b_v297 : Ref sig .tc := ⟨.hbm, 392, rfl⟩
abbrev main_while0b_v298 : Ref sig .tc := ⟨.hbm, 393, rfl⟩
abbrev main_while0b_v299 : Ref sig .tc := ⟨.hbm, 394, rfl⟩
abbrev main_while0b_v300 : Ref sig .tc := ⟨.hbm, 395, rfl⟩
abbrev main_while0b_v301 : Ref sig .tc := ⟨.hbm, 396, rfl⟩
abbrev main_while0b_v302 : Ref sig .tc := ⟨.hbm, 397, rfl⟩
abbrev main_while0b_v303 : Ref sig .tc := ⟨.hbm, 398, rfl⟩
abbrev main_while0b_cst_39 : Ref sig .tc := ⟨.hbm, 399, rfl⟩
abbrev main_while0b_v304 : Ref sig .tc := ⟨.hbm, 400, rfl⟩
abbrev main_while0b_v305 : Ref sig .tc := ⟨.hbm, 401, rfl⟩
abbrev main_while0b_v306 : Ref sig .tc := ⟨.hbm, 402, rfl⟩
abbrev main_while0b_v307 : Ref sig .tc := ⟨.hbm, 403, rfl⟩
abbrev main_while0b_v308 : Ref sig .tc := ⟨.hbm, 404, rfl⟩
abbrev main_while0b_v309 : Ref sig .tc := ⟨.hbm, 405, rfl⟩
abbrev main_while0b_v310 : Ref sig .tc := ⟨.hbm, 406, rfl⟩
abbrev main_while0b_v311 : Ref sig .tc := ⟨.hbm, 407, rfl⟩
abbrev main_while0b_v312 : Ref sig .tc := ⟨.hbm, 408, rfl⟩
abbrev main_while0b_v313 : Ref sig .tc := ⟨.hbm, 409, rfl⟩
abbrev main_while0b_v314 : Ref sig .tc := ⟨.hbm, 410, rfl⟩
abbrev main_while0b_v315 : Ref sig .tc := ⟨.hbm, 411, rfl⟩
abbrev main_while0b_v316 : Ref sig .tc := ⟨.hbm, 412, rfl⟩
abbrev main_while0b_v317 : Ref sig .tc := ⟨.hbm, 413, rfl⟩
abbrev main_while0b_v318 : Ref sig .tc := ⟨.hbm, 414, rfl⟩
abbrev main_while0b_v319 : Ref sig .tc := ⟨.hbm, 415, rfl⟩
abbrev main_while0b_v320 : Ref sig .tc := ⟨.hbm, 416, rfl⟩
abbrev main_while0b_v321 : Ref sig .tc := ⟨.hbm, 417, rfl⟩
abbrev main_while0b_v322 : Ref sig .tc := ⟨.hbm, 418, rfl⟩
abbrev main_while0b_v323 : Ref sig .tc := ⟨.hbm, 419, rfl⟩
abbrev main_while0b_v324 : Ref sig .tc := ⟨.hbm, 420, rfl⟩
abbrev main_while0b_v325 : Ref sig .tc := ⟨.hbm, 421, rfl⟩
abbrev main_while0b_v326 : Ref sig .tc := ⟨.hbm, 422, rfl⟩
abbrev main_while0b_v327 : Ref sig .tc := ⟨.hbm, 423, rfl⟩
abbrev main_while0b_v328 : Ref sig .tc := ⟨.hbm, 424, rfl⟩
abbrev main_while0b_v329 : Ref sig .tc := ⟨.hbm, 425, rfl⟩
abbrev main_while0b_v330 : Ref sig .tc := ⟨.hbm, 426, rfl⟩
abbrev main_while0b_v331 : Ref sig .tc := ⟨.hbm, 427, rfl⟩
abbrev main_while0b_v332 : Ref sig .tc := ⟨.hbm, 428, rfl⟩
abbrev main_while0b_v333 : Ref sig .tc := ⟨.hbm, 429, rfl⟩
abbrev main_while0b_v334 : Ref sig .tc := ⟨.hbm, 430, rfl⟩
abbrev main_while0b_v335 : Ref sig .tc := ⟨.hbm, 431, rfl⟩
abbrev main_while0b_v336 : Ref sig .tc := ⟨.hbm, 432, rfl⟩
abbrev main_while0b_v337 : Ref sig .tc := ⟨.hbm, 433, rfl⟩
abbrev main_while0b_v338 : Ref sig .tc := ⟨.hbm, 434, rfl⟩
abbrev main_while0b_v339 : Ref sig .tc := ⟨.hbm, 435, rfl⟩
abbrev main_while0b_v340 : Ref sig .tc := ⟨.hbm, 436, rfl⟩
abbrev main_while0b_v341 : Ref sig .tc := ⟨.hbm, 437, rfl⟩
abbrev main_while0b_v342 : Ref sig .tc := ⟨.hbm, 438, rfl⟩
abbrev main_while0b_v343 : Ref sig .tc := ⟨.hbm, 439, rfl⟩
abbrev main_while0b_cst_40 : Ref sig .tc := ⟨.hbm, 440, rfl⟩
abbrev main_while0b_v344 : Ref sig .tc := ⟨.hbm, 441, rfl⟩
abbrev main_while0b_v345 : Ref sig .tc := ⟨.hbm, 442, rfl⟩
abbrev main_while0b_v346 : Ref sig .tc := ⟨.hbm, 443, rfl⟩
abbrev main_while0b_cst_41 : Ref sig .tc := ⟨.hbm, 444, rfl⟩
abbrev main_while0b_v347 : Ref sig .tc := ⟨.hbm, 445, rfl⟩
abbrev main_while0b_v348 : Ref sig .tc := ⟨.hbm, 446, rfl⟩
abbrev main_while0b_v349 : Ref sig .tc := ⟨.hbm, 447, rfl⟩
abbrev main_while0b_v350 : Ref sig .tc := ⟨.hbm, 448, rfl⟩
abbrev main_while0b_v351 : Ref sig .tc := ⟨.hbm, 449, rfl⟩
abbrev main_while0b_cst_42 : Ref sig .tc := ⟨.hbm, 450, rfl⟩
abbrev main_while0b_v352 : Ref sig .tc := ⟨.hbm, 451, rfl⟩
abbrev main_while0b_v353 : Ref sig .tc := ⟨.hbm, 452, rfl⟩
abbrev main_while0b_cst_43 : Ref sig .tc := ⟨.hbm, 453, rfl⟩
abbrev main_while0b_v354 : Ref sig .tc := ⟨.hbm, 454, rfl⟩
abbrev main_while0b_v355 : Ref sig .tc := ⟨.hbm, 455, rfl⟩
abbrev main_while0b_v356 : Ref sig .tc := ⟨.hbm, 456, rfl⟩
abbrev main_while0b_v357 : Ref sig .tc := ⟨.hbm, 457, rfl⟩
abbrev main_while0b_cst_44 : Ref sig .tc := ⟨.hbm, 458, rfl⟩
abbrev main_while0b_v358 : Ref sig .tc := ⟨.hbm, 459, rfl⟩
abbrev main_while0b_v359 : Ref sig .tc := ⟨.hbm, 460, rfl⟩
abbrev main_while0b_cst_45 : Ref sig .tc := ⟨.hbm, 461, rfl⟩
abbrev main_while0b_v360 : Ref sig .tc := ⟨.hbm, 462, rfl⟩
abbrev main_while0b_v361 : Ref sig .tc := ⟨.hbm, 463, rfl⟩
abbrev main_while0b_v362 : Ref sig .tc := ⟨.hbm, 464, rfl⟩
abbrev main_while0b_cst_46 : Ref sig .tc := ⟨.hbm, 465, rfl⟩
abbrev main_while0b_v363 : Ref sig .tc := ⟨.hbm, 466, rfl⟩
abbrev main_while0b_v364 : Ref sig .tc := ⟨.hbm, 467, rfl⟩
abbrev main_while0b_v365 : Ref sig .tc := ⟨.hbm, 468, rfl⟩
abbrev main_while0b_v366 : Ref sig .tc := ⟨.hbm, 469, rfl⟩
abbrev main_while0b_v367 : Ref sig .tc := ⟨.hbm, 470, rfl⟩
abbrev main_while0b_v368 : Ref sig .tc := ⟨.hbm, 471, rfl⟩
abbrev main_while0b_v369 : Ref sig .tc := ⟨.hbm, 472, rfl⟩
abbrev main_while0b_v370 : Ref sig .tc := ⟨.hbm, 473, rfl⟩
abbrev main_while0b_cst_47 : Ref sig .tc := ⟨.hbm, 474, rfl⟩
abbrev main_while0b_v371 : Ref sig .tc := ⟨.hbm, 475, rfl⟩
abbrev main_while0b_v372 : Ref sig .tc := ⟨.hbm, 476, rfl⟩
abbrev main_while0b_v373 : Ref sig .tc := ⟨.hbm, 477, rfl⟩
abbrev main_while0b_v374 : Ref sig .tc := ⟨.hbm, 478, rfl⟩
abbrev main_while0b_v375 : Ref sig .tc := ⟨.hbm, 479, rfl⟩
abbrev main_while0b_v376 : Ref sig .tc := ⟨.hbm, 480, rfl⟩
abbrev main_while0b_v377 : Ref sig .tc := ⟨.hbm, 481, rfl⟩
abbrev main_while0b_v378 : Ref sig .tc := ⟨.hbm, 482, rfl⟩
abbrev main_while0b_v379 : Ref sig .tc := ⟨.hbm, 483, rfl⟩
abbrev main_while0b_v380 : Ref sig .tc := ⟨.hbm, 484, rfl⟩
abbrev main_while0b_cst_48 : Ref sig .tc := ⟨.hbm, 485, rfl⟩
abbrev main_while0b_v381 : Ref sig .tc := ⟨.hbm, 486, rfl⟩
abbrev main_while0b_v382 : Ref sig .tc := ⟨.hbm, 487, rfl⟩
abbrev main_while0b_v383 : Ref sig .tc := ⟨.hbm, 488, rfl⟩
abbrev main_while0b_v384 : Ref sig .tc := ⟨.hbm, 489, rfl⟩
abbrev main_while0b_v385 : Ref sig .tc := ⟨.hbm, 490, rfl⟩
abbrev main_while0b_v386 : Ref sig .tc := ⟨.hbm, 491, rfl⟩
abbrev main_while0b_v387 : Ref sig .tc := ⟨.hbm, 492, rfl⟩
abbrev main_while0b_cst_49 : Ref sig .tc := ⟨.hbm, 493, rfl⟩
abbrev main_while0b_v388 : Ref sig .tc := ⟨.hbm, 494, rfl⟩
abbrev main_while0b_v389 : Ref sig .tc := ⟨.hbm, 495, rfl⟩
abbrev main_while0b_v390 : Ref sig .tc := ⟨.hbm, 496, rfl⟩
abbrev main_while0b_cst_50 : Ref sig .tc := ⟨.hbm, 497, rfl⟩
abbrev main_while0b_v391 : Ref sig .tc := ⟨.hbm, 498, rfl⟩
abbrev main_while0b_v392 : Ref sig .tc := ⟨.hbm, 499, rfl⟩
abbrev main_while0b_cst_51 : Ref sig .tc := ⟨.hbm, 500, rfl⟩
abbrev main_while0b_v393 : Ref sig .tc := ⟨.hbm, 501, rfl⟩
abbrev main_while0b_v394 : Ref sig .tc := ⟨.hbm, 502, rfl⟩
abbrev main_while0b_cst_52 : Ref sig .tc := ⟨.hbm, 503, rfl⟩
abbrev main_while0b_v395 : Ref sig .tc := ⟨.hbm, 504, rfl⟩
abbrev main_while0b_v396 : Ref sig .tc := ⟨.hbm, 505, rfl⟩
abbrev main_while0b_cst_53 : Ref sig .tc := ⟨.hbm, 506, rfl⟩
abbrev main_while0b_v397 : Ref sig .tc := ⟨.hbm, 507, rfl⟩
abbrev main_while0b_v398 : Ref sig .tc := ⟨.hbm, 508, rfl⟩
abbrev main_while0b_v399 : Ref sig .tc := ⟨.hbm, 509, rfl⟩
abbrev main_while0b_cst_54 : Ref sig .tc := ⟨.hbm, 510, rfl⟩
abbrev main_while0b_v400 : Ref sig .tc := ⟨.hbm, 511, rfl⟩
abbrev main_while0b_v401 : Ref sig .tc := ⟨.hbm, 512, rfl⟩
abbrev main_while0b_v402 : Ref sig .tc := ⟨.hbm, 513, rfl⟩
abbrev main_while0b_call11_v0 : Ref sig .tc := ⟨.hbm, 514, rfl⟩
abbrev main_while0b_v403 : Ref sig .tc := ⟨.hbm, 515, rfl⟩
abbrev main_while0b_call12_v0 : Ref sig .tc := ⟨.hbm, 516, rfl⟩
abbrev main_while0b_v404 : Ref sig .tc := ⟨.hbm, 517, rfl⟩
abbrev main_while0b_cst_55 : Ref sig .tc := ⟨.hbm, 518, rfl⟩
abbrev main_while0b_v405 : Ref sig .tc := ⟨.hbm, 519, rfl⟩
abbrev main_while0b_call13_cst : Ref sig .tc := ⟨.hbm, 520, rfl⟩
abbrev main_while0b_call13_v0 : Ref sig .tc := ⟨.hbm, 521, rfl⟩
abbrev main_while0b_call13_cst_0 : Ref sig .tc := ⟨.hbm, 522, rfl⟩
abbrev main_while0b_call13_v1 : Ref sig .tc := ⟨.hbm, 523, rfl⟩
abbrev main_while0b_call13_v2 : Ref sig .tc := ⟨.hbm, 524, rfl⟩
abbrev main_while0b_call13_v3 : Ref sig .tc := ⟨.hbm, 525, rfl⟩
abbrev main_while0b_call13_v4 : Ref sig .tc := ⟨.hbm, 526, rfl⟩
abbrev main_while0b_call13_v5 : Ref sig .tc := ⟨.hbm, 527, rfl⟩
abbrev main_while0b_call13_v6 : Ref sig .tc := ⟨.hbm, 528, rfl⟩
abbrev main_while0b_call13_cst_1 : Ref sig .tc := ⟨.hbm, 529, rfl⟩
abbrev main_while0b_call13_v7 : Ref sig .tc := ⟨.hbm, 530, rfl⟩
abbrev main_while0b_call13_v8 : Ref sig .tc := ⟨.hbm, 531, rfl⟩
abbrev main_while0b_call13_v9 : Ref sig .tc := ⟨.hbm, 532, rfl⟩
abbrev main_while0b_call13_v10 : Ref sig .tc := ⟨.hbm, 533, rfl⟩
abbrev main_while0b_v406 : Ref sig .tc := ⟨.hbm, 534, rfl⟩
abbrev main_while0b_v407 : Ref sig .tc := ⟨.hbm, 535, rfl⟩
abbrev main_while0b_cst_56 : Ref sig .tc := ⟨.hbm, 536, rfl⟩
abbrev main_while0b_v408 : Ref sig .tc := ⟨.hbm, 537, rfl⟩
abbrev main_while0b_v409 : Ref sig .tc := ⟨.hbm, 538, rfl⟩
abbrev main_while0b_v410 : Ref sig .tc := ⟨.hbm, 539, rfl⟩
abbrev main_while0b_v411 : Ref sig .tc := ⟨.hbm, 540, rfl⟩
abbrev main_while0b_v412 : Ref sig .tc := ⟨.hbm, 541, rfl⟩
abbrev main_while0b_cst_57 : Ref sig .tc := ⟨.hbm, 542, rfl⟩
abbrev main_while0b_v413 : Ref sig .tc := ⟨.hbm, 543, rfl⟩
abbrev main_while0b_v414 : Ref sig .tc := ⟨.hbm, 544, rfl⟩
abbrev main_while0b_v415 : Ref sig .tc := ⟨.hbm, 545, rfl⟩
abbrev main_while0b_v416 : Ref sig .tc := ⟨.hbm, 546, rfl⟩
abbrev main_while0b_v417 : Ref sig .tc := ⟨.hbm, 547, rfl⟩
abbrev main_while0b_cst_58 : Ref sig .tc := ⟨.hbm, 548, rfl⟩
abbrev main_while0b_v418 : Ref sig .tc := ⟨.hbm, 549, rfl⟩
abbrev main_while0b_v419 : Ref sig .tc := ⟨.hbm, 550, rfl⟩
abbrev main_while0b_v420 : Ref sig .tc := ⟨.hbm, 551, rfl⟩
abbrev main_while0b_c_59 : Ref sig .tc := ⟨.hbm, 552, rfl⟩
abbrev main_while0b_v421 : Ref sig .tc := ⟨.hbm, 553, rfl⟩

abbrev nD : Nat := 1
abbrev τ : Topo := Topo.v7x

variable {F : FTy → Type} [FloatOps F]

abbrev main_while0_count : Scf.Loop 32 := ⟨0#32, 5#32, 1#32⟩
-- ==== Kernel.lean ====
abbrev S160x32768 : Shape := ⟨2, ![160, 32768]⟩
abbrev S5x160x320x2x3 : Shape := ⟨5, ![5, 160, 320, 2, 3]⟩
abbrev S5x160 : Shape := ⟨2, ![5, 160]⟩
abbrev S5x320x320x2x3 : Shape := ⟨5, ![5, 320, 320, 2, 3]⟩
abbrev S5x320 : Shape := ⟨2, ![5, 320]⟩
abbrev S5x160x320x2x2 : Shape := ⟨5, ![5, 160, 320, 2, 2]⟩
abbrev S5x160x320 : Shape := ⟨3, ![5, 160, 320]⟩
abbrev S5x320x320x2x2 : Shape := ⟨5, ![5, 320, 320, 2, 2]⟩
abbrev S5x160x3x2x320 : Shape := ⟨5, ![5, 160, 3, 2, 320]⟩
abbrev S5x160x1920 : Shape := ⟨3, ![5, 160, 1920]⟩
abbrev S_ : Shape := ⟨0, ![]⟩
abbrev S5x320x3x2x320 : Shape := ⟨5, ![5, 320, 3, 2, 320]⟩
abbrev S5x320x1920 : Shape := ⟨3, ![5, 320, 1920]⟩
abbrev S5x160x2x2x320 : Shape := ⟨5, ![5, 160, 2, 2, 320]⟩
abbrev S5x160x1280 : Shape := ⟨3, ![5, 160, 1280]⟩
abbrev S5x160x1600 : Shape := ⟨3, ![5, 160, 1600]⟩
abbrev S5x320x2x2x320 : Shape := ⟨5, ![5, 320, 2, 2, 320]⟩
abbrev S5x320x1280 : Shape := ⟨3, ![5, 320, 1280]⟩
abbrev S5x160x1 : Shape := ⟨3, ![5, 160, 1]⟩
abbrev S5x320x1 : Shape := ⟨3, ![5, 320, 1]⟩
abbrev S160x8192 : Shape := ⟨2, ![160, 8192]⟩
abbrev S1x160x1920 : Shape := ⟨3, ![1, 160, 1920]⟩
abbrev S1x160x1 : Shape := ⟨3, ![1, 160, 1]⟩
abbrev S1x320x1920 : Shape := ⟨3, ![1, 320, 1920]⟩
abbrev S1x320x1 : Shape := ⟨3, ![1, 320, 1]⟩
abbrev S1x160x1600 : Shape := ⟨3, ![1, 160, 1600]⟩
abbrev S1x320x1280 : Shape := ⟨3, ![1, 320, 1280]⟩
abbrev S1x8192 : Shape := ⟨2, ![1, 8192]⟩
abbrev S320x8192 : Shape := ⟨2, ![320, 8192]⟩
abbrev S160x1920 : Shape := ⟨2, ![160, 1920]⟩
abbrev S160x1 : Shape := ⟨2, ![160, 1]⟩
abbrev S320x256 : Shape := ⟨2, ![320, 256]⟩
abbrev S320x7936 : Shape := ⟨2, ![320, 7936]⟩
abbrev S1920x8192 : Shape := ⟨2, ![1920, 8192]⟩
abbrev S320x1920 : Shape := ⟨2, ![320, 1920]⟩
abbrev S320x1 : Shape := ⟨2, ![320, 1]⟩
abbrev S160x1600 : Shape := ⟨2, ![160, 1600]⟩
abbrev S1600x8192 : Shape := ⟨2, ![1600, 8192]⟩
abbrev S320x1280 : Shape := ⟨2, ![320, 1280]⟩
abbrev S1280x8192 : Shape := ⟨2, ![1280, 8192]⟩

abbrev nBuf : Space → Nat
  | .hbm => 35
  | .vmem => 24
  | .smem => 0
  | _ => 0

abbrev bufTy : (tb : Table) → Fin (tcTables nBuf tb) → BufTy
  | .hbm, ⟨0, _⟩ => ⟨S160x32768, .bf16⟩
  | .hbm, ⟨1, _⟩ => ⟨S160x32768, .bf16⟩
  | .hbm, ⟨2, _⟩ => ⟨S5x160x320x2x3, .f32⟩
  | .hbm, ⟨3, _⟩ => ⟨S5x160, .f32⟩
  | .hbm, ⟨4, _⟩ => ⟨S5x320x320x2x3, .f32⟩
  | .hbm, ⟨5, _⟩ => ⟨S5x320, .f32⟩
  | .hbm, ⟨6, _⟩ => ⟨S5x160x320x2x2, .f32⟩
  | .hbm, ⟨7, _⟩ => ⟨S5x160, .f32⟩
  | .hbm, ⟨8, _⟩ => ⟨S5x160x320, .f32⟩
  | .hbm, ⟨9, _⟩ => ⟨S5x160, .f32⟩
  | .hbm, ⟨10, _⟩ => ⟨S5x320x320x2x2, .f32⟩
  | .hbm, ⟨11, _⟩ => ⟨S5x320, .f32⟩
  | .hbm, ⟨12, _⟩ => ⟨S5x160x3x2x320, .f32⟩
  | .hbm, ⟨13, _⟩ => ⟨S5x160x1920, .f32⟩
  | .hbm, ⟨14, _⟩ => ⟨S_, .f32⟩
  | .hbm, ⟨15, _⟩ => ⟨S5x160x1920, .f32⟩
  | .hbm, ⟨16, _⟩ => ⟨S5x160x1920, .f32⟩
  | .hbm, ⟨17, _⟩ => ⟨S5x160x1920, .fp8e4m3⟩
  | .hbm, ⟨18, _⟩ => ⟨S5x320x3x2x320, .f32⟩
  | .hbm, ⟨19, _⟩ => ⟨S5x320x1920, .f32⟩
  | .hbm, ⟨20, _⟩ => ⟨S5x320x1920, .bf16⟩
  | .hbm, ⟨21, _⟩ => ⟨S5x160x2x2x320, .f32⟩
  | .hbm, ⟨22, _⟩ => ⟨S5x160x1280, .f32⟩
  | .hbm, ⟨23, _⟩ => ⟨S5x160x1280, .bf16⟩
  | .hbm, ⟨24, _⟩ => ⟨S5x160x320, .bf16⟩
  | .hbm, ⟨25, _⟩ => ⟨S5x160x1600, .bf16⟩
  | .hbm, ⟨26, _⟩ => ⟨S5x320x2x2x320, .f32⟩
  | .hbm, ⟨27, _⟩ => ⟨S5x320x1280, .f32⟩
  | .hbm, ⟨28, _⟩ => ⟨S5x320x1280, .bf16⟩
  | .hbm, ⟨29, _⟩ => ⟨S5x160x1, .f32⟩
  | .hbm, ⟨30, _⟩ => ⟨S5x320x1, .f32⟩
  | .hbm, ⟨31, _⟩ => ⟨S5x160, .f32⟩
  | .hbm, ⟨32, _⟩ => ⟨S5x160x1, .f32⟩
  | .hbm, ⟨33, _⟩ => ⟨S5x320x1, .f32⟩
  | .hbm, ⟨34, _⟩ => ⟨S160x32768, .bf16⟩
  | .local _ .vmem, ⟨0, _⟩ => ⟨S160x8192, .bf16⟩
  | .local _ .vmem, ⟨1, _⟩ => ⟨S160x8192, .bf16⟩
  | .local _ .vmem, ⟨2, _⟩ => ⟨S160x8192, .bf16⟩
  | .local _ .vmem, ⟨3, _⟩ => ⟨S160x8192, .bf16⟩
  | .local _ .vmem, ⟨4, _⟩ => ⟨S1x160x1920, .fp8e4m3⟩
  | .local _ .vmem, ⟨5, _⟩ => ⟨S1x160x1920, .fp8e4m3⟩
  | .local _ .vmem, ⟨6, _⟩ => ⟨S1x160x1, .f32⟩
  | .local _ .vmem, ⟨7, _⟩ => ⟨S1x160x1, .f32⟩
  | .local _ .vmem, ⟨8, _⟩ => ⟨S1x320x1920, .bf16⟩
  | .local _ .vmem, ⟨9, _⟩ => ⟨S1x320x1920, .bf16⟩
  | .local _ .vmem, ⟨10, _⟩ => ⟨S1x320x1, .f32⟩
  | .local _ .vmem, ⟨11, _⟩ => ⟨S1x320x1, .f32⟩
  | .local _ .vmem, ⟨12, _⟩ => ⟨S1x160x1600, .bf16⟩
  | .local _ .vmem, ⟨13, _⟩ => ⟨S1x160x1600, .bf16⟩
  | .local _ .vmem, ⟨14, _⟩ => ⟨S1x160x1, .f32⟩
  | .local _ .vmem, ⟨15, _⟩ => ⟨S1x160x1, .f32⟩
  | .local _ .vmem, ⟨16, _⟩ => ⟨S1x320x1280, .bf16⟩
  | .local _ .vmem, ⟨17, _⟩ => ⟨S1x320x1280, .bf16⟩
  | .local _ .vmem, ⟨18, _⟩ => ⟨S1x320x1, .f32⟩
  | .local _ .vmem, ⟨19, _⟩ => ⟨S1x320x1, .f32⟩
  | .local _ .vmem, ⟨20, _⟩ => ⟨S160x8192, .bf16⟩
  | .local _ .vmem, ⟨21, _⟩ => ⟨S160x8192, .bf16⟩
  | .local _ .vmem, ⟨22, _⟩ => ⟨S160x8192, .f32⟩
  | .local _ .vmem, ⟨23, _⟩ => ⟨S160x8192, .f32⟩
  | _, _ => ⟨S160x32768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [BitOps F]

abbrev grid0 : Pipeline.Grid := ⟨2, ![4, 5], ![false, false]⟩

def k0_cond2 (i : grid0.Coords) : BitVec 1 :=
  let arg1 : BitVec 32 := BitVec.ofNat 32 (i 1).val
  let c4_i32 : BitVec 32 := 4#32
  let v195 : BitVec 1 := Scalar.cmpi .eq arg1 c4_i32
  let v196 : BitVec 32 := Scalar.extui v195
  let c0_i32_77 : BitVec 32 := 0#32
  let v197 : BitVec 1 := Scalar.cmpi .ne v196 c0_i32_77
  v197

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S160x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S160x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x160x1920 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x160x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x320x1920 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x320x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x160x1600 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x160x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x320x1280 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x320x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S160x8192 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== KernelIdeal.lean ====
variable {F : FTy → Type} [FloatOps F]
-- ==== ReferenceIdeal.lean ====
abbrev S160x32768 : Shape := ⟨2, ![160, 32768]⟩
abbrev S5x160x320x2x3 : Shape := ⟨5, ![5, 160, 320, 2, 3]⟩
abbrev S5x160 : Shape := ⟨2, ![5, 160]⟩
abbrev S5x320x320x2x3 : Shape := ⟨5, ![5, 320, 320, 2, 3]⟩
abbrev S5x320 : Shape := ⟨2, ![5, 320]⟩
abbrev S5x160x320x2x2 : Shape := ⟨5, ![5, 160, 320, 2, 2]⟩
abbrev S5x160x320 : Shape := ⟨3, ![5, 160, 320]⟩
abbrev S5x320x320x2x2 : Shape := ⟨5, ![5, 320, 320, 2, 2]⟩
abbrev S160x4x32x8x32 : Shape := ⟨5, ![160, 4, 32, 8, 32]⟩
abbrev S4x8x160x32x32 : Shape := ⟨5, ![4, 8, 160, 32, 32]⟩
abbrev S32x160x32x32 : Shape := ⟨4, ![32, 160, 32, 32]⟩
abbrev S_ : Shape := ⟨0, ![]⟩
abbrev S1x160x320x2x3 : Shape := ⟨5, ![1, 160, 320, 2, 3]⟩
abbrev S160x320x2x3 : Shape := ⟨4, ![160, 320, 2, 3]⟩
abbrev S1x160 : Shape := ⟨2, ![1, 160]⟩
abbrev S160 : Shape := ⟨1, ![160]⟩
abbrev S1x320x320x2x3 : Shape := ⟨5, ![1, 320, 320, 2, 3]⟩
abbrev S320x320x2x3 : Shape := ⟨4, ![320, 320, 2, 3]⟩
abbrev S1x320 : Shape := ⟨2, ![1, 320]⟩
abbrev S320 : Shape := ⟨1, ![320]⟩
abbrev S1x160x320x2x2 : Shape := ⟨5, ![1, 160, 320, 2, 2]⟩
abbrev S160x320x2x2 : Shape := ⟨4, ![160, 320, 2, 2]⟩
abbrev S1x160x320 : Shape := ⟨3, ![1, 160, 320]⟩
abbrev S160x320 : Shape := ⟨2, ![160, 320]⟩
abbrev S1x320x320x2x2 : Shape := ⟨5, ![1, 320, 320, 2, 2]⟩
abbrev S320x320x2x2 : Shape := ⟨4, ![320, 320, 2, 2]⟩
abbrev S32x320x32x32 : Shape := ⟨4, ![32, 320, 32, 32]⟩
abbrev S32x320x33x34 : Shape := ⟨4, ![32, 320, 33, 34]⟩
abbrev S160x320x1x1 : Shape := ⟨4, ![160, 320, 1, 1]⟩
abbrev S160x32x32x32 : Shape := ⟨4, ![160, 32, 32, 32]⟩
abbrev S1x160x1x1 : Shape := ⟨4, ![1, 160, 1, 1]⟩
abbrev S320x320x1x1 : Shape := ⟨4, ![320, 320, 1, 1]⟩
abbrev S320x320 : Shape := ⟨2, ![320, 320]⟩
abbrev S320x32x32x32 : Shape := ⟨4, ![320, 32, 32, 32]⟩
abbrev S1x320x1x1 : Shape := ⟨4, ![1, 320, 1, 1]⟩
abbrev S32x320x33x33 : Shape := ⟨4, ![32, 320, 33, 33]⟩

abbrev nBuf : Space → Nat
  | .hbm => 286
  | .vmem => 0
  | .smem => 0
  | _ => 0

abbrev hbmTy0_0 (i : Nat) : BufTy := match i % 128 with
  | 0 => ⟨S160x32768, .bf16⟩
  | 1 => ⟨S160x32768, .bf16⟩
  | 2 => ⟨S5x160x320x2x3, .f32⟩
  | 3 => ⟨S5x160, .f32⟩
  | 4 => ⟨S5x320x320x2x3, .f32⟩
  | 5 => ⟨S5x320, .f32⟩
  | 6 => ⟨S5x160x320x2x2, .f32⟩
  | 7 => ⟨S5x160, .f32⟩
  | 8 => ⟨S5x160x320, .f32⟩
  | 9 => ⟨S5x160, .f32⟩
  | 10 => ⟨S5x320x320x2x2, .f32⟩
  | 11 => ⟨S5x320, .f32⟩
  | 12 => ⟨S160x32768, .f32⟩
  | 13 => ⟨S160x4x32x8x32, .f32⟩
  | 14 => ⟨S4x8x160x32x32, .f32⟩
  | 15 => ⟨S32x160x32x32, .f32⟩
  | 16 => ⟨S160x32768, .f32⟩
  | 17 => ⟨S160x4x32x8x32, .f32⟩
  | 18 => ⟨S4x8x160x32x32, .f32⟩
  | 19 => ⟨S32x160x32x32, .f32⟩
  | 20 => ⟨S_, .i32⟩
  | 21 => ⟨S5x160x320x2x3, .f32⟩
  | 22 => ⟨S5x160, .f32⟩
  | 23 => ⟨S5x320x320x2x3, .f32⟩
  | 24 => ⟨S5x320, .f32⟩
  | 25 => ⟨S5x160x320x2x2, .f32⟩
  | 26 => ⟨S5x160, .f32⟩
  | 27 => ⟨S5x160x320, .f32⟩
  | 28 => ⟨S5x160, .f32⟩
  | 29 => ⟨S5x320x320x2x2, .f32⟩
  | 30 => ⟨S5x320, .f32⟩
  | 31 => ⟨S_, .i32⟩
  | 32 => ⟨S32x160x32x32, .f32⟩
  | 33 => ⟨S32x160x32x32, .f32⟩
  | 34 => ⟨S_, .i32⟩
  | 35 => ⟨S_, .i1⟩
  | 36 => ⟨S_, .i32⟩
  | 37 => ⟨S_, .i32⟩
  | 38 => ⟨S_, .i32⟩
  | 39 => ⟨S_, .i32⟩
  | 40 => ⟨S1x160x320x2x3, .f32⟩
  | 41 => ⟨S160x320x2x3, .f32⟩
  | 42 => ⟨S_, .i32⟩
  | 43 => ⟨S1x160, .f32⟩
  | 44 => ⟨S160, .f32⟩
  | 45 => ⟨S_, .i32⟩
  | 46 => ⟨S_, .i32⟩
  | 47 => ⟨S_, .i32⟩
  | 48 => ⟨S_, .i32⟩
  | 49 => ⟨S1x320x320x2x3, .f32⟩
  | 50 => ⟨S320x320x2x3, .f32⟩
  | 51 => ⟨S_, .i32⟩
  | 52 => ⟨S1x320, .f32⟩
  | 53 => ⟨S320, .f32⟩
  | 54 => ⟨S_, .i32⟩
  | 55 => ⟨S_, .i32⟩
  | 56 => ⟨S_, .i32⟩
  | 57 => ⟨S_, .i32⟩
  | 58 => ⟨S1x160x320x2x2, .f32⟩
  | 59 => ⟨S160x320x2x2, .f32⟩
  | 60 => ⟨S_, .i32⟩
  | 61 => ⟨S1x160, .f32⟩
  | 62 => ⟨S160, .f32⟩
  | 63 => ⟨S_, .i32⟩
  | 64 => ⟨S_, .i32⟩
  | 65 => ⟨S1x160x320, .f32⟩
  | 66 => ⟨S160x320, .f32⟩
  | 67 => ⟨S_, .i32⟩
  | 68 => ⟨S1x160, .f32⟩
  | 69 => ⟨S160, .f32⟩
  | 70 => ⟨S_, .i32⟩
  | 71 => ⟨S_, .i32⟩
  | 72 => ⟨S_, .i32⟩
  | 73 => ⟨S_, .i32⟩
  | 74 => ⟨S1x320x320x2x2, .f32⟩
  | 75 => ⟨S320x320x2x2, .f32⟩
  | 76 => ⟨S_, .i32⟩
  | 77 => ⟨S1x320, .f32⟩
  | 78 => ⟨S320, .f32⟩
  | 79 => ⟨S32x160x32x32, .f32⟩
  | 80 => ⟨S32x320x32x32, .f32⟩
  | 81 => ⟨S_, .f32⟩
  | 82 => ⟨S32x320x32x32, .f32⟩
  | 83 => ⟨S32x320x32x32, .i1⟩
  | 84 => ⟨S32x320x32x32, .f32⟩
  | 85 => ⟨S32x320x32x32, .f32⟩
  | 86 => ⟨S_, .f32⟩
  | 87 => ⟨S32x320x33x34, .f32⟩
  | 88 => ⟨S32x320x32x32, .f32⟩
  | 89 => ⟨S160x320x1x1, .f32⟩
  | 90 => ⟨S160x320, .f32⟩
  | 91 => ⟨S160x32x32x32, .f32⟩
  | 92 => ⟨S32x160x32x32, .f32⟩
  | 93 => ⟨S32x320x32x32, .f32⟩
  | 94 => ⟨S160x320x1x1, .f32⟩
  | 95 => ⟨S160x320, .f32⟩
  | 96 => ⟨S160x32x32x32, .f32⟩
  | 97 => ⟨S32x160x32x32, .f32⟩
  | 98 => ⟨S32x160x32x32, .f32⟩
  | 99 => ⟨S32x320x32x32, .f32⟩
  | 100 => ⟨S160x320x1x1, .f32⟩
  | 101 => ⟨S160x320, .f32⟩
  | 102 => ⟨S160x32x32x32, .f32⟩
  | 103 => ⟨S32x160x32x32, .f32⟩
  | 104 => ⟨S32x160x32x32, .f32⟩
  | 105 => ⟨S32x320x32x32, .f32⟩
  | 106 => ⟨S160x320x1x1, .f32⟩
  | 107 => ⟨S160x320, .f32⟩
  | 108 => ⟨S160x32x32x32, .f32⟩
  | 109 => ⟨S32x160x32x32, .f32⟩
  | 110 => ⟨S32x160x32x32, .f32⟩
  | 111 => ⟨S32x320x32x32, .f32⟩
  | 112 => ⟨S160x320x1x1, .f32⟩
  | 113 => ⟨S160x320, .f32⟩
  | 114 => ⟨S160x32x32x32, .f32⟩
  | 115 => ⟨S32x160x32x32, .f32⟩
  | 116 => ⟨S32x160x32x32, .f32⟩
  | 117 => ⟨S32x320x32x32, .f32⟩
  | 118 => ⟨S160x320x1x1, .f32⟩
  | 119 => ⟨S160x320, .f32⟩
  | 120 => ⟨S160x32x32x32, .f32⟩
  | 121 => ⟨S32x160x32x32, .f32⟩
  | 122 => ⟨S32x160x32x32, .f32⟩
  | 123 => ⟨S1x160x1x1, .f32⟩
  | 124 => ⟨S32x160x32x32, .f32⟩
  | 125 => ⟨S32x160x32x32, .f32⟩
  | 126 => ⟨S32x160x32x32, .f32⟩
  | 127 => ⟨S32x320x32x32, .f32⟩
  | _ => ⟨S160x32768, .bf16⟩

abbrev hbmTy0_1 (i : Nat) : BufTy := match i % 128 with
  | 0 => ⟨S_, .f32⟩
  | 1 => ⟨S32x320x32x32, .f32⟩
  | 2 => ⟨S32x320x32x32, .i1⟩
  | 3 => ⟨S32x320x32x32, .f32⟩
  | 4 => ⟨S32x320x32x32, .f32⟩
  | 5 => ⟨S_, .f32⟩
  | 6 => ⟨S32x320x33x34, .f32⟩
  | 7 => ⟨S32x320x32x32, .f32⟩
  | 8 => ⟨S320x320x1x1, .f32⟩
  | 9 => ⟨S320x320, .f32⟩
  | 10 => ⟨S320x32x32x32, .f32⟩
  | 11 => ⟨S32x320x32x32, .f32⟩
  | 12 => ⟨S32x320x32x32, .f32⟩
  | 13 => ⟨S320x320x1x1, .f32⟩
  | 14 => ⟨S320x320, .f32⟩
  | 15 => ⟨S320x32x32x32, .f32⟩
  | 16 => ⟨S32x320x32x32, .f32⟩
  | 17 => ⟨S32x320x32x32, .f32⟩
  | 18 => ⟨S32x320x32x32, .f32⟩
  | 19 => ⟨S320x320x1x1, .f32⟩
  | 20 => ⟨S320x320, .f32⟩
  | 21 => ⟨S320x32x32x32, .f32⟩
  | 22 => ⟨S32x320x32x32, .f32⟩
  | 23 => ⟨S32x320x32x32, .f32⟩
  | 24 => ⟨S32x320x32x32, .f32⟩
  | 25 => ⟨S320x320x1x1, .f32⟩
  | 26 => ⟨S320x320, .f32⟩
  | 27 => ⟨S320x32x32x32, .f32⟩
  | 28 => ⟨S32x320x32x32, .f32⟩
  | 29 => ⟨S32x320x32x32, .f32⟩
  | 30 => ⟨S32x320x32x32, .f32⟩
  | 31 => ⟨S320x320x1x1, .f32⟩
  | 32 => ⟨S320x320, .f32⟩
  | 33 => ⟨S320x32x32x32, .f32⟩
  | 34 => ⟨S32x320x32x32, .f32⟩
  | 35 => ⟨S32x320x32x32, .f32⟩
  | 36 => ⟨S32x320x32x32, .f32⟩
  | 37 => ⟨S320x320x1x1, .f32⟩
  | 38 => ⟨S320x320, .f32⟩
  | 39 => ⟨S320x32x32x32, .f32⟩
  | 40 => ⟨S32x320x32x32, .f32⟩
  | 41 => ⟨S32x320x32x32, .f32⟩
  | 42 => ⟨S1x320x1x1, .f32⟩
  | 43 => ⟨S32x320x32x32, .f32⟩
  | 44 => ⟨S32x320x32x32, .f32⟩
  | 45 => ⟨S32x160x32x32, .f32⟩
  | 46 => ⟨S32x160x32x32, .f32⟩
  | 47 => ⟨S32x160x32x32, .f32⟩
  | 48 => ⟨S32x160x32x32, .f32⟩
  | 49 => ⟨S_, .f32⟩
  | 50 => ⟨S32x160x32x32, .f32⟩
  | 51 => ⟨S32x160x32x32, .f32⟩
  | 52 => ⟨S_, .f32⟩
  | 53 => ⟨S32x160x32x32, .f32⟩
  | 54 => ⟨S32x160x32x32, .f32⟩
  | 55 => ⟨S32x160x32x32, .f32⟩
  | 56 => ⟨S32x160x32x32, .f32⟩
  | 57 => ⟨S32x160x32x32, .f32⟩
  | 58 => ⟨S32x320x32x32, .f32⟩
  | 59 => ⟨S_, .f32⟩
  | 60 => ⟨S32x320x32x32, .f32⟩
  | 61 => ⟨S32x320x32x32, .i1⟩
  | 62 => ⟨S32x320x32x32, .f32⟩
  | 63 => ⟨S32x320x32x32, .f32⟩
  | 64 => ⟨S_, .f32⟩
  | 65 => ⟨S32x320x33x33, .f32⟩
  | 66 => ⟨S32x320x32x32, .f32⟩
  | 67 => ⟨S160x320x1x1, .f32⟩
  | 68 => ⟨S160x320, .f32⟩
  | 69 => ⟨S160x32x32x32, .f32⟩
  | 70 => ⟨S32x160x32x32, .f32⟩
  | 71 => ⟨S32x320x32x32, .f32⟩
  | 72 => ⟨S160x320x1x1, .f32⟩
  | 73 => ⟨S160x320, .f32⟩
  | 74 => ⟨S160x32x32x32, .f32⟩
  | 75 => ⟨S32x160x32x32, .f32⟩
  | 76 => ⟨S32x160x32x32, .f32⟩
  | 77 => ⟨S32x320x32x32, .f32⟩
  | 78 => ⟨S160x320x1x1, .f32⟩
  | 79 => ⟨S160x320, .f32⟩
  | 80 => ⟨S160x32x32x32, .f32⟩
  | 81 => ⟨S32x160x32x32, .f32⟩
  | 82 => ⟨S32x160x32x32, .f32⟩
  | 83 => ⟨S32x320x32x32, .f32⟩
  | 84 => ⟨S160x320x1x1, .f32⟩
  | 85 => ⟨S160x320, .f32⟩
  | 86 => ⟨S160x32x32x32, .f32⟩
  | 87 => ⟨S32x160x32x32, .f32⟩
  | 88 => ⟨S32x160x32x32, .f32⟩
  | 89 => ⟨S1x160x1x1, .f32⟩
  | 90 => ⟨S32x160x32x32, .f32⟩
  | 91 => ⟨S32x160x32x32, .f32⟩
  | 92 => ⟨S32x160x32x32, .f32⟩
  | 93 => ⟨S32x320x32x32, .f32⟩
  | 94 => ⟨S_, .f32⟩
  | 95 => ⟨S32x320x32x32, .f32⟩
  | 96 => ⟨S32x320x32x32, .i1⟩
  | 97 => ⟨S32x320x32x32, .f32⟩
  | 98 => ⟨S32x320x32x32, .f32⟩
  | 99 => ⟨S160x32x32x32, .f32⟩
  | 100 => ⟨S32x160x32x32, .f32⟩
  | 101 => ⟨S1x160x1x1, .f32⟩
  | 102 => ⟨S32x160x32x32, .f32⟩
  | 103 => ⟨S32x160x32x32, .f32⟩
  | 104 => ⟨S32x160x32x32, .f32⟩
  | 105 => ⟨S32x160x32x32, .f32⟩
  | 106 => ⟨S32x320x32x32, .f32⟩
  | 107 => ⟨S_, .f32⟩
  | 108 => ⟨S32x320x32x32, .f32⟩
  | 109 => ⟨S32x320x32x32, .i1⟩
  | 110 => ⟨S32x320x32x32, .f32⟩
  | 111 => ⟨S32x320x32x32, .f32⟩
  | 112 => ⟨S_, .f32⟩
  | 113 => ⟨S32x320x33x33, .f32⟩
  | 114 => ⟨S32x320x32x32, .f32⟩
  | 115 => ⟨S320x320x1x1, .f32⟩
  | 116 => ⟨S320x320, .f32⟩
  | 117 => ⟨S320x32x32x32, .f32⟩
  | 118 => ⟨S32x320x32x32, .f32⟩
  | 119 => ⟨S32x320x32x32, .f32⟩
  | 120 => ⟨S320x320x1x1, .f32⟩
  | 121 => ⟨S320x320, .f32⟩
  | 122 => ⟨S320x32x32x32, .f32⟩
  | 123 => ⟨S32x320x32x32, .f32⟩
  | 124 => ⟨S32x320x32x32, .f32⟩
  | 125 => ⟨S32x320x32x32, .f32⟩
  | 126 => ⟨S320x320x1x1, .f32⟩
  | 127 => ⟨S320x320, .f32⟩
  | _ => ⟨S160x32768, .bf16⟩

abbrev hbmTy0_2 (i : Nat) : BufTy := match i % 128 with
  | 0 => ⟨S320x32x32x32, .f32⟩
  | 1 => ⟨S32x320x32x32, .f32⟩
  | 2 => ⟨S32x320x32x32, .f32⟩
  | 3 => ⟨S32x320x32x32, .f32⟩
  | 4 => ⟨S320x320x1x1, .f32⟩
  | 5 => ⟨S320x320, .f32⟩
  | 6 => ⟨S320x32x32x32, .f32⟩
  | 7 => ⟨S32x320x32x32, .f32⟩
  | 8 => ⟨S32x320x32x32, .f32⟩
  | 9 => ⟨S1x320x1x1, .f32⟩
  | 10 => ⟨S32x320x32x32, .f32⟩
  | 11 => ⟨S32x320x32x32, .f32⟩
  | 12 => ⟨S32x160x32x32, .f32⟩
  | 13 => ⟨S32x160x32x32, .f32⟩
  | 14 => ⟨S32x160x32x32, .f32⟩
  | 15 => ⟨S32x160x32x32, .f32⟩
  | 16 => ⟨S_, .f32⟩
  | 17 => ⟨S32x160x32x32, .f32⟩
  | 18 => ⟨S32x160x32x32, .f32⟩
  | 19 => ⟨S_, .f32⟩
  | 20 => ⟨S32x160x32x32, .f32⟩
  | 21 => ⟨S32x160x32x32, .f32⟩
  | 22 => ⟨S32x160x32x32, .f32⟩
  | 23 => ⟨S32x160x32x32, .f32⟩
  | 24 => ⟨S_, .i32⟩
  | 25 => ⟨S_, .i32⟩
  | 26 => ⟨S4x8x160x32x32, .f32⟩
  | 27 => ⟨S160x4x32x8x32, .f32⟩
  | 28 => ⟨S160x32768, .f32⟩
  | 29 => ⟨S160x32768, .bf16⟩
  | _ => ⟨S160x32768, .bf16⟩

abbrev hbmTy (i : Nat) : BufTy := match i / 128 with
  | 0 => hbmTy0_0 i
  | 1 => hbmTy0_1 i
  | 2 => hbmTy0_2 i
  | _ => ⟨S160x32768, .bf16⟩

abbrev bufTy : (tb : Table) → Fin (tcTables nBuf tb) → BufTy
  | .hbm, ⟨i, _⟩ => hbmTy i
  | _, _ => ⟨S160x32768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8_0 : Ref sig .tc := ⟨.hbm, 21, rfl⟩
abbrev main_v8_1 : Ref sig .tc := ⟨.hbm, 22, rfl⟩
abbrev main_v8_2 : Ref sig .tc := ⟨.hbm, 23, rfl⟩
abbrev main_v8_3 : Ref sig .tc := ⟨.hbm, 24, rfl⟩
abbrev main_v8_4 : Ref sig .tc := ⟨.hbm, 25, rfl⟩
abbrev main_v8_5 : Ref sig .tc := ⟨.hbm, 26, rfl⟩
abbrev main_v8_6 : Ref sig .tc := ⟨.hbm, 27, rfl⟩
abbrev main_v8_7 : Ref sig .tc := ⟨.hbm, 28, rfl⟩
abbrev main_v8_8 : Ref sig .tc := ⟨.hbm, 29, rfl⟩
abbrev main_v8_9 : Ref sig .tc := ⟨.hbm, 30, rfl⟩
abbrev main_v8_10 : Ref sig .tc := ⟨.hbm, 31, rfl⟩
abbrev main_v8_11 : Ref sig .tc := ⟨.hbm, 32, rfl⟩
abbrev main_v8_12 : Ref sig .tc := ⟨.hbm, 33, rfl⟩
abbrev main_while0c_c_12 : Ref sig .tc := ⟨.hbm, 34, rfl⟩
abbrev main_while0c_v13 : Ref sig .tc := ⟨.hbm, 35, rfl⟩
abbrev main_while0b_call0_c : Ref sig .tc := ⟨.hbm, 36, rfl⟩
abbrev main_while0b_call0_c_0 : Ref sig .tc := ⟨.hbm, 37, rfl⟩
abbrev main_while0b_call0_c_1 : Ref sig .tc := ⟨.hbm, 38, rfl⟩
abbrev main_while0b_call0_c_2 : Ref sig .tc := ⟨.hbm, 39, rfl⟩
abbrev main_while0b_call0_v0 : Ref sig .tc := ⟨.hbm, 40, rfl⟩
abbrev main_while0b_v13 : Ref sig .tc := ⟨.hbm, 41, rfl⟩
abbrev main_while0b_call1_c : Ref sig .tc := ⟨.hbm, 42, rfl⟩
abbrev main_while0b_call1_v0 : Ref sig .tc := ⟨.hbm, 43, rfl⟩
abbrev main_while0b_v14 : Ref sig .tc := ⟨.hbm, 44, rfl⟩
abbrev main_while0b_call2_c : Ref sig .tc := ⟨.hbm, 45, rfl⟩
abbrev main_while0b_call2_c_0 : Ref sig .tc := ⟨.hbm, 46, rfl⟩
abbrev main_while0b_call2_c_1 : Ref sig .tc := ⟨.hbm, 47, rfl⟩
abbrev main_while0b_call2_c_2 : Ref sig .tc := ⟨.hbm, 48, rfl⟩
abbrev main_while0b_call2_v0 : Ref sig .tc := ⟨.hbm, 49, rfl⟩
abbrev main_while0b_v15 : Ref sig .tc := ⟨.hbm, 50, rfl⟩
abbrev main_while0b_call3_c : Ref sig .tc := ⟨.hbm, 51, rfl⟩
abbrev main_while0b_call3_v0 : Ref sig .tc := ⟨.hbm, 52, rfl⟩
abbrev main_while0b_v16 : Ref sig .tc := ⟨.hbm, 53, rfl⟩
abbrev main_while0b_call4_c : Ref sig .tc := ⟨.hbm, 54, rfl⟩
abbrev main_while0b_call4_c_0 : Ref sig .tc := ⟨.hbm, 55, rfl⟩
abbrev main_while0b_call4_c_1 : Ref sig .tc := ⟨.hbm, 56, rfl⟩
abbrev main_while0b_call4_c_2 : Ref sig .tc := ⟨.hbm, 57, rfl⟩
abbrev main_while0b_call4_v0 : Ref sig .tc := ⟨.hbm, 58, rfl⟩
abbrev main_while0b_v17 : Ref sig .tc := ⟨.hbm, 59, rfl⟩
abbrev main_while0b_call5_c : Ref sig .tc := ⟨.hbm, 60, rfl⟩
abbrev main_while0b_call5_v0 : Ref sig .tc := ⟨.hbm, 61, rfl⟩
abbrev main_while0b_v18 : Ref sig .tc := ⟨.hbm, 62, rfl⟩
abbrev main_while0b_call6_c : Ref sig .tc := ⟨.hbm, 63, rfl⟩
abbrev main_while0b_call6_c_0 : Ref sig .tc := ⟨.hbm, 64, rfl⟩
abbrev main_while0b_call6_v0 : Ref sig .tc := ⟨.hbm, 65, rfl⟩
abbrev main_while0b_v19 : Ref sig .tc := ⟨.hbm, 66, rfl⟩
abbrev main_while0b_call7_c : Ref sig .tc := ⟨.hbm, 67, rfl⟩
abbrev main_while0b_call7_v0 : Ref sig .tc := ⟨.hbm, 68, rfl⟩
abbrev main_while0b_v20 : Ref sig .tc := ⟨.hbm, 69, rfl⟩
abbrev main_while0b_call8_c : Ref sig .tc := ⟨.hbm, 70, rfl⟩
abbrev main_while0b_call8_c_0 : Ref sig .tc := ⟨.hbm, 71, rfl⟩
abbrev main_while0b_call8_c_1 : Ref sig .tc := ⟨.hbm, 72, rfl⟩
abbrev main_while0b_call8_c_2 : Ref sig .tc := ⟨.hbm, 73, rfl⟩
abbrev main_while0b_call8_v0 : Ref sig .tc := ⟨.hbm, 74, rfl⟩
abbrev main_while0b_v21 : Ref sig .tc := ⟨.hbm, 75, rfl⟩
abbrev main_while0b_call9_c : Ref sig .tc := ⟨.hbm, 76, rfl⟩
abbrev main_while0b_call9_v0 : Ref sig .tc := ⟨.hbm, 77, rfl⟩
abbrev main_while0b_v22 : Ref sig .tc := ⟨.hbm, 78, rfl⟩
abbrev main_while0b_v23 : Ref sig .tc := ⟨.hbm, 79, rfl⟩
abbrev main_while0b_v24 : Ref sig .tc := ⟨.hbm, 80, rfl⟩
abbrev main_while0b_cst : Ref sig .tc := ⟨.hbm, 81, rfl⟩
abbrev main_while0b_v25 : Ref sig .tc := ⟨.hbm, 82, rfl⟩
abbrev main_while0b_v26 : Ref sig .tc := ⟨.hbm, 83, rfl⟩
abbrev main_while0b_v27 : Ref sig .tc := ⟨.hbm, 84, rfl⟩
abbrev main_while0b_v28 : Ref sig .tc := ⟨.hbm, 85, rfl⟩
abbrev main_while0b_cst_12 : Ref sig .tc := ⟨.hbm, 86, rfl⟩
abbrev main_while0b_v29 : Ref sig .tc := ⟨.hbm, 87, rfl⟩
abbrev main_while0b_v30 : Ref sig .tc := ⟨.hbm, 88, rfl⟩
abbrev main_while0b_v31 : Ref sig .tc := ⟨.hbm, 89, rfl⟩
abbrev main_while0b_v32 : Ref sig .tc := ⟨.hbm, 90, rfl⟩
abbrev main_while0b_v33 : Ref sig .tc := ⟨.hbm, 91, rfl⟩
abbrev main_while0b_v34 : Ref sig .tc := ⟨.hbm, 92, rfl⟩
abbrev main_while0b_v35 : Ref sig .tc := ⟨.hbm, 93, rfl⟩
abbrev main_while0b_v36 : Ref sig .tc := ⟨.hbm, 94, rfl⟩
abbrev main_while0b_v37 : Ref sig .tc := ⟨.hbm, 95, rfl⟩
abbrev main_while0b_v38 : Ref sig .tc := ⟨.hbm, 96, rfl⟩
abbrev main_while0b_v39 : Ref sig .tc := ⟨.hbm, 97, rfl⟩
abbrev main_while0b_v40 : Ref sig .tc := ⟨.hbm, 98, rfl⟩
abbrev main_while0b_v41 : Ref sig .tc := ⟨.hbm, 99, rfl⟩
abbrev main_while0b_v42 : Ref sig .tc := ⟨.hbm, 100, rfl⟩
abbrev main_while0b_v43 : Ref sig .tc := ⟨.hbm, 101, rfl⟩
abbrev main_while0b_v44 : Ref sig .tc := ⟨.hbm, 102, rfl⟩
abbrev main_while0b_v45 : Ref sig .tc := ⟨.hbm, 103, rfl⟩
abbrev main_while0b_v46 : Ref sig .tc := ⟨.hbm, 104, rfl⟩
abbrev main_while0b_v47 : Ref sig .tc := ⟨.hbm, 105, rfl⟩
abbrev main_while0b_v48 : Ref sig .tc := ⟨.hbm, 106, rfl⟩
abbrev main_while0b_v49 : Ref sig .tc := ⟨.hbm, 107, rfl⟩
abbrev main_while0b_v50 : Ref sig .tc := ⟨.hbm, 108, rfl⟩
abbrev main_while0b_v51 : Ref sig .tc := ⟨.hbm, 109, rfl⟩
abbrev main_while0b_v52 : Ref sig .tc := ⟨.hbm, 110, rfl⟩
abbrev main_while0b_v53 : Ref sig .tc := ⟨.hbm, 111, rfl⟩
abbrev main_while0b_v54 : Ref sig .tc := ⟨.hbm, 112, rfl⟩
abbrev main_while0b_v55 : Ref sig .tc := ⟨.hbm, 113, rfl⟩
abbrev main_while0b_v56 : Ref sig .tc := ⟨.hbm, 114, rfl⟩
abbrev main_while0b_v57 : Ref sig .tc := ⟨.hbm, 115, rfl⟩
abbrev main_while0b_v58 : Ref sig .tc := ⟨.hbm, 116, rfl⟩
abbrev main_while0b_v59 : Ref sig .tc := ⟨.hbm, 117, rfl⟩
abbrev main_while0b_v60 : Ref sig .tc := ⟨.hbm, 118, rfl⟩
abbrev main_while0b_v61 : Ref sig .tc := ⟨.hbm, 119, rfl⟩
abbrev main_while0b_v62 : Ref sig .tc := ⟨.hbm, 120, rfl⟩
abbrev main_while0b_v63 : Ref sig .tc := ⟨.hbm, 121, rfl⟩
abbrev main_while0b_v64 : Ref sig .tc := ⟨.hbm, 122, rfl⟩
abbrev main_while0b_v65 : Ref sig .tc := ⟨.hbm, 123, rfl⟩
abbrev main_while0b_v66 : Ref sig .tc := ⟨.hbm, 124, rfl⟩
abbrev main_while0b_v67 : Ref sig .tc := ⟨.hbm, 125, rfl⟩
abbrev main_while0b_v68 : Ref sig .tc := ⟨.hbm, 126, rfl⟩
abbrev main_while0b_v69 : Ref sig .tc := ⟨.hbm, 127, rfl⟩
abbrev main_while0b_cst_13 : Ref sig .tc := ⟨.hbm, 128, rfl⟩
abbrev main_while0b_v70 : Ref sig .tc := ⟨.hbm, 129, rfl⟩
abbrev main_while0b_v71 : Ref sig .tc := ⟨.hbm, 130, rfl⟩
abbrev main_while0b_v72 : Ref sig .tc := ⟨.hbm, 131, rfl⟩
abbrev main_while0b_v73 : Ref sig .tc := ⟨.hbm, 132, rfl⟩
abbrev main_while0b_cst_14 : Ref sig .tc := ⟨.hbm, 133, rfl⟩
abbrev main_while0b_v74 : Ref sig .tc := ⟨.hbm, 134, rfl⟩
abbrev main_while0b_v75 : Ref sig .tc := ⟨.hbm, 135, rfl⟩
abbrev main_while0b_v76 : Ref sig .tc := ⟨.hbm, 136, rfl⟩
abbrev main_while0b_v77 : Ref sig .tc := ⟨.hbm, 137, rfl⟩
abbrev main_while0b_v78 : Ref sig .tc := ⟨.hbm, 138, rfl⟩
abbrev main_while0b_v79 : Ref sig .tc := ⟨.hbm, 139, rfl⟩
abbrev main_while0b_v80 : Ref sig .tc := ⟨.hbm, 140, rfl⟩
abbrev main_while0b_v81 : Ref sig .tc := ⟨.hbm, 141, rfl⟩
abbrev main_while0b_v82 : Ref sig .tc := ⟨.hbm, 142, rfl⟩
abbrev main_while0b_v83 : Ref sig .tc := ⟨.hbm, 143, rfl⟩
abbrev main_while0b_v84 : Ref sig .tc := ⟨.hbm, 144, rfl⟩
abbrev main_while0b_v85 : Ref sig .tc := ⟨.hbm, 145, rfl⟩
abbrev main_while0b_v86 : Ref sig .tc := ⟨.hbm, 146, rfl⟩
abbrev main_while0b_v87 : Ref sig .tc := ⟨.hbm, 147, rfl⟩
abbrev main_while0b_v88 : Ref sig .tc := ⟨.hbm, 148, rfl⟩
abbrev main_while0b_v89 : Ref sig .tc := ⟨.hbm, 149, rfl⟩
abbrev main_while0b_v90 : Ref sig .tc := ⟨.hbm, 150, rfl⟩
abbrev main_while0b_v91 : Ref sig .tc := ⟨.hbm, 151, rfl⟩
abbrev main_while0b_v92 : Ref sig .tc := ⟨.hbm, 152, rfl⟩
abbrev main_while0b_v93 : Ref sig .tc := ⟨.hbm, 153, rfl⟩
abbrev main_while0b_v94 : Ref sig .tc := ⟨.hbm, 154, rfl⟩
abbrev main_while0b_v95 : Ref sig .tc := ⟨.hbm, 155, rfl⟩
abbrev main_while0b_v96 : Ref sig .tc := ⟨.hbm, 156, rfl⟩
abbrev main_while0b_v97 : Ref sig .tc := ⟨.hbm, 157, rfl⟩
abbrev main_while0b_v98 : Ref sig .tc := ⟨.hbm, 158, rfl⟩
abbrev main_while0b_v99 : Ref sig .tc := ⟨.hbm, 159, rfl⟩
abbrev main_while0b_v100 : Ref sig .tc := ⟨.hbm, 160, rfl⟩
abbrev main_while0b_v101 : Ref sig .tc := ⟨.hbm, 161, rfl⟩
abbrev main_while0b_v102 : Ref sig .tc := ⟨.hbm, 162, rfl⟩
abbrev main_while0b_v103 : Ref sig .tc := ⟨.hbm, 163, rfl⟩
abbrev main_while0b_v104 : Ref sig .tc := ⟨.hbm, 164, rfl⟩
abbrev main_while0b_v105 : Ref sig .tc := ⟨.hbm, 165, rfl⟩
abbrev main_while0b_v106 : Ref sig .tc := ⟨.hbm, 166, rfl⟩
abbrev main_while0b_v107 : Ref sig .tc := ⟨.hbm, 167, rfl⟩
abbrev main_while0b_v108 : Ref sig .tc := ⟨.hbm, 168, rfl⟩
abbrev main_while0b_v109 : Ref sig .tc := ⟨.hbm, 169, rfl⟩
abbrev main_while0b_v110 : Ref sig .tc := ⟨.hbm, 170, rfl⟩
abbrev main_while0b_v111 : Ref sig .tc := ⟨.hbm, 171, rfl⟩
abbrev main_while0b_v112 : Ref sig .tc := ⟨.hbm, 172, rfl⟩
abbrev main_while0b_v113 : Ref sig .tc := ⟨.hbm, 173, rfl⟩
abbrev main_while0b_v114 : Ref sig .tc := ⟨.hbm, 174, rfl⟩
abbrev main_while0b_v115 : Ref sig .tc := ⟨.hbm, 175, rfl⟩
abbrev main_while0b_v116 : Ref sig .tc := ⟨.hbm, 176, rfl⟩
abbrev main_while0b_cst_15 : Ref sig .tc := ⟨.hbm, 177, rfl⟩
abbrev main_while0b_v117 : Ref sig .tc := ⟨.hbm, 178, rfl⟩
abbrev main_while0b_v118 : Ref sig .tc := ⟨.hbm, 179, rfl⟩
abbrev main_while0b_cst_16 : Ref sig .tc := ⟨.hbm, 180, rfl⟩
abbrev main_while0b_v119 : Ref sig .tc := ⟨.hbm, 181, rfl⟩
abbrev main_while0b_v120 : Ref sig .tc := ⟨.hbm, 182, rfl⟩
abbrev main_while0b_v121 : Ref sig .tc := ⟨.hbm, 183, rfl⟩
abbrev main_while0b_v122 : Ref sig .tc := ⟨.hbm, 184, rfl⟩
abbrev main_while0b_v123 : Ref sig .tc := ⟨.hbm, 185, rfl⟩
abbrev main_while0b_v124 : Ref sig .tc := ⟨.hbm, 186, rfl⟩
abbrev main_while0b_cst_17 : Ref sig .tc := ⟨.hbm, 187, rfl⟩
abbrev main_while0b_v125 : Ref sig .tc := ⟨.hbm, 188, rfl⟩
abbrev main_while0b_v126 : Ref sig .tc := ⟨.hbm, 189, rfl⟩
abbrev main_while0b_v127 : Ref sig .tc := ⟨.hbm, 190, rfl⟩
abbrev main_while0b_v128 : Ref sig .tc := ⟨.hbm, 191, rfl⟩
abbrev main_while0b_cst_18 : Ref sig .tc := ⟨.hbm, 192, rfl⟩
abbrev main_while0b_v129 : Ref sig .tc := ⟨.hbm, 193, rfl⟩
abbrev main_while0b_v130 : Ref sig .tc := ⟨.hbm, 194, rfl⟩
abbrev main_while0b_v131 : Ref sig .tc := ⟨.hbm, 195, rfl⟩
abbrev main_while0b_v132 : Ref sig .tc := ⟨.hbm, 196, rfl⟩
abbrev main_while0b_v133 : Ref sig .tc := ⟨.hbm, 197, rfl⟩
abbrev main_while0b_v134 : Ref sig .tc := ⟨.hbm, 198, rfl⟩
abbrev main_while0b_v135 : Ref sig .tc := ⟨.hbm, 199, rfl⟩
abbrev main_while0b_v136 : Ref sig .tc := ⟨.hbm, 200, rfl⟩
abbrev main_while0b_v137 : Ref sig .tc := ⟨.hbm, 201, rfl⟩
abbrev main_while0b_v138 : Ref sig .tc := ⟨.hbm, 202, rfl⟩
abbrev main_while0b_v139 : Ref sig .tc := ⟨.hbm, 203, rfl⟩
abbrev main_while0b_v140 : Ref sig .tc := ⟨.hbm, 204, rfl⟩
abbrev main_while0b_v141 : Ref sig .tc := ⟨.hbm, 205, rfl⟩
abbrev main_while0b_v142 : Ref sig .tc := ⟨.hbm, 206, rfl⟩
abbrev main_while0b_v143 : Ref sig .tc := ⟨.hbm, 207, rfl⟩
abbrev main_while0b_v144 : Ref sig .tc := ⟨.hbm, 208, rfl⟩
abbrev main_while0b_v145 : Ref sig .tc := ⟨.hbm, 209, rfl⟩
abbrev main_while0b_v146 : Ref sig .tc := ⟨.hbm, 210, rfl⟩
abbrev main_while0b_v147 : Ref sig .tc := ⟨.hbm, 211, rfl⟩
abbrev main_while0b_v148 : Ref sig .tc := ⟨.hbm, 212, rfl⟩
abbrev main_while0b_v149 : Ref sig .tc := ⟨.hbm, 213, rfl⟩
abbrev main_while0b_v150 : Ref sig .tc := ⟨.hbm, 214, rfl⟩
abbrev main_while0b_v151 : Ref sig .tc := ⟨.hbm, 215, rfl⟩
abbrev main_while0b_v152 : Ref sig .tc := ⟨.hbm, 216, rfl⟩
abbrev main_while0b_v153 : Ref sig .tc := ⟨.hbm, 217, rfl⟩
abbrev main_while0b_v154 : Ref sig .tc := ⟨.hbm, 218, rfl⟩
abbrev main_while0b_v155 : Ref sig .tc := ⟨.hbm, 219, rfl⟩
abbrev main_while0b_v156 : Ref sig .tc := ⟨.hbm, 220, rfl⟩
abbrev main_while0b_v157 : Ref sig .tc := ⟨.hbm, 221, rfl⟩
abbrev main_while0b_cst_19 : Ref sig .tc := ⟨.hbm, 222, rfl⟩
abbrev main_while0b_v158 : Ref sig .tc := ⟨.hbm, 223, rfl⟩
abbrev main_while0b_v159 : Ref sig .tc := ⟨.hbm, 224, rfl⟩
abbrev main_while0b_v160 : Ref sig .tc := ⟨.hbm, 225, rfl⟩
abbrev main_while0b_v161 : Ref sig .tc := ⟨.hbm, 226, rfl⟩
abbrev main_while0b_v162 : Ref sig .tc := ⟨.hbm, 227, rfl⟩
abbrev main_while0b_v163 : Ref sig .tc := ⟨.hbm, 228, rfl⟩
abbrev main_while0b_v164 : Ref sig .tc := ⟨.hbm, 229, rfl⟩
abbrev main_while0b_v165 : Ref sig .tc := ⟨.hbm, 230, rfl⟩
abbrev main_while0b_v166 : Ref sig .tc := ⟨.hbm, 231, rfl⟩
abbrev main_while0b_v167 : Ref sig .tc := ⟨.hbm, 232, rfl⟩
abbrev main_while0b_v168 : Ref sig .tc := ⟨.hbm, 233, rfl⟩
abbrev main_while0b_v169 : Ref sig .tc := ⟨.hbm, 234, rfl⟩
abbrev main_while0b_cst_20 : Ref sig .tc := ⟨.hbm, 235, rfl⟩
abbrev main_while0b_v170 : Ref sig .tc := ⟨.hbm, 236, rfl⟩
abbrev main_while0b_v171 : Ref sig .tc := ⟨.hbm, 237, rfl⟩
abbrev main_while0b_v172 : Ref sig .tc := ⟨.hbm, 238, rfl⟩
abbrev main_while0b_v173 : Ref sig .tc := ⟨.hbm, 239, rfl⟩
abbrev main_while0b_cst_21 : Ref sig .tc := ⟨.hbm, 240, rfl⟩
abbrev main_while0b_v174 : Ref sig .tc := ⟨.hbm, 241, rfl⟩
abbrev main_while0b_v175 : Ref sig .tc := ⟨.hbm, 242, rfl⟩
abbrev main_while0b_v176 : Ref sig .tc := ⟨.hbm, 243, rfl⟩
abbrev main_while0b_v177 : Ref sig .tc := ⟨.hbm, 244, rfl⟩
abbrev main_while0b_v178 : Ref sig .tc := ⟨.hbm, 245, rfl⟩
abbrev main_while0b_v179 : Ref sig .tc := ⟨.hbm, 246, rfl⟩
abbrev main_while0b_v180 : Ref sig .tc := ⟨.hbm, 247, rfl⟩
abbrev main_while0b_v181 : Ref sig .tc := ⟨.hbm, 248, rfl⟩
abbrev main_while0b_v182 : Ref sig .tc := ⟨.hbm, 249, rfl⟩
abbrev main_while0b_v183 : Ref sig .tc := ⟨.hbm, 250, rfl⟩
abbrev main_while0b_v184 : Ref sig .tc := ⟨.hbm, 251, rfl⟩
abbrev main_while0b_v185 : Ref sig .tc := ⟨.hbm, 252, rfl⟩
abbrev main_while0b_v186 : Ref sig .tc := ⟨.hbm, 253, rfl⟩
abbrev main_while0b_v187 : Ref sig .tc := ⟨.hbm, 254, rfl⟩
abbrev main_while0b_v188 : Ref sig .tc := ⟨.hbm, 255, rfl⟩
abbrev main_while0b_v189 : Ref sig .tc := ⟨.hbm, 256, rfl⟩
abbrev main_while0b_v190 : Ref sig .tc := ⟨.hbm, 257, rfl⟩
abbrev main_while0b_v191 : Ref sig .tc := ⟨.hbm, 258, rfl⟩
abbrev main_while0b_v192 : Ref sig .tc := ⟨.hbm, 259, rfl⟩
abbrev main_while0b_v193 : Ref sig .tc := ⟨.hbm, 260, rfl⟩
abbrev main_while0b_v194 : Ref sig .tc := ⟨.hbm, 261, rfl⟩
abbrev main_while0b_v195 : Ref sig .tc := ⟨.hbm, 262, rfl⟩
abbrev main_while0b_v196 : Ref sig .tc := ⟨.hbm, 263, rfl⟩
abbrev main_while0b_v197 : Ref sig .tc := ⟨.hbm, 264, rfl⟩
abbrev main_while0b_v198 : Ref sig .tc := ⟨.hbm, 265, rfl⟩
abbrev main_while0b_v199 : Ref sig .tc := ⟨.hbm, 266, rfl⟩
abbrev main_while0b_v200 : Ref sig .tc := ⟨.hbm, 267, rfl⟩
abbrev main_while0b_v201 : Ref sig .tc := ⟨.hbm, 268, rfl⟩
abbrev main_while0b_v202 : Ref sig .tc := ⟨.hbm, 269, rfl⟩
abbrev main_while0b_v203 : Ref sig .tc := ⟨.hbm, 270, rfl⟩
abbrev main_while0b_v204 : Ref sig .tc := ⟨.hbm, 271, rfl⟩
abbrev main_while0b_cst_22 : Ref sig .tc := ⟨.hbm, 272, rfl⟩
abbrev main_while0b_v205 : Ref sig .tc := ⟨.hbm, 273, rfl⟩
abbrev main_while0b_v206 : Ref sig .tc := ⟨.hbm, 274, rfl⟩
abbrev main_while0b_cst_23 : Ref sig .tc := ⟨.hbm, 275, rfl⟩
abbrev main_while0b_v207 : Ref sig .tc := ⟨.hbm, 276, rfl⟩
abbrev main_while0b_v208 : Ref sig .tc := ⟨.hbm, 277, rfl⟩
abbrev main_while0b_v209 : Ref sig .tc := ⟨.hbm, 278, rfl⟩
abbrev main_while0b_v210 : Ref sig .tc := ⟨.hbm, 279, rfl⟩
abbrev main_while0b_c_24 : Ref sig .tc := ⟨.hbm, 280, rfl⟩
abbrev main_while0b_v211 : Ref sig .tc := ⟨.hbm, 281, rfl⟩
abbrev main_v9 : Ref sig .tc := ⟨.hbm, 282, rfl⟩
abbrev main_v10 : Ref sig .tc := ⟨.hbm, 283, rfl⟩
abbrev main_v11 : Ref sig .tc := ⟨.hbm, 284, rfl⟩
abbrev main_v12 : Ref sig .tc := ⟨.hbm, 285, rfl⟩

abbrev nD : Nat := 1
abbrev τ : Topo := Topo.v7x

variable {F : FTy → Type} [FloatOps F]

abbrev main_while0_count : Scf.Loop 32 := ⟨0#32, 5#32, 1#32⟩
-- ==== Kernel2.lean ====
abbrev S32x3x32x32 : Shape := ⟨4, ![32, 3, 32, 32]⟩
abbrev S160x4x2x3 : Shape := ⟨4, ![160, 4, 2, 3]⟩
abbrev S160 : Shape := ⟨1, ![160]⟩
abbrev S160x4x1x3 : Shape := ⟨4, ![160, 4, 1, 3]⟩
abbrev S160x4x2x1 : Shape := ⟨4, ![160, 4, 2, 1]⟩
abbrev S_ : Shape := ⟨0, ![]⟩
abbrev S32x1x32x32 : Shape := ⟨4, ![32, 1, 32, 32]⟩
abbrev S32x4x32x32 : Shape := ⟨4, ![32, 4, 32, 32]⟩
abbrev S4x8x4x32x32 : Shape := ⟨5, ![4, 8, 4, 32, 32]⟩
abbrev S4x4x32x8x32 : Shape := ⟨5, ![4, 4, 32, 8, 32]⟩
abbrev S4x32768 : Shape := ⟨2, ![4, 32768]⟩
abbrev S160x3x2x4 : Shape := ⟨4, ![160, 3, 2, 4]⟩
abbrev S160x24 : Shape := ⟨2, ![160, 24]⟩
abbrev S160x3x1x4 : Shape := ⟨4, ![160, 3, 1, 4]⟩
abbrev S160x12 : Shape := ⟨2, ![160, 12]⟩
abbrev S160x1x2x4 : Shape := ⟨4, ![160, 1, 2, 4]⟩
abbrev S160x8 : Shape := ⟨2, ![160, 8]⟩
abbrev S160x1 : Shape := ⟨2, ![160, 1]⟩
abbrev S160x32768 : Shape := ⟨2, ![160, 32768]⟩
abbrev S4x8192 : Shape := ⟨2, ![4, 8192]⟩
abbrev S160x8192 : Shape := ⟨2, ![160, 8192]⟩
abbrev S1x8192 : Shape := ⟨2, ![1, 8192]⟩
abbrev S2x8192 : Shape := ⟨2, ![2, 8192]⟩
abbrev S4x256 : Shape := ⟨2, ![4, 256]⟩
abbrev S4x7936 : Shape := ⟨2, ![4, 7936]⟩
abbrev S24x8192 : Shape := ⟨2, ![24, 8192]⟩
abbrev S12x8192 : Shape := ⟨2, ![12, 8192]⟩
abbrev S8x8192 : Shape := ⟨2, ![8, 8192]⟩
abbrev S160x256 : Shape := ⟨2, ![160, 256]⟩
abbrev S160x7936 : Shape := ⟨2, ![160, 7936]⟩

abbrev nBuf : Space → Nat
  | .hbm => 34
  | .vmem => 12
  | .smem => 0
  | _ => 0

abbrev bufTy : (tb : Table) → Fin (tcTables nBuf tb) → BufTy
  | .hbm, ⟨0, _⟩ => ⟨S32x3x32x32, .f32⟩
  | .hbm, ⟨1, _⟩ => ⟨S160x4x2x3, .f32⟩
  | .hbm, ⟨2, _⟩ => ⟨S160, .f32⟩
  | .hbm, ⟨3, _⟩ => ⟨S160x4x1x3, .f32⟩
  | .hbm, ⟨4, _⟩ => ⟨S160, .f32⟩
  | .hbm, ⟨5, _⟩ => ⟨S160x4x2x1, .f32⟩
  | .hbm, ⟨6, _⟩ => ⟨S160, .f32⟩
  | .hbm, ⟨7, _⟩ => ⟨S_, .f32⟩
  | .hbm, ⟨8, _⟩ => ⟨S32x3x32x32, .f32⟩
  | .hbm, ⟨9, _⟩ => ⟨S32x3x32x32, .f32⟩
  | .hbm, ⟨10, _⟩ => ⟨S_, .f32⟩
  | .hbm, ⟨11, _⟩ => ⟨S32x3x32x32, .f32⟩
  | .hbm, ⟨12, _⟩ => ⟨S32x3x32x32, .f32⟩
  | .hbm, ⟨13, _⟩ => ⟨S32x1x32x32, .f32⟩
  | .hbm, ⟨14, _⟩ => ⟨S_, .f32⟩
  | .hbm, ⟨15, _⟩ => ⟨S32x1x32x32, .f32⟩
  | .hbm, ⟨16, _⟩ => ⟨S32x4x32x32, .f32⟩
  | .hbm, ⟨17, _⟩ => ⟨S4x8x4x32x32, .f32⟩
  | .hbm, ⟨18, _⟩ => ⟨S4x4x32x8x32, .f32⟩
  | .hbm, ⟨19, _⟩ => ⟨S4x32768, .f32⟩
  | .hbm, ⟨20, _⟩ => ⟨S160x3x2x4, .f32⟩
  | .hbm, ⟨21, _⟩ => ⟨S160x24, .f32⟩
  | .hbm, ⟨22, _⟩ => ⟨S160x24, .bf16⟩
  | .hbm, ⟨23, _⟩ => ⟨S160x3x1x4, .f32⟩
  | .hbm, ⟨24, _⟩ => ⟨S160x12, .f32⟩
  | .hbm, ⟨25, _⟩ => ⟨S160x12, .bf16⟩
  | .hbm, ⟨26, _⟩ => ⟨S160x1x2x4, .f32⟩
  | .hbm, ⟨27, _⟩ => ⟨S160x8, .f32⟩
  | .hbm, ⟨28, _⟩ => ⟨S160x8, .bf16⟩
  | .hbm, ⟨29, _⟩ => ⟨S160x1, .f32⟩
  | .hbm, ⟨30, _⟩ => ⟨S160x1, .f32⟩
  | .hbm, ⟨31, _⟩ => ⟨S160x1, .f32⟩
  | .hbm, ⟨32, _⟩ => ⟨S160x32768, .bf16⟩
  | .hbm, ⟨33, _⟩ => ⟨S160x32768, .bf16⟩
  | .local _ .vmem, ⟨0, _⟩ => ⟨S4x8192, .f32⟩
  | .local _ .vmem, ⟨1, _⟩ => ⟨S4x8192, .f32⟩
  | .local _ .vmem, ⟨2, _⟩ => ⟨S160x24, .bf16⟩
  | .local _ .vmem, ⟨3, _⟩ => ⟨S160x12, .bf16⟩
  | .local _ .vmem, ⟨4, _⟩ => ⟨S160x8, .bf16⟩
  | .local _ .vmem, ⟨5, _⟩ => ⟨S160x1, .f32⟩
  | .local _ .vmem, ⟨6, _⟩ => ⟨S160x1, .f32⟩
  | .local _ .vmem, ⟨7, _⟩ => ⟨S160x1, .f32⟩
  | .local _ .vmem, ⟨8, _⟩ => ⟨S160x8192, .bf16⟩
  | .local _ .vmem, ⟨9, _⟩ => ⟨S160x8192, .bf16⟩
  | .local _ .vmem, ⟨10, _⟩ => ⟨S160x8192, .bf16⟩
  | .local _ .vmem, ⟨11, _⟩ => ⟨S160x8192, .bf16⟩
  | _, _ => ⟨S32x3x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22_0 : Ref sig .tc := ⟨.hbm, 32, rfl⟩
abbrev main_v22_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [BitOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S160x24 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S160x12 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S160x8 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S160x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S160x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S160x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S160x8192 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S160x8192 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel2Ideal.lean ====
variable {F : FTy → Type} [FloatOps F]
-- ==== Reference2Ideal.lean ====
abbrev S32x3x32x32 : Shape := ⟨4, ![32, 3, 32, 32]⟩
abbrev S160x4x2x3 : Shape := ⟨4, ![160, 4, 2, 3]⟩
abbrev S160 : Shape := ⟨1, ![160]⟩
abbrev S160x4x1x3 : Shape := ⟨4, ![160, 4, 1, 3]⟩
abbrev S160x4x2x1 : Shape := ⟨4, ![160, 4, 2, 1]⟩
abbrev S_ : Shape := ⟨0, ![]⟩
abbrev S32x1x32x32 : Shape := ⟨4, ![32, 1, 32, 32]⟩
abbrev S32x4x32x32 : Shape := ⟨4, ![32, 4, 32, 32]⟩
abbrev S32x4x33x34 : Shape := ⟨4, ![32, 4, 33, 34]⟩
abbrev S160x4x1x1 : Shape := ⟨4, ![160, 4, 1, 1]⟩
abbrev S160x4 : Shape := ⟨2, ![160, 4]⟩
abbrev S160x32x32x32 : Shape := ⟨4, ![160, 32, 32, 32]⟩
abbrev S32x160x32x32 : Shape := ⟨4, ![32, 160, 32, 32]⟩
abbrev S1x160x1x1 : Shape := ⟨4, ![1, 160, 1, 1]⟩
abbrev S32x160x33x32 : Shape := ⟨4, ![32, 160, 33, 32]⟩
abbrev S32x4x32x34 : Shape := ⟨4, ![32, 4, 32, 34]⟩
abbrev S32x4x33x32 : Shape := ⟨4, ![32, 4, 33, 32]⟩
abbrev S32x160x32x33 : Shape := ⟨4, ![32, 160, 32, 33]⟩
abbrev S4x8x160x32x32 : Shape := ⟨5, ![4, 8, 160, 32, 32]⟩
abbrev S160x4x32x8x32 : Shape := ⟨5, ![160, 4, 32, 8, 32]⟩
abbrev S160x32768 : Shape := ⟨2, ![160, 32768]⟩

abbrev nBuf : Space → Nat
  | .hbm => 113
  | .vmem => 0
  | .smem => 0
  | _ => 0

abbrev bufTy : (tb : Table) → Fin (tcTables nBuf tb) → BufTy
  | .hbm, ⟨0, _⟩ => ⟨S32x3x32x32, .f32⟩
  | .hbm, ⟨1, _⟩ => ⟨S160x4x2x3, .f32⟩
  | .hbm, ⟨2, _⟩ => ⟨S160, .f32⟩
  | .hbm, ⟨3, _⟩ => ⟨S160x4x1x3, .f32⟩
  | .hbm, ⟨4, _⟩ => ⟨S160, .f32⟩
  | .hbm, ⟨5, _⟩ => ⟨S160x4x2x1, .f32⟩
  | .hbm, ⟨6, _⟩ => ⟨S160, .f32⟩
  | .hbm, ⟨7, _⟩ => ⟨S_, .f32⟩
  | .hbm, ⟨8, _⟩ => ⟨S32x3x32x32, .f32⟩
  | .hbm, ⟨9, _⟩ => ⟨S32x3x32x32, .f32⟩
  | .hbm, ⟨10, _⟩ => ⟨S_, .f32⟩
  | .hbm, ⟨11, _⟩ => ⟨S32x3x32x32, .f32⟩
  | .hbm, ⟨12, _⟩ => ⟨S32x3x32x32, .f32⟩
  | .hbm, ⟨13, _⟩ => ⟨S32x1x32x32, .f32⟩
  | .hbm, ⟨14, _⟩ => ⟨S_, .f32⟩
  | .hbm, ⟨15, _⟩ => ⟨S32x1x32x32, .f32⟩
  | .hbm, ⟨16, _⟩ => ⟨S32x4x32x32, .f32⟩
  | .hbm, ⟨17, _⟩ => ⟨S_, .f32⟩
  | .hbm, ⟨18, _⟩ => ⟨S32x4x33x34, .f32⟩
  | .hbm, ⟨19, _⟩ => ⟨S32x4x32x32, .f32⟩
  | .hbm, ⟨20, _⟩ => ⟨S160x4x1x1, .f32⟩
  | .hbm, ⟨21, _⟩ => ⟨S160x4, .f32⟩
  | .hbm, ⟨22, _⟩ => ⟨S160x32x32x32, .f32⟩
  | .hbm, ⟨23, _⟩ => ⟨S32x160x32x32, .f32⟩
  | .hbm, ⟨24, _⟩ => ⟨S32x4x32x32, .f32⟩
  | .hbm, ⟨25, _⟩ => ⟨S160x4x1x1, .f32⟩
  | .hbm, ⟨26, _⟩ => ⟨S160x4, .f32⟩
  | .hbm, ⟨27, _⟩ => ⟨S160x32x32x32, .f32⟩
  | .hbm, ⟨28, _⟩ => ⟨S32x160x32x32, .f32⟩
  | .hbm, ⟨29, _⟩ => ⟨S32x160x32x32, .f32⟩
  | .hbm, ⟨30, _⟩ => ⟨S32x4x32x32, .f32⟩
  | .hbm, ⟨31, _⟩ => ⟨S160x4x1x1, .f32⟩
  | .hbm, ⟨32, _⟩ => ⟨S160x4, .f32⟩
  | .hbm, ⟨33, _⟩ => ⟨S160x32x32x32, .f32⟩
  | .hbm, ⟨34, _⟩ => ⟨S32x160x32x32, .f32⟩
  | .hbm, ⟨35, _⟩ => ⟨S32x160x32x32, .f32⟩
  | .hbm, ⟨36, _⟩ => ⟨S32x4x32x32, .f32⟩
  | .hbm, ⟨37, _⟩ => ⟨S160x4x1x1, .f32⟩
  | .hbm, ⟨38, _⟩ => ⟨S160x4, .f32⟩
  | .hbm, ⟨39, _⟩ => ⟨S160x32x32x32, .f32⟩
  | .hbm, ⟨40, _⟩ => ⟨S32x160x32x32, .f32⟩
  | .hbm, ⟨41, _⟩ => ⟨S32x160x32x32, .f32⟩
  | .hbm, ⟨42, _⟩ => ⟨S32x4x32x32, .f32⟩
  | .hbm, ⟨43, _⟩ => ⟨S160x4x1x1, .f32⟩
  | .hbm, ⟨44, _⟩ => ⟨S160x4, .f32⟩
  | .hbm, ⟨45, _⟩ => ⟨S160x32x32x32, .f32⟩
  | .hbm, ⟨46, _⟩ => ⟨S32x160x32x32, .f32⟩
  | .hbm, ⟨47, _⟩ => ⟨S32x160x32x32, .f32⟩
  | .hbm, ⟨48, _⟩ => ⟨S32x4x32x32, .f32⟩
  | .hbm, ⟨49, _⟩ => ⟨S160x4x1x1, .f32⟩
  | .hbm, ⟨50, _⟩ => ⟨S160x4, .f32⟩
  | .hbm, ⟨51, _⟩ => ⟨S160x32x32x32, .f32⟩
  | .hbm, ⟨52, _⟩ => ⟨S32x160x32x32, .f32⟩
  | .hbm, ⟨53, _⟩ => ⟨S32x160x32x32, .f32⟩
  | .hbm, ⟨54, _⟩ => ⟨S1x160x1x1, .f32⟩
  | .hbm, ⟨55, _⟩ => ⟨S32x160x32x32, .f32⟩
  | .hbm, ⟨56, _⟩ => ⟨S32x160x32x32, .f32⟩
  | .hbm, ⟨57, _⟩ => ⟨S_, .f32⟩
  | .hbm, ⟨58, _⟩ => ⟨S32x160x33x32, .f32⟩
  | .hbm, ⟨59, _⟩ => ⟨S32x160x32x32, .f32⟩
  | .hbm, ⟨60, _⟩ => ⟨S_, .f32⟩
  | .hbm, ⟨61, _⟩ => ⟨S32x4x32x34, .f32⟩
  | .hbm, ⟨62, _⟩ => ⟨S32x4x32x32, .f32⟩
  | .hbm, ⟨63, _⟩ => ⟨S160x4x1x1, .f32⟩
  | .hbm, ⟨64, _⟩ => ⟨S160x4, .f32⟩
  | .hbm, ⟨65, _⟩ => ⟨S160x32x32x32, .f32⟩
  | .hbm, ⟨66, _⟩ => ⟨S32x160x32x32, .f32⟩
  | .hbm, ⟨67, _⟩ => ⟨S32x4x32x32, .f32⟩
  | .hbm, ⟨68, _⟩ => ⟨S160x4x1x1, .f32⟩
  | .hbm, ⟨69, _⟩ => ⟨S160x4, .f32⟩
  | .hbm, ⟨70, _⟩ => ⟨S160x32x32x32, .f32⟩
  | .hbm, ⟨71, _⟩ => ⟨S32x160x32x32, .f32⟩
  | .hbm, ⟨72, _⟩ => ⟨S32x160x32x32, .f32⟩
  | .hbm, ⟨73, _⟩ => ⟨S32x4x32x32, .f32⟩
  | .hbm, ⟨74, _⟩ => ⟨S160x4x1x1, .f32⟩
  | .hbm, ⟨75, _⟩ => ⟨S160x4, .f32⟩
  | .hbm, ⟨76, _⟩ => ⟨S160x32x32x32, .f32⟩
  | .hbm, ⟨77, _⟩ => ⟨S32x160x32x32, .f32⟩
  | .hbm, ⟨78, _⟩ => ⟨S32x160x32x32, .f32⟩
  | .hbm, ⟨79, _⟩ => ⟨S1x160x1x1, .f32⟩
  | .hbm, ⟨80, _⟩ => ⟨S32x160x32x32, .f32⟩
  | .hbm, ⟨81, _⟩ => ⟨S32x160x32x32, .f32⟩
  | .hbm, ⟨82, _⟩ => ⟨S_, .f32⟩
  | .hbm, ⟨83, _⟩ => ⟨S32x160x33x32, .f32⟩
  | .hbm, ⟨84, _⟩ => ⟨S32x160x32x32, .f32⟩
  | .hbm, ⟨85, _⟩ => ⟨S_, .f32⟩
  | .hbm, ⟨86, _⟩ => ⟨S32x4x33x32, .f32⟩
  | .hbm, ⟨87, _⟩ => ⟨S32x4x32x32, .f32⟩
  | .hbm, ⟨88, _⟩ => ⟨S160x4x1x1, .f32⟩
  | .hbm, ⟨89, _⟩ => ⟨S160x4, .f32⟩
  | .hbm, ⟨90, _⟩ => ⟨S160x32x32x32, .f32⟩
  | .hbm, ⟨91, _⟩ => ⟨S32x160x32x32, .f32⟩
  | .hbm, ⟨92, _⟩ => ⟨S32x4x32x32, .f32⟩
  | .hbm, ⟨93, _⟩ => ⟨S160x4x1x1, .f32⟩
  | .hbm, ⟨94, _⟩ => ⟨S160x4, .f32⟩
  | .hbm, ⟨95, _⟩ => ⟨S160x32x32x32, .f32⟩
  | .hbm, ⟨96, _⟩ => ⟨S32x160x32x32, .f32⟩
  | .hbm, ⟨97, _⟩ => ⟨S32x160x32x32, .f32⟩
  | .hbm, ⟨98, _⟩ => ⟨S1x160x1x1, .f32⟩
  | .hbm, ⟨99, _⟩ => ⟨S32x160x32x32, .f32⟩
  | .hbm, ⟨100, _⟩ => ⟨S32x160x32x32, .f32⟩
  | .hbm, ⟨101, _⟩ => ⟨S_, .f32⟩
  | .hbm, ⟨102, _⟩ => ⟨S32x160x32x33, .f32⟩
  | .hbm, ⟨103, _⟩ => ⟨S32x160x32x32, .f32⟩
  | .hbm, ⟨104, _⟩ => ⟨S32x160x32x32, .f32⟩
  | .hbm, ⟨105, _⟩ => ⟨S4x8x160x32x32, .f32⟩
  | .hbm, ⟨106, _⟩ => ⟨S160x4x32x8x32, .f32⟩
  | .hbm, ⟨107, _⟩ => ⟨S160x32768, .f32⟩
  | .hbm, ⟨108, _⟩ => ⟨S160x32768, .bf16⟩
  | .hbm, ⟨109, _⟩ => ⟨S4x8x160x32x32, .f32⟩
  | .hbm, ⟨110, _⟩ => ⟨S160x4x32x8x32, .f32⟩
  | .hbm, ⟨111, _⟩ => ⟨S160x32768, .f32⟩
  | .hbm, ⟨112, _⟩ => ⟨S160x32768, .bf16⟩
  | _, _ => ⟨S32x3x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_3 : Ref sig .tc := ⟨.hbm, 57, rfl⟩
abbrev main_v46 : Ref sig .tc := ⟨.hbm, 58, rfl⟩
abbrev main_v47 : Ref sig .tc := ⟨.hbm, 59, rfl⟩
abbrev main_cst_4 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_cst_5 : Ref sig .tc := ⟨.hbm, 82, rfl⟩
abbrev main_v69 : Ref sig .tc := ⟨.hbm, 83, rfl⟩
abbrev main_v70 : Ref sig .tc := ⟨.hbm, 84, rfl⟩
abbrev main_cst_6 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_cst_7 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩

abbrev nD : Nat := 1
abbrev τ : Topo := Topo.v7x

variable {F : FTy → Type} [FloatOps F]
-- ==== Kernel3.lean ====
abbrev S160x32768 : Shape := ⟨2, ![160, 32768]⟩
abbrev S32x3x32x32 : Shape := ⟨4, ![32, 3, 32, 32]⟩
abbrev S100x160 : Shape := ⟨2, ![100, 160]⟩
abbrev S100 : Shape := ⟨1, ![100]⟩
abbrev S_ : Shape := ⟨0, ![]⟩
abbrev S4x8x3x32x32 : Shape := ⟨5, ![4, 8, 3, 32, 32]⟩
abbrev S3x4x32x8x32 : Shape := ⟨5, ![3, 4, 32, 8, 32]⟩
abbrev S3x32768 : Shape := ⟨2, ![3, 32768]⟩
abbrev S100x1 : Shape := ⟨2, ![100, 1]⟩
abbrev S4x1x128 : Shape := ⟨3, ![4, 1, 128]⟩
abbrev S160x8192 : Shape := ⟨2, ![160, 8192]⟩
abbrev S3x8192 : Shape := ⟨2, ![3, 8192]⟩
abbrev S1x1x128 : Shape := ⟨3, ![1, 1, 128]⟩
abbrev S100x8192 : Shape := ⟨2, ![100, 8192]⟩
abbrev S1x8192 : Shape := ⟨2, ![1, 8192]⟩
abbrev S10x8192 : Shape := ⟨2, ![10, 8192]⟩
abbrev S8192 : Shape := ⟨1, ![8192]⟩
abbrev S1 : Shape := ⟨1, ![1]⟩
abbrev S1x1 : Shape := ⟨2, ![1, 1]⟩
abbrev S1x1x1 : Shape := ⟨3, ![1, 1, 1]⟩
abbrev S4x1x1 : Shape := ⟨3, ![4, 1, 1]⟩
abbrev S4 : Shape := ⟨1, ![4]⟩

abbrev nBuf : Space → Nat
  | .hbm => 20
  | .vmem => 8
  | .smem => 0
  | _ => 0

abbrev bufTy : (tb : Table) → Fin (tcTables nBuf tb) → BufTy
  | .hbm, ⟨0, _⟩ => ⟨S160x32768, .bf16⟩
  | .hbm, ⟨1, _⟩ => ⟨S32x3x32x32, .f32⟩
  | .hbm, ⟨2, _⟩ => ⟨S100x160, .f32⟩
  | .hbm, ⟨3, _⟩ => ⟨S100, .f32⟩
  | .hbm, ⟨4, _⟩ => ⟨S_, .f32⟩
  | .hbm, ⟨5, _⟩ => ⟨S32x3x32x32, .f32⟩
  | .hbm, ⟨6, _⟩ => ⟨S32x3x32x32, .f32⟩
  | .hbm, ⟨7, _⟩ => ⟨S_, .f32⟩
  | .hbm, ⟨8, _⟩ => ⟨S32x3x32x32, .f32⟩
  | .hbm, ⟨9, _⟩ => ⟨S32x3x32x32, .f32⟩
  | .hbm, ⟨10, _⟩ => ⟨S4x8x3x32x32, .f32⟩
  | .hbm, ⟨11, _⟩ => ⟨S3x4x32x8x32, .f32⟩
  | .hbm, ⟨12, _⟩ => ⟨S3x32768, .f32⟩
  | .hbm, ⟨13, _⟩ => ⟨S100x160, .bf16⟩
  | .hbm, ⟨14, _⟩ => ⟨S100x1, .f32⟩
  | .hbm, ⟨15, _⟩ => ⟨S4x1x128, .f32⟩
  | .hbm, ⟨16, _⟩ => ⟨S4x1x1, .f32⟩
  | .hbm, ⟨17, _⟩ => ⟨S4, .f32⟩
  | .hbm, ⟨18, _⟩ => ⟨S_, .f32⟩
  | .hbm, ⟨19, _⟩ => ⟨S_, .f32⟩
  | .local _ .vmem, ⟨0, _⟩ => ⟨S160x8192, .bf16⟩
  | .local _ .vmem, ⟨1, _⟩ => ⟨S160x8192, .bf16⟩
  | .local _ .vmem, ⟨2, _⟩ => ⟨S3x8192, .f32⟩
  | .local _ .vmem, ⟨3, _⟩ => ⟨S3x8192, .f32⟩
  | .local _ .vmem, ⟨4, _⟩ => ⟨S100x160, .bf16⟩
  | .local _ .vmem, ⟨5, _⟩ => ⟨S100x1, .f32⟩
  | .local _ .vmem, ⟨6, _⟩ => ⟨S1x1x128, .f32⟩
  | .local _ .vmem, ⟨7, _⟩ => ⟨S1x1x128, .f32⟩
  | _, _ => ⟨S160x32768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S160x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S100x160 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S100x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S160x32768 : Shape := ⟨2, ![160, 32768]⟩
abbrev S32x3x32x32 : Shape := ⟨4, ![32, 3, 32, 32]⟩
abbrev S100x160 : Shape := ⟨2, ![100, 160]⟩
abbrev S100 : Shape := ⟨1, ![100]⟩
abbrev S_ : Shape := ⟨0, ![]⟩
abbrev S160x4x32x8x32 : Shape := ⟨5, ![160, 4, 32, 8, 32]⟩
abbrev S4x8x160x32x32 : Shape := ⟨5, ![4, 8, 160, 32, 32]⟩
abbrev S32x160x32x32 : Shape := ⟨4, ![32, 160, 32, 32]⟩
abbrev S100x32x32x32 : Shape := ⟨4, ![100, 32, 32, 32]⟩
abbrev S32x100x32x32 : Shape := ⟨4, ![32, 100, 32, 32]⟩
abbrev S1x100x1x1 : Shape := ⟨4, ![1, 100, 1, 1]⟩
abbrev S32x32x32x3 : Shape := ⟨4, ![32, 32, 32, 3]⟩
abbrev S32x32x32x100 : Shape := ⟨4, ![32, 32, 32, 100]⟩
abbrev S32x32x32x10 : Shape := ⟨4, ![32, 32, 32, 10]⟩
abbrev S32x32x32x90 : Shape := ⟨4, ![32, 32, 32, 90]⟩
abbrev S32x32x32x3x30 : Shape := ⟨5, ![32, 32, 32, 3, 30]⟩
abbrev S32x32x32x3x10 : Shape := ⟨5, ![32, 32, 32, 3, 10]⟩
abbrev S32x32x32x3x1 : Shape := ⟨5, ![32, 32, 32, 3, 1]⟩
abbrev S32x32x32x1x10 : Shape := ⟨5, ![32, 32, 32, 1, 10]⟩
abbrev S32x32x32x1x1 : Shape := ⟨5, ![32, 32, 32, 1, 1]⟩
abbrev S32x32x32x1 : Shape := ⟨4, ![32, 32, 32, 1]⟩
abbrev S32x32x32 : Shape := ⟨3, ![32, 32, 32]⟩

abbrev nBuf : Space → Nat
  | .hbm => 184
  | .vmem => 0
  | .smem => 0
  | _ => 0

abbrev hbmTy0_0 (i : Nat) : BufTy := match i % 128 with
  | 0 => ⟨S160x32768, .bf16⟩
  | 1 => ⟨S32x3x32x32, .f32⟩
  | 2 => ⟨S100x160, .f32⟩
  | 3 => ⟨S100, .f32⟩
  | 4 => ⟨S_, .f32⟩
  | 5 => ⟨S32x3x32x32, .f32⟩
  | 6 => ⟨S32x3x32x32, .f32⟩
  | 7 => ⟨S_, .f32⟩
  | 8 => ⟨S32x3x32x32, .f32⟩
  | 9 => ⟨S32x3x32x32, .f32⟩
  | 10 => ⟨S160x32768, .f32⟩
  | 11 => ⟨S160x4x32x8x32, .f32⟩
  | 12 => ⟨S4x8x160x32x32, .f32⟩
  | 13 => ⟨S32x160x32x32, .f32⟩
  | 14 => ⟨S_, .f32⟩
  | 15 => ⟨S32x160x32x32, .f32⟩
  | 16 => ⟨S32x160x32x32, .i1⟩
  | 17 => ⟨S32x160x32x32, .f32⟩
  | 18 => ⟨S32x160x32x32, .f32⟩
  | 19 => ⟨S100x32x32x32, .f32⟩
  | 20 => ⟨S32x100x32x32, .f32⟩
  | 21 => ⟨S1x100x1x1, .f32⟩
  | 22 => ⟨S32x100x32x32, .f32⟩
  | 23 => ⟨S32x100x32x32, .f32⟩
  | 24 => ⟨S32x32x32x3, .f32⟩
  | 25 => ⟨S32x32x32x100, .f32⟩
  | 26 => ⟨S32x32x32x10, .f32⟩
  | 27 => ⟨S32x32x32x90, .f32⟩
  | 28 => ⟨S32x32x32x3x30, .f32⟩
  | 29 => ⟨S32x32x32x3x10, .f32⟩
  | 30 => ⟨S32x32x32x3x10, .f32⟩
  | 31 => ⟨S_, .f32⟩
  | 32 => ⟨S32x32x32x3x10, .f32⟩
  | 33 => ⟨S32x32x32x3x10, .f32⟩
  | 34 => ⟨S32x32x32x3x10, .f32⟩
  | 35 => ⟨S32x32x32x3x10, .f32⟩
  | 36 => ⟨S32x32x32x3x1, .f32⟩
  | 37 => ⟨S32x32x32x1x10, .f32⟩
  | 38 => ⟨S32x32x32x10, .f32⟩
  | 39 => ⟨S32x32x32x1x10, .f32⟩
  | 40 => ⟨S32x32x32x10, .f32⟩
  | 41 => ⟨S32x32x32x1x10, .f32⟩
  | 42 => ⟨S32x32x32x10, .f32⟩
  | 43 => ⟨S32x32x32x1x1, .f32⟩
  | 44 => ⟨S32x32x32x1, .f32⟩
  | 45 => ⟨S32x32x32x10, .f32⟩
  | 46 => ⟨S32x32x32x10, .f32⟩
  | 47 => ⟨S32x32x32x10, .f32⟩
  | 48 => ⟨S32x32x32x1x10, .f32⟩
  | 49 => ⟨S32x32x32x10, .f32⟩
  | 50 => ⟨S32x32x32x1x10, .f32⟩
  | 51 => ⟨S32x32x32x10, .f32⟩
  | 52 => ⟨S32x32x32x1x1, .f32⟩
  | 53 => ⟨S32x32x32x1, .f32⟩
  | 54 => ⟨S32x32x32x10, .f32⟩
  | 55 => ⟨S32x32x32x10, .f32⟩
  | 56 => ⟨S32x32x32x10, .f32⟩
  | 57 => ⟨S32x32x32x1x10, .f32⟩
  | 58 => ⟨S32x32x32x10, .f32⟩
  | 59 => ⟨S32x32x32x1x1, .f32⟩
  | 60 => ⟨S32x32x32x1, .f32⟩
  | 61 => ⟨S32x32x32x10, .f32⟩
  | 62 => ⟨S32x32x32x10, .f32⟩
  | 63 => ⟨S32x32x32x10, .f32⟩
  | 64 => ⟨S32x32x32x1x10, .f32⟩
  | 65 => ⟨S32x32x32x1x10, .f32⟩
  | 66 => ⟨S32x32x32x1x10, .f32⟩
  | 67 => ⟨S32x32x32x3x10, .f32⟩
  | 68 => ⟨S32x32x32x3x10, .f32⟩
  | 69 => ⟨S32x32x32x3x10, .f32⟩
  | 70 => ⟨S32x32x32x3x10, .f32⟩
  | 71 => ⟨S32x32x32x3x10, .f32⟩
  | 72 => ⟨S_, .f32⟩
  | 73 => ⟨S32x32x32x3x10, .f32⟩
  | 74 => ⟨S32x32x32x3x10, .f32⟩
  | 75 => ⟨S32x32x32x3x10, .f32⟩
  | 76 => ⟨S_, .f32⟩
  | 77 => ⟨S32x32x32x3x10, .f32⟩
  | 78 => ⟨S32x32x32x3x10, .f32⟩
  | 79 => ⟨S32x32x32x3x10, .f32⟩
  | 80 => ⟨S32x32x32x3x10, .f32⟩
  | 81 => ⟨S32x32x32x3x10, .f32⟩
  | 82 => ⟨S_, .f32⟩
  | 83 => ⟨S32x32x32x3x10, .f32⟩
  | 84 => ⟨S32x32x32x3x10, .f32⟩
  | 85 => ⟨S_, .f32⟩
  | 86 => ⟨S32x32x32x3x10, .f32⟩
  | 87 => ⟨S32x32x32x3x10, .f32⟩
  | 88 => ⟨S32x32x32x3x10, .f32⟩
  | 89 => ⟨S32x32x32x3x10, .f32⟩
  | 90 => ⟨S_, .f32⟩
  | 91 => ⟨S32x32x32x3x10, .f32⟩
  | 92 => ⟨S32x32x32x3x10, .f32⟩
  | 93 => ⟨S_, .f32⟩
  | 94 => ⟨S32x32x32x3x10, .f32⟩
  | 95 => ⟨S32x32x32x3x10, .f32⟩
  | 96 => ⟨S32x32x32x3x10, .f32⟩
  | 97 => ⟨S_, .f32⟩
  | 98 => ⟨S32x32x32x3x10, .f32⟩
  | 99 => ⟨S32x32x32x3x10, .f32⟩
  | 100 => ⟨S32x32x32x3x10, .f32⟩
  | 101 => ⟨S32x32x32x3x10, .f32⟩
  | 102 => ⟨S32x32x32x3x10, .f32⟩
  | 103 => ⟨S32x32x32x3x10, .f32⟩
  | 104 => ⟨S32x32x32x3x10, .f32⟩
  | 105 => ⟨S32x32x32x3x10, .f32⟩
  | 106 => ⟨S_, .f32⟩
  | 107 => ⟨S32x32x32x3x10, .f32⟩
  | 108 => ⟨S32x32x32x3x10, .f32⟩
  | 109 => ⟨S32x32x32x3x10, .f32⟩
  | 110 => ⟨S32x32x32x3x10, .f32⟩
  | 111 => ⟨S32x32x32x3x10, .f32⟩
  | 112 => ⟨S32x32x32x3x10, .f32⟩
  | 113 => ⟨S32x32x32x3x10, .f32⟩
  | 114 => ⟨S32x32x32x3x10, .f32⟩
  | 115 => ⟨S32x32x32x3x10, .f32⟩
  | 116 => ⟨S32x32x32x3x10, .f32⟩
  | 117 => ⟨S_, .f32⟩
  | 118 => ⟨S32x32x32x3x10, .f32⟩
  | 119 => ⟨S32x32x32x3x10, .f32⟩
  | 120 => ⟨S32x32x32x3x10, .f32⟩
  | 121 => ⟨S32x32x32x3x10, .f32⟩
  | 122 => ⟨S32x32x32x3x10, .f32⟩
  | 123 => ⟨S32x32x32x3x10, .f32⟩
  | 124 => ⟨S32x32x32x3x10, .f32⟩
  | 125 => ⟨S_, .f32⟩
  | 126 => ⟨S32x32x32x3x10, .f32⟩
  | 127 => ⟨S32x32x32x3x10, .f32⟩
  | _ => ⟨S160x32768, .bf16⟩

abbrev hbmTy0_1 (i : Nat) : BufTy := match i % 128 with
  | 0 => ⟨S32x32x32x3x10, .f32⟩
  | 1 => ⟨S_, .f32⟩
  | 2 => ⟨S32x32x32x3x1, .f32⟩
  | 3 => ⟨S32x32x32x3x1, .i1⟩
  | 4 => ⟨S_, .f32⟩
  | 5 => ⟨S32x32x32x3x1, .f32⟩
  | 6 => ⟨S32x32x32x3x1, .i1⟩
  | 7 => ⟨S_, .f32⟩
  | 8 => ⟨S32x32x32x3x10, .f32⟩
  | 9 => ⟨S32x32x32x3x10, .i1⟩
  | 10 => ⟨S_, .f32⟩
  | 11 => ⟨S32x32x32x3x10, .f32⟩
  | 12 => ⟨S32x32x32x3x10, .f32⟩
  | 13 => ⟨S32x32x32x3x10, .f32⟩
  | 14 => ⟨S_, .f32⟩
  | 15 => ⟨S32x32x32x3x10, .f32⟩
  | 16 => ⟨S32x32x32x3x10, .f32⟩
  | 17 => ⟨S32x32x32x3x10, .f32⟩
  | 18 => ⟨S32x32x32x3x10, .i1⟩
  | 19 => ⟨S32x32x32x3x10, .f32⟩
  | 20 => ⟨S32x32x32x3x10, .i1⟩
  | 21 => ⟨S32x32x32x3x10, .f32⟩
  | 22 => ⟨S_, .f32⟩
  | 23 => ⟨S32x32x32x10, .f32⟩
  | 24 => ⟨S_, .f32⟩
  | 25 => ⟨S32x32x32, .f32⟩
  | 26 => ⟨S_, .f32⟩
  | 27 => ⟨S32x32x32, .f32⟩
  | 28 => ⟨S32x32x32, .f32⟩
  | 29 => ⟨S32x32x32x1, .f32⟩
  | 30 => ⟨S32x32x32x10, .f32⟩
  | 31 => ⟨S32x32x32x10, .f32⟩
  | 32 => ⟨S32x32x32x10, .f32⟩
  | 33 => ⟨S_, .f32⟩
  | 34 => ⟨S32x32x32, .f32⟩
  | 35 => ⟨S32x32x32x1, .f32⟩
  | 36 => ⟨S32x32x32x1, .f32⟩
  | 37 => ⟨S32x32x32x10, .f32⟩
  | 38 => ⟨S32x32x32x10, .f32⟩
  | 39 => ⟨S32x32x32x10, .f32⟩
  | 40 => ⟨S_, .f32⟩
  | 41 => ⟨S32x32x32, .f32⟩
  | 42 => ⟨S32x32x32x1, .f32⟩
  | 43 => ⟨S32x32x32x10, .f32⟩
  | 44 => ⟨S32x32x32x10, .f32⟩
  | 45 => ⟨S32x32x32x10, .f32⟩
  | 46 => ⟨S_, .f32⟩
  | 47 => ⟨S32x32x32, .f32⟩
  | 48 => ⟨S32x32x32x1, .f32⟩
  | 49 => ⟨S32x32x32x1, .f32⟩
  | 50 => ⟨S32x32x32x1, .f32⟩
  | 51 => ⟨S32x32x32, .f32⟩
  | 52 => ⟨S_, .f32⟩
  | 53 => ⟨S_, .f32⟩
  | 54 => ⟨S_, .f32⟩
  | 55 => ⟨S_, .f32⟩
  | _ => ⟨S160x32768, .bf16⟩

abbrev hbmTy (i : Nat) : BufTy := match i / 128 with
  | 0 => hbmTy0_0 i
  | 1 => hbmTy0_1 i
  | _ => ⟨S160x32768, .bf16⟩

abbrev bufTy : (tb : Table) → Fin (tcTables nBuf tb) → BufTy
  | .hbm, ⟨i, _⟩ => hbmTy i
  | _, _ => ⟨S160x32768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_cst_3 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_cst_4 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_cst_5 : Ref sig .tc := ⟨.hbm, 82, rfl⟩
abbrev main_v72 : Ref sig .tc := ⟨.hbm, 83, rfl⟩
abbrev main_v73 : Ref sig .tc := ⟨.hbm, 84, rfl⟩
abbrev main_cst_6 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_cst_7 : Ref sig .tc := ⟨.hbm, 90, rfl⟩
abbrev main_v78 : Ref sig .tc := ⟨.hbm, 91, rfl⟩
abbrev main_v79 : Ref sig .tc := ⟨.hbm, 92, rfl⟩
abbrev main_cst_8 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_cst_9 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_cst_10 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_cst_11 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_cst_12 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_cst_13 : Ref sig .tc := ⟨.hbm, 129, rfl⟩
abbrev main_v111 : Ref sig .tc := ⟨.hbm, 130, rfl⟩
abbrev main_v112 : Ref sig .tc := ⟨.hbm, 131, rfl⟩
abbrev main_cst_14 : Ref sig .tc := ⟨.hbm, 132, rfl⟩
abbrev main_v113 : Ref sig .tc := ⟨.hbm, 133, rfl⟩
abbrev main_v114 : Ref sig .tc := ⟨.hbm, 134, rfl⟩
abbrev main_cst_15 : Ref sig .tc := ⟨.hbm, 135, rfl⟩
abbrev main_v115 : Ref sig .tc := ⟨.hbm, 136, rfl⟩
abbrev main_v116 : Ref sig .tc := ⟨.hbm, 137, rfl⟩
abbrev main_cst_16 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_cst_17 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_call1_v0 : Ref sig .tc := ⟨.hbm, 146, rfl⟩
abbrev main_v123 : Ref sig .tc := ⟨.hbm, 147, rfl⟩
abbrev main_call2_v0 : Ref sig .tc := ⟨.hbm, 148, rfl⟩
abbrev main_v124 : Ref sig .tc := ⟨.hbm, 149, rfl⟩
abbrev main_cst_18 : Ref sig .tc := ⟨.hbm, 150, rfl⟩
abbrev main_v125 : Ref sig .tc := ⟨.hbm, 151, rfl⟩
abbrev main_call3_cst : Ref sig .tc := ⟨.hbm, 152, rfl⟩
abbrev main_call3_v0 : Ref sig .tc := ⟨.hbm, 153, rfl⟩
abbrev main_call3_cst_0 : Ref sig .tc := ⟨.hbm, 154, rfl⟩
abbrev main_call3_v1 : Ref sig .tc := ⟨.hbm, 155, rfl⟩
abbrev main_call3_v2 : Ref sig .tc := ⟨.hbm, 156, rfl⟩
abbrev main_call3_v3 : Ref sig .tc := ⟨.hbm, 157, rfl⟩
abbrev main_call3_v4 : Ref sig .tc := ⟨.hbm, 158, rfl⟩
abbrev main_call3_v5 : Ref sig .tc := ⟨.hbm, 159, rfl⟩
abbrev main_call3_v6 : Ref sig .tc := ⟨.hbm, 160, rfl⟩
abbrev main_call3_cst_1 : Ref sig .tc := ⟨.hbm, 161, rfl⟩
abbrev main_call3_v7 : Ref sig .tc := ⟨.hbm, 162, rfl⟩
abbrev main_call3_v8 : Ref sig .tc := ⟨.hbm, 163, rfl⟩
abbrev main_call3_v9 : Ref sig .tc := ⟨.hbm, 164, rfl⟩
abbrev main_call3_v10 : Ref sig .tc := ⟨.hbm, 165, rfl⟩
abbrev main_v126 : Ref sig .tc := ⟨.hbm, 166, rfl⟩
abbrev main_v127 : Ref sig .tc := ⟨.hbm, 167, rfl⟩
abbrev main_cst_19 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_cst_20 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_cst_21 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩

abbrev nD : Nat := 1
abbrev τ : Topo := Topo.v7x

variable {F : FTy → Type} [FloatOps F]
-- ==== Proof.Spec.lean ====
/- The mathematics of one gated resnet block, free of either program: images (image, channel, row, column) on the one
   side, one block of columns (channel, column) on the other, and that every step of a block keeps the two alike. -/
module

public import Idealize.ShloMosaic.Lib.Pointwise

@[expose] public section

noncomputable section

open Idealize.ShloMosaic

namespace Cert.Spec

/-- One block of columns: column `row * 256 + image * 32 + column` of each channel. -/
abbrev Cols (C : ℕ) := Fin C → Fin 8192 → EReal
/-- The images: image, channel, row, column. -/
abbrev Imgs (C : ℕ) := Fin 32 → Fin C → Fin 32 → Fin 32 → EReal

/-- The image that column `n` of block `t` belongs to. -/
def img (t : Fin 4) (n : Fin 8192) : Fin 32 := ⟨8 * t.val + n.val / 32 % 8, by omega⟩
/-- The row of column `n`. -/
def row (n : Fin 8192) : Fin 32 := ⟨n.val / 256, by omega⟩
/-- The column, within its row, of column `n`. -/
def col (n : Fin 8192) : Fin 32 := ⟨n.val % 32, by omega⟩

/-- Block `t` of the columns holds the images' values. -/
def Same {C : ℕ} (t : Fin 4) (K : Cols C) (X : Imgs C) : Prop := ∀ c n, K c n = X (img t n) c (row n) (col n)

/-! ## The shifted reads -/

/-- The image read at row `y - 1` and column `x - 1`, zero outside. -/
def tap {C : ℕ} (X : Imgs C) (b : Fin 32) (i : Fin C) (y x : ℕ) : EReal :=
  if h : 1 ≤ y ∧ y ≤ 32 ∧ 1 ≤ x ∧ x ≤ 32 then X b i ⟨y - 1, by omega⟩ ⟨x - 1, by omega⟩ else 0

/-- The columns one to the left, zero at the left edge. -/
def left {C : ℕ} (K : Cols C) : Cols C := fun c n =>
  if 1 ≤ n.val % 32 then K c ⟨(n.val + 8192 - 1) % 8192, Nat.mod_lt _ (by decide)⟩ else 0
/-- The columns one to the right, zero at the right edge. -/
def right {C : ℕ} (K : Cols C) : Cols C := fun c n =>
  if n.val % 32 ≤ 30 then K c ⟨(n.val + 8192 - 8191) % 8192, Nat.mod_lt _ (by decide)⟩ else 0
/-- The row above, zero in the first row. -/
def top {C : ℕ} (K : Cols C) : Cols C := fun c n =>
  if h : n.val < 256 then 0 else K c ⟨n.val - 256, by omega⟩

section Taps
variable {C : ℕ} {t : Fin 4} {K : Cols C} {X : Imgs C}

theorem Same.at (h : Same t K X) (c : Fin C) (n : Fin 8192) {b : Fin 32} {y x : Fin 32}
    (hb : b.val = 8 * t.val + n.val / 32 % 8) (hy : y.val = n.val / 256) (hx : x.val = n.val % 32) : K c n = X b c y x := by
  rw [h c n]
  have e1 : img t n = b := Fin.ext hb.symm
  have e2 : row n = y := Fin.ext hy.symm
  have e3 : col n = x := Fin.ext hx.symm
  rw [e1, e2, e3]

theorem tap_cur (h : Same t K X) (c : Fin C) (n : Fin 8192) : tap X (img t n) c ((row n).val + 1) ((col n).val + 1) = K c n := by
  unfold tap
  rw [dif_pos (by have := (row n).isLt; have := (col n).isLt; omega)]
  exact (h c n).symm
theorem tap_left (h : Same t K X) (c : Fin C) (n : Fin 8192) : tap X (img t n) c ((row n).val + 1) ((col n).val + 0) = left K c n := by
  unfold tap left
  have hn := n.isLt
  by_cases h1 : 1 ≤ n.val % 32
  · rw [if_pos h1, dif_pos (by simp only [row, col]; omega)]
    refine (h.at c _ ?_ ?_ ?_).symm <;> simp only [row, col, img] <;> omega
  · rw [if_neg h1, dif_neg (by simp only [row, col]; omega)]
theorem tap_right (h : Same t K X) (c : Fin C) (n : Fin 8192) : tap X (img t n) c ((row n).val + 1) ((col n).val + 2) = right K c n := by
  unfold tap right
  have hn := n.isLt
  by_cases h1 : n.val % 32 ≤ 30
  · rw [if_pos h1, dif_pos (by simp only [row, col]; omega)]
    refine (h.at c _ ?_ ?_ ?_).symm <;> simp only [row, col, img] <;> omega
  · rw [if_neg h1, dif_neg (by simp only [row, col]; omega)]
/-- The row above is the read one row up, whatever is read. -/
theorem tap_top {V : Cols C} {x : ℕ} (c : Fin C) (hV : ∀ n, tap X (img t n) c ((row n).val + 1) ((col n).val + x) = V c n) (n : Fin 8192) :
    tap X (img t n) c ((row n).val + 0) ((col n).val + x) = top V c n := by
  unfold top
  have hn := n.isLt
  by_cases h1 : n.val < 256
  · rw [dif_pos h1]; unfold tap; rw [dif_neg (by simp only [row, col]; omega)]
  · rw [dif_neg h1, ← hV]
    have e1 : img t ⟨n.val - 256, by omega⟩ = img t n := Fin.ext (by simp only [img]; omega)
    have e2 : (row ⟨n.val - 256, by omega⟩).val + 1 = (row n).val + 0 := by simp only [row]; omega
    have e3 : col ⟨n.val - 256, by omega⟩ = col n := Fin.ext (by simp only [col]; omega)
    rw [e1, e2, e3]
end Taps

/-! ## The concatenated exponential linear unit -/

/-- The exponential linear unit. -/
def elu (z : EReal) : EReal := if 0 < z then z else Ideal.exp z - 1

/-- The unit of the channels, then of their negations. -/
def celu (K : Cols 160) : Cols 320 := fun c n =>
  elu (if h : c.val < 160 then K ⟨c.val, h⟩ n else - K ⟨c.val - 160, by omega⟩ n)
/-- The same over images. -/
def celuI (X : Imgs 160) : Imgs 320 := fun b c y x =>
  elu (if h : c.val < 160 then X b ⟨c.val, h⟩ y x else - X b ⟨c.val - 160, by omega⟩ y x)

theorem celu_same {t : Fin 4} {K : Cols 160} {X : Imgs 160} (h : Same t K X) : Same t (celu K) (celuI X) := by
  intro c n
  unfold celu celuI
  by_cases hc : c.val < 160
  · rw [dif_pos hc, dif_pos hc, h]
  · rw [dif_neg hc, dif_neg hc, h]

/-! ## The convolutions -/

/-- A kernel's weight row, six taps of 320 channels each. -/
def conv6 {O : ℕ} (W : Fin O → Fin 1920 → EReal) (K : Cols 320) : Cols O := fun o n =>
  (∑ i : Fin 320, W o ⟨i.val, by omega⟩ * top (left K) i n)
  + ((∑ i : Fin 320, W o ⟨320 + i.val, by omega⟩ * left K i n)
  + ((∑ i : Fin 320, W o ⟨640 + i.val, by omega⟩ * top K i n)
  + ((∑ i : Fin 320, W o ⟨960 + i.val, by omega⟩ * K i n)
  + ((∑ i : Fin 320, W o ⟨1280 + i.val, by omega⟩ * top (right K) i n)
  + (∑ i : Fin 320, W o ⟨1600 + i.val, by omega⟩ * right K i n)))))
/-- Four taps of 320 channels each. -/
def conv4 {O M : ℕ} (hM : 1280 ≤ M) (W : Fin O → Fin M → EReal) (K : Cols 320) (rest : Fin O → Fin 8192 → EReal) : Cols O := fun o n =>
  (∑ i : Fin 320, W o ⟨i.val, by omega⟩ * top (left K) i n)
  + ((∑ i : Fin 320, W o ⟨320 + i.val, by omega⟩ * left K i n)
  + ((∑ i : Fin 320, W o ⟨640 + i.val, by omega⟩ * top K i n)
  + ((∑ i : Fin 320, W o ⟨960 + i.val, by omega⟩ * K i n) + rest o n)))

/-- One tap of a convolution over images. -/
def tapSum {C : ℕ} (w : Fin C → EReal) (X : Imgs C) (b : Fin 32) (y x : ℕ) : EReal := ∑ i, w i * tap X b i y x

/-- The down-shifted convolution of two rows and three columns. -/
def convI6 {O C : ℕ} (w : Fin O → Fin C → Fin 2 → Fin 3 → EReal) (X : Imgs C) : Imgs O := fun b o y x =>
  tapSum (fun i => w o i 0 0) X b (y.val + 0) (x.val + 0)
  + tapSum (fun i => w o i 0 1) X b (y.val + 0) (x.val + 1)
  + tapSum (fun i => w o i 0 2) X b (y.val + 0) (x.val + 2)
  + tapSum (fun i => w o i 1 0) X b (y.val + 1) (x.val + 0)
  + tapSum (fun i => w o i 1 1) X b (y.val + 1) (x.val + 1)
  + tapSum (fun i => w o i 1 2) X b (y.val + 1) (x.val + 2)
/-- The down-right-shifted convolution of two rows and two columns. -/
def convI4 {O : ℕ} (w : Fin O → Fin 320 → Fin 2 → Fin 2 → EReal) (X : Imgs 320) : Imgs O := fun b o y x =>
  tapSum (fun i => w o i 0 0) X b (y.val + 0) (x.val + 0)
  + tapSum (fun i => w o i 0 1) X b (y.val + 0) (x.val + 1)
  + tapSum (fun i => w o i 1 0) X b (y.val + 1) (x.val + 0)
  + tapSum (fun i => w o i 1 1) X b (y.val + 1) (x.val + 1)

/-- The natural weights, stacked column tap first, then row tap, then channel. -/
def stack6 {O : ℕ} (w : Fin O → Fin 320 → Fin 2 → Fin 3 → EReal) : Fin O → Fin 1920 → EReal := fun o k =>
  w o ⟨k.val % 320, Nat.mod_lt _ (by decide)⟩ ⟨k.val / 320 % 2, Nat.mod_lt _ (by decide)⟩ ⟨k.val / 640, by omega⟩
/-- The same for four taps. -/
def stack4 {O : ℕ} (w : Fin O → Fin 320 → Fin 2 → Fin 2 → EReal) : Fin O → Fin 1280 → EReal := fun o k =>
  w o ⟨k.val % 320, Nat.mod_lt _ (by decide)⟩ ⟨k.val / 320 % 2, Nat.mod_lt _ (by decide)⟩ ⟨k.val / 640, by omega⟩

section Stack
variable {O : ℕ} (o : Fin O) (i : Fin 320)
theorem stack6_at (w : Fin O → Fin 320 → Fin 2 → Fin 3 → EReal) (k : ℕ) (hk : k < 1920) (dy : Fin 2) (dx : Fin 3)
    (e : k = (dx.val * 2 + dy.val) * 320 + i.val) : stack6 w o ⟨k, hk⟩ = w o i dy dx := by
  have := i.isLt; have := dy.isLt; have := dx.isLt
  unfold stack6
  have e1 : (⟨k % 320, Nat.mod_lt _ (by decide)⟩ : Fin 320) = i := Fin.ext (by dsimp only; omega)
  have e2 : (⟨k / 320 % 2, Nat.mod_lt _ (by decide)⟩ : Fin 2) = dy := Fin.ext (by dsimp only; omega)
  have e3 : (⟨k / 640, by omega⟩ : Fin 3) = dx := Fin.ext (by dsimp only; omega)
  dsimp only
  rw [e1, e2, e3]
theorem stack4_at (w : Fin O → Fin 320 → Fin 2 → Fin 2 → EReal) (k : ℕ) (hk : k < 1280) (dy : Fin 2) (dx : Fin 2)
    (e : k = (dx.val * 2 + dy.val) * 320 + i.val) : stack4 w o ⟨k, hk⟩ = w o i dy dx := by
  have := i.isLt; have := dy.isLt; have := dx.isLt
  unfold stack4
  have e1 : (⟨k % 320, Nat.mod_lt _ (by decide)⟩ : Fin 320) = i := Fin.ext (by dsimp only; omega)
  have e2 : (⟨k / 320 % 2, Nat.mod_lt _ (by decide)⟩ : Fin 2) = dy := Fin.ext (by dsimp only; omega)
  have e3 : (⟨k / 640, by omega⟩ : Fin 2) = dx := Fin.ext (by dsimp only; omega)
  dsimp only
  rw [e1, e2, e3]
end Stack

theorem conv6_same {O : ℕ} {t : Fin 4} {K : Cols 320} {X : Imgs 320} (w : Fin O → Fin 320 → Fin 2 → Fin 3 → EReal) (h : Same t K X) :
    Same t (conv6 (stack6 w) K) (convI6 w X) := by
  intro o n
  unfold conv6 convI6 tapSum
  simp only [tap_cur h, tap_left h, tap_right h, tap_top (x := 0) _ (tap_left h _), tap_top (x := 1) _ (tap_cur h _), tap_top (x := 2) _ (tap_right h _)]
  simp only [fun i : Fin 320 => stack6_at o i w i.val (by omega) 0 0 (by simp), fun i : Fin 320 => stack6_at o i w (320 + i.val) (by omega) 1 0 (by simp),
    fun i : Fin 320 => stack6_at o i w (640 + i.val) (by omega) 0 1 (by simp), fun i : Fin 320 => stack6_at o i w (960 + i.val) (by omega) 1 1 (by simp),
    fun i : Fin 320 => stack6_at o i w (1280 + i.val) (by omega) 0 2 (by simp), fun i : Fin 320 => stack6_at o i w (1600 + i.val) (by omega) 1 2 (by simp)]
  ac_rfl

theorem conv4_same {O M : ℕ} {t : Fin 4} {K : Cols 320} {X : Imgs 320} {R : Cols O} {RI : Imgs O} (hM : 1280 ≤ M) (W : Fin O → Fin M → EReal)
    (w : Fin O → Fin 320 → Fin 2 → Fin 2 → EReal) (hW : ∀ o (k : Fin 1280), W o ⟨k.val, by omega⟩ = stack4 w o k) (h : Same t K X) (hR : Same t R RI) :
    Same t (conv4 hM W K R) (fun b o y x => convI4 w X b o y x + RI b o y x) := by
  intro o n
  unfold conv4 convI4 tapSum
  simp only [tap_cur h, tap_left h, tap_top (x := 0) _ (tap_left h _), tap_top (x := 1) _ (tap_cur h _), hR o n]
  have e0 : ∀ i : Fin 320, W o ⟨i.val, by omega⟩ = w o i 0 0 := fun i => (hW o ⟨i.val, by omega⟩).trans (stack4_at o i w i.val (by omega) 0 0 (by simp))
  have e1 : ∀ i : Fin 320, W o ⟨320 + i.val, by omega⟩ = w o i 1 0 := fun i => (hW o ⟨320 + i.val, by omega⟩).trans (stack4_at o i w (320 + i.val) (by omega) 1 0 (by simp))
  have e2 : ∀ i : Fin 320, W o ⟨640 + i.val, by omega⟩ = w o i 0 1 := fun i => (hW o ⟨640 + i.val, by omega⟩).trans (stack4_at o i w (640 + i.val) (by omega) 0 1 (by simp))
  have e3 : ∀ i : Fin 320, W o ⟨960 + i.val, by omega⟩ = w o i 1 1 := fun i => (hW o ⟨960 + i.val, by omega⟩).trans (stack4_at o i w (960 + i.val) (by omega) 1 1 (by simp))
  simp only [e0, e1, e2, e3]
  ac_rfl

/-! ## A sum over a contraction, cut into its taps -/

theorem sum_parts2 {N M : ℕ} (K : ℕ) (hK : K = N + M) (f : Fin K → EReal) :
    ∑ k, f k = (∑ i : Fin N, f ⟨i.val, by omega⟩) + ∑ i : Fin M, f ⟨N + i.val, by omega⟩ := by
  subst hK
  exact Fin.sum_univ_add f

theorem sum_parts4 (f : Fin 1280 → EReal) :
    ∑ k, f k = (∑ i : Fin 320, f ⟨i.val, by omega⟩) + ((∑ i : Fin 320, f ⟨320 + i.val, by omega⟩)
      + ((∑ i : Fin 320, f ⟨640 + i.val, by omega⟩) + ∑ i : Fin 320, f ⟨960 + i.val, by omega⟩)) := by
  rw [sum_parts2 (N := 320) (M := 960) 1280 rfl, sum_parts2 (N := 320) (M := 640) 960 rfl, sum_parts2 (N := 320) (M := 320) 640 rfl]
  simp only [← Nat.add_assoc, Nat.reduceAdd]

theorem sum_parts5 (f : Fin 1600 → EReal) :
    ∑ k, f k = (∑ i : Fin 320, f ⟨i.val, by omega⟩) + ((∑ i : Fin 320, f ⟨320 + i.val, by omega⟩)
      + ((∑ i : Fin 320, f ⟨640 + i.val, by omega⟩) + ((∑ i : Fin 320, f ⟨960 + i.val, by omega⟩) + ∑ i : Fin 320, f ⟨1280 + i.val, by omega⟩))) := by
  rw [sum_parts2 (N := 320) (M := 1280) 1600 rfl, sum_parts4]
  simp only [← Nat.add_assoc, Nat.reduceAdd]

theorem sum_parts6 (f : Fin 1920 → EReal) :
    ∑ k, f k = (∑ i : Fin 320, f ⟨i.val, by omega⟩) + ((∑ i : Fin 320, f ⟨320 + i.val, by omega⟩)
      + ((∑ i : Fin 320, f ⟨640 + i.val, by omega⟩) + ((∑ i : Fin 320, f ⟨960 + i.val, by omega⟩)
      + ((∑ i : Fin 320, f ⟨1280 + i.val, by omega⟩) + ∑ i : Fin 320, f ⟨1600 + i.val, by omega⟩)))) := by
  rw [sum_parts2 (N := 320) (M := 1600) 1920 rfl, sum_parts5]
  simp only [← Nat.add_assoc, Nat.reduceAdd]

/-! ## A positive scale on the weights, undone after the sum -/

theorem sum_scale {N : ℕ} (f g : Fin N → EReal) (a : EReal) (h0 : 0 ≤ a) (ht : a ≠ ⊤) :
    ∑ i, (f i * a) * g i = a * ∑ i, f i * g i := by
  induction N with
  | zero => simp
  | succ N ih =>
    rw [Fin.sum_univ_succ, Fin.sum_univ_succ, ih (fun i => f i.succ) (fun i => g i.succ), EReal.left_distrib_of_nonneg_of_ne_top h0 ht]
    congr 1
    ac_rfl

theorem conv6_scale {O : ℕ} (W : Fin O → Fin 1920 → EReal) (K : Cols 320) (a b : EReal) (h0 : 0 ≤ a) (ht : a ≠ ⊤) (hab : a * b = 1)
    (o : Fin O) (n : Fin 8192) : conv6 (fun o k => W o k * a) K o n * b = conv6 W K o n := by
  unfold conv6
  simp only [sum_scale _ _ a h0 ht, ← EReal.left_distrib_of_nonneg_of_ne_top h0 ht]
  rw [mul_comm a, mul_assoc, hab, mul_one]

/-! ## The block -/

/-- The sigmoid. -/
def sigm (z : EReal) : EReal := Ideal.div 1 (1 + Ideal.exp (-z))

/-- The gate: the state plus the first half of the channels times the sigmoid of the second. -/
def gate (u : Cols 160) (c : Cols 320) : Cols 160 := fun o n =>
  u o n + c ⟨o.val, by omega⟩ n * sigm (c ⟨160 + o.val, by omega⟩ n)
/-- The same over images. -/
def gateI (u : Imgs 160) (c : Imgs 320) : Imgs 160 := fun b o y x =>
  u b o y x + c b ⟨o.val, by omega⟩ y x * sigm (c b ⟨160 + o.val, by omega⟩ y x)

theorem gate_same {t : Fin 4} {u : Cols 160} {c : Cols 320} {U : Imgs 160} {C : Imgs 320} (hu : Same t u U) (hc : Same t c C) :
    Same t (gate u c) (gateI U C) := fun o n => by unfold gate gateI; rw [hu, hc, hc]

/-- One block's weights. -/
structure Weights where
  u1w : Fin 160 → Fin 320 → Fin 2 → Fin 3 → EReal
  u1b : Fin 160 → EReal
  u2w : Fin 320 → Fin 320 → Fin 2 → Fin 3 → EReal
  u2b : Fin 320 → EReal
  l1w : Fin 160 → Fin 320 → Fin 2 → Fin 2 → EReal
  l1b : Fin 160 → EReal
  nw : Fin 160 → Fin 320 → EReal
  nb : Fin 160 → EReal
  l2w : Fin 320 → Fin 320 → Fin 2 → Fin 2 → EReal
  l2b : Fin 320 → EReal

/-- The next upper state over images. -/
def nextU (w : Weights) (U : Imgs 160) : Imgs 160 :=
  gateI U fun b o y x => convI6 w.u2w (celuI fun b o y x => convI6 w.u1w (celuI U) b o y x + w.u1b o) b o y x + w.u2b o
/-- The first convolution of the lower stack, with the upper stack's contribution. -/
def lower1 (w : Weights) (U L : Imgs 160) : Imgs 160 := fun b o y x =>
  (convI4 w.l1w (celuI L) b o y x + w.l1b o) + ((∑ i, w.nw o i * celuI U b i y x) + w.nb o)
/-- The next lower state over images, from the next upper state. -/
def nextL (w : Weights) (U L : Imgs 160) : Imgs 160 :=
  gateI L fun b o y x => convI4 w.l2w (celuI (lower1 w U L)) b o y x + w.l2b o

/-- The next upper state over one block of columns, the first weights scaled by `a` and the sum by `b`. -/
def nextUC (w : Weights) (a b : EReal) (u : Cols 160) : Cols 160 :=
  gate u fun o n => conv6 (stack6 w.u2w) (celu fun o n => conv6 (fun o k => stack6 w.u1w o k * a) (celu u) o n * b + w.u1b o) o n + w.u2b o

/-- The lower stack's weight row: the four taps, then the upper stack's channels. -/
def lowerW (w : Weights) : Fin 160 → Fin 1600 → EReal := fun o k =>
  if h : k.val < 1280 then stack4 w.l1w o ⟨k.val, h⟩ else w.nw o ⟨k.val - 1280, by omega⟩
theorem lowerW_tail (w : Weights) (o : Fin 160) (i : Fin 320) (h : 1280 + i.val < 1600) : lowerW w o ⟨1280 + i.val, h⟩ = w.nw o i := by
  unfold lowerW
  rw [dif_neg (show ¬(1280 + i.val < 1280) by omega)]
  exact congrArg (w.nw o) (Fin.ext (by dsimp only; omega))
/-- The first convolution of the lower stack over one block of columns. -/
def lower1C (w : Weights) (u l : Cols 160) : Cols 160 := fun o n =>
  conv4 (by decide : 1280 ≤ 1600) (lowerW w) (celu l) (fun o n => ∑ i : Fin 320, lowerW w o ⟨1280 + i.val, by omega⟩ * celu u i n) o n + (w.l1b o + w.nb o)
/-- The next lower state over one block of columns. -/
def nextLC (w : Weights) (u l : Cols 160) : Cols 160 :=
  gate l fun o n => conv4 (le_refl 1280) (stack4 w.l2w) (celu (lower1C w u l)) (fun _ _ => 0) o n + w.l2b o

theorem nextU_same {t : Fin 4} (w : Weights) {a b : EReal} (h0 : 0 ≤ a) (ht : a ≠ ⊤) (hab : a * b = 1) {u : Cols 160} {U : Imgs 160} (h : Same t u U) :
    Same t (nextUC w a b u) (nextU w U) := by
  refine gate_same h fun o n => ?_
  rw [conv6_same w.u2w (celu_same (t := t) (X := fun b o y x => convI6 w.u1w (celuI U) b o y x + w.u1b o) fun o n => ?_) o n]
  rw [conv6_scale _ _ a b h0 ht hab, conv6_same w.u1w (celu_same h) o n]

theorem lower1_same {t : Fin 4} (w : Weights) {u l : Cols 160} {U L : Imgs 160} (hu : Same t u U) (hl : Same t l L) :
    Same t (lower1C w u l) (lower1 w U L) := by
  intro o n
  unfold lower1C lower1
  rw [conv4_same (RI := fun b o y x => ∑ i, w.nw o i * celuI U b i y x) _ (lowerW w) w.l1w
    (fun o k => by unfold lowerW; rw [dif_pos k.isLt]) (celu_same hl) (fun o n => ?_) o n]
  · ac_rfl
  · refine Finset.sum_congr rfl fun i _ => ?_
    rw [celu_same hu i n, lowerW_tail]

theorem nextL_same {t : Fin 4} (w : Weights) {u l : Cols 160} {U L : Imgs 160} (hu : Same t u U) (hl : Same t l L) :
    Same t (nextLC w u l) (nextL w U L) := by
  refine gate_same hl fun o n => ?_
  rw [conv4_same (RI := fun _ _ _ _ => 0) _ (stack4 w.l2w) w.l2w (fun o k => rfl) (celu_same (lower1_same w hu hl)) (fun _ _ => rfl) o n]
  dsimp only
  rw [add_zero]

end Cert.Spec

end
-- ==== Proof.Host.lean ====
/- What the kernel's input blocks hold, of the arguments: the state's columns, and each block's weights in the order the host
   stacks them. -/
module

public import proofs.«01_k».proof.Proof.Spec
public import proofs.«01_k».proof.Proof.Gen.KernelIdeal.Value
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem

namespace Cert.KernelIdeal.Host

open Cert.KernelIdeal Cert.KernelIdeal.Gen

variable (m : (ℓ : Loc nD τ sig) → Buf (Elt Ideal) ℓ) (c : Dev nD)

/-- Which block of its array each window reads at a point. -/
theorem idx : ∀ t : Fin cfg0.N, win0_0.index t = ![0, t.val / 5] ∧ win0_1.index t = ![0, t.val / 5] ∧ win0_2.index t = ![t.val % 5, 0, 0]
    ∧ win0_3.index t = ![t.val % 5, 0, 0] ∧ win0_4.index t = ![t.val % 5, 0, 0] ∧ win0_5.index t = ![t.val % 5, 0, 0]
    ∧ win0_6.index t = ![t.val % 5, 0, 0] ∧ win0_7.index t = ![t.val % 5, 0, 0] ∧ win0_8.index t = ![t.val % 5, 0, 0]
    ∧ win0_9.index t = ![t.val % 5, 0, 0] ∧ t.val < 20 := (by decide +kernel : ∀ t : Fin grid0.N, _)

/-- Block `j`'s weights, of the arguments. -/
def weights (j : Fin 5) : Spec.Weights where
  u1w o i q r := m ((c.tc : Thread nD τ).loc main_arg2) (ix5 j o i q r)
  u1b o := m ((c.tc : Thread nD τ).loc main_arg3) (ix2 j o)
  u2w o i q r := m ((c.tc : Thread nD τ).loc main_arg4) (ix5 j o i q r)
  u2b o := m ((c.tc : Thread nD τ).loc main_arg5) (ix2 j o)
  l1w o i q r := m ((c.tc : Thread nD τ).loc main_arg6) (ix5 j o i q r)
  l1b o := m ((c.tc : Thread nD τ).loc main_arg7) (ix2 j o)
  nw o i := m ((c.tc : Thread nD τ).loc main_arg8) (ix3 j o i)
  nb o := m ((c.tc : Thread nD τ).loc main_arg9) (ix2 j o)
  l2w o i q r := m ((c.tc : Thread nD τ).loc main_arg10) (ix5 j o i q r)
  l2b o := m ((c.tc : Thread nD τ).loc main_arg11) (ix2 j o)

/-- Sixteen and its reciprocal, as the kernel writes them. -/
theorem sixteen : Ideal.ofBits .f32 0x41800000#32 = ((16 : ℝ) : EReal) := by
  simp [Ideal.ofBits, Ideal.ieee, -EReal.coe_mul]; norm_num

theorem sixteenth : Ideal.ofBits .f32 0x3D800000#32 = ((1 / 16 : ℝ) : EReal) := by
  simp [Ideal.ofBits, Ideal.ieee, -EReal.coe_mul]; norm_num

theorem sixteen_nonneg : 0 ≤ Ideal.ofBits .f32 0x41800000#32 := by
  rw [sixteen]; exact EReal.coe_nonneg.mpr (by norm_num)

theorem sixteen_ne_top : Ideal.ofBits .f32 0x41800000#32 ≠ ⊤ := by
  rw [sixteen]; exact EReal.coe_ne_top _

theorem sixteen_mul : Ideal.ofBits .f32 0x41800000#32 * Ideal.ofBits .f32 0x3D800000#32 = 1 := by
  rw [sixteen, sixteenth, ← EReal.coe_mul]; norm_num

section State
variable (t : Fin cfg0.N) (b : Fin 4) (hb : b.val = t.val / 5)
include hb

theorem x0_at (o : Fin 160) (n : Fin 8192) :
    iblk m c 0 t (ix2 o n) = m ((c.tc : Thread nD τ).loc main_arg0) (ix2 o ⟨b.val * 8192 + n.val, by omega⟩) := by
  blk_ext [iblk, V, idx t]

theorem x1_at (o : Fin 160) (n : Fin 8192) :
    iblk m c 1 t (ix2 o n) = m ((c.tc : Thread nD τ).loc main_arg1) (ix2 o ⟨b.val * 8192 + n.val, by omega⟩) := by
  blk_ext [iblk, V, idx t]

end State

section Reads
variable (t : Fin cfg0.N) (j : Fin 5) (hj : j.val = t.val % 5)
include hj

theorem x2_at (o : Fin 160) (k : Fin 1920) : iblk m c 2 t (ix3 0 o k) = Spec.stack6 (weights m c j).u1w o k * Ideal.ofBits .f32 0x41800000#32 := by
  have e : iblk m c 2 t (ix3 0 o k) = V m c main_v4 (ix3 j o k) := by
    blk_ext [iblk, idx t]
  rw [e]
  entry_read
  pointwise
  rfl

theorem x3_at (o : Fin 160) : iblk m c 3 t (ix3 0 o 0) = (weights m c j).u1b o := by
  have e : iblk m c 3 t (ix3 0 o 0) = V m c main_v16 (ix3 j o 0) := by
    blk_ext [iblk, idx t]
  rw [e]
  entry_read
  pointwise
  rfl

theorem x4_at (o : Fin 320) (k : Fin 1920) : iblk m c 4 t (ix3 0 o k) = Spec.stack6 (weights m c j).u2w o k := by
  have e : iblk m c 4 t (ix3 0 o k) = V m c main_v7 (ix3 j o k) := by
    blk_ext [iblk, idx t]
  rw [e]
  entry_read
  pointwise
  rfl

theorem x5_at (o : Fin 320) : iblk m c 5 t (ix3 0 o 0) = (weights m c j).u2b o := by
  have e : iblk m c 5 t (ix3 0 o 0) = V m c main_v17 (ix3 j o 0) := by
    blk_ext [iblk, idx t]
  rw [e]
  entry_read
  pointwise
  rfl

theorem x6_at (o : Fin 160) (k : Fin 1600) : iblk m c 6 t (ix3 0 o k) = Spec.lowerW (weights m c j) o k := by
  have e : iblk m c 6 t (ix3 0 o k) = V m c main_v12 (ix3 j o k) := by
    blk_ext [iblk, idx t]
  rw [e]
  entry_read
  pointwise
  rfl

theorem x7_at (o : Fin 160) : iblk m c 7 t (ix3 0 o 0) = (weights m c j).l1b o + (weights m c j).nb o := by
  have e : iblk m c 7 t (ix3 0 o 0) = V m c main_v19 (ix3 j o 0) := by
    blk_ext [iblk, idx t]
  rw [e]
  entry_read
  pointwise
  rfl

theorem x8_at (o : Fin 320) (k : Fin 1280) : iblk m c 8 t (ix3 0 o k) = Spec.stack4 (weights m c j).l2w o k := by
  have e : iblk m c 8 t (ix3 0 o k) = V m c main_v15 (ix3 j o k) := by
    blk_ext [iblk, idx t]
  rw [e]
  entry_read
  pointwise
  rfl

theorem x9_at (o : Fin 320) : iblk m c 9 t (ix3 0 o 0) = (weights m c j).l2b o := by
  have e : iblk m c 9 t (ix3 0 o 0) = V m c main_v20 (ix3 j o 0) := by
    blk_ext [iblk, idx t]
  rw [e]
  entry_read
  pointwise
  rfl

end Reads

end Cert.KernelIdeal.Host

end
-- ==== Proof.Open.lean ====
/- What each point of the grid leaves in the two carried states and in the result's block, as the body's values over the
   point's input blocks and the states the point before left. -/
module

public import proofs.«01_k».proof.Proof.Gen.KernelIdeal.Value

@[expose] public section

set_option maxRecDepth 16384

noncomputable section

open Idealize.ShloMosaic Idealize.ShloMosaic.TcCoe Idealize.ShloMosaic.Tactic Idealize.SL.Sem

namespace Cert.KernelIdeal.Open

open Cert.KernelIdeal Cert.KernelIdeal.Gen

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

/-- The upper stack's first activation, widened by its negation. -/
def mid (u : Vec F S160x8192 .f32) (x2 : Vec F S1x160x1920 .fp8e4m3) (x3 : Vec F S1x160x1 .f32) : FVec F S320x8192 .bf16 :=
  k0_pay10 k0_pay4 (k0_pay7 u) (k0_pay8 u) (Scalar.ofBits .f32 0x00000000#32) k0_pay9 x2 x3
/-- The state of the upper stack after one block. -/
def stepU (u : Vec F S160x8192 .f32) (x2 : Vec F S1x160x1920 .fp8e4m3) (x3 : Vec F S1x160x1 .f32) (x4 : Vec F S1x320x1920 .bf16)
    (x5 : Vec F S1x320x1 .f32) : FVec F S160x8192 .f32 :=
  k0_pay15 k0_pay3 k0_pay4 u (mid u x2 x3)
    (k0_pay11 k0_pay4 (k0_pay7 u) (k0_pay8 u) (Scalar.ofBits .f32 0x00000000#32) k0_pay9 x2 x3)
    (k0_pay12 k0_pay4 (k0_pay7 u) (k0_pay8 u) (Scalar.ofBits .f32 0x00000000#32) k0_pay9 x2 x3)
    (k0_pay13 k0_pay4 (k0_pay7 u) (k0_pay8 u) (Scalar.ofBits .f32 0x00000000#32) k0_pay9 x2 x3)
    (k0_pay14 k0_pay4 (k0_pay7 u) (k0_pay8 u) (Scalar.ofBits .f32 0x00000000#32) k0_pay9 x2 x3) x4 x5
/-- The state of the lower stack after one block, `v` the upper stack's new state. -/
def stepL (v : FVec F S160x8192 .f32) (l : Vec F S160x8192 .f32) (x6 : Vec F S1x160x1600 .bf16) (x7 : Vec F S1x160x1 .f32)
    (x8 : Vec F S1x320x1280 .bf16) (x9 : Vec F S1x320x1 .f32) : FVec F S160x8192 .f32 :=
  k0_pay19 k0_pay3 l (k0_pay18 k0_pay3 v (k0_pay17 l) (Scalar.ofBits .f32 0x00000000#32) x6 x7) x8 x9

section Cases
variable (c : Dev nD) (i : grid0.Coords) (arg2 : Memref sig .tc .vmem S160x8192 .bf16) (harg2 : arg2.IsWhole) (arg3 : Memref sig .tc .vmem S160x8192 .bf16) (harg3 : arg3.IsWhole)
  (arg4 : Memref sig .tc .vmem S1x160x1920 .fp8e4m3) (harg4 : arg4.IsWhole) (arg5 : Memref sig .tc .vmem S1x160x1 .f32) (harg5 : arg5.IsWhole)
  (arg6 : Memref sig .tc .vmem S1x320x1920 .bf16) (harg6 : arg6.IsWhole) (arg7 : Memref sig .tc .vmem S1x320x1 .f32) (harg7 : arg7.IsWhole)
  (arg8 : Memref sig .tc .vmem S1x160x1600 .bf16) (harg8 : arg8.IsWhole) (arg9 : Memref sig .tc .vmem S1x160x1 .f32) (harg9 : arg9.IsWhole)
  (arg10 : Memref sig .tc .vmem S1x320x1280 .bf16) (harg10 : arg10.IsWhole) (arg11 : Memref sig .tc .vmem S1x320x1 .f32) (harg11 : arg11.IsWhole)
  (arg12 : Memref sig .tc .vmem S160x8192 .bf16) (harg12 : arg12.IsWhole) (arg13 : Memref sig .tc .vmem S160x8192 .f32) (harg13 : arg13.IsWhole)
  (arg14 : Memref sig .tc .vmem S160x8192 .f32) (harg14 : arg14.IsWhole)
  (x0 : Vec F S160x8192 .bf16) (x1 : Vec F S160x8192 .bf16) (x2 : Vec F S1x160x1920 .fp8e4m3) (x3 : Vec F S1x160x1 .f32) (x4 : Vec F S1x320x1920 .bf16)
  (x5 : Vec F S1x320x1 .f32) (x6 : Vec F S1x160x1600 .bf16) (x7 : Vec F S1x160x1 .f32) (x8 : Vec F S1x320x1280 .bf16) (x9 : Vec F S1x320x1 .f32)
  (xs0 xs1 : Vec F S160x8192 .f32)

/-- Case B: the upper state. -/
theorem sB0 (hc0 : ¬cond0_0 i) (hc1 : ¬cond0_1 i) :
    sout0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1
      = stepU xs0 x2 x3 x4 x5 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1)]
  unfold kernelRun0_B
  dsimp only
  rw [View.canon_unit_zero hz]
  unfold k0_pay16
  sl_unfold_words
  simp only [View.readAt_eq_ld, harg2.read_unread, harg3.read_unread, harg4.read_unread, harg5.read_unread, harg6.read_unread, harg7.read_unread, harg8.read_unread, harg9.read_unread,
    harg10.read_unread, harg11.read_unread, harg13.read_unread, harg14.read_unread,
    View.ld_unit_zero (S := S160x8192) hz, View.ld_unit_zero (S := S1x160x1920) hz3, View.ld_unit_zero (S := S1x160x1) hz3,
    View.ld_unit_zero (S := S1x320x1920) hz3, View.ld_unit_zero (S := S1x320x1) hz3, View.ld_unit_zero (S := S1x160x1600) hz3,
    View.ld_unit_zero (S := S1x320x1280) hz3, shapeCast_self]
  rfl

/-- Case B: the lower state. -/
theorem sB1 (hc0 : ¬cond0_0 i) (hc1 : ¬cond0_1 i) :
    sout0_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1
      = stepL (stepU xs0 x2 x3 x4 x5) xs1 x6 x7 x8 x9 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1)]
  unfold kernelRun0_B
  dsimp only
  rw [View.canon_unit_zero hz]
  unfold k0_pay20
  sl_unfold_words
  simp only [View.readAt_eq_ld, harg2.read_unread, harg3.read_unread, harg4.read_unread, harg5.read_unread, harg6.read_unread, harg7.read_unread, harg8.read_unread, harg9.read_unread,
    harg10.read_unread, harg11.read_unread, harg13.read_unread, harg14.read_unread,
    View.ld_unit_zero (S := S160x8192) hz, View.ld_unit_zero (S := S1x160x1920) hz3, View.ld_unit_zero (S := S1x160x1) hz3,
    View.ld_unit_zero (S := S1x320x1920) hz3, View.ld_unit_zero (S := S1x320x1) hz3, View.ld_unit_zero (S := S1x160x1600) hz3,
    View.ld_unit_zero (S := S1x320x1280) hz3, shapeCast_self]
  rfl

/-- Case C: the upper state. -/
theorem sC0 (hc0 : ¬cond0_0 i) (hc1 : cond0_1 i) :
    sout0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1
      = stepU xs0 x2 x3 x4 x5 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1)]
  unfold kernelRun0_C
  dsimp only
  rw [View.canon_unit_zero hz]
  unfold k0_pay16
  sl_unfold_words
  simp only [View.readAt_eq_ld, harg2.read_unread, harg3.read_unread, harg4.read_unread, harg5.read_unread, harg6.read_unread, harg7.read_unread, harg8.read_unread, harg9.read_unread,
    harg10.read_unread, harg11.read_unread, harg13.read_unread, harg14.read_unread,
    View.ld_unit_zero (S := S160x8192) hz, View.ld_unit_zero (S := S1x160x1920) hz3, View.ld_unit_zero (S := S1x160x1) hz3,
    View.ld_unit_zero (S := S1x320x1920) hz3, View.ld_unit_zero (S := S1x320x1) hz3, View.ld_unit_zero (S := S1x160x1600) hz3,
    View.ld_unit_zero (S := S1x320x1280) hz3, shapeCast_self]
  rfl

/-- Case C: the lower state. -/
theorem sC1 (hc0 : ¬cond0_0 i) (hc1 : cond0_1 i) :
    sout0_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1
      = stepL (stepU xs0 x2 x3 x4 x5) xs1 x6 x7 x8 x9 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1)]
  unfold kernelRun0_C
  dsimp only
  rw [View.canon_unit_zero hz]
  unfold k0_pay20
  sl_unfold_words
  simp only [View.readAt_eq_ld, harg2.read_unread, harg3.read_unread, harg4.read_unread, harg5.read_unread, harg6.read_unread, harg7.read_unread, harg8.read_unread, harg9.read_unread,
    harg10.read_unread, harg11.read_unread, harg13.read_unread, harg14.read_unread,
    View.ld_unit_zero (S := S160x8192) hz, View.ld_unit_zero (S := S1x160x1920) hz3, View.ld_unit_zero (S := S1x160x1) hz3,
    View.ld_unit_zero (S := S1x320x1920) hz3, View.ld_unit_zero (S := S1x320x1) hz3, View.ld_unit_zero (S := S1x160x1600) hz3,
    View.ld_unit_zero (S := S1x320x1280) hz3, shapeCast_self]
  rfl

/-- Case C: the result's block. -/
theorem sC10 (hc0 : ¬cond0_0 i) (hc1 : cond0_1 i) :
    out0_C_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1
      = k0_pay1 (stepL (stepU xs0 x2 x3 x4 x5) xs1 x6 x7 x8 x9) := by
  unfold out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1)]
  unfold kernelRun0_C
  dsimp only
  rw [View.canon_unit_zero hz]
  unfold k0_pay1
  sl_unfold_words
  simp only [View.readAt_eq_ld, harg2.read_unread, harg3.read_unread, harg4.read_unread, harg5.read_unread, harg6.read_unread, harg7.read_unread, harg8.read_unread, harg9.read_unread,
    harg10.read_unread, harg11.read_unread, harg13.read_unread, harg14.read_unread,
    View.ld_unit_zero (S := S160x8192) hz, View.ld_unit_zero (S := S1x160x1920) hz3, View.ld_unit_zero (S := S1x160x1) hz3,
    View.ld_unit_zero (S := S1x320x1920) hz3, View.ld_unit_zero (S := S1x320x1) hz3, View.ld_unit_zero (S := S1x160x1600) hz3,
    View.ld_unit_zero (S := S1x320x1280) hz3, shapeCast_self]
  rfl

/-- Case A: the upper state. -/
theorem sA0 (hc0 : cond0_0 i) (hc1 : ¬cond0_1 i) :
    sout0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9
      = stepU (k0_pay5 x0) x2 x3 x4 x5 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9)]
  unfold kernelRun0_A
  dsimp only
  sl_unfold_words
  rw [View.canon_cons_unit_zero (S := S160x8192) hz]
  simp only [View.readCov_unit_zero (S := S160x8192) _ hz]
  unfold k0_pay16
  simp only [View.readAt_eq_ld, harg2.read_unread, harg3.read_unread, harg4.read_unread, harg5.read_unread, harg6.read_unread, harg7.read_unread, harg8.read_unread, harg9.read_unread,
    harg10.read_unread, harg11.read_unread, harg13.read_unread, harg14.read_unread,
    View.ld_unit_zero (S := S160x8192) hz, View.ld_unit_zero (S := S1x160x1920) hz3, View.ld_unit_zero (S := S1x160x1) hz3,
    View.ld_unit_zero (S := S1x320x1920) hz3, View.ld_unit_zero (S := S1x320x1) hz3, View.ld_unit_zero (S := S1x160x1600) hz3,
    View.ld_unit_zero (S := S1x320x1280) hz3, shapeCast_self]
  rfl

/-- Case A: the lower state. -/
theorem sA1 (hc0 : cond0_0 i) (hc1 : ¬cond0_1 i) :
    sout0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9
      = stepL (stepU (k0_pay5 x0) x2 x3 x4 x5) (k0_pay6 x1) x6 x7 x8 x9 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9)]
  unfold kernelRun0_A
  dsimp only
  sl_unfold_words
  rw [View.canon_cons_unit_zero (S := S160x8192) hz]
  simp only [View.readCov_unit_zero (S := S160x8192) _ hz]
  unfold k0_pay20
  simp only [View.readAt_eq_ld, harg2.read_unread, harg3.read_unread, harg4.read_unread, harg5.read_unread, harg6.read_unread, harg7.read_unread, harg8.read_unread, harg9.read_unread,
    harg10.read_unread, harg11.read_unread, harg13.read_unread, harg14.read_unread,
    View.ld_unit_zero (S := S160x8192) hz, View.ld_unit_zero (S := S1x160x1920) hz3, View.ld_unit_zero (S := S1x160x1) hz3,
    View.ld_unit_zero (S := S1x320x1920) hz3, View.ld_unit_zero (S := S1x320x1) hz3, View.ld_unit_zero (S := S1x160x1600) hz3,
    View.ld_unit_zero (S := S1x320x1280) hz3, shapeCast_self]
  rfl

end Cases

end Cert.KernelIdeal.Open

end
-- ==== Proof.Mask.lean ====
/- The two edge masks of the kernel's body: set where a column has a neighbour to its left, to its right. -/
module

public import proofs.«01_k».proof.Proof.Spec
public import proofs.«01_k».proof.Proof.Open

@[expose] public section

set_option maxRecDepth 16384

noncomputable section

open Idealize.ShloMosaic Idealize.ShloMosaic.TcCoe Idealize.SL.Sem

namespace Cert.KernelIdeal.Pay

open Cert.KernelIdeal Cert.KernelIdeal.Gen Cert.KernelIdeal.Open

/-! ## The masks -/

/-- Set where the column is not the first of its row. -/
theorem maskL (n : Fin 8192) : k0_pay3 (ix2 0 n) = BitVec.ofBool (decide (1 ≤ n.val % 32)) := by
  pointwise [k0_pay3, k0_pay2]
  revert n
  decide +kernel

/-- Set where the column is not the last of its row. -/
theorem maskR (n : Fin 8192) : k0_pay4 (ix2 0 n) = BitVec.ofBool (decide (n.val % 32 ≤ 30)) := by
  pointwise [k0_pay4, k0_pay2]
  revert n
  decide +kernel

end Cert.KernelIdeal.Pay

end
-- ==== Proof.Pay.lean ====
/- The kernel's body at the ideal instance, read one element at a time: each block of columns it computes is the
   corresponding one of `Cert.Spec`. -/
module

public import proofs.«01_k».proof.Proof.Spec
public import proofs.«01_k».proof.Proof.Mask
public import proofs.«01_k».proof.Proof.Open

@[expose] public section

set_option maxRecDepth 16384

noncomputable section

open Idealize.ShloMosaic Idealize.ShloMosaic.TcCoe Idealize.SL.Sem

namespace Cert.KernelIdeal.Pay

open Cert.KernelIdeal Cert.KernelIdeal.Gen Cert.KernelIdeal.Open

/-- A vector of columns as a function of channel and column. -/
def cols160 (x : S160x8192.Idx → EReal) : Spec.Cols 160 := fun c n => x (ix2 c n)
def cols320 (x : S320x8192.Idx → EReal) : Spec.Cols 320 := fun c n => x (ix2 c n)

/-! ## The exponential linear unit -/

theorem pay7 (u : FVec Ideal S160x8192 .f32) (c : Fin 320) (n : Fin 8192) :
    k0_pay7 (F := Ideal) u (ix2 c n) = Spec.celu (cols160 u) c n := by
  pointwise [k0_pay7]
  simp only [zero_sub]
  rfl

/-! ## The stacked operand -/

/-- The row above, the first row from `z`. -/
def up (z : EReal) (v : S320x8192.Idx → EReal) : S320x8192.Idx → EReal :=
  concatenate S320x8192 1 [⟨S320x256, broadcast S320x256 z⟩, ⟨S320x7936, extractStridedSlice S320x7936 ![0, 0] v slices_S320x8192_o0_0_S320x7936⟩]
    concatenates_S320x256_S320x7936_S320x8192_d1

theorem up_at (v : S320x8192.Idx → EReal) (c : Fin 320) (n : Fin 8192) : up 0 v (ix2 c n) = Spec.top (cols320 v) c n := by
  pointwise [up]
  rfl

/-- Three column taps and the rows above them, stacked. -/
def op6 (z : EReal) (A B C : S320x8192.Idx → EReal) : S1920x8192.Idx → EReal :=
  concatenate S1920x8192 0 [⟨S320x8192, up z A⟩, ⟨S320x8192, A⟩, ⟨S320x8192, up z B⟩, ⟨S320x8192, B⟩, ⟨S320x8192, up z C⟩, ⟨S320x8192, C⟩]
    concatenates_S320x8192_S320x8192_S320x8192_S320x8192_S320x8192_S320x8192_S1920x8192_d0
/-- Two column taps, the rows above them, and the upper stack's channels. -/
def op5 (z : EReal) (A B E : S320x8192.Idx → EReal) : S1600x8192.Idx → EReal :=
  concatenate S1600x8192 0 [⟨S320x8192, up z A⟩, ⟨S320x8192, A⟩, ⟨S320x8192, up z B⟩, ⟨S320x8192, B⟩, ⟨S320x8192, E⟩]
    concatenates_S320x8192_S320x8192_S320x8192_S320x8192_S320x8192_S1600x8192_d0
/-- Two column taps and the rows above them. -/
def op4 (z : EReal) (A B : S320x8192.Idx → EReal) : S1280x8192.Idx → EReal :=
  concatenate S1280x8192 0 [⟨S320x8192, up z A⟩, ⟨S320x8192, A⟩, ⟨S320x8192, up z B⟩, ⟨S320x8192, B⟩]
    concatenates_S320x8192_S320x8192_S320x8192_S320x8192_S1280x8192_d0

/-- Row `k` of pieces of 320 rows each, one under the other. -/
def ladder (n : Fin 8192) : List (S320x8192.Idx → EReal) → ℕ → EReal
  | [], _ => 0
  | V :: L, k => if h : k < 320 then V (ix2 ⟨k, h⟩ n) else ladder n L (k - 320)

theorem ladder_at (n : Fin 8192) (i : Fin 320) : ∀ (L : List (S320x8192.Idx → EReal)) (p : ℕ) (hp : p < L.length),
    ladder n L (320 * p + i.val) = L[p] (ix2 i n)
  | V :: L, 0, _ => by
    have e : (⟨320 * 0 + i.val, by omega⟩ : Fin 320) = i := Fin.ext (by simp)
    rw [ladder, dif_pos (by omega), e]; rfl
  | V :: L, p + 1, hp => by
    rw [ladder, dif_neg (by omega), show 320 * (p + 1) + i.val - 320 = 320 * p + i.val by omega, ladder_at n i L p (Nat.lt_of_succ_lt_succ hp)]
    rfl

theorem op6_at (z : EReal) (A B C : S320x8192.Idx → EReal) (k : Fin 1920) (n : Fin 8192) :
    op6 z A B C (ix2 k n) = ladder n [up z A, A, up z B, B, up z C, C] k.val := by
  have := k.isLt
  pointwise [op6]
  simp only [ladder, dif_pos (show k.val - 320 - 320 - 320 - 320 - 320 < 320 by omega)]
theorem op5_at (z : EReal) (A B E : S320x8192.Idx → EReal) (k : Fin 1600) (n : Fin 8192) :
    op5 z A B E (ix2 k n) = ladder n [up z A, A, up z B, B, E] k.val := by
  have := k.isLt
  pointwise [op5]
  simp only [ladder, dif_pos (show k.val - 320 - 320 - 320 - 320 < 320 by omega)]
theorem op4_at (z : EReal) (A B : S320x8192.Idx → EReal) (k : Fin 1280) (n : Fin 8192) :
    op4 z A B (ix2 k n) = ladder n [up z A, A, up z B, B] k.val := by
  have := k.isLt
  pointwise [op4]
  simp only [ladder, dif_pos (show k.val - 320 - 320 - 320 < 320 by omega)]

/-- The contraction of a weight row with a stacked operand, tap by tap. -/
theorem taps6 (W : Fin 1920 → EReal) (L : List (S320x8192.Idx → EReal)) (hL : L.length = 6) (n : Fin 8192) :
    ∑ k : Fin 1920, W k * ladder n L k.val
      = (∑ i : Fin 320, W ⟨i.val, by omega⟩ * L[0] (ix2 i n)) + ((∑ i : Fin 320, W ⟨320 + i.val, by omega⟩ * L[1] (ix2 i n))
        + ((∑ i : Fin 320, W ⟨640 + i.val, by omega⟩ * L[2] (ix2 i n)) + ((∑ i : Fin 320, W ⟨960 + i.val, by omega⟩ * L[3] (ix2 i n))
        + ((∑ i : Fin 320, W ⟨1280 + i.val, by omega⟩ * L[4] (ix2 i n)) + ∑ i : Fin 320, W ⟨1600 + i.val, by omega⟩ * L[5] (ix2 i n))))) := by
  rw [Spec.sum_parts6]
  have e (p : ℕ) (hp : p < L.length) (i : Fin 320) := (ladder_at n i L p hp).symm
  simp only [e 0 (by omega), e 1 (by omega), e 2 (by omega), e 3 (by omega), e 4 (by omega), e 5 (by omega), Nat.reduceMul, zero_add]
theorem taps5 (W : Fin 1600 → EReal) (L : List (S320x8192.Idx → EReal)) (hL : L.length = 5) (n : Fin 8192) :
    ∑ k : Fin 1600, W k * ladder n L k.val
      = (∑ i : Fin 320, W ⟨i.val, by omega⟩ * L[0] (ix2 i n)) + ((∑ i : Fin 320, W ⟨320 + i.val, by omega⟩ * L[1] (ix2 i n))
        + ((∑ i : Fin 320, W ⟨640 + i.val, by omega⟩ * L[2] (ix2 i n)) + ((∑ i : Fin 320, W ⟨960 + i.val, by omega⟩ * L[3] (ix2 i n))
        + ∑ i : Fin 320, W ⟨1280 + i.val, by omega⟩ * L[4] (ix2 i n)))) := by
  rw [Spec.sum_parts5]
  have e (p : ℕ) (hp : p < L.length) (i : Fin 320) := (ladder_at n i L p hp).symm
  simp only [e 0 (by omega), e 1 (by omega), e 2 (by omega), e 3 (by omega), e 4 (by omega), Nat.reduceMul, zero_add]
theorem taps4 (W : Fin 1280 → EReal) (L : List (S320x8192.Idx → EReal)) (hL : L.length = 4) (n : Fin 8192) :
    ∑ k : Fin 1280, W k * ladder n L k.val
      = (∑ i : Fin 320, W ⟨i.val, by omega⟩ * L[0] (ix2 i n)) + ((∑ i : Fin 320, W ⟨320 + i.val, by omega⟩ * L[1] (ix2 i n))
        + ((∑ i : Fin 320, W ⟨640 + i.val, by omega⟩ * L[2] (ix2 i n)) + ∑ i : Fin 320, W ⟨960 + i.val, by omega⟩ * L[3] (ix2 i n))) := by
  rw [Spec.sum_parts4]
  have e (p : ℕ) (hp : p < L.length) (i : Fin 320) := (ladder_at n i L p hp).symm
  simp only [e 0 (by omega), e 1 (by omega), e 2 (by omega), e 3 (by omega), Nat.reduceMul, zero_add]

/-! ## The column taps -/

section Rolls
variable (m : IVec S1x8192 1) (s : BitVec 32) (c : Fin 320) (n : Fin 8192)

/-- Pairs of rows rolled by `s` columns and kept where `m` holds. -/
def rollPair (m : IVec S1x8192 1) (s : BitVec 32) (v : FVec Ideal S320x8192 .bf16) : FVec Ideal S320x8192 .bf16 :=
  interleaveRows S320x8192
    (select (broadcastTo S160x8192 (shapeCast S1x8192 m shapeCasts_S1x8192_S1x8192) broadcasts_S1x8192_S160x8192)
      (dynamicRotate 1 s none (rowsOfParity 0 S160x8192 v bitcasts_S320x8192_w16_S160x8192_w32) rotates_S160x8192_d1) (constant S160x8192 .bf16 0x0000#16))
    (select (broadcastTo S160x8192 (shapeCast S1x8192 m shapeCasts_S1x8192_S1x8192) broadcasts_S1x8192_S160x8192)
      (dynamicRotate 1 s none (rowsOfParity 1 S160x8192 v bitcasts_S320x8192_w16_S160x8192_w32) rotates_S160x8192_d1) (constant S160x8192 .bf16 0x0000#16))
    bitcasts_S320x8192_w16_S160x8192_w32
/-- Rows rolled by `s` columns and kept where `m` holds. -/
def rollRow (m : IVec S1x8192 1) (s : BitVec 32) (v : FVec Ideal S320x8192 .f32) : FVec Ideal S320x8192 .f32 :=
  select (broadcastTo S320x8192 (shapeCast S1x8192 m shapeCasts_S1x8192_S1x8192) broadcasts_S1x8192_S320x8192)
    (dynamicRotate 1 s none v rotates_S320x8192_d1) (broadcast S320x8192 (Scalar.ofBits .f32 0x00000000#32))

/-- The element both rolls give. -/
def rolled (v : S320x8192.Idx → EReal) : EReal :=
  Scalar.select (m (ix2 0 n)) (v (ix2 c ⟨(n.val + 8192 - s.toNat % 8192) % 8192, Nat.mod_lt _ (by decide)⟩)) 0

/-- A pair of rows holds row `c` at its parity. -/
theorem pair (f : Fin 320 → EReal) (h0 h1) : (if c.val % 2 = 0 then f ⟨2 * (c.val / 2), h0⟩ else f ⟨2 * (c.val / 2) + 1, h1⟩) = f c := by
  split
  · exact congrArg f (Fin.ext (by dsimp only; omega))
  · exact congrArg f (Fin.ext (by dsimp only; omega))

theorem rollPair_at (v : FVec Ideal S320x8192 .bf16) : rollPair m s v (ix2 c n) = rolled m s c n v := by
  pointwise [rollPair]
  exact pair c (fun d => Scalar.select (m (ix2 0 n)) (v (ix2 d _)) 0) _ _
theorem rollRow_at (v : FVec Ideal S320x8192 .f32) : rollRow m s v (ix2 c n) = rolled m s c n v := by
  pointwise [rollRow]
  rfl
theorem rolled_left (v : S320x8192.Idx → EReal) : rolled k0_pay3 1#32 c n v = Spec.left (cols320 v) c n := by
  have e : (⟨(n.val + 8192 - (1#32).toNat % 8192) % 8192, Nat.mod_lt _ (by decide)⟩ : Fin 8192)
      = ⟨(n.val + 8192 - 1) % 8192, Nat.mod_lt _ (by decide)⟩ := rfl
  unfold rolled Spec.left Scalar.select
  rw [maskL, e]
  by_cases h : 1 ≤ n.val % 32
  · rw [if_pos h, decide_eq_true h]; rfl
  · rw [if_neg h, decide_eq_false h]; rfl
theorem rolled_right (v : S320x8192.Idx → EReal) : rolled k0_pay4 8191#32 c n v = Spec.right (cols320 v) c n := by
  have e : (⟨(n.val + 8192 - (8191#32).toNat % 8192) % 8192, Nat.mod_lt _ (by decide)⟩ : Fin 8192)
      = ⟨(n.val + 8192 - 8191) % 8192, Nat.mod_lt _ (by decide)⟩ := rfl
  unfold rolled Spec.right Scalar.select
  rw [maskR, e]
  by_cases h : n.val % 32 ≤ 30
  · rw [if_pos h, decide_eq_true h]; rfl
  · rw [if_neg h, decide_eq_false h]; rfl
end Rolls

theorem pair_left (v : FVec Ideal S320x8192 .bf16) : cols320 (rollPair k0_pay3 1#32 v) = Spec.left (cols320 v) :=
  funext fun c => funext fun n => (rollPair_at _ _ c n v).trans (rolled_left c n v)
theorem pair_right (v : FVec Ideal S320x8192 .bf16) : cols320 (rollPair k0_pay4 8191#32 v) = Spec.right (cols320 v) :=
  funext fun c => funext fun n => (rollPair_at _ _ c n v).trans (rolled_right c n v)
theorem row_left (v : FVec Ideal S320x8192 .f32) : cols320 (rollRow k0_pay3 1#32 v) = Spec.left (cols320 v) :=
  funext fun c => funext fun n => (rollRow_at _ _ c n v).trans (rolled_left c n v)
theorem row_right (v : FVec Ideal S320x8192 .f32) : cols320 (rollRow k0_pay4 8191#32 v) = Spec.right (cols320 v) :=
  funext fun c => funext fun n => (rollRow_at _ _ c n v).trans (rolled_right c n v)

/-! ## The contractions -/

section Contract
variable (n : Fin 8192)

theorem mm6a (W : FVec Ideal S160x1920 .fp8e4m3) (x : FVec Ideal S1920x8192 .fp8e4m3) (o : Fin 160) :
    matmul dot_S160x1920_S1920x8192_S160x8192_1_0_0_1_n_n none W x (constant S160x8192 .f32 0x00000000#32) (ix2 o n) = ∑ k : Fin 1920, W (ix2 o k) * x (ix2 k n) := by
  pointwise
theorem mm6b (W : FVec Ideal S320x1920 .bf16) (x : FVec Ideal S1920x8192 .bf16) (o : Fin 320) :
    matmul dot_S320x1920_S1920x8192_S320x8192_1_0_0_1_n_n none W x (constant S320x8192 .f32 0x00000000#32) (ix2 o n) = ∑ k : Fin 1920, W (ix2 o k) * x (ix2 k n) := by
  pointwise
theorem mm5 (W : FVec Ideal S160x1600 .bf16) (x : FVec Ideal S1600x8192 .bf16) (o : Fin 160) :
    matmul dot_S160x1600_S1600x8192_S160x8192_1_0_0_1_n_n none W x (constant S160x8192 .f32 0x00000000#32) (ix2 o n) = ∑ k : Fin 1600, W (ix2 o k) * x (ix2 k n) := by
  pointwise
theorem mm4 (W : FVec Ideal S320x1280 .bf16) (x : FVec Ideal S1280x8192 .bf16) (o : Fin 320) :
    matmul dot_S320x1280_S1280x8192_S320x8192_1_0_0_1_n_n none W x (constant S320x8192 .f32 0x00000000#32) (ix2 o n) = ∑ k : Fin 1280, W (ix2 o k) * x (ix2 k n) := by
  pointwise

/-- The six taps, from the shifted columns' values. -/
theorem sum6 (W : Fin 1920 → EReal) {A B C : S320x8192.Idx → EReal} (hA : cols320 A = Spec.left (cols320 B)) (hC : cols320 C = Spec.right (cols320 B)) :
    ∑ k : Fin 1920, W k * op6 0 A B C (ix2 k n) = Spec.conv6 (O := 1) (fun _ => W) (cols320 B) 0 n := by
  simp only [op6_at]
  rw [taps6 W _ rfl n]
  simp only [List.getElem_cons_zero, List.getElem_cons_succ, up_at, hA, hC]
  unfold Spec.conv6
  rw [← hA, ← hC]
  rfl
theorem sum5 (W : Fin 1600 → EReal) {A B : S320x8192.Idx → EReal} (E : S320x8192.Idx → EReal) (hA : cols320 A = Spec.left (cols320 B)) :
    ∑ k : Fin 1600, W k * op5 0 A B E (ix2 k n)
      = Spec.conv4 (O := 1) (by decide : 1280 ≤ 1600) (fun _ => W) (cols320 B) (fun _ n => ∑ i : Fin 320, W ⟨1280 + i.val, by omega⟩ * cols320 E i n) 0 n := by
  simp only [op5_at]
  rw [taps5 W _ rfl n]
  simp only [List.getElem_cons_zero, List.getElem_cons_succ, up_at, hA]
  unfold Spec.conv4
  rw [← hA]
  rfl
theorem sum4 (W : Fin 1280 → EReal) {A B : S320x8192.Idx → EReal} (hA : cols320 A = Spec.left (cols320 B)) :
    ∑ k : Fin 1280, W k * op4 0 A B (ix2 k n) = Spec.conv4 (O := 1) (le_refl 1280) (fun _ => W) (cols320 B) (fun _ _ => 0) 0 n := by
  simp only [op4_at]
  rw [taps4 W _ rfl n]
  simp only [List.getElem_cons_zero, List.getElem_cons_succ, up_at, hA]
  unfold Spec.conv4
  rw [← hA, add_zero]
  rfl
end Contract

/-! ## The body's convolutions -/

/-- The zero the rolled rows start from, at each format. -/
theorem z8 : (Scalar.ofBits .fp8e4m3 0x00#8 : Ideal .fp8e4m3) = 0 := Ideal.ofBits_zero .fp8e4m3
theorem z16 : (Scalar.ofBits .bf16 0x0000#16 : Ideal .bf16) = 0 := by pointwise

/-- The upper stack's first convolution. -/
def c1 (u : FVec Ideal S160x8192 .f32) (x2 : FVec Ideal S1x160x1920 .fp8e4m3) (x3 : FVec Ideal S1x160x1 .f32) : FVec Ideal S160x8192 .f32 :=
  addf (mulf (matmul (φ₁ := .fp8e4m3) (φ₂ := .fp8e4m3) dot_S160x1920_S1920x8192_S160x8192_1_0_0_1_n_n none (shapeCast S160x1920 x2 shapeCasts_S1x160x1920_S160x1920)
      (op6 (Scalar.ofBits .fp8e4m3 0x00#8 : Ideal .fp8e4m3) (rollRow k0_pay3 1#32 (k0_pay7 u)) (k0_pay7 (F := Ideal) u) (rollRow k0_pay4 8191#32 (k0_pay7 u)))
      (constant S160x8192 .f32 0x00000000#32)) (broadcast S160x8192 (Scalar.ofBits .f32 0x3D800000#32)))
    (broadcastTo S160x8192 (shapeCast S160x1 x3 shapeCasts_S1x160x1_S160x1) broadcasts_S160x1_S160x8192)
/-- The upper stack's second convolution. -/
def c2 (v : FVec Ideal S320x8192 .bf16) (x4 : FVec Ideal S1x320x1920 .bf16) (x5 : FVec Ideal S1x320x1 .f32) : FVec Ideal S320x8192 .f32 :=
  addf (matmul (φ₁ := .bf16) (φ₂ := .bf16) dot_S320x1920_S1920x8192_S320x8192_1_0_0_1_n_n none (shapeCast S320x1920 x4 shapeCasts_S1x320x1920_S320x1920)
      (op6 (Scalar.ofBits .bf16 0x0000#16 : Ideal .bf16) (rollPair k0_pay3 1#32 v) v (rollPair k0_pay4 8191#32 v)) (constant S320x8192 .f32 0x00000000#32))
    (broadcastTo S320x8192 (shapeCast S320x1 x5 shapeCasts_S1x320x1_S320x1) broadcasts_S320x1_S320x8192)
/-- The lower stack's first convolution and the upper stack's contribution. -/
def c3 (v l : FVec Ideal S160x8192 .f32) (x6 : FVec Ideal S1x160x1600 .bf16) (x7 : FVec Ideal S1x160x1 .f32) : FVec Ideal S160x8192 .f32 :=
  addf (matmul (φ₁ := .bf16) (φ₂ := .bf16) dot_S160x1600_S1600x8192_S160x8192_1_0_0_1_n_n none (shapeCast S160x1600 x6 shapeCasts_S1x160x1600_S160x1600)
      (op5 (Scalar.ofBits .bf16 0x0000#16 : Ideal .bf16) (rollPair k0_pay3 1#32 (k0_pay7 (F := Ideal) l)) (k0_pay7 (F := Ideal) l) (k0_pay7 (F := Ideal) v))
      (constant S160x8192 .f32 0x00000000#32))
    (broadcastTo S160x8192 (shapeCast S160x1 x7 shapeCasts_S1x160x1_S160x1) broadcasts_S160x1_S160x8192)
/-- The lower stack's second convolution. -/
def c4 (v : FVec Ideal S320x8192 .bf16) (x8 : FVec Ideal S1x320x1280 .bf16) (x9 : FVec Ideal S1x320x1 .f32) : FVec Ideal S320x8192 .f32 :=
  addf (matmul (φ₁ := .bf16) (φ₂ := .bf16) dot_S320x1280_S1280x8192_S320x8192_1_0_0_1_n_n none (shapeCast S320x1280 x8 shapeCasts_S1x320x1280_S320x1280)
      (op4 (Scalar.ofBits .bf16 0x0000#16 : Ideal .bf16) (rollPair k0_pay3 1#32 v) v) (constant S320x8192 .f32 0x00000000#32))
    (broadcastTo S320x8192 (shapeCast S320x1 x9 shapeCasts_S1x320x1_S320x1) broadcasts_S320x1_S320x8192)
/-- The gate. -/
def gateK (u : FVec Ideal S160x8192 .f32) (x : FVec Ideal S320x8192 .f32) : FVec Ideal S160x8192 .f32 :=
  addf u (mulf (extractStridedSlice S160x8192 ![0, 0] x slices_S320x8192_o0_0_S160x8192)
    (logistic (extractStridedSlice S160x8192 ![160, 0] x slices_S320x8192_o160_0_S160x8192)))

theorem mid_eq (u : FVec Ideal S160x8192 .f32) (x2 : FVec Ideal S1x160x1920 .fp8e4m3) (x3 : FVec Ideal S1x160x1 .f32) :
    mid (F := Ideal) u x2 x3 = k0_pay7 (F := Ideal) (c1 u x2 x3) := rfl
theorem stepU_eq (u : FVec Ideal S160x8192 .f32) (x2 : FVec Ideal S1x160x1920 .fp8e4m3) (x3 : FVec Ideal S1x160x1 .f32) (x4 : FVec Ideal S1x320x1920 .bf16)
    (x5 : FVec Ideal S1x320x1 .f32) : stepU (F := Ideal) u x2 x3 x4 x5 = gateK u (c2 (mid (F := Ideal) u x2 x3) x4 x5) := rfl
theorem stepL_eq (v l : FVec Ideal S160x8192 .f32) (x6 : FVec Ideal S1x160x1600 .bf16) (x7 : FVec Ideal S1x160x1 .f32) (x8 : FVec Ideal S1x320x1280 .bf16)
    (x9 : FVec Ideal S1x320x1 .f32) : stepL (F := Ideal) v l x6 x7 x8 x9 = gateK l (c4 (k0_pay7 (F := Ideal) (c3 v l x6 x7)) x8 x9) := rfl

section At
variable (n : Fin 8192)

theorem cols_pay7 (u : FVec Ideal S160x8192 .f32) : cols320 (k0_pay7 (F := Ideal) u) = Spec.celu (cols160 u) := funext fun c => funext fun n => pay7 u c n
theorem gateK_at (u : FVec Ideal S160x8192 .f32) (x : FVec Ideal S320x8192 .f32) (o : Fin 160) : gateK u x (ix2 o n) = Spec.gate (cols160 u) (cols320 x) o n := by
  pointwise [gateK]
  rfl
theorem c1_at (u : FVec Ideal S160x8192 .f32) (x2 : FVec Ideal S1x160x1920 .fp8e4m3) (x3 : FVec Ideal S1x160x1 .f32) (o : Fin 160) :
    c1 u x2 x3 (ix2 o n)
      = Spec.conv6 (fun o k => x2 (ix3 0 o k)) (Spec.celu (cols160 u)) o n * Ideal.ofBits .f32 0x3D800000#32 + x3 (ix3 0 o 0) := by
  have h := mm6a n (shapeCast S160x1920 x2 shapeCasts_S1x160x1920_S160x1920)
    (op6 (Scalar.ofBits .fp8e4m3 0x00#8 : Ideal .fp8e4m3) (rollRow k0_pay3 1#32 (k0_pay7 u)) (k0_pay7 (F := Ideal) u) (rollRow k0_pay4 8191#32 (k0_pay7 u))) o
  rw [z8, sum6 n (fun k => shapeCast S160x1920 x2 shapeCasts_S1x160x1920_S160x1920 (ix2 o k)) (row_left (k0_pay7 u))
    (row_right (k0_pay7 u)), cols_pay7] at h
  have hw : ∀ k : Fin 1920, shapeCast S160x1920 x2 shapeCasts_S1x160x1920_S160x1920 (ix2 o k) = x2 (ix3 0 o k) := fun k => by pointwise
  simp only [hw] at h
  have hb : broadcastTo S160x8192 (shapeCast S160x1 x3 shapeCasts_S1x160x1_S160x1) broadcasts_S160x1_S160x8192 (ix2 o n) = x3 (ix3 0 o 0) := by pointwise
  unfold c1
  rw [z8]
  exact congrArg₂ (fun s t : EReal => s * Ideal.ofBits .f32 0x3D800000#32 + t) h hb
theorem c2_at (v : FVec Ideal S320x8192 .bf16) (x4 : FVec Ideal S1x320x1920 .bf16) (x5 : FVec Ideal S1x320x1 .f32) (o : Fin 320) :
    c2 v x4 x5 (ix2 o n) = Spec.conv6 (fun o k => x4 (ix3 0 o k)) (cols320 v) o n + x5 (ix3 0 o 0) := by
  have h := mm6b n (shapeCast S320x1920 x4 shapeCasts_S1x320x1920_S320x1920)
    (op6 (Scalar.ofBits .bf16 0x0000#16 : Ideal .bf16) (rollPair k0_pay3 1#32 v) v (rollPair k0_pay4 8191#32 v)) o
  rw [z16, sum6 n (fun k => shapeCast S320x1920 x4 shapeCasts_S1x320x1920_S320x1920 (ix2 o k)) (pair_left v)
    (pair_right v)] at h
  have hw : ∀ k : Fin 1920, shapeCast S320x1920 x4 shapeCasts_S1x320x1920_S320x1920 (ix2 o k) = x4 (ix3 0 o k) := fun k => by pointwise
  simp only [hw] at h
  have hb : broadcastTo S320x8192 (shapeCast S320x1 x5 shapeCasts_S1x320x1_S320x1) broadcasts_S320x1_S320x8192 (ix2 o n) = x5 (ix3 0 o 0) := by pointwise
  unfold c2
  rw [z16]
  exact congrArg₂ (fun s t : EReal => s + t) h hb
theorem c3_at (v l : FVec Ideal S160x8192 .f32) (x6 : FVec Ideal S1x160x1600 .bf16) (x7 : FVec Ideal S1x160x1 .f32) (o : Fin 160) :
    c3 v l x6 x7 (ix2 o n)
      = Spec.conv4 (by decide : 1280 ≤ 1600) (fun o k => x6 (ix3 0 o k)) (Spec.celu (cols160 l))
          (fun o n => ∑ i : Fin 320, x6 (ix3 0 o ⟨1280 + i.val, by omega⟩) * Spec.celu (cols160 v) i n) o n + x7 (ix3 0 o 0) := by
  have h := mm5 n (shapeCast S160x1600 x6 shapeCasts_S1x160x1600_S160x1600)
    (op5 (Scalar.ofBits .bf16 0x0000#16 : Ideal .bf16) (rollPair k0_pay3 1#32 (k0_pay7 (F := Ideal) l)) (k0_pay7 (F := Ideal) l) (k0_pay7 (F := Ideal) v)) o
  rw [z16, sum5 n (fun k => shapeCast S160x1600 x6 shapeCasts_S1x160x1600_S160x1600 (ix2 o k)) _ (pair_left (k0_pay7 (F := Ideal) l)),
    cols_pay7, cols_pay7] at h
  have hw : ∀ k : Fin 1600, shapeCast S160x1600 x6 shapeCasts_S1x160x1600_S160x1600 (ix2 o k) = x6 (ix3 0 o k) := fun k => by pointwise
  simp only [hw] at h
  have hb : broadcastTo S160x8192 (shapeCast S160x1 x7 shapeCasts_S1x160x1_S160x1) broadcasts_S160x1_S160x8192 (ix2 o n) = x7 (ix3 0 o 0) := by pointwise
  unfold c3
  rw [z16]
  exact congrArg₂ (fun s t : EReal => s + t) h hb
theorem c4_at (v : FVec Ideal S320x8192 .bf16) (x8 : FVec Ideal S1x320x1280 .bf16) (x9 : FVec Ideal S1x320x1 .f32) (o : Fin 320) :
    c4 v x8 x9 (ix2 o n) = Spec.conv4 (le_refl 1280) (fun o k => x8 (ix3 0 o k)) (cols320 v) (fun _ _ => 0) o n + x9 (ix3 0 o 0) := by
  have h := mm4 n (shapeCast S320x1280 x8 shapeCasts_S1x320x1280_S320x1280)
    (op4 (Scalar.ofBits .bf16 0x0000#16 : Ideal .bf16) (rollPair k0_pay3 1#32 v) v) o
  rw [z16, sum4 n (fun k => shapeCast S320x1280 x8 shapeCasts_S1x320x1280_S320x1280 (ix2 o k)) (pair_left v)] at h
  have hw : ∀ k : Fin 1280, shapeCast S320x1280 x8 shapeCasts_S1x320x1280_S320x1280 (ix2 o k) = x8 (ix3 0 o k) := fun k => by pointwise
  simp only [hw] at h
  have hb : broadcastTo S320x8192 (shapeCast S320x1 x9 shapeCasts_S1x320x1_S320x1) broadcasts_S320x1_S320x8192 (ix2 o n) = x9 (ix3 0 o 0) := by pointwise
  unfold c4
  rw [z16]
  exact congrArg₂ (fun s t : EReal => s + t) h hb
end At

/-! ## One block -/

section Block
variable (w : Spec.Weights) (a : EReal)

theorem stepU_at (u : FVec Ideal S160x8192 .f32) (x2 : FVec Ideal S1x160x1920 .fp8e4m3) (x3 : FVec Ideal S1x160x1 .f32) (x4 : FVec Ideal S1x320x1920 .bf16)
    (x5 : FVec Ideal S1x320x1 .f32) (h2 : ∀ o k, x2 (ix3 0 o k) = Spec.stack6 w.u1w o k * a) (h3 : ∀ o, x3 (ix3 0 o 0) = w.u1b o)
    (h4 : ∀ o k, x4 (ix3 0 o k) = Spec.stack6 w.u2w o k) (h5 : ∀ o, x5 (ix3 0 o 0) = w.u2b o) :
    cols160 (stepU (F := Ideal) u x2 x3 x4 x5) = Spec.nextUC w a (Ideal.ofBits .f32 0x3D800000#32) (cols160 u) := by
  funext o n
  unfold cols160
  rw [stepU_eq, gateK_at]
  unfold Spec.nextUC
  congr 1
  funext o n
  refine (c2_at n _ x4 x5 o).trans ?_
  rw [mid_eq, cols_pay7, h5]
  have e : cols160 (c1 u x2 x3) = fun o n => Spec.conv6 (fun o k => Spec.stack6 w.u1w o k * a) (Spec.celu (cols160 u)) o n * Ideal.ofBits .f32 0x3D800000#32 + w.u1b o := by
    funext o n
    refine (c1_at n u x2 x3 o).trans ?_
    simp only [h2, h3]
  rw [e]
  simp only [h4]
  rfl

theorem stepL_at (v l : FVec Ideal S160x8192 .f32) (x6 : FVec Ideal S1x160x1600 .bf16) (x7 : FVec Ideal S1x160x1 .f32) (x8 : FVec Ideal S1x320x1280 .bf16)
    (x9 : FVec Ideal S1x320x1 .f32) (h6 : ∀ o k, x6 (ix3 0 o k) = Spec.lowerW w o k) (h7 : ∀ o, x7 (ix3 0 o 0) = w.l1b o + w.nb o)
    (h8 : ∀ o k, x8 (ix3 0 o k) = Spec.stack4 w.l2w o k) (h9 : ∀ o, x9 (ix3 0 o 0) = w.l2b o) :
    cols160 (stepL (F := Ideal) v l x6 x7 x8 x9) = Spec.nextLC w (cols160 v) (cols160 l) := by
  funext o n
  unfold cols160
  rw [stepL_eq, gateK_at]
  unfold Spec.nextLC
  congr 1
  funext o n
  refine (c4_at n _ x8 x9 o).trans ?_
  rw [cols_pay7, h9]
  have e : cols160 (c3 v l x6 x7) = Spec.lower1C w (cols160 v) (cols160 l) := by
    funext o n
    refine (c3_at n v l x6 x7 o).trans ?_
    simp only [h6, h7]
    rfl
  rw [e]
  simp only [h8]
  rfl
end Block

end Cert.KernelIdeal.Pay

end
-- ==== Proof.RefStep.lean ====
/- One trip of the reference's loop at the ideal instance, read one element at a time: the next states are `Cert.Spec`'s. -/
module

public import proofs.«01_k».proof.Proof.Spec
public import proofs.«01_k».proof.Proof.Gen.ReferenceIdeal.Step
public import Idealize.ShloMosaic.Lib.Pointwise

@[expose] public section

set_option maxRecDepth 16384

noncomputable section

open Idealize.ShloMosaic Idealize.ShloMosaic.TcCoe Idealize.SL.Sem

namespace Cert.ReferenceIdeal.StepAt

open Cert.ReferenceIdeal Cert.ReferenceIdeal.Gen Cert.ReferenceIdeal.Step

/-- An array of images as a function of image, channel, row and column. -/
def imgs160 (x : S32x160x32x32.Idx → EReal) : Spec.Imgs 160 := fun b c y z => x (ix4 b c y z)
def imgs320 (x : S32x320x32x32.Idx → EReal) : Spec.Imgs 320 := fun b c y z => x (ix4 b c y z)

/-- The concatenated exponential linear unit. -/
def celuR (x : FVec Ideal S32x160x32x32 .f32) : FVec Ideal S32x320x32x32 .f32 :=
  select (cmpf .ogt (concatenate S32x320x32x32 1 [⟨S32x160x32x32, x⟩, ⟨S32x160x32x32, Host.negf x⟩] concatenates_S32x160x32x32_S32x160x32x32_S32x320x32x32_d1)
      (broadcastInDim S32x320x32x32 ![] bcast_S_S32x320x32x32 (constant S_ .f32 0x00000000#32)))
    (concatenate S32x320x32x32 1 [⟨S32x160x32x32, x⟩, ⟨S32x160x32x32, Host.negf x⟩] concatenates_S32x160x32x32_S32x160x32x32_S32x320x32x32_d1)
    (Host.expm1 (concatenate S32x320x32x32 1 [⟨S32x160x32x32, x⟩, ⟨S32x160x32x32, Host.negf x⟩] concatenates_S32x160x32x32_S32x160x32x32_S32x320x32x32_d1))
theorem celuR_at (x : FVec Ideal S32x160x32x32 .f32) : imgs320 (celuR x) = Spec.celuI (imgs160 x) := by
  funext b c y z
  unfold imgs320
  pointwise [celuR]
  rfl

/-- The gate. -/
def gateR (u : FVec Ideal S32x160x32x32 .f32) (x : FVec Ideal S32x320x32x32 .f32) : FVec Ideal S32x160x32x32 .f32 :=
  addf u (mulf (extractStridedSlice S32x160x32x32 ![0, 0, 0, 0] x slices_S32x320x32x32_S32x160x32x32_0_0_0_0)
    (Host.divf (broadcastInDim S32x160x32x32 ![] bcast_S_S32x160x32x32 (constant S_ .f32 0x3F800000#32))
      (addf (broadcastInDim S32x160x32x32 ![] bcast_S_S32x160x32x32 (constant S_ .f32 0x3F800000#32))
        (Host.exp (Host.negf (extractStridedSlice S32x160x32x32 ![0, 160, 0, 0] x slices_S32x320x32x32_S32x160x32x32_0_160_0_0))))))
theorem gateR_at (u : FVec Ideal S32x160x32x32 .f32) (x : FVec Ideal S32x320x32x32 .f32) : imgs160 (gateR u x) = Spec.gateI (imgs160 u) (imgs320 x) := by
  funext b c y z
  unfold imgs160
  pointwise [gateR]
  rfl

/-- The padded images, for three column taps and for two. -/
def pad3 (x : FVec Ideal S32x320x32x32 .f32) : FVec Ideal S32x320x33x34 .f32 :=
  pad S32x320x33x34 ![0, 0, 1, 1] ![0, 0, 0, 1] ![0, 0, 0, 0] x (constant S_ .f32 0x00000000#32) pads_S32x320x32x32_S32x320x33x34_000_000_100_110 h_S_
def pad2 (x : FVec Ideal S32x320x32x32 .f32) : FVec Ideal S32x320x33x33 .f32 :=
  pad S32x320x33x33 ![0, 0, 1, 1] ![0, 0, 0, 0] ![0, 0, 0, 0] x (constant S_ .f32 0x00000000#32) pads_S32x320x32x32_S32x320x33x33_000_000_100_100 h_S_
theorem pad3_at (x : FVec Ideal S32x320x32x32 .f32) (b : Fin 32) (c : Fin 320) (y : Fin 33) (z : Fin 34) :
    pad3 x (ix4 b c y z) = Spec.tap (imgs320 x) b c y.val z.val := by
  pointwise [pad3]
  unfold Spec.tap
  have := y.isLt; have := z.isLt
  by_cases h : (1 ≤ y.val ∧ y.val - 1 < 32) ∧ 1 ≤ z.val ∧ z.val - 1 < 32
  · rw [dif_pos h, dif_pos (by omega)]; rfl
  · rw [dif_neg h, dif_neg (by omega)]
theorem pad2_at (x : FVec Ideal S32x320x32x32 .f32) (b : Fin 32) (c : Fin 320) (y : Fin 33) (z : Fin 33) :
    pad2 x (ix4 b c y z) = Spec.tap (imgs320 x) b c y.val z.val := by
  pointwise [pad2]
  unfold Spec.tap
  have := y.isLt; have := z.isLt
  by_cases h : (1 ≤ y.val ∧ y.val - 1 < 32) ∧ 1 ≤ z.val ∧ z.val - 1 < 32
  · rw [dif_pos h, dif_pos (by omega)]; rfl
  · rw [dif_neg h, dif_neg (by omega)]

/-- The convolution of six taps to 160 channels, of padded images `p`, and its bias. -/
def convA (w : FVec Ideal S160x320x2x3 .f32) (p : FVec Ideal S32x320x33x34 .f32) (b : FVec Ideal S160 .f32) : FVec Ideal S32x160x32x32 .f32 :=
  addf (addf (addf (addf (addf (addf (transpose S32x160x32x32 [1, 0, 2, 3] (Host.dotGeneral dot_S160x320_S32x320x32x32_S160x32x32x32_1_1_0_023_n_n none (shapeCast S160x320 (extractStridedSlice S160x320x1x1 ![0, 0, 0, 0] w slices_S160x320x2x3_S160x320x1x1_0_0_0_0) shapeCasts_S160x320x1x1_S160x320) (extractStridedSlice S32x320x32x32 ![0, 0, 0, 0] p slices_S32x320x33x34_S32x320x32x32_0_0_0_0)) transposes_S160x32x32x32_S32x160x32x32_1_0_2_3)
      (transpose S32x160x32x32 [1, 0, 2, 3] (Host.dotGeneral dot_S160x320_S32x320x32x32_S160x32x32x32_1_1_0_023_n_n none (shapeCast S160x320 (extractStridedSlice S160x320x1x1 ![0, 0, 0, 1] w slices_S160x320x2x3_S160x320x1x1_0_0_0_1) shapeCasts_S160x320x1x1_S160x320) (extractStridedSlice S32x320x32x32 ![0, 0, 0, 1] p slices_S32x320x33x34_S32x320x32x32_0_0_0_1)) transposes_S160x32x32x32_S32x160x32x32_1_0_2_3))
      (transpose S32x160x32x32 [1, 0, 2, 3] (Host.dotGeneral dot_S160x320_S32x320x32x32_S160x32x32x32_1_1_0_023_n_n none (shapeCast S160x320 (extractStridedSlice S160x320x1x1 ![0, 0, 0, 2] w slices_S160x320x2x3_S160x320x1x1_0_0_0_2) shapeCasts_S160x320x1x1_S160x320) (extractStridedSlice S32x320x32x32 ![0, 0, 0, 2] p slices_S32x320x33x34_S32x320x32x32_0_0_0_2)) transposes_S160x32x32x32_S32x160x32x32_1_0_2_3))
      (transpose S32x160x32x32 [1, 0, 2, 3] (Host.dotGeneral dot_S160x320_S32x320x32x32_S160x32x32x32_1_1_0_023_n_n none (shapeCast S160x320 (extractStridedSlice S160x320x1x1 ![0, 0, 1, 0] w slices_S160x320x2x3_S160x320x1x1_0_0_1_0) shapeCasts_S160x320x1x1_S160x320) (extractStridedSlice S32x320x32x32 ![0, 0, 1, 0] p slices_S32x320x33x34_S32x320x32x32_0_0_1_0)) transposes_S160x32x32x32_S32x160x32x32_1_0_2_3))
      (transpose S32x160x32x32 [1, 0, 2, 3] (Host.dotGeneral dot_S160x320_S32x320x32x32_S160x32x32x32_1_1_0_023_n_n none (shapeCast S160x320 (extractStridedSlice S160x320x1x1 ![0, 0, 1, 1] w slices_S160x320x2x3_S160x320x1x1_0_0_1_1) shapeCasts_S160x320x1x1_S160x320) (extractStridedSlice S32x320x32x32 ![0, 0, 1, 1] p slices_S32x320x33x34_S32x320x32x32_0_0_1_1)) transposes_S160x32x32x32_S32x160x32x32_1_0_2_3))
      (transpose S32x160x32x32 [1, 0, 2, 3] (Host.dotGeneral dot_S160x320_S32x320x32x32_S160x32x32x32_1_1_0_023_n_n none (shapeCast S160x320 (extractStridedSlice S160x320x1x1 ![0, 0, 1, 2] w slices_S160x320x2x3_S160x320x1x1_0_0_1_2) shapeCasts_S160x320x1x1_S160x320) (extractStridedSlice S32x320x32x32 ![0, 0, 1, 2] p slices_S32x320x33x34_S32x320x32x32_0_0_1_2)) transposes_S160x32x32x32_S32x160x32x32_1_0_2_3))
    (broadcastInDim S32x160x32x32 ![0, 1, 2, 3] bcast_S1x160x1x1_S32x160x32x32_0_1_2_3 (broadcastInDim S1x160x1x1 ![1] bcast_S160_S1x160x1x1_1 b))
theorem convA_at (w : FVec Ideal S160x320x2x3 .f32) (x : FVec Ideal S32x320x32x32 .f32) (b : FVec Ideal S160 .f32) (k : Fin 32) (o : Fin 160) (y z : Fin 32) :
    convA w (pad3 x) b (ix4 k o y z) = Spec.convI6 (fun o i q r => w (ix4 o i q r)) (imgs320 x) k o y z + b (ix1 o) := by
  generalize hp : pad3 x = p
  pointwise [convA]
  subst hp
  simp only [pad3_at, Nat.add_comm 1, Nat.add_comm 2]
  rfl

/-- The convolution of six taps to 320 channels, of padded images `p`, and its bias. -/
def convB (w : FVec Ideal S320x320x2x3 .f32) (p : FVec Ideal S32x320x33x34 .f32) (b : FVec Ideal S320 .f32) : FVec Ideal S32x320x32x32 .f32 :=
  addf (addf (addf (addf (addf (addf (transpose S32x320x32x32 [1, 0, 2, 3] (Host.dotGeneral dot_S320x320_S32x320x32x32_S320x32x32x32_1_1_0_023_n_n none (shapeCast S320x320 (extractStridedSlice S320x320x1x1 ![0, 0, 0, 0] w slices_S320x320x2x3_S320x320x1x1_0_0_0_0) shapeCasts_S320x320x1x1_S320x320) (extractStridedSlice S32x320x32x32 ![0, 0, 0, 0] p slices_S32x320x33x34_S32x320x32x32_0_0_0_0)) transposes_S320x32x32x32_S32x320x32x32_1_0_2_3)
      (transpose S32x320x32x32 [1, 0, 2, 3] (Host.dotGeneral dot_S320x320_S32x320x32x32_S320x32x32x32_1_1_0_023_n_n none (shapeCast S320x320 (extractStridedSlice S320x320x1x1 ![0, 0, 0, 1] w slices_S320x320x2x3_S320x320x1x1_0_0_0_1) shapeCasts_S320x320x1x1_S320x320) (extractStridedSlice S32x320x32x32 ![0, 0, 0, 1] p slices_S32x320x33x34_S32x320x32x32_0_0_0_1)) transposes_S320x32x32x32_S32x320x32x32_1_0_2_3))
      (transpose S32x320x32x32 [1, 0, 2, 3] (Host.dotGeneral dot_S320x320_S32x320x32x32_S320x32x32x32_1_1_0_023_n_n none (shapeCast S320x320 (extractStridedSlice S320x320x1x1 ![0, 0, 0, 2] w slices_S320x320x2x3_S320x320x1x1_0_0_0_2) shapeCasts_S320x320x1x1_S320x320) (extractStridedSlice S32x320x32x32 ![0, 0, 0, 2] p slices_S32x320x33x34_S32x320x32x32_0_0_0_2)) transposes_S320x32x32x32_S32x320x32x32_1_0_2_3))
      (transpose S32x320x32x32 [1, 0, 2, 3] (Host.dotGeneral dot_S320x320_S32x320x32x32_S320x32x32x32_1_1_0_023_n_n none (shapeCast S320x320 (extractStridedSlice S320x320x1x1 ![0, 0, 1, 0] w slices_S320x320x2x3_S320x320x1x1_0_0_1_0) shapeCasts_S320x320x1x1_S320x320) (extractStridedSlice S32x320x32x32 ![0, 0, 1, 0] p slices_S32x320x33x34_S32x320x32x32_0_0_1_0)) transposes_S320x32x32x32_S32x320x32x32_1_0_2_3))
      (transpose S32x320x32x32 [1, 0, 2, 3] (Host.dotGeneral dot_S320x320_S32x320x32x32_S320x32x32x32_1_1_0_023_n_n none (shapeCast S320x320 (extractStridedSlice S320x320x1x1 ![0, 0, 1, 1] w slices_S320x320x2x3_S320x320x1x1_0_0_1_1) shapeCasts_S320x320x1x1_S320x320) (extractStridedSlice S32x320x32x32 ![0, 0, 1, 1] p slices_S32x320x33x34_S32x320x32x32_0_0_1_1)) transposes_S320x32x32x32_S32x320x32x32_1_0_2_3))
      (transpose S32x320x32x32 [1, 0, 2, 3] (Host.dotGeneral dot_S320x320_S32x320x32x32_S320x32x32x32_1_1_0_023_n_n none (shapeCast S320x320 (extractStridedSlice S320x320x1x1 ![0, 0, 1, 2] w slices_S320x320x2x3_S320x320x1x1_0_0_1_2) shapeCasts_S320x320x1x1_S320x320) (extractStridedSlice S32x320x32x32 ![0, 0, 1, 2] p slices_S32x320x33x34_S32x320x32x32_0_0_1_2)) transposes_S320x32x32x32_S32x320x32x32_1_0_2_3))
    (broadcastInDim S32x320x32x32 ![0, 1, 2, 3] bcast_S1x320x1x1_S32x320x32x32_0_1_2_3 (broadcastInDim S1x320x1x1 ![1] bcast_S320_S1x320x1x1_1 b))
theorem convB_at (w : FVec Ideal S320x320x2x3 .f32) (x : FVec Ideal S32x320x32x32 .f32) (b : FVec Ideal S320 .f32) (k : Fin 32) (o : Fin 320) (y z : Fin 32) :
    convB w (pad3 x) b (ix4 k o y z) = Spec.convI6 (fun o i q r => w (ix4 o i q r)) (imgs320 x) k o y z + b (ix1 o) := by
  generalize hp : pad3 x = p
  pointwise [convB]
  subst hp
  simp only [pad3_at, Nat.add_comm 1, Nat.add_comm 2]
  rfl

/-- The convolution of four taps to 160 channels, of padded images `p`, and its bias. -/
def convC (w : FVec Ideal S160x320x2x2 .f32) (p : FVec Ideal S32x320x33x33 .f32) (b : FVec Ideal S160 .f32) : FVec Ideal S32x160x32x32 .f32 :=
  addf (addf (addf (addf (transpose S32x160x32x32 [1, 0, 2, 3] (Host.dotGeneral dot_S160x320_S32x320x32x32_S160x32x32x32_1_1_0_023_n_n none (shapeCast S160x320 (extractStridedSlice S160x320x1x1 ![0, 0, 0, 0] w slices_S160x320x2x2_S160x320x1x1_0_0_0_0) shapeCasts_S160x320x1x1_S160x320) (extractStridedSlice S32x320x32x32 ![0, 0, 0, 0] p slices_S32x320x33x33_S32x320x32x32_0_0_0_0)) transposes_S160x32x32x32_S32x160x32x32_1_0_2_3)
      (transpose S32x160x32x32 [1, 0, 2, 3] (Host.dotGeneral dot_S160x320_S32x320x32x32_S160x32x32x32_1_1_0_023_n_n none (shapeCast S160x320 (extractStridedSlice S160x320x1x1 ![0, 0, 0, 1] w slices_S160x320x2x2_S160x320x1x1_0_0_0_1) shapeCasts_S160x320x1x1_S160x320) (extractStridedSlice S32x320x32x32 ![0, 0, 0, 1] p slices_S32x320x33x33_S32x320x32x32_0_0_0_1)) transposes_S160x32x32x32_S32x160x32x32_1_0_2_3))
      (transpose S32x160x32x32 [1, 0, 2, 3] (Host.dotGeneral dot_S160x320_S32x320x32x32_S160x32x32x32_1_1_0_023_n_n none (shapeCast S160x320 (extractStridedSlice S160x320x1x1 ![0, 0, 1, 0] w slices_S160x320x2x2_S160x320x1x1_0_0_1_0) shapeCasts_S160x320x1x1_S160x320) (extractStridedSlice S32x320x32x32 ![0, 0, 1, 0] p slices_S32x320x33x33_S32x320x32x32_0_0_1_0)) transposes_S160x32x32x32_S32x160x32x32_1_0_2_3))
      (transpose S32x160x32x32 [1, 0, 2, 3] (Host.dotGeneral dot_S160x320_S32x320x32x32_S160x32x32x32_1_1_0_023_n_n none (shapeCast S160x320 (extractStridedSlice S160x320x1x1 ![0, 0, 1, 1] w slices_S160x320x2x2_S160x320x1x1_0_0_1_1) shapeCasts_S160x320x1x1_S160x320) (extractStridedSlice S32x320x32x32 ![0, 0, 1, 1] p slices_S32x320x33x33_S32x320x32x32_0_0_1_1)) transposes_S160x32x32x32_S32x160x32x32_1_0_2_3))
    (broadcastInDim S32x160x32x32 ![0, 1, 2, 3] bcast_S1x160x1x1_S32x160x32x32_0_1_2_3 (broadcastInDim S1x160x1x1 ![1] bcast_S160_S1x160x1x1_1 b))
theorem convC_at (w : FVec Ideal S160x320x2x2 .f32) (x : FVec Ideal S32x320x32x32 .f32) (b : FVec Ideal S160 .f32) (k : Fin 32) (o : Fin 160) (y z : Fin 32) :
    convC w (pad2 x) b (ix4 k o y z) = Spec.convI4 (fun o i q r => w (ix4 o i q r)) (imgs320 x) k o y z + b (ix1 o) := by
  generalize hp : pad2 x = p
  pointwise [convC]
  subst hp
  simp only [pad2_at, Nat.add_comm 1]
  rfl

/-- The convolution of four taps to 320 channels, of padded images `p`, and its bias. -/
def convD (w : FVec Ideal S320x320x2x2 .f32) (p : FVec Ideal S32x320x33x33 .f32) (b : FVec Ideal S320 .f32) : FVec Ideal S32x320x32x32 .f32 :=
  addf (addf (addf (addf (transpose S32x320x32x32 [1, 0, 2, 3] (Host.dotGeneral dot_S320x320_S32x320x32x32_S320x32x32x32_1_1_0_023_n_n none (shapeCast S320x320 (extractStridedSlice S320x320x1x1 ![0, 0, 0, 0] w slices_S320x320x2x2_S320x320x1x1_0_0_0_0) shapeCasts_S320x320x1x1_S320x320) (extractStridedSlice S32x320x32x32 ![0, 0, 0, 0] p slices_S32x320x33x33_S32x320x32x32_0_0_0_0)) transposes_S320x32x32x32_S32x320x32x32_1_0_2_3)
      (transpose S32x320x32x32 [1, 0, 2, 3] (Host.dotGeneral dot_S320x320_S32x320x32x32_S320x32x32x32_1_1_0_023_n_n none (shapeCast S320x320 (extractStridedSlice S320x320x1x1 ![0, 0, 0, 1] w slices_S320x320x2x2_S320x320x1x1_0_0_0_1) shapeCasts_S320x320x1x1_S320x320) (extractStridedSlice S32x320x32x32 ![0, 0, 0, 1] p slices_S32x320x33x33_S32x320x32x32_0_0_0_1)) transposes_S320x32x32x32_S32x320x32x32_1_0_2_3))
      (transpose S32x320x32x32 [1, 0, 2, 3] (Host.dotGeneral dot_S320x320_S32x320x32x32_S320x32x32x32_1_1_0_023_n_n none (shapeCast S320x320 (extractStridedSlice S320x320x1x1 ![0, 0, 1, 0] w slices_S320x320x2x2_S320x320x1x1_0_0_1_0) shapeCasts_S320x320x1x1_S320x320) (extractStridedSlice S32x320x32x32 ![0, 0, 1, 0] p slices_S32x320x33x33_S32x320x32x32_0_0_1_0)) transposes_S320x32x32x32_S32x320x32x32_1_0_2_3))
      (transpose S32x320x32x32 [1, 0, 2, 3] (Host.dotGeneral dot_S320x320_S32x320x32x32_S320x32x32x32_1_1_0_023_n_n none (shapeCast S320x320 (extractStridedSlice S320x320x1x1 ![0, 0, 1, 1] w slices_S320x320x2x2_S320x320x1x1_0_0_1_1) shapeCasts_S320x320x1x1_S320x320) (extractStridedSlice S32x320x32x32 ![0, 0, 1, 1] p slices_S32x320x33x33_S32x320x32x32_0_0_1_1)) transposes_S320x32x32x32_S32x320x32x32_1_0_2_3))
    (broadcastInDim S32x320x32x32 ![0, 1, 2, 3] bcast_S1x320x1x1_S32x320x32x32_0_1_2_3 (broadcastInDim S1x320x1x1 ![1] bcast_S320_S1x320x1x1_1 b))
theorem convD_at (w : FVec Ideal S320x320x2x2 .f32) (x : FVec Ideal S32x320x32x32 .f32) (b : FVec Ideal S320 .f32) (k : Fin 32) (o : Fin 320) (y z : Fin 32) :
    convD w (pad2 x) b (ix4 k o y z) = Spec.convI4 (fun o i q r => w (ix4 o i q r)) (imgs320 x) k o y z + b (ix1 o) := by
  generalize hp : pad2 x = p
  pointwise [convD]
  subst hp
  simp only [pad2_at, Nat.add_comm 1]
  rfl

/-- The upper stack's contribution and its bias. -/
def nin (w : FVec Ideal S160x320 .f32) (x : FVec Ideal S32x320x32x32 .f32) (b : FVec Ideal S160 .f32) : FVec Ideal S32x160x32x32 .f32 :=
  addf (transpose S32x160x32x32 [1, 0, 2, 3] (Host.dotGeneral dot_S160x320_S32x320x32x32_S160x32x32x32_1_1_0_023_n_n none w x) transposes_S160x32x32x32_S32x160x32x32_1_0_2_3)
    (broadcastInDim S32x160x32x32 ![0, 1, 2, 3] bcast_S1x160x1x1_S32x160x32x32_0_1_2_3 (broadcastInDim S1x160x1x1 ![1] bcast_S160_S1x160x1x1_1 b))
theorem nin_at (w : FVec Ideal S160x320 .f32) (x : FVec Ideal S32x320x32x32 .f32) (b : FVec Ideal S160 .f32) (k : Fin 32) (o : Fin 160) (y z : Fin 32) :
    nin w x b (ix4 k o y z) = (∑ i, w (ix2 o i) * imgs320 x k i y z) + b (ix1 o) := by
  pointwise [nin]
  rfl

/-! ## The block's weights -/

/-- A slice that starts at 0 along an axis. -/
theorem start0 {s t : Shape} (ht : t.rank = s.rank) (start : Fin s.rank → Int) (a : Fin s.rank) {n : ℕ} (o : Fin n)
    (hlt : Host.clampedStart s t ht start a + o.val < n) (h : start a = 0) (hle : t.size (a.cast ht.symm) ≤ s.size a) :
    (⟨Host.clampedStart s t ht start a + o.val, hlt⟩ : Fin n) = o :=
  Fin.ext (by dsimp only; rw [Host.clampedStart_of_le ht start a 0 h (by omega), Nat.zero_add])
/-- A slice that starts at the block's number. -/
theorem startJ {s t : Shape} (ht : t.rank = s.rank) (start : Fin s.rank → Int) (a : Fin s.rank) (j : Fin 5) (hlt : Host.clampedStart s t ht start a < 5)
    (h : start a = (BitVec.ofNat 32 j.val).toInt) (hle : 4 + t.size (a.cast ht.symm) ≤ s.size a) : (⟨Host.clampedStart s t ht start a, hlt⟩ : Fin 5) = j := by
  have e : (BitVec.ofNat 32 j.val).toInt = (j.val : Int) := by clear h; revert j; decide
  exact Fin.ext (Host.clampedStart_of_le ht start a j.val (h.trans e) (by omega))

section Weights
variable (j : Fin 5) (s : State Ideal)

theorem w0 (o : Fin 160) (i : Fin 320) (q : Fin 2) (r : Fin 3) : b5 j.val s (ix4 o i q r) = s.main_v8_0 (ix5 j o i q r) := by
  pointwise [b5, b4, b3, b2, b1, b0]
  refine congrArg s.main_v8_0 ?_
  congr 1
  · exact startJ _ _ _ j _ rfl (by decide)
  all_goals exact start0 _ _ _ _ _ rfl (by decide)
theorem w1 (o : Fin 160) : b8 j.val s (ix1 o) = s.main_v8_1 (ix2 j o) := by
  pointwise [b8, b7, b6]
  refine congrArg s.main_v8_1 ?_
  congr 1
  · exact startJ _ _ _ j _ rfl (by decide)
  all_goals exact start0 _ _ _ _ _ rfl (by decide)
theorem w2 (o : Fin 320) (i : Fin 320) (q : Fin 2) (r : Fin 3) : b14 j.val s (ix4 o i q r) = s.main_v8_2 (ix5 j o i q r) := by
  pointwise [b14, b13, b12, b11, b10, b9]
  refine congrArg s.main_v8_2 ?_
  congr 1
  · exact startJ _ _ _ j _ rfl (by decide)
  all_goals exact start0 _ _ _ _ _ rfl (by decide)
theorem w3 (o : Fin 320) : b17 j.val s (ix1 o) = s.main_v8_3 (ix2 j o) := by
  pointwise [b17, b16, b15]
  refine congrArg s.main_v8_3 ?_
  congr 1
  · exact startJ _ _ _ j _ rfl (by decide)
  all_goals exact start0 _ _ _ _ _ rfl (by decide)
theorem w4 (o : Fin 160) (i : Fin 320) (q : Fin 2) (r : Fin 2) : b23 j.val s (ix4 o i q r) = s.main_v8_4 (ix5 j o i q r) := by
  pointwise [b23, b22, b21, b20, b19, b18]
  refine congrArg s.main_v8_4 ?_
  congr 1
  · exact startJ _ _ _ j _ rfl (by decide)
  all_goals exact start0 _ _ _ _ _ rfl (by decide)
theorem w5 (o : Fin 160) : b26 j.val s (ix1 o) = s.main_v8_5 (ix2 j o) := by
  pointwise [b26, b25, b24]
  refine congrArg s.main_v8_5 ?_
  congr 1
  · exact startJ _ _ _ j _ rfl (by decide)
  all_goals exact start0 _ _ _ _ _ rfl (by decide)
theorem w6 (o : Fin 160) (i : Fin 320) : b30 j.val s (ix2 o i) = s.main_v8_6 (ix3 j o i) := by
  pointwise [b30, b29, b28, b27]
  refine congrArg s.main_v8_6 ?_
  congr 1
  · exact startJ _ _ _ j _ rfl (by decide)
  all_goals exact start0 _ _ _ _ _ rfl (by decide)
theorem w7 (o : Fin 160) : b33 j.val s (ix1 o) = s.main_v8_7 (ix2 j o) := by
  pointwise [b33, b32, b31]
  refine congrArg s.main_v8_7 ?_
  congr 1
  · exact startJ _ _ _ j _ rfl (by decide)
  all_goals exact start0 _ _ _ _ _ rfl (by decide)
theorem w8 (o : Fin 320) (i : Fin 320) (q : Fin 2) (r : Fin 2) : b39 j.val s (ix4 o i q r) = s.main_v8_8 (ix5 j o i q r) := by
  pointwise [b39, b38, b37, b36, b35, b34]
  refine congrArg s.main_v8_8 ?_
  congr 1
  · exact startJ _ _ _ j _ rfl (by decide)
  all_goals exact start0 _ _ _ _ _ rfl (by decide)
theorem w9 (o : Fin 320) : b42 j.val s (ix1 o) = s.main_v8_9 (ix2 j o) := by
  pointwise [b42, b41, b40]
  refine congrArg s.main_v8_9 ?_
  congr 1
  · exact startJ _ _ _ j _ rfl (by decide)
  all_goals exact start0 _ _ _ _ _ rfl (by decide)
end Weights

/-- Block `j`'s weights. -/
def weights (s : State Ideal) (j : Fin 5) : Spec.Weights where
  u1w o i q r := s.main_v8_0 (ix5 j o i q r)
  u1b o := s.main_v8_1 (ix2 j o)
  u2w o i q r := s.main_v8_2 (ix5 j o i q r)
  u2b o := s.main_v8_3 (ix2 j o)
  l1w o i q r := s.main_v8_4 (ix5 j o i q r)
  l1b o := s.main_v8_5 (ix2 j o)
  nw o i := s.main_v8_6 (ix3 j o i)
  nb o := s.main_v8_7 (ix2 j o)
  l2w o i q r := s.main_v8_8 (ix5 j o i q r)
  l2b o := s.main_v8_9 (ix2 j o)

/-! ## One trip -/

section Trip
variable (j : ℕ) (s : State Ideal)

theorem b89_eq : b89 j s = convA (b5 j s) (pad3 (celuR s.main_v8_11)) (b8 j s) := rfl
theorem b136_eq : b136 j s = convB (b14 j s) (pad3 (celuR (b89 j s))) (b17 j s) := rfl
theorem b148_eq : b148 j s = gateR s.main_v8_11 (b136 j s) := rfl
theorem b183_eq : b183 j s = convC (b23 j s) (pad2 (celuR s.main_v8_12)) (b26 j s) := rfl
theorem b195_eq : b195 j s = nin (b30 j s) (celuR (b148 j s)) (b33 j s) := rfl
theorem b196_eq : b196 j s = addf (b183 j s) (b195 j s) := rfl
theorem b231_eq : b231 j s = convD (b39 j s) (pad2 (celuR (b196 j s))) (b42 j s) := rfl
theorem b243_eq : b243 j s = gateR s.main_v8_12 (b231 j s) := rfl
end Trip

section Next
variable (j : Fin 5) (s : State Ideal)

theorem nextU_at : imgs160 (b148 j.val s) = Spec.nextU (weights s j) (imgs160 s.main_v8_11) := by
  rw [b148_eq, gateR_at]
  unfold Spec.nextU
  congr 1
  funext b o y z
  refine (convB_at (b14 j.val s) (celuR (b89 j.val s)) (b17 j.val s) b o y z).trans ?_
  rw [celuR_at, w3]
  have e : imgs160 (b89 j.val s) = fun b o y z => Spec.convI6 (weights s j).u1w (Spec.celuI (imgs160 s.main_v8_11)) b o y z + (weights s j).u1b o := by
    funext b o y z
    refine (convA_at (b5 j.val s) (celuR s.main_v8_11) (b8 j.val s) b o y z).trans ?_
    rw [celuR_at, w1]
    simp only [w0]
    rfl
  rw [e]
  simp only [w2]
  rfl

theorem nextL_at : imgs160 (b243 j.val s) = Spec.nextL (weights s j) (imgs160 (b148 j.val s)) (imgs160 s.main_v8_12) := by
  rw [b243_eq, gateR_at]
  unfold Spec.nextL
  congr 1
  funext b o y z
  refine (convD_at (b39 j.val s) (celuR (b196 j.val s)) (b42 j.val s) b o y z).trans ?_
  rw [celuR_at, w9]
  have e : imgs160 (b196 j.val s) = Spec.lower1 (weights s j) (imgs160 (b148 j.val s)) (imgs160 s.main_v8_12) := by
    funext b o y z
    refine congrArg₂ (fun p q : EReal => p + q) ((convC_at (b23 j.val s) (celuR s.main_v8_12) (b26 j.val s) b o y z).trans ?_)
      ((nin_at (b30 j.val s) (celuR (b148 j.val s)) (b33 j.val s) b o y z).trans ?_)
    · rw [celuR_at, w5]
      simp only [w4]
      rfl
    · rw [celuR_at, w7]
      simp only [w6]
      rfl
  rw [e]
  simp only [w8]
  rfl
end Next

end Cert.ReferenceIdeal.StepAt

end
-- ==== Proof.Final.lean ====
/- The kernel's two carried states, point by point, are the reference's two states, trip by trip; so the results agree. -/
module

public import proofs.«01_k».proof.Proof.Host
public import proofs.«01_k».proof.Proof.Pay
public import proofs.«01_k».proof.Proof.RefStep
public import proofs.«01_k».proof.Proof.Gen.ReferenceIdeal.StepRun

@[expose] public section

set_option maxRecDepth 16384

noncomputable section

open Idealize.ShloMosaic Idealize.ShloMosaic.TcCoe Idealize.SL.Sem

namespace Cert.ReferenceIdeal.Ends

open Cert.ReferenceIdeal Cert.ReferenceIdeal.Gen Cert.ReferenceIdeal.Step Cert.ReferenceIdeal.StepAt

/-- The column a pixel of an image lies in. -/
def column (b : Fin 32) (y z : Fin 32) : Fin 32768 := ⟨b.val / 8 * 8192 + y.val * 256 + b.val % 8 * 32 + z.val, by omega⟩

theorem start_u (x0 x1 : (⟨S160x32768, .bf16⟩ : BufTy).Contents (Elt Ideal)) (b : Fin 32) (o : Fin 160) (y z : Fin 32) :
    A_main_v3 x0 x1 (ix4 b o y z) = x0 (ix2 o (column b y z)) := by
  pointwise [A_main_v3, A_main_v2, A_main_v1, A_main_v0]
  rfl

theorem start_l (x0 x1 : (⟨S160x32768, .bf16⟩ : BufTy).Contents (Elt Ideal)) (b : Fin 32) (o : Fin 160) (y z : Fin 32) :
    A_main_v7 x0 x1 (ix4 b o y z) = x1 (ix2 o (column b y z)) := by
  pointwise [A_main_v7, A_main_v6, A_main_v5, A_main_v4]
  rfl

theorem result_at (s : State Ideal) (o : Fin 160) (N : Fin 32768) :
    R_main_v12 s (ix2 o N) = s.main_v8_12 (ix4 ⟨N.val / 8192 * 8 + N.val / 32 % 8, by omega⟩ o ⟨N.val / 256 % 32, by omega⟩ ⟨N.val % 32, by omega⟩) := by
  pointwise [R_main_v12]

/-- A trip keeps the weights. -/
theorem weights_step (k : ℕ) (s : State Ideal) (j : Fin 5) : weights (step k s) j = weights s j := by
  unfold weights step; rfl

end Cert.ReferenceIdeal.Ends

namespace Cert.KernelIdeal.Final

open Cert.KernelIdeal Cert.KernelIdeal.Gen Cert.KernelIdeal.Open Cert.KernelIdeal.Pay
open Cert.ReferenceIdeal.StepAt (imgs160 nextU_at nextL_at)
open Cert.ReferenceIdeal.Step (State step step_main_v8_11 step_main_v8_12 A_main_v3 A_main_v7)

variable (m : (ℓ : Loc nD τ sig) → Buf (Elt Ideal) ℓ) (c : Dev nD)

/-- The reference's first state, of the kernel's arguments. -/
def start : State Ideal :=
  Cert.ReferenceIdeal.Step.init (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10))
    (m ((c.tc : Thread nD τ).loc main_arg11)) (m ((c.tc : Thread nD τ).loc main_arg0)) (m ((c.tc : Thread nD τ).loc main_arg1))

/-- The reference's states, one per trip. -/
def states : ℕ → State Ideal
  | 0 => start m c
  | k + 1 => step k (states k)

theorem weights_states (k : ℕ) (j : Fin 5) : Cert.ReferenceIdeal.StepAt.weights (states m c k) j = Host.weights m c j := by
  induction k with
  | zero => rfl
  | succ k ih => exact (Cert.ReferenceIdeal.Ends.weights_step k _ j).trans ih

/-- The two states of a grid point's columns are the two states of the reference's images. -/
def Agree (b : Fin 4) (u l : FVec Ideal S160x8192 .f32) (s : State Ideal) : Prop :=
  Spec.Same b (cols160 u) (imgs160 s.main_v8_11) ∧ Spec.Same b (cols160 l) (imgs160 s.main_v8_12)

section Point
variable (t : Fin cfg0.N)

/-- The state of the upper stack a point makes. -/
abbrev uAt (u : FVec Ideal S160x8192 .f32) : FVec Ideal S160x8192 .f32 := stepU (F := Ideal) u (iblk m c 2 t) (iblk m c 3 t) (iblk m c 4 t) (iblk m c 5 t)
/-- The state of the lower stack a point makes. -/
abbrev lAt (u l : FVec Ideal S160x8192 .f32) : FVec Ideal S160x8192 .f32 :=
  stepL (F := Ideal) (uAt m c t u) l (iblk m c 6 t) (iblk m c 7 t) (iblk m c 8 t) (iblk m c 9 t)

/-- ONE POINT IS ONE TRIP. -/
theorem agree_step {b : Fin 4} {u l : FVec Ideal S160x8192 .f32} {s : State Ideal} (j : Fin 5) (hj : j.val = t.val % 5)
    (hw : Cert.ReferenceIdeal.StepAt.weights s j = Host.weights m c j) (h : Agree b u l s) :
    Agree b (uAt m c t u) (lAt m c t u l) (step j.val s) := by
  have hu : Spec.Same b (cols160 (uAt m c t u)) (imgs160 (Cert.ReferenceIdeal.Step.b148 j.val s)) := by
    rw [nextU_at j s, hw]
    unfold uAt
    rw [stepU_at (Host.weights m c j) (Ideal.ofBits .f32 0x41800000#32) u _ _ _ _ (Host.x2_at m c t j hj) (Host.x3_at m c t j hj)
      (Host.x4_at m c t j hj) (Host.x5_at m c t j hj)]
    exact Spec.nextU_same _ Host.sixteen_nonneg Host.sixteen_ne_top Host.sixteen_mul h.1
  have hl : Spec.Same b (cols160 (lAt m c t u l)) (imgs160 (Cert.ReferenceIdeal.Step.b243 j.val s)) := by
    rw [nextL_at j s, hw]
    unfold lAt
    rw [stepL_at (Host.weights m c j) (uAt m c t u) l _ _ _ _ (Host.x6_at m c t j hj) (Host.x7_at m c t j hj)
      (Host.x8_at m c t j hj) (Host.x9_at m c t j hj)]
    exact Spec.nextL_same _ hu h.2
  exact ⟨by rw [step_main_v8_11]; exact hu, by rw [step_main_v8_12]; exact hl⟩

/-- A run's first point starts from the arguments. -/
theorem agree_start (b : Fin 4) (hb : b.val = t.val / 5) :
    Agree b (k0_pay5 (F := Ideal) (iblk m c 0 t)) (k0_pay6 (F := Ideal) (iblk m c 1 t)) (states m c 0) := by
  constructor
  · intro o n
    refine (show cols160 (k0_pay5 (F := Ideal) (iblk m c 0 t)) o n = iblk m c 0 t (ix2 o n) from ?_).trans
      ((Host.x0_at m c t b hb o n).trans (Eq.trans ?_ (Cert.ReferenceIdeal.Ends.start_u _ (m ((c.tc : Thread nD τ).loc main_arg1)) _ _ _ _).symm))
    · unfold cols160; pointwise [k0_pay5]
    · refine congrArg _ (congrArg (ix2 o) (Fin.ext ?_))
      simp only [Cert.ReferenceIdeal.Ends.column, Spec.img, Spec.row, Spec.col]
      omega
  · intro o n
    refine (show cols160 (k0_pay6 (F := Ideal) (iblk m c 1 t)) o n = iblk m c 1 t (ix2 o n) from ?_).trans
      ((Host.x1_at m c t b hb o n).trans (Eq.trans ?_ (Cert.ReferenceIdeal.Ends.start_l (m ((c.tc : Thread nD τ).loc main_arg0)) _ _ _ _ _).symm))
    · unfold cols160; pointwise [k0_pay6]
    · refine congrArg _ (congrArg (ix2 o) (Fin.ext ?_))
      simp only [Cert.ReferenceIdeal.Ends.column, Spec.img, Spec.row, Spec.col]
      omega
end Point

/-- EVERY POINT of a run leaves the states of its trip. -/
theorem agree_at : ∀ (n : ℕ) (hn : n < cfg0.N) (b : Fin 4), b.val = n / 5 →
    Agree b (outsAt0 m c n hn).2.1 (outsAt0 m c n hn).2.2 (states m c (n % 5 + 1)) := by
  intro n
  induction n using Nat.strong_induction_on with
  | _ n ih =>
    intro hn b hb
    have hw := weights_states m c (n % 5) ⟨n % 5, by omega⟩
    by_cases h0 : n % 5 = 0
    · have h1 : ¬n % 5 = 4 := by omega
      have e := outsAt0_A m c ⟨n, hn⟩ h0 h1
      dsimp only at e
      rw [e]
      dsimp only
      rw [sA0, sA1]
      refine agree_step m c ⟨n, hn⟩ ⟨n % 5, by omega⟩ rfl hw ?_
      rw [h0]
      exact agree_start m c ⟨n, hn⟩ b hb
    · have hp := ih (n - 1) (by omega) (by omega) b (by omega)
      rw [show (n - 1) % 5 + 1 = n % 5 by omega] at hp
      by_cases h1 : n % 5 = 4
      · have e := outsAt0_C m c ⟨n, hn⟩ h0 h1
        dsimp only at e
        rw [e]
        dsimp only
        rw [sC0, sC1]
        exact agree_step m c ⟨n, hn⟩ ⟨n % 5, by omega⟩ rfl hw hp
      · have e := outsAt0_B m c ⟨n, hn⟩ h0 h1
        dsimp only at e
        rw [e]
        dsimp only
        rw [sB0, sB1]
        exact agree_step m c ⟨n, hn⟩ ⟨n % 5, by omega⟩ rfl hw hp

/-- THE BLOCK a run writes back is the lower stack's last state. -/
theorem out_at (n : ℕ) (hn : n < cfg0.N) (h4 : n % 5 = 4) : (outsAt0 m c n hn).1 = k0_pay1 (F := Ideal) (outsAt0 m c n hn).2.2 := by
  have e := outsAt0_C m c ⟨n, hn⟩ (by dsimp only; omega) h4
  dsimp only at e
  rw [e]
  dsimp only
  rw [sC1, sC10]

theorem outs_congr {n n' : ℕ} (hn : n < cfg0.N) (hn' : n' < cfg0.N) (e : n = n') : outsAt0 m c n hn = outsAt0 m c n' hn' := by
  subst e; rfl

/-- THE RESULT is the reference's. -/
theorem result : Value.G10 m c = Cert.ReferenceIdeal.Step.R_main_v12 (states m c 5) := by
  funext i
  idx_vars i
  rw [Cert.ReferenceIdeal.Ends.result_at]
  have hN : cfg0.N = 20 := N_0
  have hp : Value.pt10Of (ix2 i0 i1) = 5 * (i1.val / 8192) + 4 := by
    show 5 * (4 * (i0.val / 160 - 0) + 1 * (i1.val / 8192 - 0)) + 4 = _
    omega
  have hl : Value.loc10Of (ix2 i0 i1) = ix2 i0 ⟨i1.val % 8192, by omega⟩ := by
    idx_bounds
    funext a
    refine Fin.ext ?_
    fin_cases a
    · show i0.val % 160 = i0.val
      omega
    · rfl
  have hn : 5 * (i1.val / 8192) + 4 < cfg0.N := by omega
  have h := agree_at m c (5 * (i1.val / 8192) + 4) hn ⟨i1.val / 8192, by omega⟩ (by dsimp only; omega)
  rw [show (5 * (i1.val / 8192) + 4) % 5 + 1 = 5 by omega] at h
  unfold Value.G10
  have hn' : Value.pt10Of (ix2 i0 i1) < cfg0.N := hp.symm ▸ hn
  rw [dif_pos hn', ← Value.outsAt0_sweep m c _ hn', hl, outs_congr m c hn' hn hp, out_at m c _ hn (by omega)]
  refine (show _ = cols160 (outsAt0 m c (5 * (i1.val / 8192) + 4) hn).2.2 i0 ⟨i1.val % 8192, by omega⟩ from ?_).trans ((h.2 i0 _).trans ?_)
  · unfold cols160; pointwise [k0_pay1]
  · refine congrArg (states m c 5).main_v8_12 ?_
    simp only [Spec.img, Spec.row, Spec.col]
    congr 1 <;> exact Fin.ext (by dsimp only; omega)

end Cert.KernelIdeal.Final

end
-- ==== Proof.InitSpec.lean ====
/- The mathematics of the two initial convolution stacks, free of either program: down-shifted and down-right-shifted
   convolutions of the four input channels, shifted by one row or one column. -/
module

public import proofs.«01_k».proof.Proof.Spec

@[expose] public section

noncomputable section

open Idealize.ShloMosaic

namespace Cert.Spec

/-! ## Over images -/

/-- The convolution of one row and three columns. -/
def convI3 {O C : ℕ} (w : Fin O → Fin C → Fin 1 → Fin 3 → EReal) (X : Imgs C) : Imgs O := fun b o y x =>
  tapSum (fun i => w o i 0 0) X b (y.val + 1) (x.val + 0)
  + tapSum (fun i => w o i 0 1) X b (y.val + 1) (x.val + 1)
  + tapSum (fun i => w o i 0 2) X b (y.val + 1) (x.val + 2)
/-- The convolution of two rows and one column. -/
def convI2 {O C : ℕ} (w : Fin O → Fin C → Fin 2 → Fin 1 → EReal) (X : Imgs C) : Imgs O := fun b o y x =>
  tapSum (fun i => w o i 0 0) X b (y.val + 0) (x.val + 1)
  + tapSum (fun i => w o i 1 0) X b (y.val + 1) (x.val + 1)
/-- The images moved one row down. -/
def downI {C : ℕ} (X : Imgs C) : Imgs C := fun b c y x => tap X b c (y.val + 0) (x.val + 1)
/-- The images moved one column to the right. -/
def rightI {C : ℕ} (X : Imgs C) : Imgs C := fun b c y x => tap X b c (y.val + 1) (x.val + 0)

/-- The input channels: the samples rescaled, then ones. -/
def inputs (s : Fin 32 → Fin 3 → Fin 32 → Fin 32 → EReal) : Imgs 4 := fun b c y x =>
  if h : c.val < 3 then s b ⟨c.val, h⟩ y x * Ideal.ofBits .f32 0x40000000#32 - 1 else 1

/-- The upper stack's first state. -/
def initU (w : Fin 160 → Fin 4 → Fin 2 → Fin 3 → EReal) (a : Fin 160 → EReal) (X : Imgs 4) : Imgs 160 :=
  downI fun b o y x => convI6 w X b o y x + a o
/-- The lower stack's first state. -/
def initL (wd : Fin 160 → Fin 4 → Fin 1 → Fin 3 → EReal) (ad : Fin 160 → EReal) (wr : Fin 160 → Fin 4 → Fin 2 → Fin 1 → EReal)
    (ar : Fin 160 → EReal) (X : Imgs 4) : Imgs 160 := fun b o y x =>
  downI (fun b o y x => convI3 wd X b o y x + ad o) b o y x + rightI (fun b o y x => convI2 wr X b o y x + ar o) b o y x

/-! ## Over one block of columns -/

/-- Pieces of four channels, each against its weights. -/
def pieces {P : ℕ} (w : Fin P → Fin 4 → EReal) (V : Fin P → Cols 4) (n : Fin 8192) : EReal := ∑ p, ∑ i, w p i * V p i n
/-- The two rows and three columns, column tap first, then row tap. -/
def colsConv6 (w : Fin 160 → Fin 4 → Fin 2 → Fin 3 → EReal) (K : Cols 4) : Cols 160 := fun o n =>
  pieces (fun (p : Fin 6) i => w o i ⟨p.val % 2, by omega⟩ ⟨p.val / 2, by omega⟩) ![top (left K), left K, top K, K, top (right K), right K] n
/-- The one row and three columns. -/
def colsConv3 (w : Fin 160 → Fin 4 → Fin 1 → Fin 3 → EReal) (K : Cols 4) : Cols 160 := fun o n =>
  pieces (fun (p : Fin 3) i => w o i 0 p) ![left K, K, right K] n
/-- The two rows and one column. -/
def colsConv2 (w : Fin 160 → Fin 4 → Fin 2 → Fin 1 → EReal) (K : Cols 4) : Cols 160 := fun o n =>
  pieces (fun (p : Fin 2) i => w o i p 0) ![top K, K] n

/-- The upper stack's first state over one block of columns. -/
def initUC (w : Fin 160 → Fin 4 → Fin 2 → Fin 3 → EReal) (a : Fin 160 → EReal) (K : Cols 4) : Cols 160 :=
  top fun o n => colsConv6 w K o n + a o
/-- The lower stack's first state over one block of columns. -/
def initLC (wd : Fin 160 → Fin 4 → Fin 1 → Fin 3 → EReal) (ad : Fin 160 → EReal) (wr : Fin 160 → Fin 4 → Fin 2 → Fin 1 → EReal)
    (ar : Fin 160 → EReal) (K : Cols 4) : Cols 160 := fun o n =>
  top (fun o n => colsConv3 wd K o n + ad o) o n + left (fun o n => colsConv2 wr K o n + ar o) o n

/-! ## The two agree -/

section Agree
variable {C : ℕ} {t : Fin 4} {K : Cols C} {X : Imgs C}

theorem down_same (h : Same t K X) : Same t (top K) (downI X) := fun c n => (tap_top (x := 1) c (tap_cur h c) n).symm
theorem right_same (h : Same t K X) : Same t (left K) (rightI X) := fun c n => (tap_left h c n).symm
end Agree

section Convs
variable {t : Fin 4} {K : Cols 4} {X : Imgs 4}

theorem conv6_cols (w : Fin 160 → Fin 4 → Fin 2 → Fin 3 → EReal) (h : Same t K X) : Same t (colsConv6 w K) (convI6 w X) := by
  intro o n
  unfold colsConv6 pieces convI6 tapSum
  simp only [tap_cur h, tap_left h, tap_right h, tap_top (x := 0) _ (tap_left h _), tap_top (x := 1) _ (tap_cur h _), tap_top (x := 2) _ (tap_right h _)]
  rw [Fin.sum_univ_six]
  refine Eq.trans (show _ = (∑ i, w o i 0 0 * top (left K) i n) + (∑ i, w o i 1 0 * left K i n) + (∑ i, w o i 0 1 * top K i n)
    + (∑ i, w o i 1 1 * K i n) + (∑ i, w o i 0 2 * top (right K) i n) + (∑ i, w o i 1 2 * right K i n) from rfl) ?_
  ac_rfl
theorem conv3_cols (w : Fin 160 → Fin 4 → Fin 1 → Fin 3 → EReal) (h : Same t K X) : Same t (colsConv3 w K) (convI3 w X) := by
  intro o n
  unfold colsConv3 pieces convI3 tapSum
  simp only [tap_cur h, tap_left h, tap_right h]
  rw [Fin.sum_univ_three]
  rfl
theorem conv2_cols (w : Fin 160 → Fin 4 → Fin 2 → Fin 1 → EReal) (h : Same t K X) : Same t (colsConv2 w K) (convI2 w X) := by
  intro o n
  unfold colsConv2 pieces convI2 tapSum
  simp only [tap_cur h, tap_top (x := 1) _ (tap_cur h _)]
  rw [Fin.sum_univ_two]
  rfl

/-- A bias on both sides. -/
theorem bias_same {A : Cols 160} {B : Imgs 160} (a : Fin 160 → EReal) (h : Same t A B) :
    Same t (fun o n => A o n + a o) (fun b o y x => B b o y x + a o) := fun o n => by dsimp only; rw [h o n]

theorem initU_same (w : Fin 160 → Fin 4 → Fin 2 → Fin 3 → EReal) (a : Fin 160 → EReal) (h : Same t K X) :
    Same t (initUC w a K) (initU w a X) := down_same (bias_same a (conv6_cols w h))
theorem initL_same (wd : Fin 160 → Fin 4 → Fin 1 → Fin 3 → EReal) (ad : Fin 160 → EReal) (wr : Fin 160 → Fin 4 → Fin 2 → Fin 1 → EReal)
    (ar : Fin 160 → EReal) (h : Same t K X) : Same t (initLC wd ad wr ar K) (initL wd ad wr ar X) := fun o n => by
  unfold initLC initL
  rw [down_same (bias_same ad (conv3_cols wd h)) o n, right_same (bias_same ar (conv2_cols wr h)) o n]
end Convs

/-- A sum over rows, four at a time. -/
theorem sum_rows {P K : ℕ} (hK : K = P * 4) (f : Fin K → EReal) :
    ∑ k, f k = ∑ p : Fin P, ∑ i : Fin 4, f ⟨p.val * 4 + i.val, by omega⟩ := by
  subst hK
  rw [← Fintype.sum_prod_type' (f := fun (p : Fin P) (i : Fin 4) => f ⟨p.val * 4 + i.val, by omega⟩), ← finProdFinEquiv.sum_comp]
  refine Finset.sum_congr rfl fun x _ => congrArg f (Fin.ext ?_)
  show x.2.val + 4 * x.1.val = x.1.val * 4 + x.2.val
  omega

end Cert.Spec

end
-- ==== Proof.InitRef.lean ====
/- The reference's two initial states, read one element at a time. -/
module

public import proofs.«01_k».proof.Proof.InitSpec
public import proofs.«01_k».proof.Proof.Gen.Reference2Ideal.Run
public import Idealize.ShloMosaic.Lib.Pointwise

@[expose] public section

set_option maxRecDepth 16384

noncomputable section

open Idealize.ShloMosaic Idealize.ShloMosaic.TcCoe Idealize.SL.Sem

namespace Cert.Reference2Ideal.Init

open Cert.Reference2Ideal Cert.Reference2Ideal.Gen

/-- An array of images as a function of image, channel, row and column. -/
def imgs4 (x : S32x4x32x32.Idx → EReal) : Spec.Imgs 4 := fun b c y z => x (ix4 b c y z)
def imgs160 (x : S32x160x32x32.Idx → EReal) : Spec.Imgs 160 := fun b c y z => x (ix4 b c y z)

/-! ## The input channels -/

def xp (x : FVec Ideal S32x3x32x32 .f32) : FVec Ideal S32x4x32x32 .f32 :=
  concatenate S32x4x32x32 1 [⟨S32x3x32x32, subf (mulf x (broadcastInDim S32x3x32x32 ![] bcast_S_S32x3x32x32 (constant S_ .f32 0x40000000#32))) (broadcastInDim S32x3x32x32 ![] bcast_S_S32x3x32x32 (constant S_ .f32 0x3F800000#32))⟩,
    ⟨S32x1x32x32, broadcastInDim S32x1x32x32 ![] bcast_S_S32x1x32x32 (constant S_ .f32 0x3F800000#32)⟩] concatenates_S32x3x32x32_S32x1x32x32_S32x4x32x32_d1
theorem xp_at (x : FVec Ideal S32x3x32x32 .f32) : imgs4 (xp x) = Spec.inputs fun b c y z => x (ix4 b c y z) := by
  funext b c y z
  unfold imgs4
  pointwise [xp]
  rfl

/-! ## The padded images -/

/-- Padded by one row above and one column on either side. -/
def pad3 (x : FVec Ideal S32x4x32x32 .f32) : FVec Ideal S32x4x33x34 .f32 :=
  pad S32x4x33x34 ![0, 0, 1, 1] ![0, 0, 0, 1] ![0, 0, 0, 0] x (constant S_ .f32 0x00000000#32) pads_S32x4x32x32_S32x4x33x34_000_000_100_110 h_S_
theorem pad3_at (x : FVec Ideal S32x4x32x32 .f32) (b : Fin 32) (c : Fin 4) (y : Fin 33) (z : Fin 34) :
    pad3 x (ix4 b c y z) = Spec.tap (imgs4 x) b c y.val z.val := by
  pointwise [pad3]
  unfold Spec.tap
  have := y.isLt; have := z.isLt
  split_ifs <;> first | omega | rfl
/-- Padded by one column on either side. -/
def padX (x : FVec Ideal S32x4x32x32 .f32) : FVec Ideal S32x4x32x34 .f32 :=
  pad S32x4x32x34 ![0, 0, 0, 1] ![0, 0, 0, 1] ![0, 0, 0, 0] x (constant S_ .f32 0x00000000#32) pads_S32x4x32x32_S32x4x32x34_000_000_000_110 h_S_
theorem padX_at (x : FVec Ideal S32x4x32x32 .f32) (b : Fin 32) (c : Fin 4) (y : Fin 32) (z : Fin 34) :
    padX x (ix4 b c y z) = Spec.tap (imgs4 x) b c (y.val + 1) z.val := by
  pointwise [padX]
  unfold Spec.tap
  have := y.isLt; have := z.isLt
  split_ifs <;> first | omega | rfl
/-- Padded by one row above. -/
def padY (x : FVec Ideal S32x4x32x32 .f32) : FVec Ideal S32x4x33x32 .f32 :=
  pad S32x4x33x32 ![0, 0, 1, 0] ![0, 0, 0, 0] ![0, 0, 0, 0] x (constant S_ .f32 0x00000000#32) pads_S32x4x32x32_S32x4x33x32_000_000_100_000 h_S_
theorem padY_at (x : FVec Ideal S32x4x32x32 .f32) (b : Fin 32) (c : Fin 4) (y : Fin 33) (z : Fin 32) :
    padY x (ix4 b c y z) = Spec.tap (imgs4 x) b c y.val (z.val + 1) := by
  pointwise [padY]
  unfold Spec.tap
  have := y.isLt; have := z.isLt
  split_ifs <;> first | omega | rfl
/-- Channels padded by one row above. -/
def padTop (x : FVec Ideal S32x160x32x32 .f32) : FVec Ideal S32x160x33x32 .f32 :=
  pad S32x160x33x32 ![0, 0, 1, 0] ![0, 0, 0, 0] ![0, 0, 0, 0] x (constant S_ .f32 0x00000000#32) pads_S32x160x32x32_S32x160x33x32_000_000_100_000 h_S_
theorem padTop_at (x : FVec Ideal S32x160x32x32 .f32) (b : Fin 32) (c : Fin 160) (y : Fin 33) (z : Fin 32) :
    padTop x (ix4 b c y z) = Spec.tap (imgs160 x) b c y.val (z.val + 1) := by
  pointwise [padTop]
  unfold Spec.tap
  have := y.isLt; have := z.isLt
  split_ifs <;> first | omega | rfl
/-- Channels padded by one column on the left. -/
def padLeft (x : FVec Ideal S32x160x32x32 .f32) : FVec Ideal S32x160x32x33 .f32 :=
  pad S32x160x32x33 ![0, 0, 0, 1] ![0, 0, 0, 0] ![0, 0, 0, 0] x (constant S_ .f32 0x00000000#32) pads_S32x160x32x32_S32x160x32x33_000_000_000_100 h_S_
theorem padLeft_at (x : FVec Ideal S32x160x32x32 .f32) (b : Fin 32) (c : Fin 160) (y : Fin 32) (z : Fin 33) :
    padLeft x (ix4 b c y z) = Spec.tap (imgs160 x) b c (y.val + 1) z.val := by
  pointwise [padLeft]
  unfold Spec.tap
  have := y.isLt; have := z.isLt
  split_ifs <;> first | omega | rfl

/-! ## The convolutions -/

/-- One tap. -/
def one (w : FVec Ideal S160x4 .f32) (v : FVec Ideal S32x4x32x32 .f32) : FVec Ideal S32x160x32x32 .f32 :=
  transpose S32x160x32x32 [1, 0, 2, 3] (Host.dotGeneral dot_S160x4_S32x4x32x32_S160x32x32x32_1_1_0_023_n_n none w v) transposes_S160x32x32x32_S32x160x32x32_1_0_2_3
/-- A bias. -/
def biasR (a : FVec Ideal S160 .f32) : FVec Ideal S32x160x32x32 .f32 :=
  broadcastInDim S32x160x32x32 ![0, 1, 2, 3] bcast_S1x160x1x1_S32x160x32x32_0_1_2_3 (broadcastInDim S1x160x1x1 ![1] bcast_S160_S1x160x1x1_1 a)

def conv6 (w : FVec Ideal S160x4x2x3 .f32) (p : FVec Ideal S32x4x33x34 .f32) (a : FVec Ideal S160 .f32) : FVec Ideal S32x160x32x32 .f32 :=
  addf (addf (addf (addf (addf (addf (one (shapeCast _ (extractStridedSlice S160x4x1x1 ![0, 0, 0, 0] w slices_S160x4x2x3_S160x4x1x1_0_0_0_0) shapeCasts_S160x4x1x1_S160x4) (extractStridedSlice S32x4x32x32 ![0, 0, 0, 0] p slices_S32x4x33x34_S32x4x32x32_0_0_0_0))
      (one (shapeCast _ (extractStridedSlice S160x4x1x1 ![0, 0, 0, 1] w slices_S160x4x2x3_S160x4x1x1_0_0_0_1) shapeCasts_S160x4x1x1_S160x4) (extractStridedSlice S32x4x32x32 ![0, 0, 0, 1] p slices_S32x4x33x34_S32x4x32x32_0_0_0_1)))
      (one (shapeCast _ (extractStridedSlice S160x4x1x1 ![0, 0, 0, 2] w slices_S160x4x2x3_S160x4x1x1_0_0_0_2) shapeCasts_S160x4x1x1_S160x4) (extractStridedSlice S32x4x32x32 ![0, 0, 0, 2] p slices_S32x4x33x34_S32x4x32x32_0_0_0_2)))
      (one (shapeCast _ (extractStridedSlice S160x4x1x1 ![0, 0, 1, 0] w slices_S160x4x2x3_S160x4x1x1_0_0_1_0) shapeCasts_S160x4x1x1_S160x4) (extractStridedSlice S32x4x32x32 ![0, 0, 1, 0] p slices_S32x4x33x34_S32x4x32x32_0_0_1_0)))
      (one (shapeCast _ (extractStridedSlice S160x4x1x1 ![0, 0, 1, 1] w slices_S160x4x2x3_S160x4x1x1_0_0_1_1) shapeCasts_S160x4x1x1_S160x4) (extractStridedSlice S32x4x32x32 ![0, 0, 1, 1] p slices_S32x4x33x34_S32x4x32x32_0_0_1_1)))
      (one (shapeCast _ (extractStridedSlice S160x4x1x1 ![0, 0, 1, 2] w slices_S160x4x2x3_S160x4x1x1_0_0_1_2) shapeCasts_S160x4x1x1_S160x4) (extractStridedSlice S32x4x32x32 ![0, 0, 1, 2] p slices_S32x4x33x34_S32x4x32x32_0_0_1_2))) (biasR a)
def conv3 (w : FVec Ideal S160x4x1x3 .f32) (p : FVec Ideal S32x4x32x34 .f32) (a : FVec Ideal S160 .f32) : FVec Ideal S32x160x32x32 .f32 :=
  addf (addf (addf (one (shapeCast _ (extractStridedSlice S160x4x1x1 ![0, 0, 0, 0] w slices_S160x4x1x3_S160x4x1x1_0_0_0_0) shapeCasts_S160x4x1x1_S160x4) (extractStridedSlice S32x4x32x32 ![0, 0, 0, 0] p slices_S32x4x32x34_S32x4x32x32_0_0_0_0))
      (one (shapeCast _ (extractStridedSlice S160x4x1x1 ![0, 0, 0, 1] w slices_S160x4x1x3_S160x4x1x1_0_0_0_1) shapeCasts_S160x4x1x1_S160x4) (extractStridedSlice S32x4x32x32 ![0, 0, 0, 1] p slices_S32x4x32x34_S32x4x32x32_0_0_0_1)))
      (one (shapeCast _ (extractStridedSlice S160x4x1x1 ![0, 0, 0, 2] w slices_S160x4x1x3_S160x4x1x1_0_0_0_2) shapeCasts_S160x4x1x1_S160x4) (extractStridedSlice S32x4x32x32 ![0, 0, 0, 2] p slices_S32x4x32x34_S32x4x32x32_0_0_0_2))) (biasR a)
def conv2 (w : FVec Ideal S160x4x2x1 .f32) (p : FVec Ideal S32x4x33x32 .f32) (a : FVec Ideal S160 .f32) : FVec Ideal S32x160x32x32 .f32 :=
  addf (addf (one (shapeCast _ (extractStridedSlice S160x4x1x1 ![0, 0, 0, 0] w slices_S160x4x2x1_S160x4x1x1_0_0_0_0) shapeCasts_S160x4x1x1_S160x4) (extractStridedSlice S32x4x32x32 ![0, 0, 0, 0] p slices_S32x4x33x32_S32x4x32x32_0_0_0_0))
      (one (shapeCast _ (extractStridedSlice S160x4x1x1 ![0, 0, 1, 0] w slices_S160x4x2x1_S160x4x1x1_0_0_1_0) shapeCasts_S160x4x1x1_S160x4) (extractStridedSlice S32x4x32x32 ![0, 0, 1, 0] p slices_S32x4x33x32_S32x4x32x32_0_0_1_0))) (biasR a)

section Reads
variable (x : FVec Ideal S32x4x32x32 .f32) (a : FVec Ideal S160 .f32)
theorem conv6_at (w : FVec Ideal S160x4x2x3 .f32) :
    imgs160 (conv6 w (pad3 x) a) = fun b o y z => Spec.convI6 (fun o i q r => w (ix4 o i q r)) (imgs4 x) b o y z + a (ix1 o) := by
  funext b o y z
  unfold imgs160
  generalize hp : pad3 x = p
  pointwise [conv6, one, biasR]
  subst hp
  simp only [pad3_at, Nat.add_comm 1, Nat.add_comm 2]
  rfl
theorem conv3_at (w : FVec Ideal S160x4x1x3 .f32) :
    imgs160 (conv3 w (padX x) a) = fun b o y z => Spec.convI3 (fun o i q r => w (ix4 o i q r)) (imgs4 x) b o y z + a (ix1 o) := by
  funext b o y z
  unfold imgs160
  generalize hp : padX x = p
  pointwise [conv3, one, biasR]
  subst hp
  simp only [padX_at, Nat.add_comm 1, Nat.add_comm 2]
  rfl
theorem conv2_at (w : FVec Ideal S160x4x2x1 .f32) :
    imgs160 (conv2 w (padY x) a) = fun b o y z => Spec.convI2 (fun o i q r => w (ix4 o i q r)) (imgs4 x) b o y z + a (ix1 o) := by
  funext b o y z
  unfold imgs160
  generalize hp : padY x = p
  pointwise [conv2, one, biasR]
  subst hp
  simp only [padY_at, Nat.add_comm 1]
  rfl
end Reads

/-! ## The shifts -/

def down (x : FVec Ideal S32x160x32x32 .f32) : FVec Ideal S32x160x32x32 .f32 :=
  extractStridedSlice S32x160x32x32 ![0, 0, 0, 0] (padTop x) slices_S32x160x33x32_S32x160x32x32_0_0_0_0
theorem down_at (x : FVec Ideal S32x160x32x32 .f32) : imgs160 (down x) = Spec.downI (imgs160 x) := by
  funext b c y z
  refine Eq.trans (show _ = padTop x (ix4 b c ⟨y.val, by omega⟩ z) from ?_) (padTop_at x b c _ z)
  unfold imgs160 down
  generalize padTop x = p
  pointwise
def rightR (x : FVec Ideal S32x160x32x32 .f32) : FVec Ideal S32x160x32x32 .f32 :=
  extractStridedSlice S32x160x32x32 ![0, 0, 0, 0] (padLeft x) slices_S32x160x32x33_S32x160x32x32_0_0_0_0
theorem rightR_at (x : FVec Ideal S32x160x32x32 .f32) : imgs160 (rightR x) = Spec.rightI (imgs160 x) := by
  funext b c y z
  refine Eq.trans (show _ = padLeft x (ix4 b c y ⟨z.val, by omega⟩) from ?_) (padLeft_at x b c y _)
  unfold imgs160 rightR
  generalize padLeft x = p
  pointwise

/-! ## The columns -/

def columns (x : FVec Ideal S32x160x32x32 .f32) : FVec Ideal S160x32768 .bf16 :=
  truncf .bf16 (shapeCast _ (transpose S160x4x32x8x32 [2, 0, 3, 1, 4] (shapeCast _ x shapeCasts_S32x160x32x32_S4x8x160x32x32) transposes_S4x8x160x32x32_S160x4x32x8x32_2_0_3_1_4) shapeCasts_S160x4x32x8x32_S160x32768) bitsLt_bf16_f32
theorem columns_at (x : FVec Ideal S32x160x32x32 .f32) (o : Fin 160) (N : Fin 32768) :
    columns x (ix2 o N) = imgs160 x ⟨N.val / 8192 * 8 + N.val / 32 % 8, by omega⟩ o ⟨N.val / 256 % 32, by omega⟩ ⟨N.val % 32, by omega⟩ := by
  unfold imgs160
  pointwise [columns]

/-! ## The results -/

variable (m : (ℓ : Loc nD τ sig) → Buf (Elt Ideal) ℓ) (c : Dev nD)

/-- The images of the input channels, of the arguments. -/
def X : Spec.Imgs 4 := Spec.inputs fun b i y z => m ((c.tc : Thread nD τ).loc main_arg0) (ix4 b i y z)

theorem upper_eq : Value.res_main_v92 m c
    = columns (down (conv6 (m ((c.tc : Thread nD τ).loc main_arg1)) (pad3 (xp (m ((c.tc : Thread nD τ).loc main_arg0)))) (m ((c.tc : Thread nD τ).loc main_arg2)))) := rfl
theorem lower_eq : Value.res_main_v96 m c
    = columns (addf (down (conv3 (m ((c.tc : Thread nD τ).loc main_arg3)) (padX (xp (m ((c.tc : Thread nD τ).loc main_arg0)))) (m ((c.tc : Thread nD τ).loc main_arg4))))
      (rightR (conv2 (m ((c.tc : Thread nD τ).loc main_arg5)) (padY (xp (m ((c.tc : Thread nD τ).loc main_arg0)))) (m ((c.tc : Thread nD τ).loc main_arg6))))) := rfl

/-- THE REFERENCE'S FIRST STATES, of the arguments. -/
theorem upper_at (o : Fin 160) (N : Fin 32768) : Value.res_main_v92 m c (ix2 o N)
    = Spec.initU (fun o i q r => m ((c.tc : Thread nD τ).loc main_arg1) (ix4 o i q r)) (fun o => m ((c.tc : Thread nD τ).loc main_arg2) (ix1 o)) (X m c)
        ⟨N.val / 8192 * 8 + N.val / 32 % 8, by omega⟩ o ⟨N.val / 256 % 32, by omega⟩ ⟨N.val % 32, by omega⟩ := by
  rw [upper_eq, columns_at, down_at, conv6_at, xp_at]
  rfl
theorem lower_at (o : Fin 160) (N : Fin 32768) : Value.res_main_v96 m c (ix2 o N)
    = Spec.initL (fun o i q r => m ((c.tc : Thread nD τ).loc main_arg3) (ix4 o i q r)) (fun o => m ((c.tc : Thread nD τ).loc main_arg4) (ix1 o))
        (fun o i q r => m ((c.tc : Thread nD τ).loc main_arg5) (ix4 o i q r)) (fun o => m ((c.tc : Thread nD τ).loc main_arg6) (ix1 o)) (X m c)
        ⟨N.val / 8192 * 8 + N.val / 32 % 8, by omega⟩ o ⟨N.val / 256 % 32, by omega⟩ ⟨N.val % 32, by omega⟩ := by
  rw [lower_eq, columns_at]
  refine Eq.trans (congrArg₂ (fun p q : Spec.Imgs 160 => p _ o _ _ + q _ o _ _) (down_at _) (rightR_at _)) ?_
  rw [conv3_at, conv2_at, xp_at]
  rfl

end Cert.Reference2Ideal.Init

end
-- ==== Proof.DmllSpec.lean ====
/- The log-likelihood of one pixel under the mixture of discretized logistics, as both programs compute it: from the pixel's
   hundred parameters and its three colours. -/
module

public import proofs.«01_k».proof.Proof.Spec

@[expose] public section

noncomputable section

open Idealize.ShloMosaic

namespace Cert.Spec

/-- A pixel's parameters: a linear map of the state's activations. -/
def params (w : Fin 100 → Fin 160 → EReal) (b : Fin 100 → EReal) (u : Fin 160 → EReal) (o : Fin 100) : EReal :=
  ∑ i : Fin 160, w o i * elu (u i) + b o

def softplus (z : EReal) : EReal := max z 0 + Ideal.log1p (Ideal.exp (0 - FloatOps.absf (F := Ideal) (φ := .f32) z))

/-- The standardized upper edge, lower edge and centre of the colour's bin. -/
def hi (x m s : EReal) : EReal := Ideal.exp (0 - s) * (x - m + Ideal.ofBits .f32 0x3B808081#32)
def lo (x m s : EReal) : EReal := Ideal.exp (0 - s) * (x - m - Ideal.ofBits .f32 0x3B808081#32)
def mid (x m s : EReal) : EReal := Ideal.exp (0 - s) * (x - m)

/-- The log-probability of a colour under one logistic of mean `m` and log-scale `s`. -/
def logp (x m s : EReal) : EReal :=
  if x < Ideal.ofBits .f32 0xBF7FBE77#32 then hi x m s - softplus (hi x m s)
  else if Ideal.ofBits .f32 0x3F7FBE77#32 < x then 0 - softplus (lo x m s)
  else if Ideal.ofBits .f32 0x3727C5AC#32 < Ideal.logistic (hi x m s) - Ideal.logistic (lo x m s) then
    Ideal.log (max (Ideal.logistic (hi x m s) - Ideal.logistic (lo x m s)) (Ideal.ofBits .f32 0x2B8CBCCC#32))
  else mid x m s - s - Ideal.ofBits .f32 0x40000000#32 * softplus (mid x m s) - Ideal.ofBits .f32 0x409B23C5#32

/-- The greatest of ten values, and the logarithm of the sum of their exponentials, shifted by it. -/
def peak (f : Fin 10 → EReal) : EReal := Finset.fold max (Ideal.ofBits .f32 0xFF800000#32) f Finset.univ
def lse (f : Fin 10 → EReal) : EReal := peak f + Ideal.log (∑ i, Ideal.exp (f i - peak f))
def logSoftmax (f : Fin 10 → EReal) (i : Fin 10) : EReal := f i - peak f - Ideal.log (∑ j, Ideal.exp (f j - peak f))

/-- The component means of the three channels: the later channels' depend on the earlier colours. -/
def mean (l : Fin 100 → EReal) (x : Fin 3 → EReal) (i : Fin 10) : Fin 3 → EReal :=
  ![l ⟨10 + i.val, by omega⟩, l ⟨40 + i.val, by omega⟩ + Ideal.tanh (l ⟨30 + i.val, by omega⟩) * x 0,
    l ⟨70 + i.val, by omega⟩ + Ideal.tanh (l ⟨60 + i.val, by omega⟩) * x 0 + Ideal.tanh (l ⟨90 + i.val, by omega⟩) * x 1]
/-- The log-scales, kept from below. -/
def scale (l : Fin 100 → EReal) (i : Fin 10) (c : Fin 3) : EReal :=
  max (l ⟨20 + c.val * 30 + i.val, by omega⟩) (Ideal.ofBits .f32 0xC0E00000#32)

/-- The log-likelihood of the pixel's colours. -/
def pix (l : Fin 100 → EReal) (x : Fin 3 → EReal) : EReal :=
  lse fun i => logp (x 0) (mean l x i 0) (scale l i 0) + logp (x 1) (mean l x i 1) (scale l i 1) + logp (x 2) (mean l x i 2) (scale l i 2)
    + logSoftmax (fun j => l ⟨j.val, by omega⟩) i

end Cert.Spec

end
-- ==== Proof.DmllRef.lean ====
/- The reference's log-likelihood, read one element at a time. -/
module

public import proofs.«01_k».proof.Proof.DmllSpec
public import proofs.«01_k».proof.Proof.Gen.Reference3Ideal.Run
public import Idealize.ShloMosaic.Lib.Pointwise

@[expose] public section

set_option maxRecDepth 16384

noncomputable section

open Idealize.ShloMosaic Idealize.ShloMosaic.TcCoe Idealize.SL.Sem

namespace Cert.Reference3Ideal.Dmll

open Cert.Reference3Ideal Cert.Reference3Ideal.Gen Cert.Reference3Ideal.Value

variable (V : Valuation τ sig (Elt Ideal)) (g y x : Fin 32)

/-- The state, samples, weights and biases, of the arguments. -/
def state (i : Fin 160) (N : Fin 32768) : EReal := V (Proc.devRef .tc main_arg0) (ix2 i N)
def sample (g : Fin 32) (k : Fin 3) (y x : Fin 32) : EReal := V (Proc.devRef .tc main_arg1) (ix4 g k y x)
def weight (o : Fin 100) (i : Fin 160) : EReal := V (Proc.devRef .tc main_arg2) (ix2 o i)
def bias (o : Fin 100) : EReal := V (Proc.devRef .tc main_arg3) (ix1 o)

/-- The parameters and the colours of a pixel. -/
def par : Fin 100 → EReal := Spec.params (weight V) (bias V)
  fun i => state V i ⟨g.val / 8 * 8192 + y.val * 256 + g.val % 8 * 32 + x.val, by omega⟩
def colour (k : Fin 3) : EReal := sample V g k y x * Ideal.ofBits .f32 0x40000000#32 - 1

theorem v7_at (i : Fin 160) : res_main_v7 V (ix4 g i y x) = state V i ⟨g.val / 8 * 8192 + y.val * 256 + g.val % 8 * 32 + x.val, by omega⟩ := by
  pointwise [res_main_v7]
  rfl
theorem v18_at (o : Fin 100) : res_main_v18 V (ix4 g y x o) = par V g y x o := by
  pointwise [res_main_v18, v7_at]
  rfl
theorem v19_at (i : Fin 10) : res_main_v19 V (ix4 g y x i) = par V g y x ⟨i.val, by omega⟩ := by
  pointwise [res_main_v19, v18_at]
theorem v21_at (c : Fin 3) (j : Fin 30) : res_main_v21 V (ix5 g y x c j) = par V g y x ⟨10 + c.val * 30 + j.val, by omega⟩ := by
  pointwise [res_main_v21, v18_at]
  exact congrArg (par V g y x) (Fin.ext (by dsimp only; omega))
theorem v22_at (c : Fin 3) (j : Fin 10) : res_main_v22 V (ix5 g y x c j) = par V g y x ⟨10 + c.val * 30 + j.val, by omega⟩ := by
  pointwise [res_main_v22, v21_at]
theorem v25_at (c : Fin 3) (j : Fin 10) : res_main_v25 V (ix5 g y x c j) = Spec.scale (par V g y x) j c := by
  pointwise [res_main_v25, v21_at]
  unfold Spec.scale
  exact congrArg (fun k => max (par V g y x k) (Ideal.ofBits .f32 0xC0E00000#32)) (Fin.ext (by dsimp only; omega))
theorem v27_at (c : Fin 3) (j : Fin 10) : res_main_v27 V (ix5 g y x c j) = Ideal.tanh (par V g y x ⟨30 + c.val * 30 + j.val, by omega⟩) := by
  pointwise [res_main_v27, v21_at]
  exact congrArg (fun k => Ideal.tanh (par V g y x k)) (Fin.ext (by dsimp only; omega))
theorem v28_at (c : Fin 3) : res_main_v28 V (ix5 g y x c 0) = colour V g y x c := by
  pointwise [res_main_v28]
  rfl
theorem v61_at (c : Fin 3) (j : Fin 10) : res_main_v61 V (ix5 g y x c j) = colour V g y x c - Spec.mean (par V g y x) (colour V g y x) j c := by
  pointwise [res_main_v61, v22_at, v27_at, v28_at]
  fin_cases c <;> rfl

/-- The edges, the centre and the log-probability of a channel's colour under a component. -/
def at_ (f : EReal → EReal → EReal → EReal) (c : Fin 3) (j : Fin 10) : EReal :=
  f (colour V g y x c) (Spec.mean (par V g y x) (colour V g y x) j c) (Spec.scale (par V g y x) j c)

theorem v66_at (c : Fin 3) (j : Fin 10) : res_main_v66 V (ix5 g y x c j) = at_ V g y x Spec.hi c j := by
  pointwise [res_main_v66, res_main_v63, v61_at, v25_at]
  unfold at_ Spec.hi
  rw [zero_sub]
theorem v69_at (c : Fin 3) (j : Fin 10) : res_main_v69 V (ix5 g y x c j) = at_ V g y x Spec.lo c j := by
  pointwise [res_main_v69, res_main_v63, v61_at, v25_at]
  unfold at_ Spec.lo
  rw [zero_sub]
theorem v99_at (c : Fin 3) (j : Fin 10) : res_main_v99 V (ix5 g y x c j) = at_ V g y x Spec.mid c j := by
  pointwise [res_main_v99, res_main_v63, v61_at, v25_at]
  unfold at_ Spec.mid
  rw [zero_sub]
theorem v82_at (c : Fin 3) (j : Fin 10) : (res_main_v82 V (ix5 g y x c j) : EReal)
    = Ideal.logistic (at_ V g y x Spec.hi c j) - Ideal.logistic (at_ V g y x Spec.lo c j) := by
  pointwise [res_main_v82, v66_at, v69_at]
  rfl

/-- A greatest value is not less than the least one. -/
theorem peak_max (f : Fin 10 → EReal) : max (Ideal.ofBits .f32 0xFF800000#32) (Spec.peak f) = Spec.peak f := by
  have h : Ideal.ofBits .f32 0xFF800000#32 = ⊥ := by simp [Ideal.ofBits, Ideal.ieee]
  rw [h]
  exact max_eq_right bot_le

/-- The greatest of a pixel's ten values. -/
def peakV (t : FVec Ideal S32x32x32x10 .f32) : FVec Ideal S32x32x32 .f32 :=
  Host.reduce FloatOps.maximumf t (constant S_ .f32 0xFF800000#32) reducesTo_S32x32x32x10_S32x32x32_d3 h_S_
theorem peakV_at (t : FVec Ideal S32x32x32x10 .f32) : peakV t (ix3 g y x) = Spec.peak fun i => t (ix4 g y x i) := by
  pointwise [peakV]
  rfl

theorem shift_eq : res_main_call3_v5 V = subf (res_main_v19 V) (broadcastInDim S32x32x32x10 ![0, 1, 2, 3] bcast_S32x32x32x1_S32x32x32x10_0_1_2_3
    (broadcastInDim S32x32x32x1 ![0, 1, 2] bcast_S32x32x32_S32x32x32x1_0_1_2 (maximumf (broadcastInDim S32x32x32 ![] bcast_S_S32x32x32 (constant S_ .f32 0xFF800000#32)) (peakV (res_main_v19 V))))) := rfl
theorem shift_at (i : Fin 10) : (res_main_call3_v5 V (ix4 g y x i) : EReal)
    = par V g y x ⟨i.val, by omega⟩ - Spec.peak fun j => par V g y x ⟨j.val, by omega⟩ := by
  rw [shift_eq]
  pointwise [v19_at, peakV_at, peak_max]

/-- The total of a component: its three log-probabilities and its log-weight. -/
def total (i : Fin 10) : EReal :=
  at_ V g y x Spec.logp 0 i + at_ V g y x Spec.logp 1 i + at_ V g y x Spec.logp 2 i + Spec.logSoftmax (fun j => par V g y x ⟨j.val, by omega⟩) i

theorem v127_at (i : Fin 10) : (res_main_v127 V (ix4 g y x i) : EReal) = total V g y x i := by
  pointwise [res_main_v127, v66_at, v69_at, v82_at, v99_at, v28_at, v25_at, shift_at]
  simp only [Fin.sum_univ_three]
  unfold total at_ Spec.logp Spec.logSoftmax Spec.softplus
  simp only [zero_sub]

/-- The logarithm of the sum of the exponentials of a pixel's ten values. -/
def lseV (t : FVec Ideal S32x32x32x10 .f32) : FVec Ideal S32x32x32 .f32 :=
  shapeCast _ (addf (broadcastInDim S32x32x32x1 ![0, 1, 2] bcast_S32x32x32_S32x32x32x1_0_1_2 (peakV t)) (Host.log (broadcastInDim S32x32x32x1 ![0, 1, 2] bcast_S32x32x32_S32x32x32x1_0_1_2
    (Host.reduceAdd (Host.exp (subf t (broadcastInDim S32x32x32x10 ![0, 1, 2, 3] bcast_S32x32x32x1_S32x32x32x10_0_1_2_3
      (broadcastInDim S32x32x32x1 ![0, 1, 2] bcast_S32x32x32_S32x32x32x1_0_1_2 (peakV t))))) (constant S_ .f32 0x00000000#32) reducesTo_S32x32x32x10_S32x32x32_d3 h_S_)))) shapeCasts_S32x32x32x1_S32x32x32
theorem lseV_at (t : FVec Ideal S32x32x32x10 .f32) : lseV t (ix3 g y x) = Spec.lse fun i => t (ix4 g y x i) := by
  pointwise [lseV, peakV_at]
  rfl

/-- The sum over all pixels, negated twice. -/
def sumAll (v : FVec Ideal S32x32x32 .f32) : FVec Ideal S_ .f32 :=
  Host.negf (Host.negf (Host.reduceAdd v (constant S_ .f32 0x00000000#32) reducesTo_S32x32x32_S_d0_1_2 h_S_))
theorem sumAll_at (v : FVec Ideal S32x32x32 .f32) (i : S_.Idx) : sumAll v i = ∑ g : Fin 32, ∑ y : Fin 32, ∑ x : Fin 32, v (ix3 g y x) := by
  pointwise [sumAll]
  rw [neg_neg]

/-- The result, of the arguments. -/
def R : FVec Ideal S_ .f32 := sumAll (lseV (res_main_v127 V))

theorem R_at (i : S_.Idx) : R V i = ∑ g : Fin 32, ∑ y : Fin 32, ∑ x : Fin 32, Spec.pix (par V g y x) (colour V g y x) := by
  unfold R
  rw [sumAll_at]
  refine Finset.sum_congr rfl fun g _ => Finset.sum_congr rfl fun y _ => Finset.sum_congr rfl fun x _ => ?_
  rw [lseV_at]
  simp only [v127_at]
  rfl

/-- What the run leaves is the result so read. -/
theorem result_eq : Host.negf (Host.negf (Host.reduceAdd (shapeCast _ (addf (res_main_v129 V) (Host.log (broadcastInDim S32x32x32x1 ![0, 1, 2] bcast_S32x32x32_S32x32x32x1_0_1_2 (Host.reduceAdd (Host.exp (subf (res_main_v127 V) (broadcastInDim S32x32x32x10 ![0, 1, 2, 3] bcast_S32x32x32x1_S32x32x32x10_0_1_2_3 (res_main_v129 V)))) (constant S_ .f32 0x00000000#32) reducesTo_S32x32x32x10_S32x32x32_d3 h_S_)))) shapeCasts_S32x32x32x1_S32x32x32) (constant S_ .f32 0x00000000#32) reducesTo_S32x32x32_S_d0_1_2 h_S_)) = R V := rfl

end Cert.Reference3Ideal.Dmll

end
-- ==== Proof.WholeRef.lean ====
/- The whole reference: its states are the resnets' reference's states, its first states the initial stacks' reference's, and the
   last it carries is the log-likelihood of the lower stack. -/
module

public import proofs.«01_k».proof.Proof.Final
public import proofs.«01_k».proof.Proof.InitRef
public import proofs.«01_k».proof.Proof.DmllRef
public import proofs.«01_k».proof.Proof.Gen.Reference4Ideal.StepRun

@[expose] public section

set_option maxRecDepth 16384

noncomputable section

open Idealize.ShloMosaic Idealize.ShloMosaic.TcCoe Idealize.SL.Sem

namespace Cert.Reference4Ideal.Whole

open Cert.Reference4Ideal Cert.Reference4Ideal.Gen Cert.Reference4Ideal.Step
open Cert.ReferenceIdeal.StepAt (imgs160)

/-! ## The states -/

/-- What the resnets' reference carries of a state. -/
def carried (s : State Ideal) : Cert.ReferenceIdeal.Step.State Ideal where
  main_v8_11 := s.main_v89_14
  main_v8_12 := s.main_v89_15
  main_v8_0 := s.main_v89_0
  main_v8_1 := s.main_v89_1
  main_v8_2 := s.main_v89_2
  main_v8_3 := s.main_v89_3
  main_v8_4 := s.main_v89_4
  main_v8_5 := s.main_v89_5
  main_v8_6 := s.main_v89_6
  main_v8_7 := s.main_v89_7
  main_v8_8 := s.main_v89_8
  main_v8_9 := s.main_v89_9

theorem upper_step (j : ℕ) (s : State Ideal) : Cert.ReferenceIdeal.Step.b148 j (carried s) = b148 j s := rfl
theorem lower_step (j : ℕ) (s : State Ideal) : Cert.ReferenceIdeal.Step.b243 j (carried s) = b243 j s := rfl
/-- A TRIP carries what the resnets' reference's trip carries. -/
theorem carried_step (j : ℕ) (s : State Ideal) : carried (step j s) = Cert.ReferenceIdeal.Step.step j (carried s) := by
  unfold carried Cert.ReferenceIdeal.Step.step
  rw [step_main_v89_14, step_main_v89_15, ← upper_step, ← lower_step]
  rfl

/-! ## The first states -/

section First
variable (x : FVec Ideal S32x3x32x32 .f32) (wu : FVec Ideal S160x4x2x3 .f32) (bu : FVec Ideal S160 .f32) (wd : FVec Ideal S160x4x1x3 .f32)
  (bd : FVec Ideal S160 .f32) (wr : FVec Ideal S160x4x2x1 .f32) (br : FVec Ideal S160 .f32)

/-- The images of the input channels, of the samples. -/
def X : Spec.Imgs 4 := Spec.inputs fun b i y z => x (ix4 b i y z)

theorem first_upper_eq : A_main_v47 (F := Ideal) x wu bu wd bd wr br = Cert.Reference2Ideal.Init.down (Cert.Reference2Ideal.Init.conv6 wu
    (Cert.Reference2Ideal.Init.pad3 (Cert.Reference2Ideal.Init.xp x)) bu) := rfl
theorem first_lower_eq : A_main_v88 (F := Ideal) x wu bu wd bd wr br = addf
    (Cert.Reference2Ideal.Init.down (Cert.Reference2Ideal.Init.conv3 wd
      (Cert.Reference2Ideal.Init.padX (Cert.Reference2Ideal.Init.xp x)) bd))
    (Cert.Reference2Ideal.Init.rightR (Cert.Reference2Ideal.Init.conv2 wr
      (Cert.Reference2Ideal.Init.padY (Cert.Reference2Ideal.Init.xp x)) br)) := rfl

theorem first_upper : imgs160 (A_main_v47 (F := Ideal) x wu bu wd bd wr br)
    = Spec.initU (fun o i q r => wu (ix4 o i q r)) (fun o => bu (ix1 o)) (X x) := by
  rw [first_upper_eq]
  refine (Cert.Reference2Ideal.Init.down_at _).trans ?_
  rw [Cert.Reference2Ideal.Init.conv6_at, Cert.Reference2Ideal.Init.xp_at]
  rfl
theorem first_lower : imgs160 (A_main_v88 (F := Ideal) x wu bu wd bd wr br)
    = Spec.initL (fun o i q r => wd (ix4 o i q r)) (fun o => bd (ix1 o))
        (fun o i q r => wr (ix4 o i q r)) (fun o => br (ix1 o)) (X x) := by
  rw [first_lower_eq]
  funext b o y z
  refine Eq.trans (congrArg₂ (fun p q : Spec.Imgs 160 => p b o y z + q b o y z) (Cert.Reference2Ideal.Init.down_at _) (Cert.Reference2Ideal.Init.rightR_at _)) ?_
  rw [Cert.Reference2Ideal.Init.conv3_at, Cert.Reference2Ideal.Init.conv2_at, Cert.Reference2Ideal.Init.xp_at]
  rfl
end First

/-! ## The log-likelihood -/

/-- The colours of the samples. -/
def colours (x : FVec Ideal S32x3x32x32 .f32) : FVec Ideal S32x3x32x32 .f32 :=
  subf (mulf x (broadcastInDim S32x3x32x32 ![] bcast_S_S32x3x32x32 (constant S_ .f32 0x40000000#32))) (broadcastInDim S32x3x32x32 ![] bcast_S_S32x3x32x32 (constant S_ .f32 0x3F800000#32))

section Loss
open Cert.Reference3Ideal.Value
variable (V : Valuation Cert.Reference3Ideal.τ Cert.Reference3Ideal.sig (Elt Ideal)) (j : ℕ) (s : State Ideal)
  (hu : res_main_v7 V = b243 j s) (hx : s.main_v89_12 = colours (V (Proc.devRef .tc Cert.Reference3Ideal.main_arg1)))
  (hw : V (Proc.devRef .tc Cert.Reference3Ideal.main_arg2) = s.main_v89_10) (hb : V (Proc.devRef .tc Cert.Reference3Ideal.main_arg3) = s.main_v89_11)

include hx in
theorem v28 : res_main_v28 V = b266 j s := by unfold b266 b254; rw [hx]; rfl
include hu hw hb
theorem v18 : res_main_v18 V = b255 j s := by unfold res_main_v18; rw [hu, hw, hb]; rfl
theorem v19 : res_main_v19 V = b256 j s := by unfold res_main_v19; rw [v18 V j s hu hw hb]; rfl
theorem v21 : res_main_v21 V = b258 j s := by unfold res_main_v21; rw [v18 V j s hu hw hb]; rfl
theorem v22 : res_main_v22 V = b259 j s := by unfold res_main_v22; rw [v21 V j s hu hw hb]; rfl
theorem v25 : res_main_v25 V = b263 j s := by unfold res_main_v25; rw [v21 V j s hu hw hb]; rfl
theorem v27 : res_main_v27 V = b265 j s := by unfold res_main_v27; rw [v21 V j s hu hw hb]; rfl
theorem shift : res_main_call3_v5 V = b389 j s := by unfold res_main_call3_v5; rw [v19 V j s hu hw hb]; rfl
theorem v63 : res_main_v63 V = b301 j s := by unfold res_main_v63; rw [v25 V j s hu hw hb]; rfl
include hx
theorem v61 : res_main_v61 V = b299 j s := by
  unfold res_main_v61; rw [v28 V j s hx, v22 V j s hu hw hb, v27 V j s hu hw hb]; rfl
theorem v66 : res_main_v66 V = b305 j s := by unfold res_main_v66; rw [v63 V j s hu hw hb, v61 V j s hu hx hw hb]; rfl
theorem v69 : res_main_v69 V = b309 j s := by unfold res_main_v69; rw [v63 V j s hu hw hb, v61 V j s hu hx hw hb]; rfl
theorem v82 : res_main_v82 V = b326 j s := by unfold res_main_v82; rw [v66 V j s hu hx hw hb, v69 V j s hu hx hw hb]; rfl
theorem v99 : res_main_v99 V = b345 j s := by unfold res_main_v99; rw [v63 V j s hu hw hb, v61 V j s hu hx hw hb]; rfl
theorem v127 : res_main_v127 V = b397 j s := by
  unfold res_main_v127
  rw [v28 V j s hx, v66 V j s hu hx hw hb, v69 V j s hu hx hw hb, v82 V j s hu hx hw hb, v99 V j s hu hx hw hb, v25 V j s hu hw hb, shift V j s hu hw hb]
  rfl
theorem loss_eq : b413 j s = Cert.Reference3Ideal.Dmll.R V := by
  unfold Cert.Reference3Ideal.Dmll.R
  rw [v127 V j s hu hx hw hb]
  rfl
end Loss

/-- The arguments under which the log-likelihood's reference is read: a state's columns, the samples, the weights and the biases. -/
def under (u : FVec Ideal S32x160x32x32 .f32) (x : FVec Ideal S32x3x32x32 .f32) (w : FVec Ideal S100x160 .f32) (a : FVec Ideal S100 .f32) :
    Valuation Cert.Reference3Ideal.τ Cert.Reference3Ideal.sig (Elt Ideal) :=
  Function.update (Function.update (Function.update (Function.update (fun _ _ => Classical.choice inferInstance)
    (Proc.devRef .tc Cert.Reference3Ideal.main_arg0) (Cert.Reference2Ideal.Init.columns u)) (Proc.devRef .tc Cert.Reference3Ideal.main_arg1) x)
    (Proc.devRef .tc Cert.Reference3Ideal.main_arg2) w) (Proc.devRef .tc Cert.Reference3Ideal.main_arg3) a

section Under
variable (u : FVec Ideal S32x160x32x32 .f32) (x : FVec Ideal S32x3x32x32 .f32) (w : FVec Ideal S100x160 .f32) (a : FVec Ideal S100 .f32)

theorem under_3 : under u x w a (Proc.devRef .tc Cert.Reference3Ideal.main_arg3) = a := by
  unfold under; rw [Function.update_self]
theorem under_2 : under u x w a (Proc.devRef .tc Cert.Reference3Ideal.main_arg2) = w := by
  unfold under
  rw [Function.update_of_ne (StableHlo.devRef_ne_of_ne (by decide)), Function.update_self]
theorem under_1 : under u x w a (Proc.devRef .tc Cert.Reference3Ideal.main_arg1) = x := by
  unfold under
  rw [Function.update_of_ne (StableHlo.devRef_ne_of_ne (by decide)), Function.update_of_ne (StableHlo.devRef_ne_of_ne (by decide)), Function.update_self]
theorem under_0 : under u x w a (Proc.devRef .tc Cert.Reference3Ideal.main_arg0) = Cert.Reference2Ideal.Init.columns u := by
  unfold under
  rw [Function.update_of_ne (StableHlo.devRef_ne_of_ne (by decide)), Function.update_of_ne (StableHlo.devRef_ne_of_ne (by decide)),
    Function.update_of_ne (StableHlo.devRef_ne_of_ne (by decide)), Function.update_self]

/-- A state's columns, read at a pixel, are the state. -/
theorem under_state (g y z : Fin 32) (i : Fin 160) :
    Cert.Reference3Ideal.Dmll.state (under u x w a) i ⟨g.val / 8 * 8192 + y.val * 256 + g.val % 8 * 32 + z.val, by omega⟩ = u (ix4 g i y z) := by
  unfold Cert.Reference3Ideal.Dmll.state
  rw [under_0]
  refine (Cert.Reference2Ideal.Init.columns_at u i _).trans ?_
  refine congrArg u ?_
  congr 1 <;> exact Fin.ext (by dsimp only; omega)
theorem under_u : Cert.Reference3Ideal.Value.res_main_v7 (under u x w a) = u := by
  funext i
  idx_vars i
  exact (Cert.Reference3Ideal.Dmll.v7_at _ _ _ _ _).trans (under_state u x w a _ _ _ _)
end Under

/-- THE LAST CARRIED VALUE is the sum of all pixels' log-likelihoods. -/
theorem loss_at (j : ℕ) (s : State Ideal) (x : FVec Ideal S32x3x32x32 .f32) (hx : s.main_v89_12 = colours x) (i : S_.Idx) :
    b413 j s i = ∑ g : Fin 32, ∑ y : Fin 32, ∑ z : Fin 32, Spec.pix
      (Spec.params (fun o i => s.main_v89_10 (ix2 o i)) (fun o => s.main_v89_11 (ix1 o)) fun i => b243 j s (ix4 g i y z))
      (fun k => x (ix4 g k y z) * Ideal.ofBits .f32 0x40000000#32 - 1) := by
  rw [loss_eq (under (b243 j s) x s.main_v89_10 s.main_v89_11) j s (under_u _ _ _ _) (by rw [under_1]; exact hx) (under_2 _ _ _ _) (under_3 _ _ _ _),
    Cert.Reference3Ideal.Dmll.R_at]
  refine Finset.sum_congr rfl fun g _ => Finset.sum_congr rfl fun y _ => Finset.sum_congr rfl fun z _ => ?_
  refine congrArg₂ Spec.pix ?_ (funext fun k => ?_)
  · exact congr (congr (congrArg Spec.params (funext fun o => funext fun i => congrFun (under_2 _ _ _ _) _)) (funext fun o => congrFun (under_3 _ _ _ _) _))
      (funext fun i => under_state _ _ _ _ _ _ _ _)
  · unfold Cert.Reference3Ideal.Dmll.colour Cert.Reference3Ideal.Dmll.sample
    rw [under_1]

end Cert.Reference4Ideal.Whole

end
-- ==== Proof.Whole0.lean ====
/- The whole kernel's first call, over the reals with infinities: its body at every point of the grid, from any contents at entry. -/
module

public import proofs.«01_k».proof.Proof.Gen.Kernel4Ideal.Launch
public import proofs.«01_k».proof.Proof.Gen.Kernel4Ideal.Skeleton
public import proofs.«01_k».proof.Proof.Gen.Kernel4Ideal.Points
public import proofs.«01_k».proof.Proof.Gen.Kernel2Ideal.Frame
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp
public import Idealize.ShloMosaic.Lib.Pipeline.Value

@[expose] public section

set_option maxRecDepth 16384

noncomputable section

namespace Cert.Kernel4Ideal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

/-- The assertions of this program's proofs. -/
abbrev SP (F : FTy → Type) := sProp (MT nD τ sig Unit (Elt F) ℕ (UR sig nD τ) ℕ)

variable (V : Dev nD → Valuation τ sig (Elt F))

/-- What a window's array holds when the region is entered. -/
abbrev arr (c : Dev nD) (b : Ref sig .tc) : Buf (Elt F) ((c : Thread nD τ).loc b) := V c b

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (arr V c (Pipeline.arrRef spec0 w))

/-- The body's one store into an output covers its buffer. -/
abbrev whole : Rect S160x8192 := Rect.unit (s := S160x8192) ![0, 0] S160x8192.size inb_S160x8192_S160x8192_0_0
theorem cover (p0 : Vec F S160x8192 .bf16) (y : S160x8192.Idx) : ∃ pc ∈ ([⟨whole, p0⟩] : List (View.Piece (Elt F) S160x8192 .bf16)), y ∈ pc.1.set :=
  View.cover_of_tiled [⟨whole, p0⟩] S160x8192.size (by rfl) y

section Body
variable (c : Dev nD) (i : grid0.Coords) (arg1 : Memref sig .tc .vmem S4x8192 .f32) (harg1 : arg1.IsWhole) (arg2 : Memref sig .tc .vmem S160x24 .bf16) (harg2 : arg2.IsWhole) (arg3 : Memref sig .tc .vmem S160x12 .bf16) (harg3 : arg3.IsWhole) (arg4 : Memref sig .tc .vmem S160x8 .bf16) (harg4 : arg4.IsWhole) (arg5 : Memref sig .tc .vmem S160x1 .f32) (harg5 : arg5.IsWhole) (arg6 : Memref sig .tc .vmem S160x1 .f32) (harg6 : arg6.IsWhole) (arg7 : Memref sig .tc .vmem S160x1 .f32) (harg7 : arg7.IsWhole) (arg8 : Memref sig .tc .vmem S160x8192 .bf16) (harg8 : arg8.IsWhole) (arg9 : Memref sig .tc .vmem S160x8192 .bf16) (harg9 : arg9.IsWhole)
  (x0 : Vec F S4x8192 .f32) (x1 : Vec F S160x24 .bf16) (x2 : Vec F S160x12 .bf16) (x3 : Vec F S160x8 .bf16) (x4 : Vec F S160x1 .f32) (x5 : Vec F S160x1 .f32) (x6 : Vec F S160x1 .f32)

/-- The input windows' buffers, each at its block. -/
def ins : SP F :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6)

set_option maxHeartbeats 4000000 in
/-- The body, from the input windows' blocks and any contents of the outputs' buffers, leaves the inputs in place and each output at its value. -/
theorem run (E : Set ℕ) (K : PUnit → SP F) :
    iprop(ins c arg1 arg2 arg3 arg4 arg5 arg6 arg7 x0 x1 x2 x3 x4 x5 x6 ∗ (∃ d, owns (c : Thread nD τ) arg8 fullShare d) ∗ (∃ d, owns (c : Thread nD τ) arg9 fullShare d)
        ∗ (iprop(ins c arg1 arg2 arg3 arg4 arg5 arg6 arg7 x0 x1 x2 x3 x4 x5 x6 ∗ owns (c : Thread nD τ) arg8 fullShare (Cert.Kernel2Ideal.Gen.out0_7 x0 x1 x2 x3 x4 x5 x6) ∗ owns (c : Thread nD τ) arg9 fullShare (Cert.Kernel2Ideal.Gen.out0_8 x0 x1 x2 x3 x4 x5 x6)) -∗ K ⟨⟩))
      ⊢ wp frame (wpE (defs₀ (F := F)) Variants.none c none) E (cc0_pixcnn_init i arg1 harg1 arg2 harg2 arg3 harg3 arg4 harg4 arg5 harg5 arg6 harg6 arg7 harg7 arg8 harg8 arg9 harg9) K := by
  simp only [cc0_pixcnn_init_eq_skeleton]; unfold cc0_pixcnn_init_skel
  simp only [k0_part1_eq_skeleton, k0_part2_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%d7, %f7, -, H7⟩, ⟨%d8, %f8, -, H8⟩, Hk⟩
  subst hf0 hf1 hf2 hf3 hf4 hf5 hf6
  sl_exec
  sl_step
  iapply Hk
  isplitl [H0 H1 H2 H3 H4 H5 H6]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    iexists f6; isplitr; · ipureintro; rfl
    iexact H6
  isplitl [H7]
  · iexists _; isplitr
    swap; · iexact H7
    ipureintro
    refine (View.read_writes_eq_canon _ _ _ (cover _)).trans ?_
    rfl
  iexists _; isplitr
  swap; · iexact H8
  ipureintro
  refine (View.read_writes_eq_canon _ _ _ (cover _)).trans ?_
  rfl

end Body

/-- The proof data: the arrays as the region finds them, each input's buffer left at its block and each output's at its value. -/
def dats (c : Dev nD) : Dat τ (Elt F) Unit ℕ (UR sig nD τ) ℕ cfg0 c where
  A w := arr V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => Cert.Kernel2Ideal.Gen.out0_7 (iblk V c 0 t) (iblk V c 1 t) (iblk V c 2 t) (iblk V c 3 t) (iblk V c 4 t) (iblk V c 5 t) (iblk V c 6 t)
    | ⟨8, _⟩ => Cert.Kernel2Ideal.Gen.out0_8 (iblk V c 0 t) (iblk V c 1 t) (iblk V c 2 t) (iblk V c 3 t) (iblk V c 4 t) (iblk V c 5 t) (iblk V c 6 t)
  Φ _ := Pipeline.ΦA spec0 c
  q _ := fullShare
  owed _ := 0

/-- The proof data's arrays are the contents at entry. -/
theorem A_eq (c : Dev nD) (w : Fin cfg0.W) : (dats V c).A w = arr V c (Pipeline.arrRef spec0 w) := by
  dsimp only [dats]

/-! What the body leaves in each input window's buffer, and what it finds there: the window's block. -/

theorem after_0 (c : Dev nD) (t : Fin cfg0.N) : (dats V c).after 0 t = iblk V c 0 t := by dsimp only [dats]
theorem after_1 (c : Dev nD) (t : Fin cfg0.N) : (dats V c).after 1 t = iblk V c 1 t := by dsimp only [dats]
theorem after_2 (c : Dev nD) (t : Fin cfg0.N) : (dats V c).after 2 t = iblk V c 2 t := by dsimp only [dats]
theorem after_3 (c : Dev nD) (t : Fin cfg0.N) : (dats V c).after 3 t = iblk V c 3 t := by dsimp only [dats]
theorem after_4 (c : Dev nD) (t : Fin cfg0.N) : (dats V c).after 4 t = iblk V c 4 t := by dsimp only [dats]
theorem after_5 (c : Dev nD) (t : Fin cfg0.N) : (dats V c).after 5 t = iblk V c 5 t := by dsimp only [dats]
theorem after_6 (c : Dev nD) (t : Fin cfg0.N) : (dats V c).after 6 t = iblk V c 6 t := by dsimp only [dats]
theorem before_0 (c : Dev nD) (t : Fin cfg0.N) (d) : (dats V c).before 0 t d = iblk V c 0 t :=
  ((dats V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats V c).before 1 t d = iblk V c 1 t :=
  ((dats V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats V c).before 2 t d = iblk V c 2 t :=
  ((dats V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats V c).before 3 t d = iblk V c 3 t :=
  ((dats V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats V c).before 4 t d = iblk V c 4 t :=
  ((dats V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats V c).before 5 t d = iblk V c 5 t :=
  ((dats V c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats V c).before 6 t d = iblk V c 6 t :=
  ((dats V c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem after_7 (c : Dev nD) (t : Fin cfg0.N) : (dats V c).after 7 t = Cert.Kernel2Ideal.Gen.out0_7 (iblk V c 0 t) (iblk V c 1 t) (iblk V c 2 t) (iblk V c 3 t) (iblk V c 4 t) (iblk V c 5 t) (iblk V c 6 t) := by dsimp only [dats]
theorem after_8 (c : Dev nD) (t : Fin cfg0.N) : (dats V c).after 8 t = Cert.Kernel2Ideal.Gen.out0_8 (iblk V c 0 t) (iblk V c 1 t) (iblk V c 2 t) (iblk V c 3 t) (iblk V c 4 t) (iblk V c 5 t) (iblk V c 6 t) := by dsimp only [dats]

/-- The body at a point: what it is called with and what it returns, the windows one by one. -/
theorem sound_body (c : Dev nD) (t : Fin cfg0.N) :
    iprop((dats V c).Φ t.castSucc ∗ (dats V c).owesAt () t.castSucc
    ∗ (∃ d, owns (c : Thread nD τ) (st0_0 t) fullShare ((dats V c).before 0 t d))
    ∗ (∃ d, owns (c : Thread nD τ) (st0_1 t) fullShare ((dats V c).before 1 t d))
    ∗ (∃ d, owns (c : Thread nD τ) (st0_2 t) fullShare ((dats V c).before 2 t d))
    ∗ (∃ d, owns (c : Thread nD τ) (st0_3 t) fullShare ((dats V c).before 3 t d))
    ∗ (∃ d, owns (c : Thread nD τ) (st0_4 t) fullShare ((dats V c).before 4 t d))
    ∗ (∃ d, owns (c : Thread nD τ) (st0_5 t) fullShare ((dats V c).before 5 t d))
    ∗ (∃ d, owns (c : Thread nD τ) (st0_6 t) fullShare ((dats V c).before 6 t d))
    ∗ (∃ d, owns (c : Thread nD τ) (st0_7 t) fullShare ((dats V c).before 7 t d))
    ∗ (∃ d, owns (c : Thread nD τ) (st0_8 t) fullShare ((dats V c).before 8 t d)))
    ⊢ wp frame (wpE (defs₀ (F := F)) Variants.none c none) Set.univ (bodyAt0 t) (fun _ =>
    iprop((dats V c).Φ t.succ ∗ (dats V c).owesAt () t.succ
    ∗ owns (c : Thread nD τ) (st0_0 t) fullShare ((dats V c).after 0 t)
    ∗ owns (c : Thread nD τ) (st0_1 t) fullShare ((dats V c).after 1 t)
    ∗ owns (c : Thread nD τ) (st0_2 t) fullShare ((dats V c).after 2 t)
    ∗ owns (c : Thread nD τ) (st0_3 t) fullShare ((dats V c).after 3 t)
    ∗ owns (c : Thread nD τ) (st0_4 t) fullShare ((dats V c).after 4 t)
    ∗ owns (c : Thread nD τ) (st0_5 t) fullShare ((dats V c).after 5 t)
    ∗ owns (c : Thread nD τ) (st0_6 t) fullShare ((dats V c).after 6 t)
    ∗ owns (c : Thread nD τ) (st0_7 t) fullShare ((dats V c).after 7 t)
    ∗ owns (c : Thread nD τ) (st0_8 t) fullShare ((dats V c).after 8 t))) := by
  unfold bodyAt0
  simp only [before_0, before_1, before_2, before_3, before_4, before_5, before_6]
  rw [show (dats V c).Φ t.succ = (dats V c).Φ t.castSucc from rfl,
    show (dats V c).owesAt () t.succ = (dats V c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run c (grid0.coords t) _ _ _ _ _ _ _ _ _ _ _ _ _ _ _ _ _ _ (iblk V c 0 t) (iblk V c 1 t) (iblk V c 2 t) (iblk V c 3 t) (iblk V c 4 t) (iblk V c 5 t) (iblk V c 6 t) Set.univ _)
  isplitl [H0 H1 H2 H3 H4 H5 H6]
  · unfold ins
    isplitl [H0]; · iexact H0
    isplitl [H1]; · iexact H1
    isplitl [H2]; · iexact H2
    isplitl [H3]; · iexact H3
    isplitl [H4]; · iexact H4
    isplitl [H5]; · iexact H5
    iexact H6
  isplitl [H7]; · iexists _; iexact H7
  isplitl [H8]; · iexists _; iexact H8
  unfold ins
  iintro ⟨⟨H0, H1, H2, H3, H4, H5, H6⟩, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at a point is the body at that point. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) V c) (defs₀ (F := F)) Variants.none () Set.univ := fun t => by
  rw [bigSep_W0, bigSep_W0, defs₀_row]
  exact triple_restated (sound_body V c t) rfl .rfl fun _ => .rfl

end Cert.Kernel4Ideal.R0

end
-- ==== Proof.Whole1.lean ====
/- The whole kernel's second call, over the reals with infinities: its body at every point of the grid, from any contents at entry. -/
module

public import proofs.«01_k».proof.Proof.Gen.Kernel4Ideal.Launch
public import proofs.«01_k».proof.Proof.Gen.Kernel4Ideal.Skeleton
public import proofs.«01_k».proof.Proof.Gen.Kernel4Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp
public import Idealize.ShloMosaic.Lib.Pipeline.Value

@[expose] public section

set_option maxRecDepth 16384

noncomputable section

namespace Cert.Kernel4Ideal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

/-- The assertions of this program's proofs. -/
abbrev SP (F : FTy → Type) := sProp (MT nD τ sig Unit (Elt F) ℕ (UR sig nD τ) ℕ)

variable (V : Dev nD → Valuation τ sig (Elt F))

/-- What a window's array holds when the region is entered. -/
abbrev arr (c : Dev nD) (b : Ref sig .tc) : Buf (Elt F) ((c : Thread nD τ).loc b) := V c b

/-- Window `w`'s block at point `t`, read off its array. -/
def iblk (c : Dev nD) (w : Fin cfg1.W) (t : Fin cfg1.N) : ((cfg1.win w).xblock (cfg1.grid.coords t)).Idx → Elt F (cfg1.win w).elt :=
  ((cfg1.win w).blk t).view.read (Elt F) (arr V c (Pipeline.arrRef spec1 w))

theorem hz : (![0, 0] : Fin 2 → Nat) = fun _ => 0 := funext fun a => by fin_cases a <;> rfl
theorem hz3 : (![0, 0, 0] : Fin 3 → Nat) = fun _ => 0 := funext fun a => by fin_cases a <;> rfl

/-- The upper stack's state after one block. -/
def stepU (u : Vec F S160x8192 .f32) (x2 : Vec F S1x160x1920 .fp8e4m3) (x3 : Vec F S1x160x1 .f32) (x4 : Vec F S1x320x1920 .bf16)
    (x5 : Vec F S1x320x1 .f32) : FVec F S160x8192 .f32 :=
  k1_pay15 k1_pay3 k1_pay4 u (k1_pay10 k1_pay4 (k1_pay7 u) (k1_pay8 u) (Scalar.ofBits .f32 0x00000000#32) k1_pay9 x2 x3)
    (k1_pay11 k1_pay4 (k1_pay7 u) (k1_pay8 u) (Scalar.ofBits .f32 0x00000000#32) k1_pay9 x2 x3)
    (k1_pay12 k1_pay4 (k1_pay7 u) (k1_pay8 u) (Scalar.ofBits .f32 0x00000000#32) k1_pay9 x2 x3)
    (k1_pay13 k1_pay4 (k1_pay7 u) (k1_pay8 u) (Scalar.ofBits .f32 0x00000000#32) k1_pay9 x2 x3)
    (k1_pay14 k1_pay4 (k1_pay7 u) (k1_pay8 u) (Scalar.ofBits .f32 0x00000000#32) k1_pay9 x2 x3) x4 x5
/-- The lower stack's state after one block, `v` the upper stack's new state. -/
def stepL (v : FVec F S160x8192 .f32) (l : Vec F S160x8192 .f32) (x6 : Vec F S1x160x1600 .bf16) (x7 : Vec F S1x160x1 .f32)
    (x8 : Vec F S1x320x1280 .bf16) (x9 : Vec F S1x320x1 .f32) : FVec F S160x8192 .f32 :=
  k1_pay19 k1_pay3 l (k1_pay18 k1_pay3 v (k1_pay17 l) (Scalar.ofBits .f32 0x00000000#32) x6 x7) x8 x9

/-- The result's block: the state in the narrower format. -/
def result (l : FVec F S160x8192 .f32) : FVec F S160x8192 .bf16 := truncf .bf16 l bitsLt_bf16_f32

/-- The body's first branch is taken at the first block of a group of images, its last branch at the last block. -/
abbrev first (i : grid1.Coords) : Prop := (Scalar.cmpi .ne (Scalar.extui (Scalar.cmpi .eq (BitVec.ofNat 32 (i 1).val) 0#32)) 0#32) = 1#1
abbrev last (i : grid1.Coords) : Prop := k1_cond2 i = 1#1
theorem first_iff : ∀ t : Fin cfg1.N, first (grid1.coords t) ↔ t.val % 5 = 0 :=
  (fun t => by
    have ht : t.val < 20 := Nat.lt_of_lt_of_eq t.isLt N_1
    have e0 : (grid1.coords t 0).val = t.val / 5 % 4 := Pipeline.Grid.coords_val t 0 (by decide) rfl
    have e1 : (grid1.coords t 1).val = t.val / 1 % 5 := Pipeline.Grid.coords_val t 1 (by decide) rfl
    simp only [first, e0, e1]
    word_cmp
   : ∀ t : Fin grid1.N, first (grid1.coords t) ↔ t.val % 5 = 0)
theorem last_iff : ∀ t : Fin cfg1.N, last (grid1.coords t) ↔ t.val % 5 = 4 :=
  (fun t => by
    have ht : t.val < 20 := Nat.lt_of_lt_of_eq t.isLt N_1
    have e0 : (grid1.coords t 0).val = t.val / 5 % 4 := Pipeline.Grid.coords_val t 0 (by decide) rfl
    have e1 : (grid1.coords t 1).val = t.val / 1 % 5 := Pipeline.Grid.coords_val t 1 (by decide) rfl
    simp only [last, k1_cond2, e0, e1]
    word_cmp
   : ∀ t : Fin grid1.N, last (grid1.coords t) ↔ t.val % 5 = 4)

/-- The result's window is idle, and not written back, at all blocks but the last. -/
theorem idle_of : ∀ t : Fin cfg1.N, ¬last (grid1.coords t) → cfg1.idle 10 (grid1.coords t) = true := by decide +kernel
theorem noFlush_of : ∀ t : Fin cfg1.N, ¬last (grid1.coords t) → (cfg1.win 10).flush t = false := by decide +kernel
theorem live_of : ∀ t : Fin cfg1.N, last (grid1.coords t) → cfg1.idle 10 (grid1.coords t) = false := by decide +kernel

section Body
variable (c : Dev nD) (i : grid1.Coords)
  (arg2 : Memref sig .tc .vmem S160x8192 .bf16) (harg2 : arg2.IsWhole)
  (arg3 : Memref sig .tc .vmem S160x8192 .bf16) (harg3 : arg3.IsWhole)
  (arg4 : Memref sig .tc .vmem S1x160x1920 .fp8e4m3) (harg4 : arg4.IsWhole)
  (arg5 : Memref sig .tc .vmem S1x160x1 .f32) (harg5 : arg5.IsWhole)
  (arg6 : Memref sig .tc .vmem S1x320x1920 .bf16) (harg6 : arg6.IsWhole)
  (arg7 : Memref sig .tc .vmem S1x320x1 .f32) (harg7 : arg7.IsWhole)
  (arg8 : Memref sig .tc .vmem S1x160x1600 .bf16) (harg8 : arg8.IsWhole)
  (arg9 : Memref sig .tc .vmem S1x160x1 .f32) (harg9 : arg9.IsWhole)
  (arg10 : Memref sig .tc .vmem S1x320x1280 .bf16) (harg10 : arg10.IsWhole)
  (arg11 : Memref sig .tc .vmem S1x320x1 .f32) (harg11 : arg11.IsWhole)
  (arg12 : Memref sig .tc .vmem S160x8192 .bf16) (harg12 : arg12.IsWhole)
  (arg13 : Memref sig .tc .vmem S160x8192 .f32) (harg13 : arg13.IsWhole)
  (arg14 : Memref sig .tc .vmem S160x8192 .f32) (harg14 : arg14.IsWhole)
  (x0 : Vec F S160x8192 .bf16) (x1 : Vec F S160x8192 .bf16) (x2 : Vec F S1x160x1920 .fp8e4m3) (x3 : Vec F S1x160x1 .f32) (x4 : Vec F S1x320x1920 .bf16) (x5 : Vec F S1x320x1 .f32) (x6 : Vec F S1x160x1600 .bf16) (x7 : Vec F S1x160x1 .f32) (x8 : Vec F S1x320x1280 .bf16) (x9 : Vec F S1x320x1 .f32)

/-- The input windows' buffers, each at its block. -/
def ins : SP F :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9)

/-- What the body leaves: the inputs, the result's buffer at `y`, and both states one block on from `u` and `l`. -/
def left (y : Vec F S160x8192 .bf16) (u l : Vec F S160x8192 .f32) : SP F :=
  iprop(ins c arg2 arg3 arg4 arg5 arg6 arg7 arg8 arg9 arg10 arg11 x0 x1 x2 x3 x4 x5 x6 x7 x8 x9 ∗ owns (c : Thread nD τ) arg12 fullShare y ∗ owns (c : Thread nD τ) arg13 fullShare (stepU u x2 x3 x4 x5)
    ∗ owns (c : Thread nD τ) arg14 fullShare (stepL (stepU u x2 x3 x4 x5) l x6 x7 x8 x9))

set_option maxHeartbeats 4000000 in
/-- At a first block the states start from the two blocks of the initial states. -/
theorem runA (hc0 : first i) (hc1 : ¬last i) (y : Vec F S160x8192 .bf16) (E : Set ℕ) (K : PUnit → SP F) :
    iprop(ins c arg2 arg3 arg4 arg5 arg6 arg7 arg8 arg9 arg10 arg11 x0 x1 x2 x3 x4 x5 x6 x7 x8 x9 ∗ owns (c : Thread nD τ) arg12 fullShare y ∗ (∃ d, owns (c : Thread nD τ) arg13 fullShare d) ∗ (∃ d, owns (c : Thread nD τ) arg14 fullShare d)
        ∗ (left c arg2 arg3 arg4 arg5 arg6 arg7 arg8 arg9 arg10 arg11 arg12 arg13 arg14 x0 x1 x2 x3 x4 x5 x6 x7 x8 x9 y (k1_pay5 x0) (k1_pay6 x1) -∗ K ⟨⟩))
      ⊢ wp frame (wpE (defs₀ (F := F)) Variants.none c none) E (cc1_pixcnn_resnets i arg2 harg2 arg3 harg3 arg4 harg4 arg5 harg5 arg6 harg6 arg7 harg7 arg8 harg8 arg9 harg9 arg10 harg10 arg11 harg11 arg12 harg12 arg13 harg13 arg14 harg14) K := by
  simp only [cc1_pixcnn_resnets_eq_skeleton]; unfold cc1_pixcnn_resnets_skel
  simp only [k1_part1_eq_skeleton, k1_part2_eq_skeleton, k1_part3_eq_skeleton, k1_part4_eq_skeleton, k1_part5_eq_skeleton]
  unfold left ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%f10, %hf10, H10⟩, ⟨%d11, %f11, -, H11⟩, ⟨%d12, %f12, -, H12⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec (disch := first | sl_exact hc0 | sl_exact hc1)
  sl_step
  iapply Hk
  isplitl [H0 H1 H2 H3 H4 H5 H6 H7 H8 H9]
  · isplitl [H0]; · iexists _; isplitr; (· ipureintro; exact harg2.read_unread _); iexact H0
    isplitl [H1]; · iexists _; isplitr; (· ipureintro; exact harg3.read_unread _); iexact H1
    isplitl [H2]; · iexists _; isplitr; (· ipureintro; exact harg4.read_unread _); iexact H2
    isplitl [H3]; · iexists _; isplitr; (· ipureintro; exact harg5.read_unread _); iexact H3
    isplitl [H4]; · iexists _; isplitr; (· ipureintro; exact harg6.read_unread _); iexact H4
    isplitl [H5]; · iexists _; isplitr; (· ipureintro; exact harg7.read_unread _); iexact H5
    isplitl [H6]; · iexists _; isplitr; (· ipureintro; exact harg8.read_unread _); iexact H6
    isplitl [H7]; · iexists _; isplitr; (· ipureintro; exact harg9.read_unread _); iexact H7
    isplitl [H8]; · iexists _; isplitr; (· ipureintro; exact harg10.read_unread _); iexact H8
    iexists _; isplitr; · ipureintro; exact harg11.read_unread _
    iexact H9
  isplitl [H10]
  · iexists _; isplitr; (· ipureintro; exact harg12.read_unread _); iexact H10
  isplitl [H11]
  · iexists _; isplitr; swap; · iexact H11
    ipureintro
    refine (View.read_writes_eq_canon _ _ _ (fun y => View.cover_of_tiledL _ S160x8192.size (by sl_kernel_rfl) y)).trans ?_
    sl_unfold_words
    rw [View.canon_cons_unit_zero (S := S160x8192) hz]
    simp only [View.readCov_unit_zero (S := S160x8192) _ hz]
    unfold k1_pay16
    simp only [View.readAt_eq_ld, harg2.read_unread, harg3.read_unread, harg4.read_unread, harg5.read_unread, harg6.read_unread, harg7.read_unread, harg8.read_unread, harg9.read_unread,
        harg10.read_unread, harg11.read_unread, harg13.read_unread, harg14.read_unread,
        View.ld_unit_zero (S := S160x8192) hz, View.ld_unit_zero (S := S1x160x1920) hz3, View.ld_unit_zero (S := S1x160x1) hz3,
        View.ld_unit_zero (S := S1x320x1920) hz3, View.ld_unit_zero (S := S1x320x1) hz3, View.ld_unit_zero (S := S1x160x1600) hz3,
        View.ld_unit_zero (S := S1x320x1280) hz3, shapeCast_self]
    rfl
  iexists _; isplitr; swap; · iexact H12
  ipureintro
  refine (View.read_writes_eq_canon _ _ _ (fun y => View.cover_of_tiledL _ S160x8192.size (by sl_kernel_rfl) y)).trans ?_
  sl_unfold_words
  rw [View.canon_cons_unit_zero (S := S160x8192) hz]
  simp only [View.readCov_unit_zero (S := S160x8192) _ hz]
  unfold k1_pay20
  simp only [View.readAt_eq_ld, harg2.read_unread, harg3.read_unread, harg4.read_unread, harg5.read_unread, harg6.read_unread, harg7.read_unread, harg8.read_unread, harg9.read_unread,
      harg10.read_unread, harg11.read_unread, harg13.read_unread, harg14.read_unread,
      View.ld_unit_zero (S := S160x8192) hz, View.ld_unit_zero (S := S1x160x1920) hz3, View.ld_unit_zero (S := S1x160x1) hz3,
      View.ld_unit_zero (S := S1x320x1920) hz3, View.ld_unit_zero (S := S1x320x1) hz3, View.ld_unit_zero (S := S1x160x1600) hz3,
      View.ld_unit_zero (S := S1x320x1280) hz3, shapeCast_self]
  rfl

set_option maxHeartbeats 4000000 in
/-- At a block between the states go one block on. -/
theorem runB (hc0 : ¬first i) (hc1 : ¬last i) (y : Vec F S160x8192 .bf16) (u l : Vec F S160x8192 .f32) (E : Set ℕ) (K : PUnit → SP F) :
    iprop(ins c arg2 arg3 arg4 arg5 arg6 arg7 arg8 arg9 arg10 arg11 x0 x1 x2 x3 x4 x5 x6 x7 x8 x9 ∗ owns (c : Thread nD τ) arg12 fullShare y ∗ owns (c : Thread nD τ) arg13 fullShare u ∗ owns (c : Thread nD τ) arg14 fullShare l
        ∗ (left c arg2 arg3 arg4 arg5 arg6 arg7 arg8 arg9 arg10 arg11 arg12 arg13 arg14 x0 x1 x2 x3 x4 x5 x6 x7 x8 x9 y u l -∗ K ⟨⟩))
      ⊢ wp frame (wpE (defs₀ (F := F)) Variants.none c none) E (cc1_pixcnn_resnets i arg2 harg2 arg3 harg3 arg4 harg4 arg5 harg5 arg6 harg6 arg7 harg7 arg8 harg8 arg9 harg9 arg10 harg10 arg11 harg11 arg12 harg12 arg13 harg13 arg14 harg14) K := by
  simp only [cc1_pixcnn_resnets_eq_skeleton]; unfold cc1_pixcnn_resnets_skel
  simp only [k1_part1_eq_skeleton, k1_part2_eq_skeleton, k1_part3_eq_skeleton, k1_part4_eq_skeleton, k1_part5_eq_skeleton]
  unfold left ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%f10, %hf10, H10⟩, ⟨%f11, %hf11, H11⟩, ⟨%f12, %hf12, H12⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
  sl_exec (disch := first | sl_exact hc0 | sl_exact hc1)
  sl_step
  iapply Hk
  isplitl [H0 H1 H2 H3 H4 H5 H6 H7 H8 H9]
  · isplitl [H0]; · iexists _; isplitr; (· ipureintro; exact harg2.read_unread _); iexact H0
    isplitl [H1]; · iexists _; isplitr; (· ipureintro; exact harg3.read_unread _); iexact H1
    isplitl [H2]; · iexists _; isplitr; (· ipureintro; exact harg4.read_unread _); iexact H2
    isplitl [H3]; · iexists _; isplitr; (· ipureintro; exact harg5.read_unread _); iexact H3
    isplitl [H4]; · iexists _; isplitr; (· ipureintro; exact harg6.read_unread _); iexact H4
    isplitl [H5]; · iexists _; isplitr; (· ipureintro; exact harg7.read_unread _); iexact H5
    isplitl [H6]; · iexists _; isplitr; (· ipureintro; exact harg8.read_unread _); iexact H6
    isplitl [H7]; · iexists _; isplitr; (· ipureintro; exact harg9.read_unread _); iexact H7
    isplitl [H8]; · iexists _; isplitr; (· ipureintro; exact harg10.read_unread _); iexact H8
    iexists _; isplitr; · ipureintro; exact harg11.read_unread _
    iexact H9
  isplitl [H10]
  · iexists _; isplitr; (· ipureintro; exact harg12.read_unread _); iexact H10
  isplitl [H11]
  · iexists _; isplitr; swap; · iexact H11
    ipureintro
    refine (View.read_writes_eq_canon _ _ _ (fun y => View.cover_of_tiledL _ S160x8192.size (by sl_kernel_rfl) y)).trans ?_
    rw [View.canon_unit_zero hz]
    unfold k1_pay16
    sl_unfold_words
    simp only [View.readAt_eq_ld, harg2.read_unread, harg3.read_unread, harg4.read_unread, harg5.read_unread, harg6.read_unread, harg7.read_unread, harg8.read_unread, harg9.read_unread,
        harg10.read_unread, harg11.read_unread, harg13.read_unread, harg14.read_unread,
        View.ld_unit_zero (S := S160x8192) hz, View.ld_unit_zero (S := S1x160x1920) hz3, View.ld_unit_zero (S := S1x160x1) hz3,
        View.ld_unit_zero (S := S1x320x1920) hz3, View.ld_unit_zero (S := S1x320x1) hz3, View.ld_unit_zero (S := S1x160x1600) hz3,
        View.ld_unit_zero (S := S1x320x1280) hz3, shapeCast_self]
    rfl
  iexists _; isplitr; swap; · iexact H12
  ipureintro
  refine (View.read_writes_eq_canon _ _ _ (fun y => View.cover_of_tiledL _ S160x8192.size (by sl_kernel_rfl) y)).trans ?_
  rw [View.canon_unit_zero hz]
  unfold k1_pay20
  sl_unfold_words
  simp only [View.readAt_eq_ld, harg2.read_unread, harg3.read_unread, harg4.read_unread, harg5.read_unread, harg6.read_unread, harg7.read_unread, harg8.read_unread, harg9.read_unread,
      harg10.read_unread, harg11.read_unread, harg13.read_unread, harg14.read_unread,
      View.ld_unit_zero (S := S160x8192) hz, View.ld_unit_zero (S := S1x160x1920) hz3, View.ld_unit_zero (S := S1x160x1) hz3,
      View.ld_unit_zero (S := S1x320x1920) hz3, View.ld_unit_zero (S := S1x320x1) hz3, View.ld_unit_zero (S := S1x160x1600) hz3,
      View.ld_unit_zero (S := S1x320x1280) hz3, shapeCast_self]
  rfl

set_option maxHeartbeats 4000000 in
/-- At a last block the result is the lower state. -/
theorem runC (hc0 : ¬first i) (hc1 : last i) (u l : Vec F S160x8192 .f32) (E : Set ℕ) (K : PUnit → SP F) :
    iprop(ins c arg2 arg3 arg4 arg5 arg6 arg7 arg8 arg9 arg10 arg11 x0 x1 x2 x3 x4 x5 x6 x7 x8 x9 ∗ (∃ d, owns (c : Thread nD τ) arg12 fullShare d) ∗ owns (c : Thread nD τ) arg13 fullShare u ∗ owns (c : Thread nD τ) arg14 fullShare l
        ∗ (left c arg2 arg3 arg4 arg5 arg6 arg7 arg8 arg9 arg10 arg11 arg12 arg13 arg14 x0 x1 x2 x3 x4 x5 x6 x7 x8 x9 (result (stepL (stepU u x2 x3 x4 x5) l x6 x7 x8 x9)) u l -∗ K ⟨⟩))
      ⊢ wp frame (wpE (defs₀ (F := F)) Variants.none c none) E (cc1_pixcnn_resnets i arg2 harg2 arg3 harg3 arg4 harg4 arg5 harg5 arg6 harg6 arg7 harg7 arg8 harg8 arg9 harg9 arg10 harg10 arg11 harg11 arg12 harg12 arg13 harg13 arg14 harg14) K := by
  simp only [cc1_pixcnn_resnets_eq_skeleton]; unfold cc1_pixcnn_resnets_skel
  simp only [k1_part1_eq_skeleton, k1_part2_eq_skeleton, k1_part3_eq_skeleton, k1_part4_eq_skeleton, k1_part5_eq_skeleton]
  unfold left ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%d10, %f10, -, H10⟩, ⟨%f11, %hf11, H11⟩, ⟨%f12, %hf12, H12⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hf11; obtain rfl := harg14.eq_unread hf12
  sl_exec (disch := first | sl_exact hc0 | sl_exact hc1)
  sl_step
  iapply Hk
  isplitl [H0 H1 H2 H3 H4 H5 H6 H7 H8 H9]
  · isplitl [H0]; · iexists _; isplitr; (· ipureintro; exact harg2.read_unread _); iexact H0
    isplitl [H1]; · iexists _; isplitr; (· ipureintro; exact harg3.read_unread _); iexact H1
    isplitl [H2]; · iexists _; isplitr; (· ipureintro; exact harg4.read_unread _); iexact H2
    isplitl [H3]; · iexists _; isplitr; (· ipureintro; exact harg5.read_unread _); iexact H3
    isplitl [H4]; · iexists _; isplitr; (· ipureintro; exact harg6.read_unread _); iexact H4
    isplitl [H5]; · iexists _; isplitr; (· ipureintro; exact harg7.read_unread _); iexact H5
    isplitl [H6]; · iexists _; isplitr; (· ipureintro; exact harg8.read_unread _); iexact H6
    isplitl [H7]; · iexists _; isplitr; (· ipureintro; exact harg9.read_unread _); iexact H7
    isplitl [H8]; · iexists _; isplitr; (· ipureintro; exact harg10.read_unread _); iexact H8
    iexists _; isplitr; · ipureintro; exact harg11.read_unread _
    iexact H9
  isplitl [H10]
  · iexists _; isplitr; swap; · iexact H10
    ipureintro
    refine (View.read_writes_eq_canon _ _ _ (fun y => View.cover_of_tiledL _ S160x8192.size (by sl_kernel_rfl) y)).trans ?_
    rw [View.canon_unit_zero hz]
    unfold k1_pay1
    sl_unfold_words
    simp only [View.readAt_eq_ld, harg2.read_unread, harg3.read_unread, harg4.read_unread, harg5.read_unread, harg6.read_unread, harg7.read_unread, harg8.read_unread, harg9.read_unread,
        harg10.read_unread, harg11.read_unread, harg13.read_unread, harg14.read_unread,
        View.ld_unit_zero (S := S160x8192) hz, View.ld_unit_zero (S := S1x160x1920) hz3, View.ld_unit_zero (S := S1x160x1) hz3,
        View.ld_unit_zero (S := S1x320x1920) hz3, View.ld_unit_zero (S := S1x320x1) hz3, View.ld_unit_zero (S := S1x160x1600) hz3,
        View.ld_unit_zero (S := S1x320x1280) hz3, shapeCast_self]
    rfl
  isplitl [H11]
  · iexists _; isplitr; swap; · iexact H11
    ipureintro
    refine (View.read_writes_eq_canon _ _ _ (fun y => View.cover_of_tiledL _ S160x8192.size (by sl_kernel_rfl) y)).trans ?_
    rw [View.canon_unit_zero hz]
    unfold k1_pay16
    sl_unfold_words
    simp only [View.readAt_eq_ld, harg2.read_unread, harg3.read_unread, harg4.read_unread, harg5.read_unread, harg6.read_unread, harg7.read_unread, harg8.read_unread, harg9.read_unread,
        harg10.read_unread, harg11.read_unread, harg13.read_unread, harg14.read_unread,
        View.ld_unit_zero (S := S160x8192) hz, View.ld_unit_zero (S := S1x160x1920) hz3, View.ld_unit_zero (S := S1x160x1) hz3,
        View.ld_unit_zero (S := S1x320x1920) hz3, View.ld_unit_zero (S := S1x320x1) hz3, View.ld_unit_zero (S := S1x160x1600) hz3,
        View.ld_unit_zero (S := S1x320x1280) hz3, shapeCast_self]
    rfl
  iexists _; isplitr; swap; · iexact H12
  ipureintro
  refine (View.read_writes_eq_canon _ _ _ (fun y => View.cover_of_tiledL _ S160x8192.size (by sl_kernel_rfl) y)).trans ?_
  rw [View.canon_unit_zero hz]
  unfold k1_pay20
  sl_unfold_words
  simp only [View.readAt_eq_ld, harg2.read_unread, harg3.read_unread, harg4.read_unread, harg5.read_unread, harg6.read_unread, harg7.read_unread, harg8.read_unread, harg9.read_unread,
      harg10.read_unread, harg11.read_unread, harg13.read_unread, harg14.read_unread,
      View.ld_unit_zero (S := S160x8192) hz, View.ld_unit_zero (S := S1x160x1920) hz3, View.ld_unit_zero (S := S1x160x1) hz3,
      View.ld_unit_zero (S := S1x320x1920) hz3, View.ld_unit_zero (S := S1x320x1) hz3, View.ld_unit_zero (S := S1x160x1600) hz3,
      View.ld_unit_zero (S := S1x320x1280) hz3, shapeCast_self]
  rfl

end Body

/-- The states a group of images starts from. -/
def start (c : Dev nD) (t : Fin cfg1.N) : Vec F S160x8192 .f32 × Vec F S160x8192 .f32 := (k1_pay5 (iblk V c 0 t), k1_pay6 (iblk V c 1 t))
/-- The states one block on. -/
def step (c : Dev nD) (t : Fin cfg1.N) (s : Vec F S160x8192 .f32 × Vec F S160x8192 .f32) : Vec F S160x8192 .f32 × Vec F S160x8192 .f32 :=
  (stepU s.1 (iblk V c 2 t) (iblk V c 3 t) (iblk V c 4 t) (iblk V c 5 t),
    stepL (stepU s.1 (iblk V c 2 t) (iblk V c 3 t) (iblk V c 4 t) (iblk V c 5 t)) s.2 (iblk V c 6 t) (iblk V c 7 t) (iblk V c 8 t) (iblk V c 9 t))
/-- The states after point `n`. -/
def states (c : Dev nD) : (n : ℕ) → n < cfg1.N → Vec F S160x8192 .f32 × Vec F S160x8192 .f32
  | 0, h => step V c ⟨0, h⟩ (start V c ⟨0, h⟩)
  | n + 1, h => if (n + 1) % 5 = 0 then step V c ⟨n + 1, h⟩ (start V c ⟨n + 1, h⟩) else step V c ⟨n + 1, h⟩ (states c n (by omega))
theorem states_first (c : Dev nD) (t : Fin cfg1.N) (h : t.val % 5 = 0) : states V c t.val t.isLt = step V c t (start V c t) := by
  obtain ⟨n, hn⟩ := t
  cases n with
  | zero => rfl
  | succ n => exact if_pos h
theorem states_next (c : Dev nD) (t : Fin cfg1.N) (h : ¬t.val % 5 = 0) : states V c t.val t.isLt = step V c t (states V c (t.val - 1) (by omega)) := by
  obtain ⟨n, hn⟩ := t
  cases n with
  | zero => exact absurd rfl h
  | succ n => exact if_neg h

/-- The two state buffers. -/
abbrev scU : Memref sig .tc .vmem S160x8192 .f32 := Memref.whole cc1_scratch0
abbrev scL : Memref sig .tc .vmem S160x8192 .f32 := Memref.whole cc1_scratch1

/-- The scoped buffers the call doesn't use: the other calls' staging buffers. -/
abbrev others (F : FTy → Type) [FloatOps F] (c : Dev nD) : SP F :=
  Pipeline.scopedRestBut (Ix := Unit) (Name := ℕ) (U := UR sig nD τ) (Lvl := ℕ) (Val := Elt F) spec1 c [cc1_scratch0, cc1_scratch1]

/-- Before the first point the state buffers hold anything, afterwards the states. -/
theorem free_eq (c : Dev nD) :
    (Pipeline.ΦA spec1 c : SP F)
      = iprop(iprop(iprop((∃ d, owns (c : Thread nD τ) scU fullShare d) ∗ (∃ d, owns (c : Thread nD τ) scL fullShare d)) ∗ others F c) ∗ (∃ r, prngReg c r)) := by
  unfold Pipeline.ΦA; rw [Pipeline.scopedRest_split_of_list spec1 c [cc1_scratch0, cc1_scratch1] (by decide) (by decide)]; simp only [scU, scL, owns_whole]; try rfl
def held (c : Dev nD) : (n : ℕ) → n ≤ cfg1.N → SP F
  | 0, _ => Pipeline.ΦA spec1 c
  | n + 1, hn => iprop(iprop(iprop(owns (c : Thread nD τ) scU fullShare ((states V c n hn).1) ∗ owns (c : Thread nD τ) scL fullShare ((states V c n hn).2)) ∗ others F c) ∗ (∃ r, prngReg c r))
theorem held_pos (c : Dev nD) (n : ℕ) (h : n ≤ cfg1.N) (hz : n ≠ 0) :
    held V c n h = iprop(iprop(iprop(owns (c : Thread nD τ) scU fullShare ((states V c (n - 1) (by omega)).1) ∗ owns (c : Thread nD τ) scL fullShare ((states V c (n - 1) (by omega)).2)) ∗ others F c) ∗ (∃ r, prngReg c r)) := by
  cases n with
  | zero => exact absurd rfl hz
  | succ n => rfl
theorem held_free (c : Dev nD) (n : ℕ) (h : n ≤ cfg1.N) : held V c n h ⊢ Pipeline.ΦA spec1 c := by
  cases n with
  | zero => exact Idealize.SL.BI.Entails.refl _
  | succ n =>
    rw [free_eq]
    unfold held
    iintro ⟨⟨⟨HS0, HS1⟩, HR⟩, Hg⟩
    isplitl [HS0 HS1 HR]
    · isplitl [HS0 HS1]
      · isplitl [HS0]
        · iexists _; iexact HS0
        iexists _; iexact HS1
      iexact HR
    iexact Hg

/-- The proof data: the arrays as the region finds them, each input's buffer left at its block and the result's at the lower state. -/
def dats (c : Dev nD) : Dat τ (Elt F) Unit ℕ (UR sig nD τ) ℕ cfg1 c where
  A w := arr V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => result (states V c t.val t.isLt).2
  Φ t := held V c t.val (Nat.le_of_lt_succ t.isLt)
  q _ := fullShare
  owed _ := 0

/-- The proof data's arrays are the contents at entry. -/
theorem A_eq (c : Dev nD) (w : Fin cfg1.W) : (dats V c).A w = arr V c (Pipeline.arrRef spec1 w) := by
  dsimp only [dats]

/-! What the body leaves in each input window's buffer, and what it finds there: the window's block. -/

theorem after_0 (c : Dev nD) (t : Fin cfg1.N) : (dats V c).after 0 t = iblk V c 0 t := by dsimp only [dats]
theorem after_1 (c : Dev nD) (t : Fin cfg1.N) : (dats V c).after 1 t = iblk V c 1 t := by dsimp only [dats]
theorem after_2 (c : Dev nD) (t : Fin cfg1.N) : (dats V c).after 2 t = iblk V c 2 t := by dsimp only [dats]
theorem after_3 (c : Dev nD) (t : Fin cfg1.N) : (dats V c).after 3 t = iblk V c 3 t := by dsimp only [dats]
theorem after_4 (c : Dev nD) (t : Fin cfg1.N) : (dats V c).after 4 t = iblk V c 4 t := by dsimp only [dats]
theorem after_5 (c : Dev nD) (t : Fin cfg1.N) : (dats V c).after 5 t = iblk V c 5 t := by dsimp only [dats]
theorem after_6 (c : Dev nD) (t : Fin cfg1.N) : (dats V c).after 6 t = iblk V c 6 t := by dsimp only [dats]
theorem after_7 (c : Dev nD) (t : Fin cfg1.N) : (dats V c).after 7 t = iblk V c 7 t := by dsimp only [dats]
theorem after_8 (c : Dev nD) (t : Fin cfg1.N) : (dats V c).after 8 t = iblk V c 8 t := by dsimp only [dats]
theorem after_9 (c : Dev nD) (t : Fin cfg1.N) : (dats V c).after 9 t = iblk V c 9 t := by dsimp only [dats]
theorem before_0 (c : Dev nD) (t : Fin cfg1.N) (d) : (dats V c).before 0 t d = iblk V c 0 t :=
  ((dats V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dats V c).before 1 t d = iblk V c 1 t :=
  ((dats V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dats V c).before 2 t d = iblk V c 2 t :=
  ((dats V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg1.N) (d) : (dats V c).before 3 t d = iblk V c 3 t :=
  ((dats V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg1.N) (d) : (dats V c).before 4 t d = iblk V c 4 t :=
  ((dats V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg1.N) (d) : (dats V c).before 5 t d = iblk V c 5 t :=
  ((dats V c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg1.N) (d) : (dats V c).before 6 t d = iblk V c 6 t :=
  ((dats V c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg1.N) (d) : (dats V c).before 7 t d = iblk V c 7 t :=
  ((dats V c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg1.N) (d) : (dats V c).before 8 t d = iblk V c 8 t :=
  ((dats V c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (c : Dev nD) (t : Fin cfg1.N) (d) : (dats V c).before 9 t d = iblk V c 9 t :=
  ((dats V c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)
theorem after_10 (c : Dev nD) (t : Fin cfg1.N) : (dats V c).after 10 t = result (states V c t.val t.isLt).2 := by dsimp only [dats]

/-! What the body hands back of each window. -/

theorem leaves_0 (c : Dev nD) (t : Fin cfg1.N) : (dats V c).leavesExact 0 t = owns (c : Thread nD τ) (st1_0 t) fullShare (iblk V c 0 t) := by
  unfold Dat.leavesExact; rw [show cfg1.idle 0 (grid1.coords t) = false from rfl, after_0]
theorem leaves_1 (c : Dev nD) (t : Fin cfg1.N) : (dats V c).leavesExact 1 t = owns (c : Thread nD τ) (st1_1 t) fullShare (iblk V c 1 t) := by
  unfold Dat.leavesExact; rw [show cfg1.idle 1 (grid1.coords t) = false from rfl, after_1]
theorem leaves_2 (c : Dev nD) (t : Fin cfg1.N) : (dats V c).leavesExact 2 t = owns (c : Thread nD τ) (st1_2 t) fullShare (iblk V c 2 t) := by
  unfold Dat.leavesExact; rw [show cfg1.idle 2 (grid1.coords t) = false from rfl, after_2]
theorem leaves_3 (c : Dev nD) (t : Fin cfg1.N) : (dats V c).leavesExact 3 t = owns (c : Thread nD τ) (st1_3 t) fullShare (iblk V c 3 t) := by
  unfold Dat.leavesExact; rw [show cfg1.idle 3 (grid1.coords t) = false from rfl, after_3]
theorem leaves_4 (c : Dev nD) (t : Fin cfg1.N) : (dats V c).leavesExact 4 t = owns (c : Thread nD τ) (st1_4 t) fullShare (iblk V c 4 t) := by
  unfold Dat.leavesExact; rw [show cfg1.idle 4 (grid1.coords t) = false from rfl, after_4]
theorem leaves_5 (c : Dev nD) (t : Fin cfg1.N) : (dats V c).leavesExact 5 t = owns (c : Thread nD τ) (st1_5 t) fullShare (iblk V c 5 t) := by
  unfold Dat.leavesExact; rw [show cfg1.idle 5 (grid1.coords t) = false from rfl, after_5]
theorem leaves_6 (c : Dev nD) (t : Fin cfg1.N) : (dats V c).leavesExact 6 t = owns (c : Thread nD τ) (st1_6 t) fullShare (iblk V c 6 t) := by
  unfold Dat.leavesExact; rw [show cfg1.idle 6 (grid1.coords t) = false from rfl, after_6]
theorem leaves_7 (c : Dev nD) (t : Fin cfg1.N) : (dats V c).leavesExact 7 t = owns (c : Thread nD τ) (st1_7 t) fullShare (iblk V c 7 t) := by
  unfold Dat.leavesExact; rw [show cfg1.idle 7 (grid1.coords t) = false from rfl, after_7]
theorem leaves_8 (c : Dev nD) (t : Fin cfg1.N) : (dats V c).leavesExact 8 t = owns (c : Thread nD τ) (st1_8 t) fullShare (iblk V c 8 t) := by
  unfold Dat.leavesExact; rw [show cfg1.idle 8 (grid1.coords t) = false from rfl, after_8]
theorem leaves_9 (c : Dev nD) (t : Fin cfg1.N) : (dats V c).leavesExact 9 t = owns (c : Thread nD τ) (st1_9 t) fullShare (iblk V c 9 t) := by
  unfold Dat.leavesExact; rw [show cfg1.idle 9 (grid1.coords t) = false from rfl, after_9]
theorem leaves_10 (c : Dev nD) (t : Fin cfg1.N) (h : last (grid1.coords t)) : (dats V c).leavesExact 10 t = owns (c : Thread nD τ) (st1_10 t) fullShare (result (states V c t.val t.isLt).2) := by
  unfold Dat.leavesExact; rw [live_of t h, after_10]

/-- The invariant at a point's end and at its start. -/
theorem Phi_succ (c : Dev nD) (t : Fin cfg1.N) :
    (dats V c).Φ t.succ = iprop(iprop(iprop(owns (c : Thread nD τ) scU fullShare ((states V c t.val t.isLt).1) ∗ owns (c : Thread nD τ) scL fullShare ((states V c t.val t.isLt).2)) ∗ others F c) ∗ (∃ r, prngReg c r)) := rfl
theorem Phi_castSucc (c : Dev nD) (t : Fin cfg1.N) : (dats V c).Φ t.castSucc = held V c t.val (Nat.le_of_lt t.isLt) := by
  dsimp only [dats]; exact Pipeline.Dat.Φ_castSucc (held V c) t

set_option maxHeartbeats 8000000 in
/-- The body at a point: what it is called with and what it returns, the windows one by one. -/
theorem sound_body (c : Dev nD) (t : Fin cfg1.N) :
    iprop((dats V c).Φ t.castSucc ∗ (dats V c).owesAt () t.castSucc
    ∗ (∃ d, owns (c : Thread nD τ) (st1_0 t) fullShare ((dats V c).before 0 t d))
    ∗ (∃ d, owns (c : Thread nD τ) (st1_1 t) fullShare ((dats V c).before 1 t d))
    ∗ (∃ d, owns (c : Thread nD τ) (st1_2 t) fullShare ((dats V c).before 2 t d))
    ∗ (∃ d, owns (c : Thread nD τ) (st1_3 t) fullShare ((dats V c).before 3 t d))
    ∗ (∃ d, owns (c : Thread nD τ) (st1_4 t) fullShare ((dats V c).before 4 t d))
    ∗ (∃ d, owns (c : Thread nD τ) (st1_5 t) fullShare ((dats V c).before 5 t d))
    ∗ (∃ d, owns (c : Thread nD τ) (st1_6 t) fullShare ((dats V c).before 6 t d))
    ∗ (∃ d, owns (c : Thread nD τ) (st1_7 t) fullShare ((dats V c).before 7 t d))
    ∗ (∃ d, owns (c : Thread nD τ) (st1_8 t) fullShare ((dats V c).before 8 t d))
    ∗ (∃ d, owns (c : Thread nD τ) (st1_9 t) fullShare ((dats V c).before 9 t d))
    ∗ (∃ d, owns (c : Thread nD τ) (st1_10 t) fullShare ((dats V c).before 10 t d)))
    ⊢ wp frame (wpE (defs₀ (F := F)) Variants.none c none) Set.univ (bodyAt1 t) (fun _ =>
    iprop((dats V c).Φ t.succ ∗ (dats V c).owesAt () t.succ
    ∗ (dats V c).leavesExact 0 t
    ∗ (dats V c).leavesExact 1 t
    ∗ (dats V c).leavesExact 2 t
    ∗ (dats V c).leavesExact 3 t
    ∗ (dats V c).leavesExact 4 t
    ∗ (dats V c).leavesExact 5 t
    ∗ (dats V c).leavesExact 6 t
    ∗ (dats V c).leavesExact 7 t
    ∗ (dats V c).leavesExact 8 t
    ∗ (dats V c).leavesExact 9 t
    ∗ (dats V c).leavesExact 10 t)) := by
  unfold bodyAt1
  simp only [before_0, before_1, before_2, before_3, before_4, before_5, before_6, before_7, before_8, before_9]
  rw [show (dats V c).owesAt () t.succ = (dats V c).owesAt () t.castSucc from rfl, Phi_succ, Phi_castSucc, leaves_0, leaves_1, leaves_2, leaves_3, leaves_4, leaves_5, leaves_6, leaves_7, leaves_8, leaves_9]
  by_cases h0 : t.val % 5 = 0
  · have hc0 := (first_iff t).mpr h0
    have hc1 : ¬last (grid1.coords t) := fun h => by have := (last_iff t).mp h; omega
    rw [Dat.leavesExact_idle (dats V c) 10 t (idle_of t hc1) (noFlush_of t hc1), states_first V c t h0]
    refine (Idealize.SL.BI.Laws.sep_mono_left (held_free V c _ _)).trans ?_
    rw [free_eq]
    unfold step start
    dsimp only
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (runA c (grid1.coords t) _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) hc0 hc1 _ Set.univ _)
    isplitl [H0 H1 H2 H3 H4 H5 H6 H7 H8 H9]
    · unfold ins
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [H10]; · iexact H10
    isplitl [HS0]; · iexact HS0
    isplitl [HS1]; · iexact HS1
    unfold left ins
    iintro ⟨⟨H0, H1, H2, H3, H4, H5, H6, H7, H8, H9⟩, H10, HS0, HS1⟩
    isplitl [HS0 HS1 HR Hg]
    · isplitl [HS0 HS1 HR]
      · isplitl [HS0 HS1]
        · isplitl [HS0]
          · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10
  · have hc0 : ¬first (grid1.coords t) := fun h => h0 ((first_iff t).mp h)
    rw [held_pos V c t.val _ (fun h => h0 (by rw [h])), states_next V c t h0]
    by_cases h1 : t.val % 5 = 4
    · have hc1 := (last_iff t).mpr h1
      rw [leaves_10 V c t hc1, states_next V c t h0]
      unfold step
      dsimp only
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (runC c (grid1.coords t) _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) hc0 hc1 _ _ Set.univ _)
      isplitl [H0 H1 H2 H3 H4 H5 H6 H7 H8 H9]
      · unfold ins
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
      isplitl [H10]; · iexists _; iexact H10
      isplitl [HS0]; · iexact HS0
      isplitl [HS1]; · iexact HS1
      unfold left ins
      iintro ⟨⟨H0, H1, H2, H3, H4, H5, H6, H7, H8, H9⟩, H10, HS0, HS1⟩
      isplitl [HS0 HS1 HR Hg]
      · isplitl [HS0 HS1 HR]
        · isplitl [HS0 HS1]
          · isplitl [HS0]
            · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · have hc1 : ¬last (grid1.coords t) := fun h => h1 ((last_iff t).mp h)
      rw [Dat.leavesExact_idle (dats V c) 10 t (idle_of t hc1) (noFlush_of t hc1)]
      unfold step
      dsimp only
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (runB c (grid1.coords t) _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) hc0 hc1 _ _ _ Set.univ _)
      isplitl [H0 H1 H2 H3 H4 H5 H6 H7 H8 H9]
      · unfold ins
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
      isplitl [H10]; · iexact H10
      isplitl [HS0]; · iexact HS0
      isplitl [HS1]; · iexact HS1
      unfold left ins
      iintro ⟨⟨H0, H1, H2, H3, H4, H5, H6, H7, H8, H9⟩, H10, HS0, HS1⟩
      isplitl [HS0 HS1 HR Hg]
      · isplitl [HS0 HS1 HR]
        · isplitl [HS0 HS1]
          · isplitl [HS0]
            · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexists _; iexact H10

/-- The body table's row at a point is the body at that point. -/
theorem defs₀_row (t : Fin cfg1.N) :
    defs₀ (F := F) .tc cfg1.body (cfg1.bodyArgs t (cfg1.slots t)) = bodyAt1 t := by
  unfold defs₀; rw [Defs.onTc_tc]

/-- The body obligation, at every point. -/
theorem body_obligation (c : Dev nD) : BodyObligation (dats (F := F) V c) (defs₀ (F := F)) Variants.none () Set.univ := fun t => by
  rw [bigSep_W1, bigSep_W1, defs₀_row]
  exact triple_restated (sound_body V c t) rfl .rfl fun _ => .rfl

/-- What the launch hands the region is the invariant before the first point, and after the last point it is given back. -/
theorem hin (c : Dev nD) : Pipeline.ΦA spec1 c ⊢ (dats V c).Φ 0 := by
  rw [show (dats V c).Φ 0 = held V c 0 (Nat.zero_le _) from rfl]
  exact Idealize.SL.BI.Entails.refl _
theorem hout (c : Dev nD) : (dats V c).Φ (Fin.last cfg1.N) ⊢ Pipeline.ΦA spec1 c := by
  rw [show (dats V c).Φ (Fin.last cfg1.N) = held V c cfg1.N (le_refl _) from rfl]
  exact held_free V c _ _

end Cert.Kernel4Ideal.R1

end
-- ==== Proof.Whole2.lean ====
/- The whole kernel's third call, over the reals with infinities: its body at every point of the grid, from any contents at entry. -/
module

public import proofs.«01_k».proof.Proof.Gen.Kernel4Ideal.Launch
public import proofs.«01_k».proof.Proof.Gen.Kernel4Ideal.Skeleton
public import proofs.«01_k».proof.Proof.Gen.Kernel4Ideal.Points
public import proofs.«01_k».proof.Proof.Gen.Kernel3Ideal.Frame
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp
public import Idealize.ShloMosaic.Lib.Pipeline.Value

@[expose] public section

set_option maxRecDepth 16384

noncomputable section

namespace Cert.Kernel4Ideal.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

/-- The assertions of this program's proofs. -/
abbrev SP (F : FTy → Type) := sProp (MT nD τ sig Unit (Elt F) ℕ (UR sig nD τ) ℕ)

variable (V : Dev nD → Valuation τ sig (Elt F))

/-- What a window's array holds when the region is entered. -/
abbrev arr (c : Dev nD) (b : Ref sig .tc) : Buf (Elt F) ((c : Thread nD τ).loc b) := V c b

/-- Window `w`'s block at point `t`, read off its array. -/
def iblk (c : Dev nD) (w : Fin cfg2.W) (t : Fin cfg2.N) : ((cfg2.win w).xblock (cfg2.grid.coords t)).Idx → Elt F (cfg2.win w).elt :=
  ((cfg2.win w).blk t).view.read (Elt F) (arr V c (Pipeline.arrRef spec2 w))

/-- The mixture's parameters are the same as in the call's own program. -/
theorem params_eq (v0 : Vec F S160x8192 .bf16) (v10 : Vec F S100x160 .bf16) (v13 : Vec F S100x1 .f32) :
    k2_pay2 v0 v10 v13 = Cert.Kernel3Ideal.Gen.k0_pay2 v0 v10 v13 := by
  unfold k2_pay2 Cert.Kernel3Ideal.Gen.k0_pay2
  simp only [shapeCast_self]
  rfl

/-- The body's one store into an output covers its buffer. -/
abbrev whole : Rect S1x1x128 := Rect.unit (s := S1x1x128) ![0, 0, 0] S1x1x128.size inb_S1x1x128_S1x1x128_0_0_0
theorem cover (p0 : Vec F S1x1x128 .f32) (y : S1x1x128.Idx) : ∃ pc ∈ ([⟨whole, p0⟩] : List (View.Piece (Elt F) S1x1x128 .f32)), y ∈ pc.1.set :=
  View.cover_of_tiled [⟨whole, p0⟩] S1x1x128.size (by rfl) y

section Body
variable (c : Dev nD) (i : grid2.Coords) (arg1 : Memref sig .tc .vmem S160x8192 .bf16) (harg1 : arg1.IsWhole) (arg2 : Memref sig .tc .vmem S3x8192 .f32) (harg2 : arg2.IsWhole) (arg3 : Memref sig .tc .vmem S100x160 .bf16) (harg3 : arg3.IsWhole) (arg4 : Memref sig .tc .vmem S100x1 .f32) (harg4 : arg4.IsWhole) (arg5 : Memref sig .tc .vmem S1x1x128 .f32) (harg5 : arg5.IsWhole)
  (x0 : Vec F S160x8192 .bf16) (x1 : Vec F S3x8192 .f32) (x2 : Vec F S100x160 .bf16) (x3 : Vec F S100x1 .f32)

/-- The input windows' buffers, each at its block. -/
def ins : SP F :=
  iprop(owns (c : Thread nD τ) arg1 fullShare x0 ∗ owns (c : Thread nD τ) arg2 fullShare x1 ∗ owns (c : Thread nD τ) arg3 fullShare x2 ∗ owns (c : Thread nD τ) arg4 fullShare x3)

set_option maxRecDepth 1000000 in
set_option maxHeartbeats 4000000 in
/-- The body, from the input windows' blocks and any contents of the outputs' buffers, leaves the inputs in place and each output at its value. -/
theorem run (E : Set ℕ) (K : PUnit → SP F) :
    iprop(ins c arg1 arg2 arg3 arg4 x0 x1 x2 x3 ∗ (∃ d, owns (c : Thread nD τ) arg5 fullShare d)
        ∗ (iprop(ins c arg1 arg2 arg3 arg4 x0 x1 x2 x3 ∗ owns (c : Thread nD τ) arg5 fullShare (Cert.Kernel3Ideal.Gen.out0_4 x0 x1 x2 x3)) -∗ K ⟨⟩))
      ⊢ wp frame (wpE (defs₀ (F := F)) Variants.none c none) E (cc2_pixcnn_dmll i arg1 harg1 arg2 harg2 arg3 harg3 arg4 harg4 arg5 harg5) K := by
  simp only [cc2_pixcnn_dmll_eq_skeleton]; unfold cc2_pixcnn_dmll_skel
  simp only [k2_part1_eq_skeleton, k2_part2_eq_skeleton, k2_part3_eq_skeleton, k2_part4_eq_skeleton, k2_part5_eq_skeleton, k2_part6_eq_skeleton]
  unfold ins owns
  iintro ⟨⟨⟨%f0, %hf0, H0⟩, ⟨%f1, %hf1, H1⟩, ⟨%f2, %hf2, H2⟩, ⟨%f3, %hf3, H3⟩⟩, ⟨%d4, %f4, -, H4⟩, Hk⟩
  subst hf0 hf1 hf2 hf3
  sl_exec
  sl_step
  iapply Hk
  isplitl [H0 H1 H2 H3]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    iexists f3; isplitr; · ipureintro; rfl
    iexact H3
  iexists _; isplitr
  swap; · iexact H4
  ipureintro
  refine (View.read_writes_eq_canon _ _ _ (cover _)).trans ?_
  sl_unfold_run_names
  unfold k2_pay8 k2_pay9 k2_pay10 k2_pay11 k2_pay12
  simp only [params_eq]
  rfl

end Body

/-- The proof data: the arrays as the region finds them, each input's buffer left at its block and each output's at its value. -/
def dats (c : Dev nD) : Dat τ (Elt F) Unit ℕ (UR sig nD τ) ℕ cfg2 c where
  A w := arr V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => Cert.Kernel3Ideal.Gen.out0_4 (iblk V c 0 t) (iblk V c 1 t) (iblk V c 2 t) (iblk V c 3 t)
  Φ _ := Pipeline.ΦA spec2 c
  q _ := fullShare
  owed _ := 0

/-- The proof data's arrays are the contents at entry. -/
theorem A_eq (c : Dev nD) (w : Fin cfg2.W) : (dats V c).A w = arr V c (Pipeline.arrRef spec2 w) := by
  dsimp only [dats]

/-! What the body leaves in each input window's buffer, and what it finds there: the window's block. -/

theorem after_0 (c : Dev nD) (t : Fin cfg2.N) : (dats V c).after 0 t = iblk V c 0 t := by dsimp only [dats]
theorem after_1 (c : Dev nD) (t : Fin cfg2.N) : (dats V c).after 1 t = iblk V c 1 t := by dsimp only [dats]
theorem after_2 (c : Dev nD) (t : Fin cfg2.N) : (dats V c).after 2 t = iblk V c 2 t := by dsimp only [dats]
theorem after_3 (c : Dev nD) (t : Fin cfg2.N) : (dats V c).after 3 t = iblk V c 3 t := by dsimp only [dats]
theorem before_0 (c : Dev nD) (t : Fin cfg2.N) (d) : (dats V c).before 0 t d = iblk V c 0 t :=
  ((dats V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg2.N) (d) : (dats V c).before 1 t d = iblk V c 1 t :=
  ((dats V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg2.N) (d) : (dats V c).before 2 t d = iblk V c 2 t :=
  ((dats V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg2.N) (d) : (dats V c).before 3 t d = iblk V c 3 t :=
  ((dats V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem after_4 (c : Dev nD) (t : Fin cfg2.N) : (dats V c).after 4 t = Cert.Kernel3Ideal.Gen.out0_4 (iblk V c 0 t) (iblk V c 1 t) (iblk V c 2 t) (iblk V c 3 t) := by dsimp only [dats]

/-- The body at a point: what it is called with and what it returns, the windows one by one. -/
theorem sound_body (c : Dev nD) (t : Fin cfg2.N) :
    iprop((dats V c).Φ t.castSucc ∗ (dats V c).owesAt () t.castSucc
    ∗ (∃ d, owns (c : Thread nD τ) (st2_0 t) fullShare ((dats V c).before 0 t d))
    ∗ (∃ d, owns (c : Thread nD τ) (st2_1 t) fullShare ((dats V c).before 1 t d))
    ∗ (∃ d, owns (c : Thread nD τ) (st2_2 t) fullShare ((dats V c).before 2 t d))
    ∗ (∃ d, owns (c : Thread nD τ) (st2_3 t) fullShare ((dats V c).before 3 t d))
    ∗ (∃ d, owns (c : Thread nD τ) (st2_4 t) fullShare ((dats V c).before 4 t d)))
    ⊢ wp frame (wpE (defs₀ (F := F)) Variants.none c none) Set.univ (bodyAt2 t) (fun _ =>
    iprop((dats V c).Φ t.succ ∗ (dats V c).owesAt () t.succ
    ∗ owns (c : Thread nD τ) (st2_0 t) fullShare ((dats V c).after 0 t)
    ∗ owns (c : Thread nD τ) (st2_1 t) fullShare ((dats V c).after 1 t)
    ∗ owns (c : Thread nD τ) (st2_2 t) fullShare ((dats V c).after 2 t)
    ∗ owns (c : Thread nD τ) (st2_3 t) fullShare ((dats V c).after 3 t)
    ∗ owns (c : Thread nD τ) (st2_4 t) fullShare ((dats V c).after 4 t))) := by
  unfold bodyAt2
  simp only [before_0, before_1, before_2, before_3]
  rw [show (dats V c).Φ t.succ = (dats V c).Φ t.castSucc from rfl,
    show (dats V c).owesAt () t.succ = (dats V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (run c (grid2.coords t) _ _ _ _ _ _ _ _ _ _ (iblk V c 0 t) (iblk V c 1 t) (iblk V c 2 t) (iblk V c 3 t) Set.univ _)
  isplitl [H0 H1 H2 H3]
  · unfold ins
    isplitl [H0]; · iexact H0
    isplitl [H1]; · iexact H1
    isplitl [H2]; · iexact H2
    iexact H3
  isplitl [H4]; · iexists _; iexact H4
  unfold ins
  iintro ⟨⟨H0, H1, H2, H3⟩, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at a point is the body at that point. -/
theorem defs₀_row (t : Fin cfg2.N) :
    defs₀ (F := F) .tc cfg2.body (cfg2.bodyArgs t (cfg2.slots t)) = bodyAt2 t := by
  unfold defs₀; rw [Defs.onTc_tc]

/-- The body obligation, at every point. -/
theorem body_obligation (c : Dev nD) : BodyObligation (dats (F := F) V c) (defs₀ (F := F)) Variants.none () Set.univ := fun t => by
  rw [bigSep_W2, bigSep_W2, defs₀_row]
  exact triple_restated (sound_body V c t) rfl .rfl fun _ => .rfl

end Cert.Kernel4Ideal.R2

end
-- ==== Proof.WholeRun.lean ====
/- The whole kernel, its host operations and its three calls in order: what every buffer holds at the end, and that the arguments are kept. -/
module

public import proofs.«01_k».proof.Proof.Gen.Kernel4Ideal.Regions
public import proofs.«01_k».proof.Proof.Whole0
public import proofs.«01_k».proof.Proof.Whole1
public import proofs.«01_k».proof.Proof.Whole2
public import Idealize.ShloMosaic.Lib.Pipeline.RegionArrays

@[expose] public section

set_option maxRecDepth 16384

noncomputable section

namespace Cert.Kernel4Ideal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg HostSeg Seg)
open Cert.Kernel4Ideal Cert.Kernel4Ideal.Gen

variable {F : FTy → Type} [FloatOps F]

/-- The assertions of this program's proofs. -/
abbrev SP (F : FTy → Type) := sProp (MT nD τ sig Unit (Elt F) ℕ (UR sig nD τ) ℕ)

variable (m : (ℓ : Loc nD τ sig) → Buf (Elt F) ℓ) (ρ : Dev nD → PrngReg)

/-! What the buffers hold before and after each call: a call's results are its proof data's last contents. -/

/-- Before the first call. -/
abbrev W1 (c : Dev nD) : Valuation τ sig (Elt F) := V1 m c
/-- The first call's results: the two initial states. -/
def upper (c : Dev nD) : Buf (Elt F) ((c : Thread nD τ).loc main_v48_0) := (R0.dats (W1 m) c).arrAt 7 cfg0.N
def lower (c : Dev nD) : Buf (Elt F) ((c : Thread nD τ).loc main_v48_1) := (R0.dats (W1 m) c).arrAt 8 cfg0.N
/-- After the first call. -/
def W2 (c : Dev nD) : Valuation τ sig (Elt F) :=
  Function.update (Function.update (W1 m c) (Proc.devRef .tc main_v48_0) (upper m c)) (Proc.devRef .tc main_v48_1) (lower m c)
/-- The second call's result: the lower state after all blocks. -/
def final (c : Dev nD) : Buf (Elt F) ((c : Thread nD τ).loc main_v49) := (R1.dats (W2 m) c).arrAt 10 cfg1.N
/-- After the second call. -/
def W3 (c : Dev nD) : Valuation τ sig (Elt F) := Function.update (W2 m c) (Proc.devRef .tc main_v49) (final m c)
/-- The third call's result: the sums over the groups of images. -/
def sums (c : Dev nD) : Buf (Elt F) ((c : Thread nD τ).loc main_v50) := (R2.dats (W3 m) c).arrAt 4 cfg2.N
/-- After the third call. -/
def W4 (c : Dev nD) : Valuation τ sig (Elt F) := Function.update (W3 m c) (Proc.devRef .tc main_v50) (sums m c)
/-- At the end. -/
abbrev W5 (c : Dev nD) : Valuation τ sig (Elt F) := StableHlo.after hostOps3 (W4 m c)

theorem W2_of (c : Dev nD) (r : Ref sig .tc) (h : r ∉ ([main_v48_0, main_v48_1] : List (Ref sig .tc))) : W2 m c r = W1 m c r := by
  simp only [W2, Function.update_of_ne (StableHlo.devRef_ne_of_ne (List.ne_of_not_mem_cons h) : (Proc.devRef .tc r : DevRef τ sig) ≠ Proc.devRef .tc main_v48_0),
    Function.update_of_ne (StableHlo.devRef_ne_of_ne (List.ne_of_not_mem_cons (List.not_mem_of_not_mem_cons h)) : (Proc.devRef .tc r : DevRef τ sig) ≠ Proc.devRef .tc main_v48_1)]
theorem W3_of (c : Dev nD) (r : Ref sig .tc) (h : r ∉ ([main_v49] : List (Ref sig .tc))) : W3 m c r = W2 m c r := by
  simp only [W3, Function.update_of_ne (StableHlo.devRef_ne_of_ne (List.ne_of_not_mem_cons h) : (Proc.devRef .tc r : DevRef τ sig) ≠ Proc.devRef .tc main_v49)]
theorem W4_of (c : Dev nD) (r : Ref sig .tc) (h : r ∉ ([main_v50] : List (Ref sig .tc))) : W4 m c r = W3 m c r := by
  simp only [W4, Function.update_of_ne (StableHlo.devRef_ne_of_ne (List.ne_of_not_mem_cons h) : (Proc.devRef .tc r : DevRef τ sig) ≠ Proc.devRef .tc main_v50)]
theorem W5_of (c : Dev nD) (r : Ref sig .tc) (h : r ∉ hostOps3_W) : W5 m c r = W4 m c r :=
  StableHlo.after_of_writes_sub hostOps3 _ hostOps3_writes h
/-- A buffer that no host operation and no call writes ends as launched. -/
theorem W5_untouched (c : Dev nD) (r : Ref sig .tc) (h0 : r ∉ hostOps0_W) (h1 : r ∉ ([main_v48_0, main_v48_1] : List (Ref sig .tc)))
    (h2 : r ∉ ([main_v49] : List (Ref sig .tc))) (h3 : r ∉ ([main_v50] : List (Ref sig .tc))) (h4 : r ∉ hostOps3_W) :
    W5 m c r = m ((c : Thread nD τ).loc r) :=
  (W5_of m c r h4).trans ((W4_of m c r h3).trans ((W3_of m c r h2).trans ((W2_of m c r h1).trans (V1_of m c r h0))))
theorem W2_upper (c : Dev nD) : W2 m c main_v48_0 = upper m c := by
  simp only [W2, Function.update_of_ne (StableHlo.devRef_ne_of_ne (by decide) : (Proc.devRef .tc main_v48_0 : DevRef τ sig) ≠ Proc.devRef .tc main_v48_1), Function.update_self]
theorem W2_lower (c : Dev nD) : W2 m c main_v48_1 = lower m c := by simp only [W2, Function.update_self]
theorem W3_final (c : Dev nD) : W3 m c main_v49 = final m c := by simp only [W3, Function.update_self]
theorem W4_sums (c : Dev nD) : W4 m c main_v50 = sums m c := by simp only [W4, Function.update_self]

/-- The proof data of the three calls. -/
def pdats : (p : Fin 3) → (c : Dev nD) → Dat τ (Elt F) Unit ℕ (UR sig nD τ) ℕ (cfgs p) c
  | ⟨0, _⟩ => fun c => R0.dats (W1 m) c
  | ⟨1, _⟩ => fun c => R1.dats (W2 m) c
  | ⟨2, _⟩ => fun c => R2.dats (W3 m) c

/-! Each window's array after its call is what the next contents say. -/

theorem kind0 (w : Fin cfg0.W) : ((cfg0.win w).isOut = false ∧ Pipeline.arrRef spec0 w ∉ ([main_v48_0, main_v48_1] : List (Ref sig .tc))) ∨ w = 7 ∨ w = 8 := by
  revert w; decide
theorem left0 (c : Dev nD) (w : Fin cfg0.W) : (R0.dats (W1 m) c).arrAt w cfg0.N = W2 m c (Proc.devRef .tc (Pipeline.arrRef spec0 w)) := by
  rcases kind0 w with ⟨h, hn⟩ | rfl | rfl
  · exact ((R0.dats (W1 m) c).arrAt_in w h _).trans ((R0.A_eq (W1 m) c w).trans (W2_of m c (Pipeline.arrRef spec0 w) hn).symm)
  · exact (W2_upper m c).symm
  · exact (W2_lower m c).symm

theorem kind1 (w : Fin cfg1.W) : ((cfg1.win w).isOut = false ∧ Pipeline.arrRef spec1 w ∉ ([main_v49] : List (Ref sig .tc))) ∨ w = 10 := by
  revert w; decide
theorem left1 (c : Dev nD) (w : Fin cfg1.W) : (R1.dats (W2 m) c).arrAt w cfg1.N = W3 m c (Proc.devRef .tc (Pipeline.arrRef spec1 w)) := by
  rcases kind1 w with ⟨h, hn⟩ | rfl
  · exact ((R1.dats (W2 m) c).arrAt_in w h _).trans ((R1.A_eq (W2 m) c w).trans (W3_of m c (Pipeline.arrRef spec1 w) hn).symm)
  · exact (W3_final m c).symm

theorem kind2 (w : Fin cfg2.W) : ((cfg2.win w).isOut = false ∧ Pipeline.arrRef spec2 w ∉ ([main_v50] : List (Ref sig .tc))) ∨ w = 4 := by
  revert w; decide
theorem left2 (c : Dev nD) (w : Fin cfg2.W) : (R2.dats (W3 m) c).arrAt w cfg2.N = W4 m c (Proc.devRef .tc (Pipeline.arrRef spec2 w)) := by
  rcases kind2 w with ⟨h, hn⟩ | rfl
  · exact ((R2.dats (W3 m) c).arrAt_in w h _).trans ((R2.A_eq (W3 m) c w).trans (W4_of m c (Pipeline.arrRef spec2 w) hn).symm)
  · exact (W4_sums m c).symm

/-- Every wait is at level zero; a tensor core's cells have the one index. -/
def L (g : GSem nD τ sig) : Finset Unit := if g.1.2 = .tc then {()} else ∅
def lv (_ : GSem nD τ sig) (_ : Unit) : ℕ := 0
theorem hL (g : GSem nD τ sig) (h : g.1.2 ≠ .tc) : L g = ∅ := if_neg h
theorem hcut (p : Fin 3) : Pipeline.LevelCut (pcfgs (F := F)) adm () L lv p 0 (fun _ => 0) where
  hι c w s := by unfold L; rw [if_pos rfl]; exact Finset.mem_singleton_self _
  hιb _ _ _ := le_refl _
  hD _ _ _ h := absurd h (by simp)

/-- What rides along beside the buffers: the generator's register, and nothing owed. -/
def rest (c : Dev nD) : SP F := iprop((∃ r, prngReg c r) ∗ ∃ W, owes (c : Thread nD τ) (0 : CellTallies nD τ sig Unit) W)

set_option backward.isDefEq.respectTransparency.types false in
/-- The first call as a segment of the program. -/
def reg0 : RegionSeg (pcfgs (F := F)) adm (pdats m) () defs₀ Variants.none L lv 0 :=
  RegionSeg.ofHeld (pcfgs (F := F)) adm (pdats m) () defs₀ Variants.none L lv 0 0
    (fun c => iprop(∃ r, prngReg c r)) (fun c => iprop(∃ r, prngReg c r)) launch0.toP rfl
    (fun c => (R0.body_obligation (W1 m) c).loose) (fun _ _ => rfl) (fun _ => rfl) (fun c => (pdats m 0 c).share_full fun _ => rfl)
    (fun c => .rfl) (fun c => .rfl) (fun _ => 0) (hcut 0)
    (fun c => StableHlo.held (c : Thread nD τ) (Pipeline.ucRefs τ sig \ Pipeline.arrRefs (τ := τ) spec0) (W1 m c)) (W1 m) (W2 m)
    (fun _ _ => rfl) (fun c w => left0 m c w)

theorem arrays0_sub : Pipeline.arrRefs (τ := τ) spec0 ⊆ Pipeline.ucRefs τ sig := Pipeline.arrRefs_sub_ucRefs spec0 (by decide)

theorem enter0 (c : Dev nD) : iprop(StableHlo.held (c : Thread nD τ) (Pipeline.ucRefs τ sig) (W1 m c) ∗ rest (F := F) c) ⊢ (reg0 m).pre c := by
  rw [StableHlo.held_sub_split (c : Thread nD τ) arrays0_sub (W1 m c)]
  unfold rest
  iintro ⟨⟨Ha, Hr⟩, Hp, HO⟩
  iapply (show iprop(StableHlo.held (c : Thread nD τ) (Pipeline.arrRefs (τ := τ) spec0) (W1 m c) ∗ (∃ r, prngReg c r)
    ∗ StableHlo.held (c : Thread nD τ) (Pipeline.ucRefs τ sig \ Pipeline.arrRefs (τ := τ) spec0) (W1 m c) ∗ ∃ W, owes (c : Thread nD τ) (0 : CellTallies nD τ sig Unit) W) ⊢ (reg0 m).pre c from .rfl)
  isplitl [Ha]; · iexact Ha
  isplitl [Hp]; · iexact Hp
  isplitl [Hr] <;> iassumption

/-- The call changes nothing but its arrays. -/
theorem rest_eq0 (c : Dev nD) (b : DevRef τ sig) (hb : b ∈ Pipeline.ucRefs τ sig \ Pipeline.arrRefs (τ := τ) spec0) : W1 m c b = W2 m c b := by
  have h := (Finset.mem_sdiff.mp hb).2
  have hne : ∀ w : Fin cfg0.W, b ≠ Proc.devRef .tc (Pipeline.arrRef spec0 w) := fun w e =>
    h (e ▸ Finset.mem_map_of_mem _ (Finset.mem_image_of_mem _ (Finset.mem_univ w)))
  unfold W2
  exact ((Function.update_of_ne (hne 8) _ _).trans (Function.update_of_ne (hne 7) _ _)).symm

theorem exit0 (c : Dev nD) : (reg0 m).post c ⊢ iprop(StableHlo.held (c : Thread nD τ) (Pipeline.ucRefs τ sig) (W2 m c) ∗ rest (F := F) c) := by
  rw [StableHlo.held_sub_split (c : Thread nD τ) arrays0_sub (W2 m c), ← StableHlo.held_congr (c : Thread nD τ) (rest_eq0 m c)]
  refine (show (reg0 m).post c ⊢ iprop(StableHlo.held (c : Thread nD τ) (Pipeline.arrRefs (τ := τ) spec0) (W2 m c) ∗ (∃ r, prngReg c r)
    ∗ StableHlo.held (c : Thread nD τ) (Pipeline.ucRefs τ sig \ Pipeline.arrRefs (τ := τ) spec0) (W1 m c) ∗ ∃ W, owes (c : Thread nD τ) (0 : CellTallies nD τ sig Unit) W) from .rfl).trans ?_
  unfold rest
  iintro ⟨Ha, Hp, Hr, HO⟩
  isplitl [Ha Hr]
  · isplitl [Ha] <;> iassumption
  isplitl [Hp] <;> iassumption

set_option backward.isDefEq.respectTransparency.types false in
/-- The second call as a segment of the program. -/
def reg1 : RegionSeg (pcfgs (F := F)) adm (pdats m) () defs₀ Variants.none L lv 1 :=
  RegionSeg.ofHeld (pcfgs (F := F)) adm (pdats m) () defs₀ Variants.none L lv 1 0
    (fun c => iprop(∃ r, prngReg c r)) (fun c => iprop(∃ r, prngReg c r)) launch1.toP rfl
    (fun c => (R1.body_obligation (W2 m) c).loose) (fun _ _ => rfl) (fun _ => rfl) (fun c => (pdats m 1 c).share_full fun _ => rfl)
    (fun c => R1.hin (W2 m) c) (fun c => R1.hout (W2 m) c) (fun _ => 0) (hcut 1)
    (fun c => StableHlo.held (c : Thread nD τ) (Pipeline.ucRefs τ sig \ Pipeline.arrRefs (τ := τ) spec1) (W2 m c)) (W2 m) (W3 m)
    (fun _ _ => rfl) (fun c w => left1 m c w)

theorem arrays1_sub : Pipeline.arrRefs (τ := τ) spec1 ⊆ Pipeline.ucRefs τ sig := Pipeline.arrRefs_sub_ucRefs spec1 (by decide)

theorem enter1 (c : Dev nD) : iprop(StableHlo.held (c : Thread nD τ) (Pipeline.ucRefs τ sig) (W2 m c) ∗ rest (F := F) c) ⊢ (reg1 m).pre c := by
  rw [StableHlo.held_sub_split (c : Thread nD τ) arrays1_sub (W2 m c)]
  unfold rest
  iintro ⟨⟨Ha, Hr⟩, Hp, HO⟩
  iapply (show iprop(StableHlo.held (c : Thread nD τ) (Pipeline.arrRefs (τ := τ) spec1) (W2 m c) ∗ (∃ r, prngReg c r)
    ∗ StableHlo.held (c : Thread nD τ) (Pipeline.ucRefs τ sig \ Pipeline.arrRefs (τ := τ) spec1) (W2 m c) ∗ ∃ W, owes (c : Thread nD τ) (0 : CellTallies nD τ sig Unit) W) ⊢ (reg1 m).pre c from .rfl)
  isplitl [Ha]; · iexact Ha
  isplitl [Hp]; · iexact Hp
  isplitl [Hr] <;> iassumption

/-- The call changes nothing but its arrays. -/
theorem rest_eq1 (c : Dev nD) (b : DevRef τ sig) (hb : b ∈ Pipeline.ucRefs τ sig \ Pipeline.arrRefs (τ := τ) spec1) : W2 m c b = W3 m c b := by
  have h := (Finset.mem_sdiff.mp hb).2
  have hne : ∀ w : Fin cfg1.W, b ≠ Proc.devRef .tc (Pipeline.arrRef spec1 w) := fun w e =>
    h (e ▸ Finset.mem_map_of_mem _ (Finset.mem_image_of_mem _ (Finset.mem_univ w)))
  unfold W3
  exact ((Function.update_of_ne (hne 10) _ _)).symm

theorem exit1 (c : Dev nD) : (reg1 m).post c ⊢ iprop(StableHlo.held (c : Thread nD τ) (Pipeline.ucRefs τ sig) (W3 m c) ∗ rest (F := F) c) := by
  rw [StableHlo.held_sub_split (c : Thread nD τ) arrays1_sub (W3 m c), ← StableHlo.held_congr (c : Thread nD τ) (rest_eq1 m c)]
  refine (show (reg1 m).post c ⊢ iprop(StableHlo.held (c : Thread nD τ) (Pipeline.arrRefs (τ := τ) spec1) (W3 m c) ∗ (∃ r, prngReg c r)
    ∗ StableHlo.held (c : Thread nD τ) (Pipeline.ucRefs τ sig \ Pipeline.arrRefs (τ := τ) spec1) (W2 m c) ∗ ∃ W, owes (c : Thread nD τ) (0 : CellTallies nD τ sig Unit) W) from .rfl).trans ?_
  unfold rest
  iintro ⟨Ha, Hp, Hr, HO⟩
  isplitl [Ha Hr]
  · isplitl [Ha] <;> iassumption
  isplitl [Hp] <;> iassumption

set_option backward.isDefEq.respectTransparency.types false in
/-- The third call as a segment of the program. -/
def reg2 : RegionSeg (pcfgs (F := F)) adm (pdats m) () defs₀ Variants.none L lv 2 :=
  RegionSeg.ofHeld (pcfgs (F := F)) adm (pdats m) () defs₀ Variants.none L lv 2 0
    (fun c => iprop(∃ r, prngReg c r)) (fun c => iprop(∃ r, prngReg c r)) launch2.toP rfl
    (fun c => (R2.body_obligation (W3 m) c).loose) (fun _ _ => rfl) (fun _ => rfl) (fun c => (pdats m 2 c).share_full fun _ => rfl)
    (fun c => .rfl) (fun c => .rfl) (fun _ => 0) (hcut 2)
    (fun c => StableHlo.held (c : Thread nD τ) (Pipeline.ucRefs τ sig \ Pipeline.arrRefs (τ := τ) spec2) (W3 m c)) (W3 m) (W4 m)
    (fun _ _ => rfl) (fun c w => left2 m c w)

theorem arrays2_sub : Pipeline.arrRefs (τ := τ) spec2 ⊆ Pipeline.ucRefs τ sig := Pipeline.arrRefs_sub_ucRefs spec2 (by decide)

theorem enter2 (c : Dev nD) : iprop(StableHlo.held (c : Thread nD τ) (Pipeline.ucRefs τ sig) (W3 m c) ∗ rest (F := F) c) ⊢ (reg2 m).pre c := by
  rw [StableHlo.held_sub_split (c : Thread nD τ) arrays2_sub (W3 m c)]
  unfold rest
  iintro ⟨⟨Ha, Hr⟩, Hp, HO⟩
  iapply (show iprop(StableHlo.held (c : Thread nD τ) (Pipeline.arrRefs (τ := τ) spec2) (W3 m c) ∗ (∃ r, prngReg c r)
    ∗ StableHlo.held (c : Thread nD τ) (Pipeline.ucRefs τ sig \ Pipeline.arrRefs (τ := τ) spec2) (W3 m c) ∗ ∃ W, owes (c : Thread nD τ) (0 : CellTallies nD τ sig Unit) W) ⊢ (reg2 m).pre c from .rfl)
  isplitl [Ha]; · iexact Ha
  isplitl [Hp]; · iexact Hp
  isplitl [Hr] <;> iassumption

/-- The call changes nothing but its arrays. -/
theorem rest_eq2 (c : Dev nD) (b : DevRef τ sig) (hb : b ∈ Pipeline.ucRefs τ sig \ Pipeline.arrRefs (τ := τ) spec2) : W3 m c b = W4 m c b := by
  have h := (Finset.mem_sdiff.mp hb).2
  have hne : ∀ w : Fin cfg2.W, b ≠ Proc.devRef .tc (Pipeline.arrRef spec2 w) := fun w e =>
    h (e ▸ Finset.mem_map_of_mem _ (Finset.mem_image_of_mem _ (Finset.mem_univ w)))
  unfold W4
  exact ((Function.update_of_ne (hne 4) _ _)).symm

theorem exit2 (c : Dev nD) : (reg2 m).post c ⊢ iprop(StableHlo.held (c : Thread nD τ) (Pipeline.ucRefs τ sig) (W4 m c) ∗ rest (F := F) c) := by
  rw [StableHlo.held_sub_split (c : Thread nD τ) arrays2_sub (W4 m c), ← StableHlo.held_congr (c : Thread nD τ) (rest_eq2 m c)]
  refine (show (reg2 m).post c ⊢ iprop(StableHlo.held (c : Thread nD τ) (Pipeline.arrRefs (τ := τ) spec2) (W4 m c) ∗ (∃ r, prngReg c r)
    ∗ StableHlo.held (c : Thread nD τ) (Pipeline.ucRefs τ sig \ Pipeline.arrRefs (τ := τ) spec2) (W3 m c) ∗ ∃ W, owes (c : Thread nD τ) (0 : CellTallies nD τ sig Unit) W) from .rfl).trans ?_
  unfold rest
  iintro ⟨Ha, Hp, Hr, HO⟩
  isplitl [Ha Hr]
  · isplitl [Ha] <;> iassumption
  isplitl [Hp] <;> iassumption

/-- The program's stretches in order. -/
def host0 : HostSeg (Ix := Unit) (Name := ℕ) (U := UR sig nD τ) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) rest
def host3 : HostSeg (Ix := Unit) (Name := ℕ) (U := UR sig nD τ) (Lvl := ℕ) (pcfgs (F := F)) defs₀ Variants.none L lv :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (W4 m) rest
abbrev parts : List (Seg (pcfgs (F := F)) adm (pdats m) () defs₀ Variants.none L lv) :=
  [.host (host0 m), .region (reg0 m), .region (reg1 m), .region (reg2 m), .host (host3 m)]

/-- The whole program's run: every buffer ends at the last contents, every counter at zero. -/
abbrev Post (r : PUnit × MemSt nD τ sig (Elt F)) : Prop :=
  (∀ c : Dev nD, ∀ b ∈ Pipeline.ucRefs τ sig, r.2.mem ((c : Thread nD τ).1, b) = W5 m c b) ∧ r.2.sem = fun _ => 0

set_option backward.isDefEq.respectTransparency.types false in
theorem run : θ_run defs (onTc (τ := τ) (main (F := F))) ⟨m, fun _ => 0, ρ⟩ (Post m) :=
  Pipeline.θ_run_regions_kit_dev_sems (pcfgs (F := F)) adm (pdats m) () cellOf_inj emb₁ defs₀ Variants.none L lv m ρ main
    (fun _ => parts m)
    (fun c Q => by
      rewrite [main_chain c, Seg.run_eq_chain,
        show (parts m).map Seg.prog = [
          StableHlo.seq hostOps0,
          Prog.lift (.customCall (Pipeline.entry 0) ()),
          Prog.lift (.customCall (Pipeline.entry 1) ()),
          Prog.lift (.customCall (Pipeline.entry 2) ()),
          StableHlo.seq hostOps3 ] from rfl]
      dsimp (config := { failIfUnchanged := false }) only
      exact .rfl)
    (fun c => by simp only [parts, Seg.pipes_host, Seg.pipes_region, Seg.pipes_nil]; decide) (O₀ := 0) (hL := hL)
    (G := fun _ => iprop(emp)) (u₀ := initOf (Pipeline.cells cfgs cellOf_inj) (Pipeline.launchToks cfgs cellOf_inj))
    (hu₀ := by
      iintro Hu; imodintro
      isplitl [Hu]
      · iapply (show (ownU _ : SP F) ⊢ BI.own (emb₁ (initOf (Pipeline.cells cfgs cellOf_inj) (Pipeline.launchToks cfgs cellOf_inj))) from .rfl)
        iexact Hu
      iapply (show (BI.emp : SP F) ⊢ bigSep Finset.univ (fun _ : Dev nD => (BI.emp : SP F)) from by rw [BI.bigSep_emp_const])
      iempintro)
    (T₀ := fun c => iprop(StableHlo.held (c : Thread nD τ) (Pipeline.ucRefs τ sig) (V0 m c) ∗ rest c))
    (Tₙ := fun c => StableHlo.held (c : Thread nD τ) (Pipeline.ucRefs τ sig) (W5 m c))
    (hch := fun c => ⟨.rfl, enter0 m c, (exit0 m c).trans (enter1 m c), (exit1 m c).trans (enter2 m c), exit2 m c,
      (show iprop(StableHlo.held (c : Thread nD τ) (Pipeline.ucRefs τ sig) (W5 m c) ∗ rest (F := F) c) ⊢ (_ : SP F) from by
        unfold rest
        iintro ⟨Hh, -, HO⟩
        isplitl [Hh] <;> iassumption)⟩)
    (hinit := by
      refine Pipeline.initEach L lv fun c => ?_
      rw [show unscopedBufs c (fun b => m ((c : Thread nD τ).loc b)) = StableHlo.held (c : Thread nD τ) (Pipeline.ucRefs τ sig) (V0 m c)
          from Pipeline.unscopedBufs_held (Ix := Unit) (Name := ℕ) (U := UR sig nD τ) (Lvl := ℕ) c (V0 m c)]
      unfold rest
      iintro ⟨⟨Hh, -, HO, -, Hp, -⟩, -⟩
      imodintro
      isplitl [Hh]; · iexact Hh
      isplitl [Hp]
      · iexists _; iexact Hp
      iexists _; iexact HO)
    (QY := fun c s => ∀ b ∈ Pipeline.ucRefs τ sig, s.mem ((c : Thread nD τ).1, b) = W5 m c b)
    (hfin := fun c s' => by
      unfold StableHlo.held
      iintro ⟨Hh, HSI⟩
      ihave Hr := (pointsTo_read_all (Pipeline.ucRefs τ sig) (fun b => ((c : Thread nD τ).1, b)) (W5 m c) s') $$ [Hh HSI]
      · isplitl [Hh] <;> iassumption
      imodintro; iexact Hr)
    (hQ := fun _ h hz => ⟨h, funext fun g => hz g (.inr (regions_no_unscoped g.2))⟩)

/-- The result's and an argument's buffer at the end. -/
theorem read (r : PUnit × MemSt nD τ sig (Elt F)) (h : Post m r) (c : Dev nD) (b : Ref sig .tc) (hb : b.isScoped = false) :
    r.2.mem ((c : Thread nD τ).loc b) = W5 m c b :=
  h.1 c (Proc.devRef .tc b) (Finset.mem_filter.mpr ⟨StableHlo.devRef_mem_tcRefs b, by simpa using hb⟩)
theorem kept (r : PUnit × MemSt nD τ sig (Elt F)) (h : Post m r) (c : Dev nD) (b : Ref sig .tc) (hb : b.isScoped = false)
    (h0 : b ∉ hostOps0_W) (h1 : b ∉ ([main_v48_0, main_v48_1] : List (Ref sig .tc)))
    (h2 : b ∉ ([main_v49] : List (Ref sig .tc))) (h3 : b ∉ ([main_v50] : List (Ref sig .tc))) (h4 : b ∉ hostOps3_W) :
    r.2.mem ((c : Thread nD τ).loc b) = m ((c : Thread nD τ).loc b) :=
  (read m r h c b hb).trans (W5_untouched m c b h0 h1 h2 h3 h4)

/-- The whole program leaves its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) :=
  (θ_run defs _ _).mono (fun r h => ⟨fun c => by
    refine ⟨?_, ?_, ?_, ?_, ?_, ?_, ?_, ?_, ?_, ?_, ?_, ?_, ?_, ?_, ?_, ?_, ?_, ?_, ?_⟩ <;> exact kept m r h c _ (by decide) (by decide) (by decide) (by decide) (by decide) (by decide), h.2⟩) (run m ρ)

end Cert.Kernel4Ideal.Run

end
-- ==== Proof.InitPay.lean ====
/- The body of the initial stacks at the ideal instance, read one element at a time. -/
module

public import proofs.«01_k».proof.Proof.InitSpec
public import proofs.«01_k».proof.Proof.Gen.Kernel2Ideal.Value
public import Idealize.ShloMosaic.Lib.Pointwise

@[expose] public section

set_option maxRecDepth 16384

noncomputable section

open Idealize.ShloMosaic Idealize.ShloMosaic.TcCoe Idealize.SL.Sem

namespace Cert.Kernel2Ideal.Pay

open Cert.Kernel2Ideal Cert.Kernel2Ideal.Gen

/-- Vectors of columns as functions of channel and column. -/
def cols4 (x : S4x8192.Idx → EReal) : Spec.Cols 4 := fun c n => x (ix2 c n)
def cols160 (x : S160x8192.Idx → EReal) : Spec.Cols 160 := fun c n => x (ix2 c n)

/-! ## The column taps -/

/-- Set where the column is not the first of its row. -/
theorem maskL (n : Fin 8192) : k0_pay4 (ix2 0 n) = BitVec.ofBool (decide (1 ≤ n.val % 32)) := by
  pointwise [k0_pay4, k0_pay3]
  revert n
  decide +kernel

/-- Set where the column is not the last of its row. -/
def notLast : IVec S1x8192 1 := cmpi .sle k0_pay3 (broadcast S1x8192 30#32)
theorem maskR (n : Fin 8192) : notLast (ix2 0 n) = BitVec.ofBool (decide (n.val % 32 ≤ 30)) := by
  pointwise [notLast, k0_pay3]
  revert n
  decide +kernel

section Rolls
variable {C : ℕ} (m : IVec S1x8192 1) (s : BitVec 32) (c : Fin C) (n : Fin 8192)

/-- The element of columns rolled by `s` and kept where `m` holds. -/
def rolled (K : Spec.Cols C) : EReal :=
  Scalar.select (m (ix2 0 n)) (K c ⟨(n.val + 8192 - s.toNat % 8192) % 8192, Nat.mod_lt _ (by decide)⟩) 0

theorem rolled_left (K : Spec.Cols C) : rolled k0_pay4 1#32 c n K = Spec.left K c n := by
  unfold rolled Spec.left
  rw [maskL]
  by_cases h : 1 ≤ n.val % 32
  · rw [if_pos h, decide_eq_true h]; rfl
  · rw [if_neg h, decide_eq_false h]; rfl
theorem rolled_right (K : Spec.Cols C) : rolled notLast 8191#32 c n K = Spec.right K c n := by
  unfold rolled Spec.right
  rw [maskR]
  by_cases h : n.val % 32 ≤ 30
  · rw [if_pos h, decide_eq_true h]; rfl
  · rw [if_neg h, decide_eq_false h]; rfl
end Rolls

/-- Pairs of rows rolled by `s` columns and kept where `m` holds. -/
def rollPair (m : IVec S1x8192 1) (s : BitVec 32) (v : FVec Ideal S4x8192 .bf16) : FVec Ideal S4x8192 .bf16 :=
  interleaveRows S4x8192
    (select (broadcastTo S2x8192 (shapeCast S1x8192 m shapeCasts_S1x8192_S1x8192) broadcasts_S1x8192_S2x8192)
      (dynamicRotate 1 s none (rowsOfParity 0 S2x8192 v bitcasts_S4x8192_w16_S2x8192_w32) rotates_S2x8192_d1) (constant S2x8192 .bf16 0x0000#16))
    (select (broadcastTo S2x8192 (shapeCast S1x8192 m shapeCasts_S1x8192_S1x8192) broadcasts_S1x8192_S2x8192)
      (dynamicRotate 1 s none (rowsOfParity 1 S2x8192 v bitcasts_S4x8192_w16_S2x8192_w32) rotates_S2x8192_d1) (constant S2x8192 .bf16 0x0000#16))
    bitcasts_S4x8192_w16_S2x8192_w32

/-- A pair of rows holds row `c` at its parity. -/
theorem pair (c : Fin 4) (f : Fin 4 → EReal) (h0 h1) : (if c.val % 2 = 0 then f ⟨2 * (c.val / 2), h0⟩ else f ⟨2 * (c.val / 2) + 1, h1⟩) = f c := by
  split
  · exact congrArg f (Fin.ext (by dsimp only; omega))
  · exact congrArg f (Fin.ext (by dsimp only; omega))

theorem rollPair_at (m : IVec S1x8192 1) (s : BitVec 32) (v : FVec Ideal S4x8192 .bf16) (c : Fin 4) (n : Fin 8192) :
    rollPair m s v (ix2 c n) = rolled m s c n (cols4 v) := by
  pointwise [rollPair]
  exact pair c (fun d => Scalar.select (m (ix2 0 n)) (v (ix2 d _)) 0) _ _

variable (x : FVec Ideal S4x8192 .f32)

theorem cur_at : cols4 (k0_pay5 (F := Ideal) x) = cols4 x := by
  funext c n
  unfold cols4
  pointwise [k0_pay5]
theorem left_at : cols4 (k0_pay8 (F := Ideal) x) = Spec.left (cols4 x) := by
  funext c n
  exact (rollPair_at k0_pay4 1#32 (k0_pay5 x) c n).trans ((rolled_left c n _).trans (by rw [cur_at]))
theorem right_at : cols4 (k0_pay9 (F := Ideal) x) = Spec.right (cols4 x) := by
  funext c n
  exact (rollPair_at notLast 8191#32 (k0_pay5 x) c n).trans ((rolled_right c n _).trans (by rw [cur_at]))

/-! ## The stacked operands -/

/-- The row above, the first row zero. -/
def up (v : FVec Ideal S4x8192 .bf16) : FVec Ideal S4x8192 .bf16 :=
  concatenate S4x8192 1 [⟨S4x256, broadcast S4x256 (Scalar.ofBits .bf16 0x0000#16)⟩, ⟨S4x7936, extractStridedSlice S4x7936 ![0, 0] v slices_S4x8192_o0_0_S4x7936⟩]
    concatenates_S4x256_S4x7936_S4x8192_d1
theorem up_at (v : FVec Ideal S4x8192 .bf16) : cols4 (up v) = Spec.top (cols4 v) := by
  funext c n
  unfold cols4
  pointwise [up]
  rfl

/-- Six, three and two pieces of four rows, one under the other. -/
def op6 (V : Fin 6 → FVec Ideal S4x8192 .bf16) : FVec Ideal S24x8192 .bf16 :=
  concatenate S24x8192 0 [⟨S4x8192, V 0⟩, ⟨S4x8192, V 1⟩, ⟨S4x8192, V 2⟩, ⟨S4x8192, V 3⟩, ⟨S4x8192, V 4⟩, ⟨S4x8192, V 5⟩]
    concatenates_S4x8192_S4x8192_S4x8192_S4x8192_S4x8192_S4x8192_S24x8192_d0
def op3 (V : Fin 3 → FVec Ideal S4x8192 .bf16) : FVec Ideal S12x8192 .bf16 :=
  concatenate S12x8192 0 [⟨S4x8192, V 0⟩, ⟨S4x8192, V 1⟩, ⟨S4x8192, V 2⟩] concatenates_S4x8192_S4x8192_S4x8192_S12x8192_d0
def op2 (V : Fin 2 → FVec Ideal S4x8192 .bf16) : FVec Ideal S8x8192 .bf16 :=
  concatenate S8x8192 0 [⟨S4x8192, V 0⟩, ⟨S4x8192, V 1⟩] concatenates_S4x8192_S4x8192_S8x8192_d0

theorem op6_at (V : Fin 6 → FVec Ideal S4x8192 .bf16) (p : Fin 6) (i : Fin 4) (n : Fin 8192) :
    op6 V (ix2 ⟨p.val * 4 + i.val, by omega⟩ n) = cols4 (V p) i n := by
  unfold cols4
  have := i.isLt
  pointwise [op6]
  fin_cases p <;> dsimp only <;> split_ifs <;> first | omega | exact congrArg (V _) (congrArg (ix2 · n) (Fin.ext (by dsimp only; omega)))
theorem op3_at (V : Fin 3 → FVec Ideal S4x8192 .bf16) (p : Fin 3) (i : Fin 4) (n : Fin 8192) :
    op3 V (ix2 ⟨p.val * 4 + i.val, by omega⟩ n) = cols4 (V p) i n := by
  unfold cols4
  have := i.isLt
  pointwise [op3]
  fin_cases p <;> dsimp only <;> split_ifs <;> first | omega | exact congrArg (V _) (congrArg (ix2 · n) (Fin.ext (by dsimp only; omega)))
theorem op2_at (V : Fin 2 → FVec Ideal S4x8192 .bf16) (p : Fin 2) (i : Fin 4) (n : Fin 8192) :
    op2 V (ix2 ⟨p.val * 4 + i.val, by omega⟩ n) = cols4 (V p) i n := by
  unfold cols4
  have := i.isLt
  pointwise [op2]
  fin_cases p <;> dsimp only <;> split_ifs <;> first | omega | exact congrArg (V _) (congrArg (ix2 · n) (Fin.ext (by dsimp only; omega)))

/-! ## The convolutions -/

section Convs
variable (a : Fin 160 → EReal) (b : FVec Ideal S160x1 .f32) (hb : ∀ o, b (ix2 o 0) = a o)
include hb

/-- Three column taps and the rows above them, against their weights, and the bias. -/
def conv6 (w : FVec Ideal S160x24 .bf16) (b : FVec Ideal S160x1 .f32) (v : FVec Ideal S24x8192 .bf16) : FVec Ideal S160x8192 .f32 :=
  addf (matmul dot_S160x24_S24x8192_S160x8192_1_0_0_1_n_n none (shapeCast S160x24 w shapeCasts_S160x24_S160x24) v (constant S160x8192 .f32 0x00000000#32))
    (broadcastTo S160x8192 (shapeCast S160x1 b shapeCasts_S160x1_S160x1) broadcasts_S160x1_S160x8192)
theorem conv6_at (w : FVec Ideal S160x24 .bf16) (W : Fin 160 → Fin 4 → Fin 2 → Fin 3 → EReal)
    (hw : ∀ o (k : Fin 24), w (ix2 o k) = W o ⟨k.val % 4, by omega⟩ ⟨k.val / 4 % 2, by omega⟩ ⟨k.val / 8, by omega⟩)
    (V : Fin 6 → FVec Ideal S4x8192 .bf16) (o : Fin 160) (n : Fin 8192) :
    conv6 w b (op6 V) (ix2 o n) = Spec.pieces (fun (p : Fin 6) i => W o i ⟨p.val % 2, by omega⟩ ⟨p.val / 2, by omega⟩) (fun p => cols4 (V p)) n + a o := by
  generalize hv : op6 V = v
  pointwise [conv6]
  subst hv
  rw [hb, Spec.sum_rows (P := 6) rfl]
  unfold Spec.pieces
  refine congrArg (· + a o) (Finset.sum_congr rfl fun p _ => Finset.sum_congr rfl fun i _ => ?_)
  rw [op6_at, hw]
  congr 2 <;> exact Fin.ext (by dsimp only; omega)

/-- Three column taps. -/
def conv3 (w : FVec Ideal S160x12 .bf16) (b : FVec Ideal S160x1 .f32) (v : FVec Ideal S12x8192 .bf16) : FVec Ideal S160x8192 .f32 :=
  addf (matmul dot_S160x12_S12x8192_S160x8192_1_0_0_1_n_n none (shapeCast S160x12 w shapeCasts_S160x12_S160x12) v (constant S160x8192 .f32 0x00000000#32))
    (broadcastTo S160x8192 (shapeCast S160x1 b shapeCasts_S160x1_S160x1) broadcasts_S160x1_S160x8192)
theorem conv3_at (w : FVec Ideal S160x12 .bf16) (W : Fin 160 → Fin 4 → Fin 1 → Fin 3 → EReal)
    (hw : ∀ o (k : Fin 12), w (ix2 o k) = W o ⟨k.val % 4, by omega⟩ 0 ⟨k.val / 4, by omega⟩)
    (V : Fin 3 → FVec Ideal S4x8192 .bf16) (o : Fin 160) (n : Fin 8192) :
    conv3 w b (op3 V) (ix2 o n) = Spec.pieces (fun (p : Fin 3) i => W o i 0 p) (fun p => cols4 (V p)) n + a o := by
  generalize hv : op3 V = v
  pointwise [conv3]
  subst hv
  rw [hb, Spec.sum_rows (P := 3) rfl]
  unfold Spec.pieces
  refine congrArg (· + a o) (Finset.sum_congr rfl fun p _ => Finset.sum_congr rfl fun i _ => ?_)
  rw [op3_at, hw]
  congr 2 <;> exact Fin.ext (by dsimp only; omega)

/-- The column and the row above it. -/
def conv2 (w : FVec Ideal S160x8 .bf16) (b : FVec Ideal S160x1 .f32) (v : FVec Ideal S8x8192 .bf16) : FVec Ideal S160x8192 .f32 :=
  addf (matmul dot_S160x8_S8x8192_S160x8192_1_0_0_1_n_n none (shapeCast S160x8 w shapeCasts_S160x8_S160x8) v (constant S160x8192 .f32 0x00000000#32))
    (broadcastTo S160x8192 (shapeCast S160x1 b shapeCasts_S160x1_S160x1) broadcasts_S160x1_S160x8192)
theorem conv2_at (w : FVec Ideal S160x8 .bf16) (W : Fin 160 → Fin 4 → Fin 2 → Fin 1 → EReal)
    (hw : ∀ o (k : Fin 8), w (ix2 o k) = W o ⟨k.val % 4, by omega⟩ ⟨k.val / 4, by omega⟩ 0)
    (V : Fin 2 → FVec Ideal S4x8192 .bf16) (o : Fin 160) (n : Fin 8192) :
    conv2 w b (op2 V) (ix2 o n) = Spec.pieces (fun (p : Fin 2) i => W o i p 0) (fun p => cols4 (V p)) n + a o := by
  generalize hv : op2 V = v
  pointwise [conv2]
  subst hv
  rw [hb, Spec.sum_rows (P := 2) rfl]
  unfold Spec.pieces
  refine congrArg (· + a o) (Finset.sum_congr rfl fun p _ => Finset.sum_congr rfl fun i _ => ?_)
  rw [op2_at, hw]
  congr 2 <;> exact Fin.ext (by dsimp only; omega)
end Convs

/-! ## The two results -/

/-- The row above, of 160 channels. -/
def upOut (v : FVec Ideal S160x8192 .f32) : FVec Ideal S160x8192 .f32 :=
  concatenate S160x8192 1 [⟨S160x256, broadcast S160x256 (Scalar.ofBits .f32 0x00000000#32)⟩, ⟨S160x7936, extractStridedSlice S160x7936 ![0, 0] v slices_S160x8192_o0_0_S160x7936⟩]
    concatenates_S160x256_S160x7936_S160x8192_d1
theorem upOut_at (v : FVec Ideal S160x8192 .f32) : cols160 (upOut v) = Spec.top (cols160 v) := by
  funext c n
  unfold cols160
  pointwise [upOut]
  rfl
/-- The column to the left, of 160 channels. -/
def leftOut (s : BitVec 32) (m : IVec S1x8192 1) (v : FVec Ideal S160x8192 .f32) : FVec Ideal S160x8192 .f32 :=
  select (broadcastTo S160x8192 (shapeCast S1x8192 m shapeCasts_S1x8192_S1x8192) broadcasts_S1x8192_S160x8192)
    (dynamicRotate 1 s none v rotates_S160x8192_d1) (broadcast S160x8192 (Scalar.ofBits .f32 0x00000000#32))
theorem leftOut_at (s : BitVec 32) (m : IVec S1x8192 1) (v : FVec Ideal S160x8192 .f32) (c : Fin 160) (n : Fin 8192) :
    leftOut s m v (ix2 c n) = rolled m s c n (cols160 v) := by
  pointwise [leftOut]
  rfl

/-- The block of the upper stack's first state. -/
def outU (x : FVec Ideal S4x8192 .f32) (w : FVec Ideal S160x24 .bf16) (b : FVec Ideal S160x1 .f32) : FVec Ideal S160x8192 .bf16 :=
  k0_pay1 (k0_pay11 (k0_pay5 x) (k0_pay8 x) (k0_pay9 x) w b)
/-- The block of the lower stack's first state. -/
def outL (x : FVec Ideal S4x8192 .f32) (wd : FVec Ideal S160x12 .bf16) (bd : FVec Ideal S160x1 .f32) (wr : FVec Ideal S160x8 .bf16)
    (br : FVec Ideal S160x1 .f32) : FVec Ideal S160x8192 .bf16 :=
  k0_pay2 (k0_pay10 (k0_pay5 x) (k0_pay8 x) (k0_pay9 x) wd bd) (k0_pay12 (k0_pay5 x) wr br) (Scalar.ofBits .f32 0x00000000#32) (k0_pay13 k0_pay4)

theorem outU_eq (w : FVec Ideal S160x24 .bf16) (b : FVec Ideal S160x1 .f32) :
    outU x w b = truncf .bf16 (upOut (conv6 w b (op6 ![up (k0_pay8 x), k0_pay8 x, up (k0_pay5 x), k0_pay5 x, up (k0_pay9 x), k0_pay9 x]))) bitsLt_bf16_f32 := rfl
theorem outL_eq (wd : FVec Ideal S160x12 .bf16) (bd : FVec Ideal S160x1 .f32) (wr : FVec Ideal S160x8 .bf16) (br : FVec Ideal S160x1 .f32) :
    outL x wd bd wr br = truncf .bf16 (addf (upOut (conv3 wd bd (op3 ![k0_pay8 x, k0_pay5 x, k0_pay9 x])))
      (leftOut 1#32 k0_pay4 (conv2 wr br (op2 ![up (k0_pay5 x), k0_pay5 x])))) bitsLt_bf16_f32 := rfl

theorem outU_at (w : FVec Ideal S160x24 .bf16) (b : FVec Ideal S160x1 .f32) (W : Fin 160 → Fin 4 → Fin 2 → Fin 3 → EReal) (a : Fin 160 → EReal)
    (hw : ∀ o (k : Fin 24), w (ix2 o k) = W o ⟨k.val % 4, by omega⟩ ⟨k.val / 4 % 2, by omega⟩ ⟨k.val / 8, by omega⟩) (hb : ∀ o, b (ix2 o 0) = a o) :
    cols160 (outU x w b) = Spec.initUC W a (cols4 x) := by
  rw [outU_eq]
  refine (upOut_at _).trans (congrArg Spec.top (funext fun o => funext fun n => ?_))
  refine (conv6_at a b hb w W hw _ o n).trans (congrArg (· + a o) ?_)
  refine congrArg (Spec.pieces _ · n) (funext fun p => ?_)
  fin_cases p
  · exact (up_at _).trans (congrArg Spec.top (left_at x))
  · exact left_at x
  · exact (up_at _).trans (congrArg Spec.top (cur_at x))
  · exact cur_at x
  · exact (up_at _).trans (congrArg Spec.top (right_at x))
  · exact right_at x
theorem outL_at (wd : FVec Ideal S160x12 .bf16) (bd : FVec Ideal S160x1 .f32) (wr : FVec Ideal S160x8 .bf16) (br : FVec Ideal S160x1 .f32)
    (Wd : Fin 160 → Fin 4 → Fin 1 → Fin 3 → EReal) (ad : Fin 160 → EReal) (Wr : Fin 160 → Fin 4 → Fin 2 → Fin 1 → EReal) (ar : Fin 160 → EReal)
    (hwd : ∀ o (k : Fin 12), wd (ix2 o k) = Wd o ⟨k.val % 4, by omega⟩ 0 ⟨k.val / 4, by omega⟩) (hbd : ∀ o, bd (ix2 o 0) = ad o)
    (hwr : ∀ o (k : Fin 8), wr (ix2 o k) = Wr o ⟨k.val % 4, by omega⟩ ⟨k.val / 4, by omega⟩ 0) (hbr : ∀ o, br (ix2 o 0) = ar o) :
    cols160 (outL x wd bd wr br) = Spec.initLC Wd ad Wr ar (cols4 x) := by
  rw [outL_eq]
  funext o n
  refine congrArg₂ (fun p q : EReal => p + q) (congrFun (congrFun ((upOut_at _).trans (congrArg Spec.top (funext fun o => funext fun n => ?_))) o) n)
    (((leftOut_at 1#32 k0_pay4 _ o n).trans (rolled_left o n _)).trans (congrArg (Spec.left · o n) (funext fun o => funext fun n => ?_)))
  · refine (conv3_at ad bd hbd wd Wd hwd _ o n).trans (congrArg (· + ad o) (congrArg (Spec.pieces _ · n) (funext fun p => ?_)))
    fin_cases p
    · exact left_at x
    · exact cur_at x
    · exact right_at x
  · refine (conv2_at ar br hbr wr Wr hwr _ o n).trans (congrArg (· + ar o) (congrArg (Spec.pieces _ · n) (funext fun p => ?_)))
    fin_cases p
    · exact (up_at _).trans (congrArg Spec.top (cur_at x))
    · exact cur_at x

/-! ## What each point writes back -/

theorem hz : (![0, 0] : Fin 2 → Nat) = fun _ => 0 := funext fun a => by fin_cases a <;> rfl

variable (y0 : Vec Ideal S4x8192 .f32) (y1 : Vec Ideal S160x24 .bf16) (y2 : Vec Ideal S160x12 .bf16) (y3 : Vec Ideal S160x8 .bf16) (y4 y5 y6 : Vec Ideal S160x1 .f32)

theorem out7_eq : out0_7 (F := Ideal) y0 y1 y2 y3 y4 y5 y6 = outU y0 y1 y4 := by
  unfold_out out0_7
  rw [View.canon_unit_zero hz]
  simp only [View.ld_unit_zero (S := S4x8192) hz, View.ld_unit_zero (S := S160x24) hz, View.ld_unit_zero (S := S160x12) hz, View.ld_unit_zero (S := S160x8) hz,
    View.ld_unit_zero (S := S160x1) hz]
  rfl
theorem out8_eq : out0_8 (F := Ideal) y0 y1 y2 y3 y4 y5 y6 = outL y0 y2 y5 y3 y6 := by
  unfold_out out0_8
  rw [View.canon_unit_zero hz]
  simp only [View.ld_unit_zero (S := S4x8192) hz, View.ld_unit_zero (S := S160x24) hz, View.ld_unit_zero (S := S160x12) hz, View.ld_unit_zero (S := S160x8) hz,
    View.ld_unit_zero (S := S160x1) hz]
  rfl

end Cert.Kernel2Ideal.Pay

end
-- ==== Proof.InitFinal.lean ====
/- The initial stacks' kernel leaves the reference's two initial states. -/
module

public import proofs.«01_k».proof.Proof.InitPay
public import proofs.«01_k».proof.Proof.InitRef
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem

namespace Cert.Kernel2Ideal.Final

open Cert.Kernel2Ideal Cert.Kernel2Ideal.Gen Cert.Kernel2Ideal.Pay

variable (m : (ℓ : Loc nD τ sig) → Buf (Elt Ideal) ℓ) (c : Dev nD)

/-- Which block of its array each window reads or writes at a point. -/
theorem idx : ∀ t : Fin cfg0.N, win0_0.index t = ![0, t.val] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, t.val] ∧ win0_8.index t = ![0, t.val]
    ∧ t.val < 4 := (by decide +kernel : ∀ t : Fin grid0.N, _)

/-- The images of the input channels, of the arguments. -/
def X : Spec.Imgs 4 := Spec.inputs fun b i y z => m ((c.tc : Thread nD τ).loc main_arg0) (ix4 b i y z)
/-- The weights and biases, of the arguments. -/
def wu (o : Fin 160) (i : Fin 4) (q : Fin 2) (r : Fin 3) : EReal := m ((c.tc : Thread nD τ).loc main_arg1) (ix4 o i q r)
def bu (o : Fin 160) : EReal := m ((c.tc : Thread nD τ).loc main_arg2) (ix1 o)
def wd (o : Fin 160) (i : Fin 4) (q : Fin 1) (r : Fin 3) : EReal := m ((c.tc : Thread nD τ).loc main_arg3) (ix4 o i q r)
def bd (o : Fin 160) : EReal := m ((c.tc : Thread nD τ).loc main_arg4) (ix1 o)
def wr (o : Fin 160) (i : Fin 4) (q : Fin 2) (r : Fin 1) : EReal := m ((c.tc : Thread nD τ).loc main_arg5) (ix4 o i q r)
def br (o : Fin 160) : EReal := m ((c.tc : Thread nD τ).loc main_arg6) (ix1 o)

/-- The rescaled samples' columns, after the host's rearrangement. -/
theorem entry_at (i : Fin 4) (N : Fin 32768) : V m c main_v9 (ix2 i N)
    = X m c ⟨N.val / 8192 * 8 + N.val / 32 % 8, by omega⟩ i ⟨N.val / 256 % 32, by omega⟩ ⟨N.val % 32, by omega⟩ := by
  entry_read
  pointwise
  rfl

section Reads
variable (t : Fin cfg0.N)

theorem x0_at (b : Fin 4) (hb : b.val = t.val) : Spec.Same b (cols4 (iblk m c 0 t)) (X m c) := by
  intro i n
  unfold cols4
  have e : iblk m c 0 t (ix2 i n) = V m c main_v9 (ix2 i ⟨b.val * 8192 + n.val, by omega⟩) := by
    blk_ext [iblk, idx t]
  rw [e, entry_at]
  unfold Spec.img Spec.row Spec.col
  congr 1 <;> exact Fin.ext (by dsimp only; omega)

theorem x1_at (o : Fin 160) (k : Fin 24) : iblk m c 1 t (ix2 o k) = wu m c o ⟨k.val % 4, by omega⟩ ⟨k.val / 4 % 2, by omega⟩ ⟨k.val / 8, by omega⟩ := by
  have e : iblk m c 1 t (ix2 o k) = V m c main_v12 (ix2 o k) := by
    blk_ext [iblk, idx t]
  rw [e]
  entry_read
  pointwise
  rfl
theorem x2_at (o : Fin 160) (k : Fin 12) : iblk m c 2 t (ix2 o k) = wd m c o ⟨k.val % 4, by omega⟩ 0 ⟨k.val / 4, by omega⟩ := by
  have e : iblk m c 2 t (ix2 o k) = V m c main_v15 (ix2 o k) := by
    blk_ext [iblk, idx t]
  rw [e]
  entry_read
  pointwise
  rfl
theorem x3_at (o : Fin 160) (k : Fin 8) : iblk m c 3 t (ix2 o k) = wr m c o ⟨k.val % 4, by omega⟩ ⟨k.val / 4, by omega⟩ 0 := by
  have e : iblk m c 3 t (ix2 o k) = V m c main_v18 (ix2 o k) := by
    blk_ext [iblk, idx t]
  rw [e]
  entry_read
  pointwise
  rfl
theorem x4_at (o : Fin 160) : iblk m c 4 t (ix2 o 0) = bu m c o := by
  have e : iblk m c 4 t (ix2 o 0) = V m c main_v19 (ix2 o 0) := by
    blk_ext [iblk, idx t]
  rw [e]
  entry_read
  pointwise
  rfl
theorem x5_at (o : Fin 160) : iblk m c 5 t (ix2 o 0) = bd m c o := by
  have e : iblk m c 5 t (ix2 o 0) = V m c main_v20 (ix2 o 0) := by
    blk_ext [iblk, idx t]
  rw [e]
  entry_read
  pointwise
  rfl
theorem x6_at (o : Fin 160) : iblk m c 6 t (ix2 o 0) = br m c o := by
  have e : iblk m c 6 t (ix2 o 0) = V m c main_v21 (ix2 o 0) := by
    blk_ext [iblk, idx t]
  rw [e]
  entry_read
  pointwise
  rfl

end Reads

/-! ## The final arrays -/

theorem flush7 : ∀ t : Fin cfg0.N, (cfg0.win 7).flush t = true := (by decide +kernel : ∀ t : Fin grid0.N, _)
theorem flush8 : ∀ t : Fin cfg0.N, (cfg0.win 8).flush t = true := (by decide +kernel : ∀ t : Fin grid0.N, _)

/-- The upper stack's first state. -/
theorem upper_at (o : Fin 160) (N : Fin 32768) : (dats m 0 c).arrAt 7 cfg0.N (ix2 o N)
    = Spec.initU (wu m c) (bu m c) (X m c) ⟨N.val / 8192 * 8 + N.val / 32 % 8, by omega⟩ o ⟨N.val / 256 % 32, by omega⟩ ⟨N.val % 32, by omega⟩ := by
  have hN : cfg0.N = 4 := N_0
  have ht : N.val / 8192 < cfg0.N := by omega
  have h := congrFun (Value.blocks7 m c ⟨N.val / 8192, ht⟩ (flush7 _)) (ix2 o ⟨N.val % 8192, by omega⟩)
  rw [Value.flushed7, out7_eq] at h
  refine Eq.trans (Eq.trans ?_ h) ?_
  · blk_ext [idx ⟨N.val / 8192, ht⟩]
  · refine Eq.trans (show _ = cols160 (outU (iblk m c 0 ⟨N.val / 8192, ht⟩) (iblk m c 1 ⟨N.val / 8192, ht⟩) (iblk m c 4 ⟨N.val / 8192, ht⟩)) o ⟨N.val % 8192, by omega⟩ from rfl) ?_
    rw [outU_at _ _ _ (wu m c) (bu m c) (x1_at m c _) (x4_at m c _),
      Spec.initU_same (wu m c) (bu m c) (x0_at m c ⟨N.val / 8192, ht⟩ ⟨N.val / 8192, by omega⟩ rfl) o ⟨N.val % 8192, by omega⟩]
    unfold Spec.img Spec.row Spec.col
    congr 1 <;> exact Fin.ext (by dsimp only; omega)
/-- The lower stack's first state. -/
theorem lower_at (o : Fin 160) (N : Fin 32768) : (dats m 0 c).arrAt 8 cfg0.N (ix2 o N)
    = Spec.initL (wd m c) (bd m c) (wr m c) (br m c) (X m c) ⟨N.val / 8192 * 8 + N.val / 32 % 8, by omega⟩ o ⟨N.val / 256 % 32, by omega⟩ ⟨N.val % 32, by omega⟩ := by
  have hN : cfg0.N = 4 := N_0
  have ht : N.val / 8192 < cfg0.N := by omega
  have h := congrFun (Value.blocks8 m c ⟨N.val / 8192, ht⟩ (flush8 _)) (ix2 o ⟨N.val % 8192, by omega⟩)
  rw [Value.flushed8, out8_eq] at h
  refine Eq.trans (Eq.trans ?_ h) ?_
  · blk_ext [idx ⟨N.val / 8192, ht⟩]
  · refine Eq.trans (show _ = cols160 (outL (iblk m c 0 ⟨N.val / 8192, ht⟩) (iblk m c 2 ⟨N.val / 8192, ht⟩) (iblk m c 5 ⟨N.val / 8192, ht⟩)
      (iblk m c 3 ⟨N.val / 8192, ht⟩) (iblk m c 6 ⟨N.val / 8192, ht⟩)) o ⟨N.val % 8192, by omega⟩ from rfl) ?_
    rw [outL_at _ _ _ _ _ (wd m c) (bd m c) (wr m c) (br m c) (x2_at m c _) (x5_at m c _) (x3_at m c _) (x6_at m c _),
      Spec.initL_same (wd m c) (bd m c) (wr m c) (br m c) (x0_at m c ⟨N.val / 8192, ht⟩ ⟨N.val / 8192, by omega⟩ rfl) o ⟨N.val % 8192, by omega⟩]
    unfold Spec.img Spec.row Spec.col
    congr 1 <;> exact Fin.ext (by dsimp only; omega)

end Cert.Kernel2Ideal.Final

end
-- ==== Proof.WholeInit.lean ====
/- The whole kernel's first call leaves the two initial states. -/
module

public import proofs.«01_k».proof.Proof.WholeRun
public import proofs.«01_k».proof.Proof.InitFinal
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem

namespace Cert.Kernel4Ideal.Init

open Cert.Kernel4Ideal Cert.Kernel4Ideal.Gen Cert.Kernel4Ideal.Run
open Cert.Kernel2Ideal.Pay

variable (m : (ℓ : Loc nD τ sig) → Buf (Elt Ideal) ℓ) (c : Dev nD)

/-- Which block of its array each window reads or writes at a point. -/
theorem idx : ∀ t : Fin cfg0.N, win0_0.index t = ![0, t.val] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, t.val] ∧ win0_8.index t = ![0, t.val]
    ∧ t.val < 4 := (by decide +kernel : ∀ t : Fin grid0.N, _)

/-- The images of the input channels, of the arguments. -/
def X : Spec.Imgs 4 := Spec.inputs fun b i y z => m ((c.tc : Thread nD τ).loc main_arg0) (ix4 b i y z)
/-- The weights and biases, of the arguments. -/
def wu (o : Fin 160) (i : Fin 4) (q : Fin 2) (r : Fin 3) : EReal := m ((c.tc : Thread nD τ).loc main_arg1) (ix4 o i q r)
def bu (o : Fin 160) : EReal := m ((c.tc : Thread nD τ).loc main_arg2) (ix1 o)
def wd (o : Fin 160) (i : Fin 4) (q : Fin 1) (r : Fin 3) : EReal := m ((c.tc : Thread nD τ).loc main_arg3) (ix4 o i q r)
def bd (o : Fin 160) : EReal := m ((c.tc : Thread nD τ).loc main_arg4) (ix1 o)
def wr (o : Fin 160) (i : Fin 4) (q : Fin 2) (r : Fin 1) : EReal := m ((c.tc : Thread nD τ).loc main_arg5) (ix4 o i q r)
def br (o : Fin 160) : EReal := m ((c.tc : Thread nD τ).loc main_arg6) (ix1 o)

/-- The rescaled samples' columns, after the host's rearrangement. -/
theorem entry_at (i : Fin 4) (N : Fin 32768) : W1 m c main_v9 (ix2 i N)
    = X m c ⟨N.val / 8192 * 8 + N.val / 32 % 8, by omega⟩ i ⟨N.val / 256 % 32, by omega⟩ ⟨N.val % 32, by omega⟩ := by
  show StableHlo.after hostOps0 (fun b => m (c, b)) (Proc.devRef .tc main_v9) (ix2 i N) = _
  entry_read
  pointwise
  rfl

section Reads
variable (t : Fin cfg0.N)

theorem x0_at (b : Fin 4) (hb : b.val = t.val) : Spec.Same b (cols4 (R0.iblk (W1 m) c 0 t)) (X m c) := by
  intro i n
  unfold cols4
  have e : R0.iblk (W1 m) c 0 t (ix2 i n) = W1 m c main_v9 (ix2 i ⟨b.val * 8192 + n.val, by omega⟩) := by
    blk_ext [R0.iblk, idx t]
  rw [e, entry_at]
  unfold Spec.img Spec.row Spec.col
  congr 1 <;> exact Fin.ext (by dsimp only; omega)

theorem x1_at (o : Fin 160) (k : Fin 24) : R0.iblk (W1 m) c 1 t (ix2 o k) = wu m c o ⟨k.val % 4, by omega⟩ ⟨k.val / 4 % 2, by omega⟩ ⟨k.val / 8, by omega⟩ := by
  have e : R0.iblk (W1 m) c 1 t (ix2 o k) = W1 m c main_v15 (ix2 o k) := by
    blk_ext [R0.iblk, idx t]
  rw [e]
  show StableHlo.after hostOps0 (fun b => m (c, b)) (Proc.devRef .tc main_v15) (ix2 o k) = _
  entry_read
  pointwise
  rfl
theorem x2_at (o : Fin 160) (k : Fin 12) : R0.iblk (W1 m) c 2 t (ix2 o k) = wd m c o ⟨k.val % 4, by omega⟩ 0 ⟨k.val / 4, by omega⟩ := by
  have e : R0.iblk (W1 m) c 2 t (ix2 o k) = W1 m c main_v18 (ix2 o k) := by
    blk_ext [R0.iblk, idx t]
  rw [e]
  show StableHlo.after hostOps0 (fun b => m (c, b)) (Proc.devRef .tc main_v18) (ix2 o k) = _
  entry_read
  pointwise
  rfl
theorem x3_at (o : Fin 160) (k : Fin 8) : R0.iblk (W1 m) c 3 t (ix2 o k) = wr m c o ⟨k.val % 4, by omega⟩ ⟨k.val / 4, by omega⟩ 0 := by
  have e : R0.iblk (W1 m) c 3 t (ix2 o k) = W1 m c main_v21 (ix2 o k) := by
    blk_ext [R0.iblk, idx t]
  rw [e]
  show StableHlo.after hostOps0 (fun b => m (c, b)) (Proc.devRef .tc main_v21) (ix2 o k) = _
  entry_read
  pointwise
  rfl
theorem x4_at (o : Fin 160) : R0.iblk (W1 m) c 4 t (ix2 o 0) = bu m c o := by
  have e : R0.iblk (W1 m) c 4 t (ix2 o 0) = W1 m c main_v22 (ix2 o 0) := by
    blk_ext [R0.iblk, idx t]
  rw [e]
  show StableHlo.after hostOps0 (fun b => m (c, b)) (Proc.devRef .tc main_v22) (ix2 o 0) = _
  entry_read
  pointwise
  rfl
theorem x5_at (o : Fin 160) : R0.iblk (W1 m) c 5 t (ix2 o 0) = bd m c o := by
  have e : R0.iblk (W1 m) c 5 t (ix2 o 0) = W1 m c main_v23 (ix2 o 0) := by
    blk_ext [R0.iblk, idx t]
  rw [e]
  show StableHlo.after hostOps0 (fun b => m (c, b)) (Proc.devRef .tc main_v23) (ix2 o 0) = _
  entry_read
  pointwise
  rfl
theorem x6_at (o : Fin 160) : R0.iblk (W1 m) c 6 t (ix2 o 0) = br m c o := by
  have e : R0.iblk (W1 m) c 6 t (ix2 o 0) = W1 m c main_v24 (ix2 o 0) := by
    blk_ext [R0.iblk, idx t]
  rw [e]
  show StableHlo.after hostOps0 (fun b => m (c, b)) (Proc.devRef .tc main_v24) (ix2 o 0) = _
  entry_read
  pointwise
  rfl

end Reads

/-! ## The final arrays -/

theorem flush7 : ∀ t : Fin cfg0.N, (cfg0.win 7).flush t = true := (by decide +kernel : ∀ t : Fin grid0.N, _)
theorem flush8 : ∀ t : Fin cfg0.N, (cfg0.win 8).flush t = true := (by decide +kernel : ∀ t : Fin grid0.N, _)

theorem apart7 : ∀ t t' : Fin cfg0.N, (cfg0.win 7).flush t = true → (cfg0.win 7).flush t' = true → t ≠ t' →
    Disjoint ((cfg0.win 7).blk t).view.set ((cfg0.win 7).blk t').view.set := fun t t' _ _ hne =>
  (cfg0.win 7).disjoint_blk fun h => hne (Fin.ext (by
    have e : win0_7.index t = win0_7.index t' := h
    rw [(idx t).2.2.2.2.2.2.2.1, (idx t').2.2.2.2.2.2.2.1] at e
    exact congrFun e 1))

theorem apart8 : ∀ t t' : Fin cfg0.N, (cfg0.win 8).flush t = true → (cfg0.win 8).flush t' = true → t ≠ t' →
    Disjoint ((cfg0.win 8).blk t).view.set ((cfg0.win 8).blk t').view.set := fun t t' _ _ hne =>
  (cfg0.win 8).disjoint_blk fun h => hne (Fin.ext (by
    have e : win0_8.index t = win0_8.index t' := h
    rw [(idx t).2.2.2.2.2.2.2.2.1, (idx t').2.2.2.2.2.2.2.2.1] at e
    exact congrFun e 1))

/-- The upper stack's first state. -/
theorem upper_at (o : Fin 160) (N : Fin 32768) : upper m c (ix2 o N)
    = Spec.initU (wu m c) (bu m c) (X m c) ⟨N.val / 8192 * 8 + N.val / 32 % 8, by omega⟩ o ⟨N.val / 256 % 32, by omega⟩ ⟨N.val % 32, by omega⟩ := by
  have hN : cfg0.N = 4 := N_0
  have ht : N.val / 8192 < cfg0.N := by omega
  have h := congrFun ((R0.dats (W1 m) c).read_blk_arrAt_eq_flushed 7 apart7 cfg0.N ⟨N.val / 8192, ht⟩ (by exact ht) (flush7 _)) (ix2 o ⟨N.val % 8192, by omega⟩)
  refine Eq.trans (Eq.trans ?_ h) ?_
  · blk_ext [idx ⟨N.val / 8192, ht⟩]
  · refine Eq.trans (show _ = (R0.dats (W1 m) c).after 7 ⟨N.val / 8192, ht⟩ (ix2 o ⟨N.val % 8192, by omega⟩) from rfl) ?_
    rw [R0.after_7, out7_eq]
    refine Eq.trans (show _ = cols160 (outU (R0.iblk (W1 m) c 0 ⟨N.val / 8192, ht⟩) (R0.iblk (W1 m) c 1 ⟨N.val / 8192, ht⟩) (R0.iblk (W1 m) c 4 ⟨N.val / 8192, ht⟩)) o ⟨N.val % 8192, by omega⟩ from rfl) ?_
    rw [outU_at _ _ _ (wu m c) (bu m c) (x1_at m c _) (x4_at m c _),
      Spec.initU_same (wu m c) (bu m c) (x0_at m c ⟨N.val / 8192, ht⟩ ⟨N.val / 8192, by omega⟩ rfl) o ⟨N.val % 8192, by omega⟩]
    unfold Spec.img Spec.row Spec.col
    congr 1 <;> exact Fin.ext (by dsimp only; omega)
/-- The lower stack's first state. -/
theorem lower_at (o : Fin 160) (N : Fin 32768) : lower m c (ix2 o N)
    = Spec.initL (wd m c) (bd m c) (wr m c) (br m c) (X m c) ⟨N.val / 8192 * 8 + N.val / 32 % 8, by omega⟩ o ⟨N.val / 256 % 32, by omega⟩ ⟨N.val % 32, by omega⟩ := by
  have hN : cfg0.N = 4 := N_0
  have ht : N.val / 8192 < cfg0.N := by omega
  have h := congrFun ((R0.dats (W1 m) c).read_blk_arrAt_eq_flushed 8 apart8 cfg0.N ⟨N.val / 8192, ht⟩ (by exact ht) (flush8 _)) (ix2 o ⟨N.val % 8192, by omega⟩)
  refine Eq.trans (Eq.trans ?_ h) ?_
  · blk_ext [idx ⟨N.val / 8192, ht⟩]
  · refine Eq.trans (show _ = (R0.dats (W1 m) c).after 8 ⟨N.val / 8192, ht⟩ (ix2 o ⟨N.val % 8192, by omega⟩) from rfl) ?_
    rw [R0.after_8, out8_eq]
    refine Eq.trans (show _ = cols160 (outL (R0.iblk (W1 m) c 0 ⟨N.val / 8192, ht⟩) (R0.iblk (W1 m) c 2 ⟨N.val / 8192, ht⟩) (R0.iblk (W1 m) c 5 ⟨N.val / 8192, ht⟩)
      (R0.iblk (W1 m) c 3 ⟨N.val / 8192, ht⟩) (R0.iblk (W1 m) c 6 ⟨N.val / 8192, ht⟩)) o ⟨N.val % 8192, by omega⟩ from rfl) ?_
    rw [outL_at _ _ _ _ _ (wd m c) (bd m c) (wr m c) (br m c) (x2_at m c _) (x5_at m c _) (x3_at m c _) (x6_at m c _),
      Spec.initL_same (wd m c) (bd m c) (wr m c) (br m c) (x0_at m c ⟨N.val / 8192, ht⟩ ⟨N.val / 8192, by omega⟩ rfl) o ⟨N.val % 8192, by omega⟩]
    unfold Spec.img Spec.row Spec.col
    congr 1 <;> exact Fin.ext (by dsimp only; omega)

end Cert.Kernel4Ideal.Init

end
-- ==== Proof.WholeNets.lean ====
/- The whole kernel's second call follows the reference's loop. -/
module

public import proofs.«01_k».proof.Proof.WholeRun
public import proofs.«01_k».proof.Proof.Final
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem

namespace Cert.Kernel4Ideal.Nets

open Cert.Kernel4Ideal Cert.Kernel4Ideal.Gen Cert.Kernel4Ideal.Run Cert.KernelIdeal.Pay
open Cert.ReferenceIdeal.StepAt (imgs160 nextU_at nextL_at)
open Cert.ReferenceIdeal.Step (State step step_main_v8_11 step_main_v8_12)

variable (m : (ℓ : Loc nD τ sig) → Buf (Elt Ideal) ℓ) (c : Dev nD)

/-- Which block of its array each window reads or writes at a point. -/
theorem idx : ∀ t : Fin cfg1.N, win1_0.index t = ![0, t.val / 5] ∧ win1_1.index t = ![0, t.val / 5] ∧ win1_2.index t = ![t.val % 5, 0, 0]
    ∧ win1_3.index t = ![t.val % 5, 0, 0] ∧ win1_4.index t = ![t.val % 5, 0, 0] ∧ win1_5.index t = ![t.val % 5, 0, 0]
    ∧ win1_6.index t = ![t.val % 5, 0, 0] ∧ win1_7.index t = ![t.val % 5, 0, 0] ∧ win1_8.index t = ![t.val % 5, 0, 0]
    ∧ win1_9.index t = ![t.val % 5, 0, 0] ∧ win1_10.index t = ![0, t.val / 5] ∧ t.val < 20 := (by decide +kernel : ∀ t : Fin grid1.N, _)

/-- Block `j`'s weights, of the arguments. -/
def weights (j : Fin 5) : Spec.Weights where
  u1w o i q r := m ((c.tc : Thread nD τ).loc main_arg7) (ix5 j o i q r)
  u1b o := m ((c.tc : Thread nD τ).loc main_arg8) (ix2 j o)
  u2w o i q r := m ((c.tc : Thread nD τ).loc main_arg9) (ix5 j o i q r)
  u2b o := m ((c.tc : Thread nD τ).loc main_arg10) (ix2 j o)
  l1w o i q r := m ((c.tc : Thread nD τ).loc main_arg11) (ix5 j o i q r)
  l1b o := m ((c.tc : Thread nD τ).loc main_arg12) (ix2 j o)
  nw o i := m ((c.tc : Thread nD τ).loc main_arg13) (ix3 j o i)
  nb o := m ((c.tc : Thread nD τ).loc main_arg14) (ix2 j o)
  l2w o i q r := m ((c.tc : Thread nD τ).loc main_arg15) (ix5 j o i q r)
  l2b o := m ((c.tc : Thread nD τ).loc main_arg16) (ix2 j o)

section State
variable (t : Fin cfg1.N) (b : Fin 4) (hb : b.val = t.val / 5)
include hb

theorem x0_at (o : Fin 160) (n : Fin 8192) :
    R1.iblk (W2 m) c 0 t (ix2 o n) = upper m c (ix2 o ⟨b.val * 8192 + n.val, by omega⟩) := by
  have e : R1.iblk (W2 m) c 0 t (ix2 o n) = W2 m c main_v48_0 (ix2 o ⟨b.val * 8192 + n.val, by omega⟩) := by
    blk_ext [R1.iblk, idx t]
  rw [e, W2_upper]

theorem x1_at (o : Fin 160) (n : Fin 8192) :
    R1.iblk (W2 m) c 1 t (ix2 o n) = lower m c (ix2 o ⟨b.val * 8192 + n.val, by omega⟩) := by
  have e : R1.iblk (W2 m) c 1 t (ix2 o n) = W2 m c main_v48_1 (ix2 o ⟨b.val * 8192 + n.val, by omega⟩) := by
    blk_ext [R1.iblk, idx t]
  rw [e, W2_lower]

end State

section Reads
variable (t : Fin cfg1.N) (j : Fin 5) (hj : j.val = t.val % 5)
include hj

theorem x2_at (o : Fin 160) (k : Fin 1920) : R1.iblk (W2 m) c 2 t (ix3 0 o k) = Spec.stack6 (weights m c j).u1w o k * Ideal.ofBits .f32 0x41800000#32 := by
  have e : R1.iblk (W2 m) c 2 t (ix3 0 o k) = W2 m c main_v29 (ix3 j o k) := by
    blk_ext [R1.iblk, idx t]
  rw [e, W2_of m c main_v29 (by decide)]
  show StableHlo.after hostOps0 (fun b => m (c, b)) (Proc.devRef .tc main_v29) (ix3 j o k) = _
  entry_read
  pointwise
  rfl

theorem x3_at (o : Fin 160) : R1.iblk (W2 m) c 3 t (ix3 0 o 0) = (weights m c j).u1b o := by
  have e : R1.iblk (W2 m) c 3 t (ix3 0 o 0) = W2 m c main_v41 (ix3 j o 0) := by
    blk_ext [R1.iblk, idx t]
  rw [e, W2_of m c main_v41 (by decide)]
  show StableHlo.after hostOps0 (fun b => m (c, b)) (Proc.devRef .tc main_v41) (ix3 j o 0) = _
  entry_read
  pointwise
  rfl

theorem x4_at (o : Fin 320) (k : Fin 1920) : R1.iblk (W2 m) c 4 t (ix3 0 o k) = Spec.stack6 (weights m c j).u2w o k := by
  have e : R1.iblk (W2 m) c 4 t (ix3 0 o k) = W2 m c main_v32 (ix3 j o k) := by
    blk_ext [R1.iblk, idx t]
  rw [e, W2_of m c main_v32 (by decide)]
  show StableHlo.after hostOps0 (fun b => m (c, b)) (Proc.devRef .tc main_v32) (ix3 j o k) = _
  entry_read
  pointwise
  rfl

theorem x5_at (o : Fin 320) : R1.iblk (W2 m) c 5 t (ix3 0 o 0) = (weights m c j).u2b o := by
  have e : R1.iblk (W2 m) c 5 t (ix3 0 o 0) = W2 m c main_v42 (ix3 j o 0) := by
    blk_ext [R1.iblk, idx t]
  rw [e, W2_of m c main_v42 (by decide)]
  show StableHlo.after hostOps0 (fun b => m (c, b)) (Proc.devRef .tc main_v42) (ix3 j o 0) = _
  entry_read
  pointwise
  rfl

theorem x6_at (o : Fin 160) (k : Fin 1600) : R1.iblk (W2 m) c 6 t (ix3 0 o k) = Spec.lowerW (weights m c j) o k := by
  have e : R1.iblk (W2 m) c 6 t (ix3 0 o k) = W2 m c main_v37 (ix3 j o k) := by
    blk_ext [R1.iblk, idx t]
  rw [e, W2_of m c main_v37 (by decide)]
  show StableHlo.after hostOps0 (fun b => m (c, b)) (Proc.devRef .tc main_v37) (ix3 j o k) = _
  entry_read
  pointwise
  rfl

theorem x7_at (o : Fin 160) : R1.iblk (W2 m) c 7 t (ix3 0 o 0) = (weights m c j).l1b o + (weights m c j).nb o := by
  have e : R1.iblk (W2 m) c 7 t (ix3 0 o 0) = W2 m c main_v44 (ix3 j o 0) := by
    blk_ext [R1.iblk, idx t]
  rw [e, W2_of m c main_v44 (by decide)]
  show StableHlo.after hostOps0 (fun b => m (c, b)) (Proc.devRef .tc main_v44) (ix3 j o 0) = _
  entry_read
  pointwise
  rfl

theorem x8_at (o : Fin 320) (k : Fin 1280) : R1.iblk (W2 m) c 8 t (ix3 0 o k) = Spec.stack4 (weights m c j).l2w o k := by
  have e : R1.iblk (W2 m) c 8 t (ix3 0 o k) = W2 m c main_v40 (ix3 j o k) := by
    blk_ext [R1.iblk, idx t]
  rw [e, W2_of m c main_v40 (by decide)]
  show StableHlo.after hostOps0 (fun b => m (c, b)) (Proc.devRef .tc main_v40) (ix3 j o k) = _
  entry_read
  pointwise
  rfl

theorem x9_at (o : Fin 320) : R1.iblk (W2 m) c 9 t (ix3 0 o 0) = (weights m c j).l2b o := by
  have e : R1.iblk (W2 m) c 9 t (ix3 0 o 0) = W2 m c main_v45 (ix3 j o 0) := by
    blk_ext [R1.iblk, idx t]
  rw [e, W2_of m c main_v45 (by decide)]
  show StableHlo.after hostOps0 (fun b => m (c, b)) (Proc.devRef .tc main_v45) (ix3 j o 0) = _
  entry_read
  pointwise
  rfl

end Reads

/-- The two states of a grid point's columns are the two states of the reference's images. -/
def Agree (b : Fin 4) (u l : FVec Ideal S160x8192 .f32) (s : State Ideal) : Prop :=
  Spec.Same b (cols160 u) (imgs160 s.main_v8_11) ∧ Spec.Same b (cols160 l) (imgs160 s.main_v8_12)

/-- A block's new states are the ones the call's own program makes. -/
theorem stepU_eq (u : FVec Ideal S160x8192 .f32) (x2 : Vec Ideal S1x160x1920 .fp8e4m3) (x3 : Vec Ideal S1x160x1 .f32) (x4 : Vec Ideal S1x320x1920 .bf16)
    (x5 : Vec Ideal S1x320x1 .f32) : R1.stepU (F := Ideal) u x2 x3 x4 x5 = Cert.KernelIdeal.Open.stepU (F := Ideal) u x2 x3 x4 x5 := rfl
theorem stepL_eq (v l : FVec Ideal S160x8192 .f32) (x6 : Vec Ideal S1x160x1600 .bf16) (x7 : Vec Ideal S1x160x1 .f32) (x8 : Vec Ideal S1x320x1280 .bf16)
    (x9 : Vec Ideal S1x320x1 .f32) : R1.stepL (F := Ideal) v l x6 x7 x8 x9 = Cert.KernelIdeal.Open.stepL (F := Ideal) v l x6 x7 x8 x9 := rfl

section Point
variable (t : Fin cfg1.N)

/-- ONE POINT IS ONE TRIP. -/
theorem agree_step {b : Fin 4} {p : FVec Ideal S160x8192 .f32 × FVec Ideal S160x8192 .f32} {s : State Ideal} (j : Fin 5) (hj : j.val = t.val % 5)
    (hw : Cert.ReferenceIdeal.StepAt.weights s j = weights m c j) (h : Agree b p.1 p.2 s) :
    Agree b (R1.step (W2 m) c t p).1 (R1.step (W2 m) c t p).2 (step j.val s) := by
  have hu : Spec.Same b (cols160 (R1.step (W2 m) c t p).1) (imgs160 (Cert.ReferenceIdeal.Step.b148 j.val s)) := by
    unfold R1.step
    dsimp only
    rw [nextU_at j s, hw, stepU_eq, stepU_at (weights m c j) (Ideal.ofBits .f32 0x41800000#32) p.1 _ _ _ _ (x2_at m c t j hj) (x3_at m c t j hj)
      (x4_at m c t j hj) (x5_at m c t j hj)]
    exact Spec.nextU_same _ Cert.KernelIdeal.Host.sixteen_nonneg Cert.KernelIdeal.Host.sixteen_ne_top Cert.KernelIdeal.Host.sixteen_mul h.1
  have hl : Spec.Same b (cols160 (R1.step (W2 m) c t p).2) (imgs160 (Cert.ReferenceIdeal.Step.b243 j.val s)) := by
    unfold R1.step at hu ⊢
    dsimp only at hu ⊢
    rw [nextL_at j s, hw, stepL_eq, stepL_at (weights m c j) _ p.2 _ _ _ _ (x6_at m c t j hj) (x7_at m c t j hj)
      (x8_at m c t j hj) (x9_at m c t j hj)]
    exact Spec.nextL_same _ hu h.2
  exact ⟨by rw [step_main_v8_11]; exact hu, by rw [step_main_v8_12]; exact hl⟩
end Point

/-- The pixel of the images that a column holds. -/
def place (X : Spec.Imgs 160) (o : Fin 160) (N : Fin 32768) : EReal :=
  X ⟨N.val / 8192 * 8 + N.val / 32 % 8, by omega⟩ o ⟨N.val / 256 % 32, by omega⟩ ⟨N.val % 32, by omega⟩

section Follow
/-! The reference's states, the first of them the first call's results. -/
variable (states : ℕ → State Ideal) (hnext : ∀ k, states (k + 1) = step k (states k))
  (hw : ∀ k j, Cert.ReferenceIdeal.StepAt.weights (states k) j = weights m c j)
  (hu : ∀ (o : Fin 160) (N : Fin 32768), upper m c (ix2 o N)
    = place (imgs160 (states 0).main_v8_11) o N)
  (hl : ∀ (o : Fin 160) (N : Fin 32768), lower m c (ix2 o N)
    = place (imgs160 (states 0).main_v8_12) o N)

theorem start_u (t : Fin cfg1.N) (o : Fin 160) (n : Fin 8192) : cols160 (R1.start (W2 m) c t).1 o n = R1.iblk (W2 m) c 0 t (ix2 o n) := by
  unfold R1.start cols160
  generalize R1.iblk (W2 m) c 0 t = x
  pointwise [k1_pay5]
theorem start_l (t : Fin cfg1.N) (o : Fin 160) (n : Fin 8192) : cols160 (R1.start (W2 m) c t).2 o n = R1.iblk (W2 m) c 1 t (ix2 o n) := by
  unfold R1.start cols160
  generalize R1.iblk (W2 m) c 1 t = x
  pointwise [k1_pay6]
/-- A column of a group of images lies in the group's columns. -/
theorem group_column (b : Fin 4) (n : Fin 8192) (f : Spec.Imgs 160) (o : Fin 160) :
    f ⟨(b.val * 8192 + n.val) / 8192 * 8 + (b.val * 8192 + n.val) / 32 % 8, by omega⟩ o ⟨(b.val * 8192 + n.val) / 256 % 32, by omega⟩ ⟨(b.val * 8192 + n.val) % 32, by omega⟩
    = f (Spec.img b n) o (Spec.row n) (Spec.col n) := by
  unfold Spec.img Spec.row Spec.col
  congr 1 <;> exact Fin.ext (by dsimp only; omega)

include hu hl in
/-- A run's first point starts from the first call's results. -/
theorem agree_start (t : Fin cfg1.N) (b : Fin 4) (hb : b.val = t.val / 5) :
    Agree b (R1.start (W2 m) c t).1 (R1.start (W2 m) c t).2 (states 0) := by
  constructor
  · intro o n
    rw [start_u, x0_at m c t b hb, hu]
    exact group_column b n _ o
  · intro o n
    rw [start_l, x1_at m c t b hb, hl]
    exact group_column b n _ o

include hnext hw hu hl

/-- EVERY POINT of a run leaves the states of its trip. -/
theorem agree_at : ∀ (n : ℕ) (hn : n < cfg1.N) (b : Fin 4), b.val = n / 5 →
    Agree b (R1.states (W2 m) c n hn).1 (R1.states (W2 m) c n hn).2 (states (n % 5 + 1)) := by
  intro n
  induction n using Nat.strong_induction_on with
  | _ n ih =>
    intro hn b hb
    rw [hnext]
    by_cases h0 : n % 5 = 0
    · rw [show R1.states (W2 m) c n hn = _ from R1.states_first (W2 m) c ⟨n, hn⟩ h0]
      refine agree_step m c ⟨n, hn⟩ ⟨n % 5, by omega⟩ rfl (hw _ _) ?_
      rw [h0]
      exact agree_start m c states hu hl ⟨n, hn⟩ b hb
    · have hp := ih (n - 1) (by omega) (by omega) b (by omega)
      rw [show (n - 1) % 5 + 1 = n % 5 by omega] at hp
      rw [show R1.states (W2 m) c n hn = _ from R1.states_next (W2 m) c ⟨n, hn⟩ h0]
      exact agree_step m c ⟨n, hn⟩ ⟨n % 5, by omega⟩ rfl (hw _ _) hp

omit hnext hw hu hl in
theorem flush10 : ∀ t : Fin cfg1.N, t.val % 5 = 4 → (cfg1.win 10).flush t = true := (by decide +kernel : ∀ t : Fin grid1.N, _)
omit hnext hw hu hl in
theorem last10 : ∀ t : Fin cfg1.N, (cfg1.win 10).flush t = true → t.val % 5 = 4 := (by decide +kernel : ∀ t : Fin grid1.N, _)
omit hnext hw hu hl in
theorem apart10 : ∀ t t' : Fin cfg1.N, (cfg1.win 10).flush t = true → (cfg1.win 10).flush t' = true → t ≠ t' →
    Disjoint ((cfg1.win 10).blk t).view.set ((cfg1.win 10).blk t').view.set := fun t t' h1 h2 hne =>
  (cfg1.win 10).disjoint_blk fun h => hne (Fin.ext (by
    have e : win1_10.index t = win1_10.index t' := h
    rw [(idx t).2.2.2.2.2.2.2.2.2.2.1, (idx t').2.2.2.2.2.2.2.2.2.2.1] at e
    have e1 : t.val / 5 = t'.val / 5 := congrFun e 1
    have := last10 t h1; have := last10 t' h2
    omega))

/-- THE SECOND CALL'S RESULT is the reference's lower stack after the last trip. -/
theorem final_at (o : Fin 160) (N : Fin 32768) : final m c (ix2 o N)
    = place (imgs160 (states 5).main_v8_12) o N := by
  have hN : cfg1.N = 20 := N_1
  have ht : 5 * (N.val / 8192) + 4 < cfg1.N := by omega
  have hd : (5 * (N.val / 8192) + 4) / 5 = N.val / 8192 := by omega
  have h := congrFun ((R1.dats (W2 m) c).read_blk_arrAt_eq_flushed 10 apart10 cfg1.N ⟨5 * (N.val / 8192) + 4, ht⟩ (by exact ht) (flush10 _ (by dsimp only; omega)))
    (ix2 o ⟨N.val % 8192, by omega⟩)
  refine Eq.trans (Eq.trans ?_ h) ?_
  · blk_ext [idx ⟨5 * (N.val / 8192) + 4, ht⟩, hd]
  · refine Eq.trans (show _ = (R1.dats (W2 m) c).after 10 ⟨5 * (N.val / 8192) + 4, ht⟩ (ix2 o ⟨N.val % 8192, by omega⟩) from rfl) ?_
    rw [R1.after_10]
    have a := agree_at m c states hnext hw hu hl (5 * (N.val / 8192) + 4) ht ⟨N.val / 8192, by omega⟩ (by dsimp only; omega)
    rw [show (5 * (N.val / 8192) + 4) % 5 + 1 = 5 by omega] at a
    refine (show _ = cols160 (R1.states (W2 m) c (5 * (N.val / 8192) + 4) ht).2 o ⟨N.val % 8192, by omega⟩ from ?_).trans ((a.2 o _).trans ?_)
    · unfold cols160; pointwise [R1.result]
    · unfold place
      refine congrArg (states 5).main_v8_12 ?_
      simp only [Spec.img, Spec.row, Spec.col]
      congr 1 <;> exact Fin.ext (by dsimp only; omega)
end Follow

end Cert.Kernel4Ideal.Nets

end
-- ==== Proof.DmllPay.lean ====
/- The log-likelihood call's body, read one element at a time. -/
module

public import proofs.«01_k».proof.Proof.DmllSpec
public import proofs.«01_k».proof.Proof.Gen.Kernel3Ideal.Run
public import Idealize.ShloMosaic.Lib.Pointwise

@[expose] public section

set_option maxRecDepth 16384

noncomputable section

open Idealize.ShloMosaic Idealize.ShloMosaic.TcCoe Idealize.SL.Sem

namespace Cert.Kernel3Ideal.Pay

open Cert.Kernel3Ideal Cert.Kernel3Ideal.Gen

/-- The log-probabilities of one colour channel under its ten components. -/
def logpK (x : FVec Ideal S1x8192 .f32) (mean ls : FVec Ideal S10x8192 .f32) : FVec Ideal S10x8192 .f32 :=
  k0_pay25 x (k0_pay20 x mean ls) (k0_pay21 x mean ls) (k0_pay22 x mean ls) (k0_pay23 x mean ls) (k0_pay24 x mean ls)

theorem pay35_eq (x : FVec Ideal S1x8192 .f32) (mean ls a : FVec Ideal S10x8192 .f32) :
    k0_pay35 x a (k0_pay30 x mean ls) (k0_pay31 (k0_pay28 x mean ls)) (k0_pay32 (k0_pay29 x mean ls)) (k0_pay33 ls (k0_pay26 ls) (k0_pay27 x mean)) (k0_pay34 (F := Ideal))
      = addf a (logpK x mean ls) := rfl
theorem pay44_eq (x : FVec Ideal S1x8192 .f32) (mean ls : FVec Ideal S10x8192 .f32) :
    k0_pay44 x ls (k0_pay36 ls) (k0_pay37 x mean) (k0_pay39 x mean ls) (k0_pay40 x mean ls) (k0_pay41 x mean ls) (Scalar.ofBits .f32 0x00000000#32) (k0_pay42 x mean ls) (k0_pay43 (F := Ideal))
      = logpK x mean ls := rfl

theorem logpK_at (x : FVec Ideal S1x8192 .f32) (mean ls : FVec Ideal S10x8192 .f32) (i : Fin 10) (n : Fin 8192) :
    logpK x mean ls (ix2 i n) = Spec.logp (x (ix2 0 n)) (mean (ix2 i n)) (ls (ix2 i n)) := by
  pointwise [logpK, k0_pay25, k0_pay20, k0_pay21, k0_pay22, k0_pay23, k0_pay24, k0_pay16, k0_pay17, k0_pay18, k0_pay19]
  simp only [ne_eq, not_true_eq_false, if_false]
  rfl

/-- The sum over a block's lanes of the mixture's log-likelihood. -/
theorem pay1_at (l : FVec Ideal S100x8192 .f32) (a b : FVec Ideal S10x8192 .f32) (j : Fin 128) :
    k0_pay1 l a b (ix3 0 0 j) = ∑ n : Fin 8192, Spec.lse fun i => a (ix2 i n) + b (ix2 i n) + Spec.logSoftmax (fun k => l (ix2 ⟨k.val, by omega⟩ n)) i := by
  pointwise [k0_pay1]
  rfl

section Block
variable (v : FVec Ideal S160x8192 .bf16) (x : FVec Ideal S3x8192 .f32) (w : FVec Ideal S100x160 .bf16) (b : FVec Ideal S100x1 .f32)

/-- The parameters of a block's pixels, and their colours. -/
def par (n : Fin 8192) : Fin 100 → EReal :=
  Spec.params (fun o i => w (ix2 o i)) (fun o => b (ix2 o 0)) (fun i => v (ix2 i n))
def colour (n : Fin 8192) (k : Fin 3) : EReal := x (ix2 k n)

theorem pay2_at (o : Fin 100) (n : Fin 8192) : k0_pay2 (F := Ideal) v w b (ix2 o n) = par v w b n o := by
  pointwise [k0_pay2]
  rfl
theorem pay5_at (n : Fin 8192) : k0_pay5 (F := Ideal) x (ix2 0 n) = colour x n 0 := by
  pointwise [k0_pay5, k0_pay3]
  rfl
theorem pay6_at (n : Fin 8192) : k0_pay6 (F := Ideal) x (ix2 0 n) = colour x n 1 := by
  pointwise [k0_pay6, k0_pay3]
  rfl
theorem pay7_at (n : Fin 8192) : k0_pay7 (F := Ideal) x (ix2 0 n) = colour x n 2 := by
  pointwise [k0_pay7, k0_pay3]
  rfl
theorem pay8_at (i : Fin 10) (n : Fin 8192) : k0_pay8 (F := Ideal) v w b (ix2 i n) = Spec.mean (par v w b n) (colour x n) i 0 := by
  pointwise [k0_pay8, pay2_at]
  rfl
theorem pay9_at (i : Fin 10) (n : Fin 8192) : k0_pay9 (F := Ideal) v w b x (ix2 i n) = Spec.mean (par v w b n) (colour x n) i 1 := by
  pointwise [k0_pay9, k0_pay4, k0_pay3, pay2_at]
  rfl
theorem pay10_at (i : Fin 10) (n : Fin 8192) : k0_pay10 (F := Ideal) v w b x (ix2 i n) = Spec.mean (par v w b n) (colour x n) i 2 := by
  pointwise [k0_pay10, k0_pay4, k0_pay3, pay2_at]
  rfl
theorem pay11_at (i : Fin 10) (n : Fin 8192) : k0_pay11 (F := Ideal) v w b (ix2 i n) = Spec.scale (par v w b n) i 0 := by
  pointwise [k0_pay11, pay2_at]
  rfl
theorem pay14_at (i : Fin 10) (n : Fin 8192) : k0_pay14 (F := Ideal) (k0_pay12 v w b) k0_pay13 (ix2 i n) = Spec.scale (par v w b n) i 1 := by
  pointwise [k0_pay14, k0_pay12, k0_pay13, pay2_at]
  rfl
theorem pay15_at (i : Fin 10) (n : Fin 8192) : k0_pay15 (F := Ideal) (k0_pay2 v w b) (ix2 i n) = Spec.scale (par v w b n) i 2 := by
  pointwise [k0_pay15, pay2_at]
  rfl

theorem hz2 : (![0, 0] : Fin 2 → ℕ) = fun _ => 0 := by funext a; fin_cases a <;> rfl
theorem hz3 : (![0, 0, 0] : Fin 3 → ℕ) = fun _ => 0 := by funext a; fin_cases a <;> rfl

/-- What a point writes back, by channels. -/
theorem out4_eq : out0_4 (F := Ideal) v x w b = k0_pay1 (F := Ideal) (k0_pay2 v w b)
    (addf (logpK (k0_pay5 x) (k0_pay8 v w b) (k0_pay11 v w b)) (logpK (k0_pay6 x) (k0_pay9 v w b x) (k0_pay14 (k0_pay12 v w b) k0_pay13)))
    (logpK (k0_pay7 x) (k0_pay10 v w b x) (k0_pay15 (k0_pay2 v w b))) := by
  unfold_out out0_4
  rw [View.canon_unit_zero hz3]
  simp only [View.ld_unit_zero (S := S160x8192) hz2, View.ld_unit_zero (S := S3x8192) hz2, View.ld_unit_zero (S := S100x160) hz2,
    View.ld_unit_zero (S := S100x1) hz2]
  rw [pay35_eq, pay44_eq]
  rfl

/-- Every lane a point writes back holds the sum of its pixels' log-likelihoods. -/
theorem out4_at (j : Fin 128) : out0_4 (F := Ideal) v x w b (ix3 0 0 j) = ∑ n : Fin 8192, Spec.pix (par v w b n) (colour x n) := by
  rw [out4_eq, pay1_at]
  refine Finset.sum_congr rfl fun n _ => ?_
  unfold Spec.pix
  congr 1
  funext i
  pointwise
  simp only [logpK_at, pay2_at, pay5_at, pay6_at, pay7_at, pay8_at v x w b, pay9_at, pay10_at, pay11_at, pay14_at, pay15_at]

end Block

end Cert.Kernel3Ideal.Pay

end
-- ==== Proof.DmllFinal.lean ====
/- The log-likelihood call's result is the sum of all pixels' log-likelihoods. -/
module

public import proofs.«01_k».proof.Proof.DmllPay
public import proofs.«01_k».proof.Proof.DmllRef
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem

namespace Cert.Kernel3Ideal.Final

open Cert.Kernel3Ideal Cert.Kernel3Ideal.Gen Cert.Kernel3Ideal.Pay

variable (m : (ℓ : Loc nD τ sig) → Buf (Elt Ideal) ℓ) (c : Dev nD)

/-- Which block of its array each window reads or writes at a point. -/
theorem idx : ∀ t : Fin cfg0.N, win0_0.index t = ![0, t.val] ∧ win0_1.index t = ![0, t.val] ∧ win0_2.index t = ![0, 0] ∧ win0_3.index t = ![0, 0]
    ∧ win0_4.index t = ![t.val, 0, 0] ∧ t.val < 4 := (by decide +kernel : ∀ t : Fin grid0.N, _)

/-- The state, samples, weights and biases, of the arguments. -/
def state (i : Fin 160) (N : Fin 32768) : EReal := m ((c.tc : Thread nD τ).loc main_arg0) (ix2 i N)
def sample (g : Fin 32) (k : Fin 3) (y x : Fin 32) : EReal := m ((c.tc : Thread nD τ).loc main_arg1) (ix4 g k y x)
def weight (o : Fin 100) (i : Fin 160) : EReal := m ((c.tc : Thread nD τ).loc main_arg2) (ix2 o i)
def bias (o : Fin 100) : EReal := m ((c.tc : Thread nD τ).loc main_arg3) (ix1 o)

/-- The parameters and the colours of the pixel in a column of the arrays. -/
def parAt (N : Fin 32768) : Fin 100 → EReal := Spec.params (weight m c) (bias m c) fun i => state m c i N
def colourAt (N : Fin 32768) (k : Fin 3) : EReal :=
  sample m c ⟨N.val / 8192 * 8 + N.val / 32 % 8, by omega⟩ k ⟨N.val / 256 % 32, by omega⟩ ⟨N.val % 32, by omega⟩ * Ideal.ofBits .f32 0x40000000#32 - 1

/-- The rescaled samples' columns, after the host's rearrangement. -/
theorem entry_at (k : Fin 3) (N : Fin 32768) : V m c main_v6 (ix2 k N) = colourAt m c N k := by
  show StableHlo.after hostOps0 (fun b => m (c, b)) (Proc.devRef .tc main_v6) (ix2 k N) = _
  entry_read
  pointwise
  rfl

section Reads
variable (t : Fin cfg0.N)

theorem x0_at (i : Fin 160) (n : Fin 8192) (N : Fin 32768) (hN : N.val = t.val * 8192 + n.val) : iblk m c 0 t (ix2 i n) = state m c i N := by
  have e : iblk m c 0 t (ix2 i n) = V m c main_arg0 (ix2 i N) := by
    blk_ext [iblk, idx t]
  rw [e, V_main_arg0]
  rfl
theorem x1_at (k : Fin 3) (n : Fin 8192) (N : Fin 32768) (hN : N.val = t.val * 8192 + n.val) : iblk m c 1 t (ix2 k n) = colourAt m c N k := by
  have e : iblk m c 1 t (ix2 k n) = V m c main_v6 (ix2 k N) := by
    blk_ext [iblk, idx t]
  rw [e, entry_at]
theorem x2_at (o : Fin 100) (i : Fin 160) : iblk m c 2 t (ix2 o i) = weight m c o i := by
  have e : iblk m c 2 t (ix2 o i) = V m c main_v7 (ix2 o i) := by
    blk_ext [iblk, idx t]
  rw [e]
  show StableHlo.after hostOps0 (fun b => m (c, b)) (Proc.devRef .tc main_v7) (ix2 o i) = _
  entry_read
  pointwise
  rfl
theorem x3_at (o : Fin 100) : iblk m c 3 t (ix2 o 0) = bias m c o := by
  have e : iblk m c 3 t (ix2 o 0) = V m c main_v8 (ix2 o 0) := by
    blk_ext [iblk, idx t]
  rw [e]
  show StableHlo.after hostOps0 (fun b => m (c, b)) (Proc.devRef .tc main_v8) (ix2 o 0) = _
  entry_read
  pointwise
  rfl

end Reads

/-! ## The array of the groups' sums -/

theorem flush4 : ∀ t : Fin cfg0.N, (cfg0.win 4).flush t = true := (by decide +kernel : ∀ t : Fin grid0.N, _)

theorem apart4 : ∀ t t' : Fin cfg0.N, (cfg0.win 4).flush t = true → (cfg0.win 4).flush t' = true → t ≠ t' →
    Disjoint ((cfg0.win 4).blk t).view.set ((cfg0.win 4).blk t').view.set := fun t t' _ _ hne =>
  (cfg0.win 4).disjoint_blk fun h => hne (Fin.ext (by
    have e : win0_4.index t = win0_4.index t' := h
    rw [(idx t).2.2.2.2.1, (idx t').2.2.2.2.1] at e
    exact congrFun e 0))

/-- The sum left for a group of eight images. -/
theorem group_at (t : Fin 4) (j : Fin 128) : (dats m 0 c).arrAt 4 cfg0.N (ix3 t 0 j)
    = ∑ n : Fin 8192, Spec.pix (parAt m c ⟨t.val * 8192 + n.val, by omega⟩) (colourAt m c ⟨t.val * 8192 + n.val, by omega⟩) := by
  have hN : cfg0.N = 4 := N_0
  have ht : t.val < cfg0.N := by omega
  have h := congrFun ((dats m 0 c).read_blk_arrAt_eq_flushed 4 apart4 cfg0.N ⟨t.val, ht⟩ (by exact ht) (flush4 _)) (ix3 0 0 j)
  refine Eq.trans (Eq.trans ?_ h) ?_
  · blk_ext [idx ⟨t.val, ht⟩]
  · refine Eq.trans (show _ = (dats m 0 c).after 4 ⟨t.val, ht⟩ (ix3 0 0 j) from rfl) ?_
    rw [after0_4]
    refine (out4_at _ _ _ _ j).trans (Finset.sum_congr rfl fun n _ => ?_)
    congr 1
    · unfold par parAt
      simp only [x0_at m c ⟨t.val, ht⟩ _ n ⟨t.val * 8192 + n.val, by omega⟩ rfl, x2_at, x3_at]
    · funext k
      exact x1_at m c ⟨t.val, ht⟩ k n _ rfl

/-! ## The result -/

/-- A column's group and place in it, against its image, row and column. -/
def pixels : Fin 4 × Fin 8192 ≃ Fin 32 × Fin 32 × Fin 32 where
  toFun p := (⟨p.1.val * 8 + p.2.val / 32 % 8, by omega⟩, ⟨p.2.val / 256, by omega⟩, ⟨p.2.val % 32, by omega⟩)
  invFun q := (⟨q.1.val / 8, by omega⟩, ⟨q.2.1.val * 256 + q.1.val % 8 * 32 + q.2.2.val, by omega⟩)
  left_inv p := Prod.ext (Fin.ext (by dsimp only; omega)) (Fin.ext (by dsimp only; omega))
  right_inv q := Prod.ext (Fin.ext (by dsimp only; omega)) (Prod.ext (Fin.ext (by dsimp only; omega)) (Fin.ext (by dsimp only; omega)))

/-- Summing by groups is summing by images, rows and columns. -/
theorem sum_pixels (f : Fin 32768 → EReal) : ∑ t : Fin 4, ∑ n : Fin 8192, f ⟨t.val * 8192 + n.val, by omega⟩
    = ∑ g : Fin 32, ∑ y : Fin 32, ∑ x : Fin 32, f ⟨g.val / 8 * 8192 + y.val * 256 + g.val % 8 * 32 + x.val, by omega⟩ := by
  rw [← Fintype.sum_prod_type' fun (t : Fin 4) (n : Fin 8192) => f ⟨t.val * 8192 + n.val, by omega⟩]
  simp only [← Fintype.sum_prod_type' fun (y : Fin 32) (x : Fin 32) => f _]
  rw [← Fintype.sum_prod_type' fun (g : Fin 32) (p : Fin 32 × Fin 32) => f ⟨g.val / 8 * 8192 + p.1.val * 256 + g.val % 8 * 32 + p.2.val, by omega⟩]
  refine Fintype.sum_equiv pixels _ _ fun p => congrArg f (Fin.ext ?_)
  dsimp only [pixels, Equiv.coe_fn_mk]
  omega

/-- The host's sum of the groups' sums. -/
def sumGroups (a : FVec Ideal S4x1x128 .f32) : FVec Ideal S_ .f32 :=
  Host.reduceAdd (shapeCast S4 (extractStridedSlice S4x1x1 ![0, 0, 0] a slices_S4x1x128_S4x1x1_0_0_0) shapeCasts_S4x1x1_S4)
    (constant S_ .f32 0x00000000#32) reducesTo_S4_S_d0 h_S_
theorem sumGroups_at (a : FVec Ideal S4x1x128 .f32) (i : S_.Idx) : sumGroups a i = ∑ t : Fin 4, a (ix3 t 0 0) := by
  pointwise [sumGroups]

/-- The call's result is the reference's, from the same arguments. -/
theorem result_eq (V' : Valuation Cert.Reference3Ideal.τ Cert.Reference3Ideal.sig (Elt Ideal))
    (h0 : ∀ i N, Cert.Reference3Ideal.Dmll.state V' i N = state m c i N) (h1 : ∀ g k y x, Cert.Reference3Ideal.Dmll.sample V' g k y x = sample m c g k y x)
    (h2 : ∀ o i, Cert.Reference3Ideal.Dmll.weight V' o i = weight m c o i) (h3 : ∀ o, Cert.Reference3Ideal.Dmll.bias V' o = bias m c o) :
    sumGroups (Value.reg_main_v9 m c) = Cert.Reference3Ideal.Dmll.R V' := by
  funext i
  rw [sumGroups_at, Cert.Reference3Ideal.Dmll.R_at]
  refine Eq.trans (Finset.sum_congr rfl fun t _ => group_at m c t 0) ((sum_pixels fun N => Spec.pix (parAt m c N) (colourAt m c N)).trans ?_)
  refine Finset.sum_congr rfl fun g _ => Finset.sum_congr rfl fun y _ => Finset.sum_congr rfl fun x _ => ?_
  congr 1
  · unfold parAt Cert.Reference3Ideal.Dmll.par
    rw [funext fun o => funext (h2 o), funext h3]
    exact congrArg _ (funext fun i => (h0 i _).symm)
  · funext k
    unfold colourAt Cert.Reference3Ideal.Dmll.colour
    rw [h1]
    congr 2
    congr 1 <;> exact Fin.ext (by dsimp only; omega)

end Cert.Kernel3Ideal.Final

end
-- ==== Proof.WholeMixture.lean ====
/- The whole kernel's third call and the sum the host takes of its result. -/
module

public import proofs.«01_k».proof.Proof.WholeRun
public import proofs.«01_k».proof.Proof.DmllFinal
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem

namespace Cert.Kernel4Ideal.Mixture

open Cert.Kernel4Ideal Cert.Kernel4Ideal.Gen Cert.Kernel4Ideal.Run Cert.Kernel3Ideal.Pay

variable (m : (ℓ : Loc nD τ sig) → Buf (Elt Ideal) ℓ) (c : Dev nD)

/-- Which block of its array each window reads or writes at a point. -/
theorem idx : ∀ t : Fin cfg2.N, win2_0.index t = ![0, t.val] ∧ win2_1.index t = ![0, t.val] ∧ win2_2.index t = ![0, 0] ∧ win2_3.index t = ![0, 0]
    ∧ win2_4.index t = ![t.val, 0, 0] ∧ t.val < 4 := (by decide +kernel : ∀ t : Fin grid2.N, _)

/-- The second call's result, samples, weights and biases, of the arguments. -/
def state (i : Fin 160) (N : Fin 32768) : EReal := final m c (ix2 i N)
def sample (g : Fin 32) (k : Fin 3) (y x : Fin 32) : EReal := m ((c.tc : Thread nD τ).loc main_arg0) (ix4 g k y x)
def weight (o : Fin 100) (i : Fin 160) : EReal := m ((c.tc : Thread nD τ).loc main_arg17) (ix2 o i)
def bias (o : Fin 100) : EReal := m ((c.tc : Thread nD τ).loc main_arg18) (ix1 o)

/-- The parameters and the colours of the pixel in a column of the arrays. -/
def parAt (N : Fin 32768) : Fin 100 → EReal := Spec.params (weight m c) (bias m c) fun i => state m c i N
def colourAt (N : Fin 32768) (k : Fin 3) : EReal :=
  sample m c ⟨N.val / 8192 * 8 + N.val / 32 % 8, by omega⟩ k ⟨N.val / 256 % 32, by omega⟩ ⟨N.val % 32, by omega⟩ * Ideal.ofBits .f32 0x40000000#32 - 1

/-- The rescaled samples' columns, after the host's rearrangement. -/
theorem entry_at (k : Fin 3) (N : Fin 32768) : W1 m c main_v12 (ix2 k N) = colourAt m c N k := by
  show StableHlo.after hostOps0 (fun b => m (c, b)) (Proc.devRef .tc main_v12) (ix2 k N) = _
  entry_read
  pointwise
  rfl

section Reads
variable (t : Fin cfg2.N)

theorem x0_at (i : Fin 160) (n : Fin 8192) (N : Fin 32768) (hN : N.val = t.val * 8192 + n.val) : R2.iblk (W3 m) c 0 t (ix2 i n) = state m c i N := by
  have e : R2.iblk (W3 m) c 0 t (ix2 i n) = W3 m c main_v49 (ix2 i N) := by
    blk_ext [R2.iblk, idx t]
  rw [e, W3_final]
  rfl
theorem x1_at (k : Fin 3) (n : Fin 8192) (N : Fin 32768) (hN : N.val = t.val * 8192 + n.val) : R2.iblk (W3 m) c 1 t (ix2 k n) = colourAt m c N k := by
  have e : R2.iblk (W3 m) c 1 t (ix2 k n) = W3 m c main_v12 (ix2 k N) := by
    blk_ext [R2.iblk, idx t]
  rw [e, W3_of m c main_v12 (by decide), W2_of m c main_v12 (by decide), entry_at]
theorem x2_at (o : Fin 100) (i : Fin 160) : R2.iblk (W3 m) c 2 t (ix2 o i) = weight m c o i := by
  have e : R2.iblk (W3 m) c 2 t (ix2 o i) = W3 m c main_v46 (ix2 o i) := by
    blk_ext [R2.iblk, idx t]
  rw [e, W3_of m c main_v46 (by decide), W2_of m c main_v46 (by decide)]
  show StableHlo.after hostOps0 (fun b => m (c, b)) (Proc.devRef .tc main_v46) (ix2 o i) = _
  entry_read
  pointwise
  rfl
theorem x3_at (o : Fin 100) : R2.iblk (W3 m) c 3 t (ix2 o 0) = bias m c o := by
  have e : R2.iblk (W3 m) c 3 t (ix2 o 0) = W3 m c main_v47 (ix2 o 0) := by
    blk_ext [R2.iblk, idx t]
  rw [e, W3_of m c main_v47 (by decide), W2_of m c main_v47 (by decide)]
  show StableHlo.after hostOps0 (fun b => m (c, b)) (Proc.devRef .tc main_v47) (ix2 o 0) = _
  entry_read
  pointwise
  rfl

end Reads

/-! ## The array of the groups' sums -/

theorem flush4 : ∀ t : Fin cfg2.N, (cfg2.win 4).flush t = true := (by decide +kernel : ∀ t : Fin grid2.N, _)

theorem apart4 : ∀ t t' : Fin cfg2.N, (cfg2.win 4).flush t = true → (cfg2.win 4).flush t' = true → t ≠ t' →
    Disjoint ((cfg2.win 4).blk t).view.set ((cfg2.win 4).blk t').view.set := fun t t' _ _ hne =>
  (cfg2.win 4).disjoint_blk fun h => hne (Fin.ext (by
    have e : win2_4.index t = win2_4.index t' := h
    rw [(idx t).2.2.2.2.1, (idx t').2.2.2.2.1] at e
    exact congrFun e 0))

/-- The sum left for a group of eight images. -/
theorem group_at (t : Fin 4) (j : Fin 128) : sums m c (ix3 t 0 j)
    = ∑ n : Fin 8192, Spec.pix (parAt m c ⟨t.val * 8192 + n.val, by omega⟩) (colourAt m c ⟨t.val * 8192 + n.val, by omega⟩) := by
  have hN : cfg2.N = 4 := N_2
  have ht : t.val < cfg2.N := by omega
  have h := congrFun ((R2.dats (W3 m) c).read_blk_arrAt_eq_flushed 4 apart4 cfg2.N ⟨t.val, ht⟩ (by exact ht) (flush4 _)) (ix3 0 0 j)
  refine Eq.trans (Eq.trans ?_ h) ?_
  · blk_ext [idx ⟨t.val, ht⟩]
  · refine Eq.trans (show _ = (R2.dats (W3 m) c).after 4 ⟨t.val, ht⟩ (ix3 0 0 j) from rfl) ?_
    rw [R2.after_4]
    refine (out4_at _ _ _ _ j).trans (Finset.sum_congr rfl fun n _ => ?_)
    refine congrArg₂ Spec.pix ?_ (funext fun k => x1_at m c ⟨t.val, ht⟩ k n _ rfl)
    unfold par parAt
    exact congr (congr (congrArg Spec.params (funext fun o => funext fun i => x2_at m c ⟨t.val, ht⟩ o i)) (funext fun o => x3_at m c ⟨t.val, ht⟩ o))
      (funext fun i => x0_at m c ⟨t.val, ht⟩ i n _ rfl)

/-! ## The result -/

/-- What the program returns is the sum of the groups' sums. -/
theorem total_eq : W5 m c main_v53 = Cert.Kernel3Ideal.Final.sumGroups (sums m c) := by
  rw [← W4_sums]
  show StableHlo.after hostOps3 (W4 m c) (Proc.devRef .tc main_v53) = _
  entry_read
  rfl

/-- THE RESULT is the sum of all pixels' log-likelihoods. -/
theorem total_at (i : S_.Idx) : W5 m c main_v53 i = ∑ g : Fin 32, ∑ y : Fin 32, ∑ x : Fin 32,
    Spec.pix (parAt m c ⟨g.val / 8 * 8192 + y.val * 256 + g.val % 8 * 32 + x.val, by omega⟩) (colourAt m c ⟨g.val / 8 * 8192 + y.val * 256 + g.val % 8 * 32 + x.val, by omega⟩) := by
  rw [total_eq]
  refine (Cert.Kernel3Ideal.Final.sumGroups_at _ i).trans ?_
  exact Eq.trans (Finset.sum_congr rfl fun t _ => group_at m c t 0) (Cert.Kernel3Ideal.Final.sum_pixels fun N => Spec.pix (parAt m c N) (colourAt m c N))

end Cert.Kernel4Ideal.Mixture

end
-- ==== Proof.WholeFinal.lean ====
/- The whole kernel's result is the whole reference's. -/
module

public import proofs.«01_k».proof.Proof.WholeRef
public import proofs.«01_k».proof.Proof.WholeInit
public import proofs.«01_k».proof.Proof.WholeNets
public import proofs.«01_k».proof.Proof.WholeMixture

@[expose] public section

set_option maxRecDepth 16384

noncomputable section

open Idealize.ShloMosaic Idealize.ShloMosaic.TcCoe Idealize.SL.Sem

namespace Cert.Kernel4Ideal.Final

open Cert.Kernel4Ideal Cert.Kernel4Ideal.Gen Cert.Kernel4Ideal.Run
open Cert.Reference4Ideal.Whole (carried carried_step loss_at colours first_upper first_lower)
open Cert.Reference4Ideal.Step (State step b243 b413 step_main_v89_15 step_main_v89_16)
open Cert.ReferenceIdeal.StepAt (imgs160)

variable (m : (ℓ : Loc nD τ sig) → Buf (Elt Ideal) ℓ) (c : Dev nD)

/-- The reference's first state, of the kernel's arguments. -/
def start : State Ideal :=
  Cert.Reference4Ideal.Step.init (m ((c.tc : Thread nD τ).loc main_arg7)) (m ((c.tc : Thread nD τ).loc main_arg8)) (m ((c.tc : Thread nD τ).loc main_arg9))
    (m ((c.tc : Thread nD τ).loc main_arg10)) (m ((c.tc : Thread nD τ).loc main_arg11)) (m ((c.tc : Thread nD τ).loc main_arg12))
    (m ((c.tc : Thread nD τ).loc main_arg13)) (m ((c.tc : Thread nD τ).loc main_arg14)) (m ((c.tc : Thread nD τ).loc main_arg15))
    (m ((c.tc : Thread nD τ).loc main_arg16)) (m ((c.tc : Thread nD τ).loc main_arg17)) (m ((c.tc : Thread nD τ).loc main_arg18))
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6))

/-- The reference's states, one per trip. -/
def states : ℕ → State Ideal
  | 0 => start m c
  | k + 1 => step k (states k)

theorem carried_next (k : ℕ) : carried (states m c (k + 1)) = Cert.ReferenceIdeal.Step.step k (carried (states m c k)) := carried_step k _

theorem weights_states (k : ℕ) (j : Fin 5) : Cert.ReferenceIdeal.StepAt.weights (carried (states m c k)) j = Nets.weights m c j := by
  induction k with
  | zero => rfl
  | succ k ih => rw [carried_next]; exact (Cert.ReferenceIdeal.Ends.weights_step k _ j).trans ih

theorem upper_start (o : Fin 160) (N : Fin 32768) : upper m c (ix2 o N) = Nets.place (imgs160 (carried (states m c 0)).main_v8_11) o N := by
  unfold Nets.place
  rw [Init.upper_at]
  exact (congrFun (congrFun (congrFun (congrFun (first_upper (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6))) _) _) _) _).symm
theorem lower_start (o : Fin 160) (N : Fin 32768) : lower m c (ix2 o N) = Nets.place (imgs160 (carried (states m c 0)).main_v8_12) o N := by
  unfold Nets.place
  rw [Init.lower_at]
  exact (congrFun (congrFun (congrFun (congrFun (first_lower (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6))) _) _) _) _).symm

/-- The second call's result, read at a pixel, is the reference's lower stack after the last trip. -/
theorem final_pixel (g y z : Fin 32) (i : Fin 160) :
    final m c (ix2 i ⟨g.val / 8 * 8192 + y.val * 256 + g.val % 8 * 32 + z.val, by omega⟩) = (carried (states m c 5)).main_v8_12 (ix4 g i y z) := by
  rw [Nets.final_at m c (fun k => carried (states m c k)) (carried_next m c) (weights_states m c) (upper_start m c) (lower_start m c)]
  unfold Nets.place
  refine congrArg (carried (states m c 5)).main_v8_12 ?_
  congr 1 <;> exact Fin.ext (by dsimp only; omega)

theorem last_lower : (carried (states m c 5)).main_v8_12 = b243 4 (states m c 4) := step_main_v89_15 4 _
theorem last_loss : (states m c 5).main_v89_16 = b413 4 (states m c 4) := step_main_v89_16 4 _

/-- A pixel's log-likelihood is the reference's. -/
theorem pixel_eq (g y z : Fin 32) : Spec.pix (Mixture.parAt m c ⟨g.val / 8 * 8192 + y.val * 256 + g.val % 8 * 32 + z.val, by omega⟩) (Mixture.colourAt m c ⟨g.val / 8 * 8192 + y.val * 256 + g.val % 8 * 32 + z.val, by omega⟩)
    = Spec.pix (Spec.params (fun o i => (states m c 4).main_v89_10 (ix2 o i)) (fun o => (states m c 4).main_v89_11 (ix1 o)) fun i => b243 4 (states m c 4) (ix4 g i y z))
      (fun k => Mixture.sample m c g k y z * Ideal.ofBits .f32 0x40000000#32 - 1) := by
  refine congrArg₂ Spec.pix ?_ (funext fun k => ?_)
  · unfold Mixture.parAt Mixture.state
    refine congr (congr (congrArg Spec.params (funext fun o => funext fun i => ?_)) (funext fun o => ?_)) (funext fun i => ?_)
    · rfl
    · rfl
    · rw [final_pixel, last_lower]
  · unfold Mixture.colourAt
    congr 2
    congr 1 <;> exact Fin.ext (by dsimp only; omega)

theorem sum_eq (i : Cert.Reference4Ideal.S_.Idx) : ∑ g : Fin 32, ∑ y : Fin 32, ∑ z : Fin 32, Spec.pix (Mixture.parAt m c ⟨g.val / 8 * 8192 + y.val * 256 + g.val % 8 * 32 + z.val, by omega⟩) (Mixture.colourAt m c ⟨g.val / 8 * 8192 + y.val * 256 + g.val % 8 * 32 + z.val, by omega⟩)
    = (b413 4 (states m c 4) i : EReal) :=
  (Finset.sum_congr rfl fun g _ => Finset.sum_congr rfl fun y _ => Finset.sum_congr rfl fun z _ => pixel_eq m c g y z).trans
    (loss_at 4 (states m c 4) (m ((c.tc : Thread nD τ).loc main_arg0)) rfl i).symm

/-- THE RESULT is the reference's. -/
theorem result : W5 m c main_v53 = (states m c 5).main_v89_16 := by
  funext i
  rw [last_loss]
  exact (Mixture.total_at m c i).trans (sum_eq m c i)

end Cert.Kernel4Ideal.Final

end
-- ==== Proof.lean ====
/- The whole kernel and each of its three calls: every program terminates with its arguments unchanged, the idealization keeps its
   meaning, and at the extended reals its results are its reference's. -/
module

public import proofs.«01_k».proof.Defs
public import proofs.«01_k».proof.Proof.Gen.Reference4Ideal.StepRun
public import proofs.«01_k».proof.Proof.Gen.Kernel4Ideal.Points
public import proofs.«01_k».proof.Proof.Gen.Kernel4Ideal.Skeleton
public import proofs.«01_k».proof.Proof.Gen.Kernel4Ideal.Launch
public import proofs.«01_k».proof.Proof.Gen.Kernel4Ideal
public import proofs.«01_k».proof.Proof.Gen.Kernel4
public import proofs.«01_k».proof.Proof.Gen.Kernel4.Points
public import proofs.«01_k».proof.Proof.Gen.Kernel4.Skeleton
public import proofs.«01_k».proof.Proof.Gen.Kernel4.Launch
public import proofs.«01_k».proof.Proof.Gen.Kernel4.Regions
public import proofs.«01_k».proof.Proof.Gen.Kernel4Ideal.Regions
public import proofs.«01_k».proof.Proof.WholeFinal
public import proofs.«01_k».proof.Proof.WholeRunBits
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.StepRun
public import proofs.«01_k».proof.Proof.Final
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Run
public import proofs.«01_k».proof.Proof.Gen.Reference3Ideal.Run
public import proofs.«01_k».proof.Proof.InitFinal
public import proofs.«01_k».proof.Proof.DmllFinal
public import Idealize.ShloMosaic.Lib.Bf16Pair
public import Idealize.ShloMosaic.Lib.Quiescent

@[expose] public section

set_option maxRecDepth 16384

open Idealize.ShloMosaic Idealize.SL.Sem

/-- The reference's frame: its run keeps the arguments, and it signals no semaphore. -/
theorem Cert.Proof.reference_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems rfl r.2⟩)
    (Cert.ReferenceIdeal.Value.run m ρ)

/-- The states the kernel's points follow are the states the reference's loop goes through. -/
theorem Cert.Proof.value : Cert.algebraic_KernelIdeal_ReferenceIdeal (hKernelIdeal := Cert.KernelIdeal.Gen.facts)
    (hReferenceIdeal := Cert.ReferenceIdeal.Gen.facts) := by
  intro m g m' g' _ hargs
  have h0 : ∀ c, Cert.KernelIdeal.Final.states m c 0 = Cert.ReferenceIdeal.StepRun.initState m' c := by
    intro c
    obtain ⟨a0, a1, a2, a3, a4, a5, a6, a7, a8, a9, a10, a11⟩ := hargs c
    unfold Cert.ReferenceIdeal.StepRun.initState
    rw [a0, a1, a2, a3, a4, a5, a6, a7, a8, a9, a10, a11]
    rfl
  refine ⟨fun c => Cert.KernelIdeal.Value.G10 m c, Cert.KernelIdeal.Value.run m g, ?_⟩
  refine (θ_run Cert.ReferenceIdeal.defs _ _).mono (fun r h c => ⟨?_, (h c).2⟩)
    (Cert.ReferenceIdeal.StepRun.run_iter m' g' (fun c => Cert.KernelIdeal.Final.states m c) h0 (fun _ _ => rfl))
  exact (h c).1.trans (Cert.KernelIdeal.Final.result m c).symm

theorem Cert.Proof.reference2_frame : Cert.quiescent_Reference2Ideal (hReference2Ideal := Cert.Reference2Ideal.Gen.facts) := fun m ρ _ =>
  (θ_run Cert.Reference2Ideal.defs _ _).mono (fun r h => ⟨fun c => (h c).2.2, sem_eq_zero_of_no_sems rfl r.2⟩)
    (Cert.Reference2Ideal.Value.run m ρ)

/-- The two initial states, element by element. -/
theorem Cert.Proof.value2 : Cert.algebraic_Kernel2Ideal_Reference2Ideal (hKernel2Ideal := Cert.Kernel2Ideal.Gen.facts)
    (hReference2Ideal := Cert.Reference2Ideal.Gen.facts) := by
  intro m g m' g' _ hargs
  refine ⟨fun c => (Cert.Kernel2Ideal.Gen.dats m 0 c).arrAt 7 Cert.Kernel2Ideal.cfg0.N,
    fun c => (Cert.Kernel2Ideal.Gen.dats m 0 c).arrAt 8 Cert.Kernel2Ideal.cfg0.N, Cert.Kernel2Ideal.Value.run_blocks m g, ?_⟩
  refine (θ_run Cert.Reference2Ideal.defs _ _).mono (fun r h c => ⟨?_, ?_, (h c).2.2⟩) (Cert.Reference2Ideal.Value.run m' g')
  · refine (h c).1.trans ?_
    obtain ⟨a0, a1, a2, a3, a4, a5, a6⟩ := hargs c
    funext i
    idx_vars i
    refine (Cert.Reference2Ideal.Init.upper_at m' c i0 i1).trans (Eq.trans ?_ (Cert.Kernel2Ideal.Final.upper_at m c i0 i1).symm)
    unfold Cert.Reference2Ideal.Init.X
    rw [a0, a1, a2]
    rfl
  · refine (h c).2.1.trans ?_
    obtain ⟨a0, a1, a2, a3, a4, a5, a6⟩ := hargs c
    funext i
    idx_vars i
    refine (Cert.Reference2Ideal.Init.lower_at m' c i0 i1).trans (Eq.trans ?_ (Cert.Kernel2Ideal.Final.lower_at m c i0 i1).symm)
    unfold Cert.Reference2Ideal.Init.X
    rw [a0, a3, a4, a5, a6]
    rfl

theorem Cert.Proof.reference3_frame : Cert.quiescent_Reference3Ideal (hReference3Ideal := Cert.Reference3Ideal.Gen.facts) := fun m ρ _ =>
  (θ_run Cert.Reference3Ideal.defs _ _).mono (fun r h => ⟨fun c => (h c).2, sem_eq_zero_of_no_sems rfl r.2⟩)
    (Cert.Reference3Ideal.Value.run m ρ)

/-- The log-likelihood, summed by groups of images on one side and over all pixels on the other. -/
theorem Cert.Proof.value3 : Cert.algebraic_Kernel3Ideal_Reference3Ideal (hKernel3Ideal := Cert.Kernel3Ideal.Gen.facts)
    (hReference3Ideal := Cert.Reference3Ideal.Gen.facts) := by
  intro m g m' g' _ hargs
  refine ⟨fun c => Cert.Kernel3Ideal.Final.sumGroups (Cert.Kernel3Ideal.Value.reg_main_v9 m c), Cert.Kernel3Ideal.Value.run m g, ?_⟩
  refine (θ_run Cert.Reference3Ideal.defs _ _).mono (fun r h c => ⟨?_, (h c).2⟩) (Cert.Reference3Ideal.Value.run m' g')
  obtain ⟨a0, a1, a2, a3⟩ := hargs c
  refine (h c).1.trans ((Cert.Reference3Ideal.Dmll.result_eq _).trans (Cert.Kernel3Ideal.Final.result_eq m c _ ?_ ?_ ?_ ?_).symm)
  · exact fun i N => congrFun a0 _
  · exact fun g k y x => congrFun a1 _
  · exact fun o i => congrFun a2 _
  · exact fun o => congrFun a3 _

theorem Cert.Proof.reference4_frame : Cert.quiescent_Reference4Ideal (hReference4Ideal := Cert.Reference4Ideal.Gen.facts) := fun m ρ _ =>
  (θ_run Cert.Reference4Ideal.defs _ _).mono (fun r h => ⟨fun c => (h c).2, sem_eq_zero_of_no_sems rfl r.2⟩)
    (Cert.Reference4Ideal.Value.run m ρ)

/-- THE WHOLE KERNEL: the first call's states start the reference's loop, the second call follows it, and the third call's sums
    make the log-likelihood after its last trip. -/
theorem Cert.Proof.value4 : Cert.algebraic_Kernel4Ideal_Reference4Ideal (hKernel4Ideal := Cert.Kernel4Ideal.Gen.facts)
    (hReference4Ideal := Cert.Reference4Ideal.Gen.facts) := by
  intro m g m' g' _ hargs
  have h0 : ∀ c, Cert.Kernel4Ideal.Final.states m c 0 = Cert.Reference4Ideal.StepRun.initState m' c := by
    intro c
    obtain ⟨a0, a1, a2, a3, a4, a5, a6, a7, a8, a9, a10, a11, a12, a13, a14, a15, a16, a17, a18⟩ := hargs c
    unfold Cert.Reference4Ideal.StepRun.initState
    rw [a0, a1, a2, a3, a4, a5, a6, a7, a8, a9, a10, a11, a12, a13, a14, a15, a16, a17, a18]
    rfl
  refine ⟨fun c => Cert.Kernel4Ideal.Run.W5 m c (Proc.devRef .tc Cert.Kernel4Ideal.main_v53), ?_, ?_⟩
  · exact (θ_run Cert.Kernel4Ideal.defs _ _).mono (fun r h c => ⟨Cert.Kernel4Ideal.Run.read m r h c Cert.Kernel4Ideal.main_v53 rfl,
      by refine ⟨?_, ?_, ?_, ?_, ?_, ?_, ?_, ?_, ?_, ?_, ?_, ?_, ?_, ?_, ?_, ?_, ?_, ?_, ?_⟩ <;>
          exact Cert.Kernel4Ideal.Run.kept m r h c _ (by decide) (by decide) (by decide) (by decide) (by decide) (by decide)⟩) (Cert.Kernel4Ideal.Run.run m g)
  · refine (θ_run Cert.Reference4Ideal.defs _ _).mono (fun r h c => ⟨?_, (h c).2⟩)
      (Cert.Reference4Ideal.StepRun.run_iter m' g' (fun c => Cert.Kernel4Ideal.Final.states m c) h0 (fun _ _ => rfl))
    exact (h c).1.trans (Cert.Kernel4Ideal.Final.result m c).symm

theorem Cert.Proof.claim : Cert.Claim :=
  ⟨Cert.Kernel4.Gen.facts, Cert.Kernel4Ideal.Gen.facts, Cert.Reference4Ideal.Gen.facts,
    Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    fun m ρ _ => Cert.Kernel4.Run.frame m ρ,
    fun m ρ _ => Cert.Kernel4Ideal.Run.frame m ρ,
    Cert.Proof.reference4_frame,
    fun m ρ _ => Cert.Kernel.Gen.frame m ρ,
    fun m ρ _ => Cert.KernelIdeal.Gen.frame m ρ,
    Cert.Proof.reference_frame,
    fun m ρ _ => Cert.Kernel2.Gen.frame m ρ,
    fun m ρ _ => Cert.Kernel2Ideal.Gen.frame m ρ,
    Cert.Proof.reference2_frame,
    fun m ρ _ => Cert.Kernel3.Gen.frame m ρ,
    fun m ρ _ => Cert.Kernel3Ideal.Gen.frame m ρ,
    Cert.Proof.reference3_frame,
    ⟨IdealRules.bf16_pair.statement _ _, IdealRules.bf16_pair.selectZeroStatement _,
      IdealRules.bf16_pair.statement _ _, IdealRules.bf16_pair.selectZeroStatement _⟩, Cert.Proof.value4,
    ⟨IdealRules.bf16_pair.statement _ _, IdealRules.bf16_pair.selectZeroStatement _⟩, Cert.Proof.value,
    ⟨IdealRules.bf16_pair.statement _ _, IdealRules.bf16_pair.selectZeroStatement _⟩, Cert.Proof.value2,
    trivial, Cert.Proof.value3⟩
